-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "temp" .f32 0x3E4CCCCD#32 ((5⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x20 : Shape := ⟨2, ![1, 20]⟩
abbrev S60x20 : Shape := ⟨2, ![60, 20]⟩
abbrev S60 : Shape := ⟨1, ![60]⟩
abbrev S60x60 : Shape := ⟨2, ![60, 60]⟩
abbrev S393216x60 : Shape := ⟨2, ![393216, 60]⟩
abbrev S393216 : Shape := ⟨1, ![393216]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S4x2048 : Shape := ⟨2, ![4, 2048]⟩
abbrev S8192x48 : Shape := ⟨2, ![8192, 48]⟩
abbrev S8192x1 : Shape := ⟨2, ![8192, 1]⟩
abbrev S1x60 : Shape := ⟨2, ![1, 60]⟩
abbrev S49152x8x60 : Shape := ⟨3, ![49152, 8, 60]⟩
abbrev S1536x8x60 : Shape := ⟨3, ![1536, 8, 60]⟩
abbrev S256x48 : Shape := ⟨2, ![256, 48]⟩
abbrev S256x1 : Shape := ⟨2, ![256, 1]⟩
abbrev S60x48 : Shape := ⟨2, ![60, 48]⟩
abbrev S60x1 : Shape := ⟨2, ![60, 1]⟩
abbrev S12288x60 : Shape := ⟨2, ![12288, 60]⟩
abbrev S12288x48 : Shape := ⟨2, ![12288, 48]⟩
abbrev S256x48x48 : Shape := ⟨3, ![256, 48, 48]⟩
abbrev S1x48x48 : Shape := ⟨3, ![1, 48, 48]⟩
abbrev S256 : Shape := ⟨1, ![256]⟩
abbrev S4x2048x1 : Shape := ⟨3, ![4, 2048, 1]⟩
abbrev S4x2048x2 : Shape := ⟨3, ![4, 2048, 2]⟩
abbrev S4x4096 : Shape := ⟨2, ![4, 4096]⟩

abbrev nBuf : Space → Nat
  | .hbm => 1825
  | .vmem => 18
  | .smem => 0
  | _ => 0

abbrev hbmTy0_0 (i : Nat) : BufTy := match i % 128 with
  | 0 => ⟨S1x20, .f32⟩
  | 1 => ⟨S60x20, .f32⟩
  | 2 => ⟨S60, .f32⟩
  | 3 => ⟨S60x60, .f32⟩
  | 4 => ⟨S60, .f32⟩
  | 5 => ⟨S393216x60, .f32⟩
  | 6 => ⟨S393216, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S1, .i32⟩
  | 18 => ⟨S_, .i32⟩
  | 19 => ⟨S1, .i32⟩
  | 20 => ⟨S_, .i32⟩
  | 21 => ⟨S2, .i64⟩
  | 22 => ⟨S_, .i64⟩
  | 23 => ⟨S2, .i64⟩
  | 24 => ⟨S2, .i64⟩
  | 25 => ⟨S_, .i64⟩
  | 26 => ⟨S2, .i64⟩
  | 27 => ⟨S2, .i64⟩
  | 28 => ⟨S2, .i32⟩
  | 29 => ⟨S2, .i32⟩
  | 30 => ⟨S_, .i32⟩
  | 31 => ⟨S_, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S1x20, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x2, .i32⟩
  | _ => ⟨S1x20, .f32⟩

abbrev hbmTy0_2 (i : Nat) : BufTy := match i % 128 with
  | 0 => ⟨S2, .i32⟩
  | 1 => ⟨S1x2, .i32⟩
  | 2 => ⟨S2, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S1x1, .i32⟩
  | 22 => ⟨S1x1, .i32⟩
  | 23 => ⟨S1, .i32⟩
  | 24 => ⟨S_, .i32⟩
  | 25 => ⟨S1, .i32⟩
  | 26 => ⟨S_, .i32⟩
  | 27 => ⟨S2, .i64⟩
  | 28 => ⟨S_, .i64⟩
  | 29 => ⟨S2, .i64⟩
  | 30 => ⟨S2, .i64⟩
  | 31 => ⟨S_, .i64⟩
  | 32 => ⟨S2, .i64⟩
  | 33 => ⟨S2, .i64⟩
  | 34 => ⟨S2, .i32⟩
  | 35 => ⟨S2, .i32⟩
  | 36 => ⟨S_, .i32⟩
  | 37 => ⟨S_, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S1x20, .f32⟩

abbrev hbmTy0_3 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S1x20, .f32⟩

abbrev hbmTy0_4 (i : Nat) : BufTy := match i % 128 with
  | 0 => ⟨S2, .i32⟩
  | 1 => ⟨S2, .i32⟩
  | 2 => ⟨S2x1, .i32⟩
  | 3 => ⟨S2x1, .i32⟩
  | 4 => ⟨S2x2, .i32⟩
  | 5 => ⟨S1x2, .i32⟩
  | 6 => ⟨S2, .i32⟩
  | 7 => ⟨S1x2, .i32⟩
  | 8 => ⟨S2, .i32⟩
  | 9 => ⟨S1, .i32⟩
  | 10 => ⟨S_, .i32⟩
  | 11 => ⟨S1, .i32⟩
  | 12 => ⟨S_, .i32⟩
  | 13 => ⟨S4x2048, .i64⟩
  | 14 => ⟨S4x2048, .i64⟩
  | 15 => ⟨S_, .i64⟩
  | 16 => ⟨S4x2048, .i64⟩
  | 17 => ⟨S4x2048, .i64⟩
  | 18 => ⟨S_, .i64⟩
  | 19 => ⟨S4x2048, .i64⟩
  | 20 => ⟨S4x2048, .i64⟩
  | 21 => ⟨S4x2048, .i64⟩
  | 22 => ⟨S_, .i64⟩
  | 23 => ⟨S4x2048, .i64⟩
  | 24 => ⟨S4x2048, .i64⟩
  | 25 => ⟨S4x2048, .i32⟩
  | 26 => ⟨S4x2048, .i32⟩
  | 27 => ⟨S_, .i32⟩
  | 28 => ⟨S_, .i32⟩
  | 29 => ⟨S_, .i32⟩
  | 30 => ⟨S4x2048, .i32⟩
  | 31 => ⟨S4x2048, .i32⟩
  | 32 => ⟨S4x2048, .i32⟩
  | 33 => ⟨S4x2048, .i32⟩
  | 34 => ⟨S4x2048, .i32⟩
  | 35 => ⟨S_, .i32⟩
  | 36 => ⟨S4x2048, .i32⟩
  | 37 => ⟨S4x2048, .i32⟩
  | 38 => ⟨S_, .i32⟩
  | 39 => ⟨S4x2048, .i32⟩
  | 40 => ⟨S4x2048, .i32⟩
  | 41 => ⟨S4x2048, .i32⟩
  | 42 => ⟨S4x2048, .i32⟩
  | 43 => ⟨S4x2048, .i32⟩
  | 44 => ⟨S_, .i32⟩
  | 45 => ⟨S4x2048, .i32⟩
  | 46 => ⟨S4x2048, .i32⟩
  | 47 => ⟨S_, .i32⟩
  | 48 => ⟨S4x2048, .i32⟩
  | 49 => ⟨S4x2048, .i32⟩
  | 50 => ⟨S4x2048, .i32⟩
  | 51 => ⟨S4x2048, .i32⟩
  | 52 => ⟨S4x2048, .i32⟩
  | 53 => ⟨S_, .i32⟩
  | 54 => ⟨S4x2048, .i32⟩
  | 55 => ⟨S4x2048, .i32⟩
  | 56 => ⟨S_, .i32⟩
  | 57 => ⟨S4x2048, .i32⟩
  | 58 => ⟨S4x2048, .i32⟩
  | 59 => ⟨S4x2048, .i32⟩
  | 60 => ⟨S4x2048, .i32⟩
  | 61 => ⟨S4x2048, .i32⟩
  | 62 => ⟨S_, .i32⟩
  | 63 => ⟨S4x2048, .i32⟩
  | 64 => ⟨S4x2048, .i32⟩
  | 65 => ⟨S_, .i32⟩
  | 66 => ⟨S4x2048, .i32⟩
  | 67 => ⟨S4x2048, .i32⟩
  | 68 => ⟨S4x2048, .i32⟩
  | 69 => ⟨S4x2048, .i32⟩
  | 70 => ⟨S4x2048, .i32⟩
  | 71 => ⟨S4x2048, .i32⟩
  | 72 => ⟨S4x2048, .i32⟩
  | 73 => ⟨S4x2048, .i32⟩
  | 74 => ⟨S_, .i32⟩
  | 75 => ⟨S4x2048, .i32⟩
  | 76 => ⟨S4x2048, .i32⟩
  | 77 => ⟨S4x2048, .i32⟩
  | 78 => ⟨S_, .i32⟩
  | 79 => ⟨S4x2048, .i32⟩
  | 80 => ⟨S4x2048, .i32⟩
  | 81 => ⟨S_, .i32⟩
  | 82 => ⟨S4x2048, .i32⟩
  | 83 => ⟨S4x2048, .i32⟩
  | 84 => ⟨S4x2048, .i32⟩
  | 85 => ⟨S4x2048, .i32⟩
  | 86 => ⟨S4x2048, .i32⟩
  | 87 => ⟨S_, .i32⟩
  | 88 => ⟨S4x2048, .i32⟩
  | 89 => ⟨S4x2048, .i32⟩
  | 90 => ⟨S_, .i32⟩
  | 91 => ⟨S4x2048, .i32⟩
  | 92 => ⟨S4x2048, .i32⟩
  | 93 => ⟨S4x2048, .i32⟩
  | 94 => ⟨S4x2048, .i32⟩
  | 95 => ⟨S4x2048, .i32⟩
  | 96 => ⟨S_, .i32⟩
  | 97 => ⟨S4x2048, .i32⟩
  | 98 => ⟨S4x2048, .i32⟩
  | 99 => ⟨S_, .i32⟩
  | 100 => ⟨S4x2048, .i32⟩
  | 101 => ⟨S4x2048, .i32⟩
  | 102 => ⟨S4x2048, .i32⟩
  | 103 => ⟨S4x2048, .i32⟩
  | 104 => ⟨S4x2048, .i32⟩
  | 105 => ⟨S_, .i32⟩
  | 106 => ⟨S4x2048, .i32⟩
  | 107 => ⟨S4x2048, .i32⟩
  | 108 => ⟨S_, .i32⟩
  | 109 => ⟨S4x2048, .i32⟩
  | 110 => ⟨S4x2048, .i32⟩
  | 111 => ⟨S4x2048, .i32⟩
  | 112 => ⟨S4x2048, .i32⟩
  | 113 => ⟨S4x2048, .i32⟩
  | 114 => ⟨S4x2048, .i32⟩
  | 115 => ⟨S4x2048, .i32⟩
  | 116 => ⟨S4x2048, .i32⟩
  | 117 => ⟨S_, .i32⟩
  | 118 => ⟨S4x2048, .i32⟩
  | 119 => ⟨S4x2048, .i32⟩
  | 120 => ⟨S4x2048, .i32⟩
  | 121 => ⟨S_, .i32⟩
  | 122 => ⟨S4x2048, .i32⟩
  | 123 => ⟨S4x2048, .i32⟩
  | 124 => ⟨S_, .i32⟩
  | 125 => ⟨S4x2048, .i32⟩
  | 126 => ⟨S4x2048, .i32⟩
  | 127 => ⟨S4x2048, .i32⟩
  | _ => ⟨S1x20, .f32⟩

abbrev hbmTy0_5 (i : Nat) : BufTy := match i % 128 with
  | 0 => ⟨S4x2048, .i32⟩
  | 1 => ⟨S4x2048, .i32⟩
  | 2 => ⟨S_, .i32⟩
  | 3 => ⟨S4x2048, .i32⟩
  | 4 => ⟨S4x2048, .i32⟩
  | 5 => ⟨S_, .i32⟩
  | 6 => ⟨S4x2048, .i32⟩
  | 7 => ⟨S4x2048, .i32⟩
  | 8 => ⟨S4x2048, .i32⟩
  | 9 => ⟨S4x2048, .i32⟩
  | 10 => ⟨S4x2048, .i32⟩
  | 11 => ⟨S_, .i32⟩
  | 12 => ⟨S4x2048, .i32⟩
  | 13 => ⟨S4x2048, .i32⟩
  | 14 => ⟨S_, .i32⟩
  | 15 => ⟨S4x2048, .i32⟩
  | 16 => ⟨S4x2048, .i32⟩
  | 17 => ⟨S4x2048, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S_, .i32⟩
  | 24 => ⟨S4x2048, .i32⟩
  | 25 => ⟨S4x2048, .i32⟩
  | 26 => ⟨S4x2048, .i32⟩
  | 27 => ⟨S4x2048, .i32⟩
  | 28 => ⟨S4x2048, .i32⟩
  | 29 => ⟨S4x2048, .i32⟩
  | 30 => ⟨S4x2048, .i32⟩
  | 31 => ⟨S4x2048, .i32⟩
  | 32 => ⟨S_, .i32⟩
  | 33 => ⟨S4x2048, .i32⟩
  | 34 => ⟨S4x2048, .i32⟩
  | 35 => ⟨S4x2048, .i32⟩
  | 36 => ⟨S_, .i32⟩
  | 37 => ⟨S4x2048, .i32⟩
  | 38 => ⟨S4x2048, .i32⟩
  | 39 => ⟨S_, .i32⟩
  | 40 => ⟨S4x2048, .i32⟩
  | 41 => ⟨S4x2048, .i32⟩
  | 42 => ⟨S4x2048, .i32⟩
  | 43 => ⟨S4x2048, .i32⟩
  | 44 => ⟨S4x2048, .i32⟩
  | 45 => ⟨S_, .i32⟩
  | 46 => ⟨S4x2048, .i32⟩
  | 47 => ⟨S4x2048, .i32⟩
  | 48 => ⟨S_, .i32⟩
  | 49 => ⟨S4x2048, .i32⟩
  | 50 => ⟨S4x2048, .i32⟩
  | 51 => ⟨S4x2048, .i32⟩
  | 52 => ⟨S4x2048, .i32⟩
  | 53 => ⟨S4x2048, .i32⟩
  | 54 => ⟨S_, .i32⟩
  | 55 => ⟨S4x2048, .i32⟩
  | 56 => ⟨S4x2048, .i32⟩
  | 57 => ⟨S_, .i32⟩
  | 58 => ⟨S4x2048, .i32⟩
  | 59 => ⟨S4x2048, .i32⟩
  | 60 => ⟨S4x2048, .i32⟩
  | 61 => ⟨S4x2048, .i32⟩
  | 62 => ⟨S4x2048, .i32⟩
  | 63 => ⟨S_, .i32⟩
  | 64 => ⟨S4x2048, .i32⟩
  | 65 => ⟨S4x2048, .i32⟩
  | 66 => ⟨S_, .i32⟩
  | 67 => ⟨S4x2048, .i32⟩
  | 68 => ⟨S4x2048, .i32⟩
  | 69 => ⟨S4x2048, .i32⟩
  | 70 => ⟨S4x2048, .i32⟩
  | 71 => ⟨S4x2048, .i32⟩
  | 72 => ⟨S4x2048, .i32⟩
  | 73 => ⟨S4x2048, .i32⟩
  | 74 => ⟨S4x2048, .i32⟩
  | 75 => ⟨S_, .i32⟩
  | 76 => ⟨S4x2048, .i32⟩
  | 77 => ⟨S4x2048, .i32⟩
  | 78 => ⟨S4x2048, .i32⟩
  | 79 => ⟨S_, .i32⟩
  | 80 => ⟨S4x2048, .i32⟩
  | 81 => ⟨S4x2048, .i32⟩
  | 82 => ⟨S_, .i32⟩
  | 83 => ⟨S4x2048, .i32⟩
  | 84 => ⟨S4x2048, .i32⟩
  | 85 => ⟨S4x2048, .i32⟩
  | 86 => ⟨S4x2048, .i32⟩
  | 87 => ⟨S4x2048, .i32⟩
  | 88 => ⟨S_, .i32⟩
  | 89 => ⟨S4x2048, .i32⟩
  | 90 => ⟨S4x2048, .i32⟩
  | 91 => ⟨S_, .i32⟩
  | 92 => ⟨S4x2048, .i32⟩
  | 93 => ⟨S4x2048, .i32⟩
  | 94 => ⟨S4x2048, .i32⟩
  | 95 => ⟨S4x2048, .i32⟩
  | 96 => ⟨S4x2048, .i32⟩
  | 97 => ⟨S_, .i32⟩
  | 98 => ⟨S4x2048, .i32⟩
  | 99 => ⟨S4x2048, .i32⟩
  | 100 => ⟨S_, .i32⟩
  | 101 => ⟨S4x2048, .i32⟩
  | 102 => ⟨S4x2048, .i32⟩
  | 103 => ⟨S4x2048, .i32⟩
  | 104 => ⟨S4x2048, .i32⟩
  | 105 => ⟨S4x2048, .i32⟩
  | 106 => ⟨S_, .i32⟩
  | 107 => ⟨S4x2048, .i32⟩
  | 108 => ⟨S4x2048, .i32⟩
  | 109 => ⟨S_, .i32⟩
  | 110 => ⟨S4x2048, .i32⟩
  | 111 => ⟨S4x2048, .i32⟩
  | 112 => ⟨S4x2048, .i32⟩
  | 113 => ⟨S4x2048, .i32⟩
  | 114 => ⟨S4x2048, .i32⟩
  | 115 => ⟨S4x2048, .i32⟩
  | 116 => ⟨S4x2048, .i32⟩
  | 117 => ⟨S4x2048, .i32⟩
  | 118 => ⟨S_, .i32⟩
  | 119 => ⟨S4x2048, .i32⟩
  | 120 => ⟨S4x2048, .i32⟩
  | 121 => ⟨S4x2048, .i32⟩
  | 122 => ⟨S1, .i32⟩
  | 123 => ⟨S_, .i32⟩
  | 124 => ⟨S1, .i32⟩
  | 125 => ⟨S_, .i32⟩
  | 126 => ⟨S4x2048, .i64⟩
  | 127 => ⟨S4x2048, .i64⟩
  | _ => ⟨S1x20, .f32⟩

abbrev hbmTy0_6 (i : Nat) : BufTy := match i % 128 with
  | 0 => ⟨S_, .i64⟩
  | 1 => ⟨S4x2048, .i64⟩
  | 2 => ⟨S4x2048, .i64⟩
  | 3 => ⟨S_, .i64⟩
  | 4 => ⟨S4x2048, .i64⟩
  | 5 => ⟨S4x2048, .i64⟩
  | 6 => ⟨S4x2048, .i64⟩
  | 7 => ⟨S_, .i64⟩
  | 8 => ⟨S4x2048, .i64⟩
  | 9 => ⟨S4x2048, .i64⟩
  | 10 => ⟨S4x2048, .i32⟩
  | 11 => ⟨S4x2048, .i32⟩
  | 12 => ⟨S_, .i32⟩
  | 13 => ⟨S_, .i32⟩
  | 14 => ⟨S_, .i32⟩
  | 15 => ⟨S4x2048, .i32⟩
  | 16 => ⟨S4x2048, .i32⟩
  | 17 => ⟨S4x2048, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S_, .i32⟩
  | 24 => ⟨S4x2048, .i32⟩
  | 25 => ⟨S4x2048, .i32⟩
  | 26 => ⟨S4x2048, .i32⟩
  | 27 => ⟨S4x2048, .i32⟩
  | 28 => ⟨S4x2048, .i32⟩
  | 29 => ⟨S_, .i32⟩
  | 30 => ⟨S4x2048, .i32⟩
  | 31 => ⟨S4x2048, .i32⟩
  | 32 => ⟨S_, .i32⟩
  | 33 => ⟨S4x2048, .i32⟩
  | 34 => ⟨S4x2048, .i32⟩
  | 35 => ⟨S4x2048, .i32⟩
  | 36 => ⟨S4x2048, .i32⟩
  | 37 => ⟨S4x2048, .i32⟩
  | 38 => ⟨S_, .i32⟩
  | 39 => ⟨S4x2048, .i32⟩
  | 40 => ⟨S4x2048, .i32⟩
  | 41 => ⟨S_, .i32⟩
  | 42 => ⟨S4x2048, .i32⟩
  | 43 => ⟨S4x2048, .i32⟩
  | 44 => ⟨S4x2048, .i32⟩
  | 45 => ⟨S4x2048, .i32⟩
  | 46 => ⟨S4x2048, .i32⟩
  | 47 => ⟨S_, .i32⟩
  | 48 => ⟨S4x2048, .i32⟩
  | 49 => ⟨S4x2048, .i32⟩
  | 50 => ⟨S_, .i32⟩
  | 51 => ⟨S4x2048, .i32⟩
  | 52 => ⟨S4x2048, .i32⟩
  | 53 => ⟨S4x2048, .i32⟩
  | 54 => ⟨S4x2048, .i32⟩
  | 55 => ⟨S4x2048, .i32⟩
  | 56 => ⟨S4x2048, .i32⟩
  | 57 => ⟨S4x2048, .i32⟩
  | 58 => ⟨S4x2048, .i32⟩
  | 59 => ⟨S_, .i32⟩
  | 60 => ⟨S4x2048, .i32⟩
  | 61 => ⟨S4x2048, .i32⟩
  | 62 => ⟨S4x2048, .i32⟩
  | 63 => ⟨S_, .i32⟩
  | 64 => ⟨S4x2048, .i32⟩
  | 65 => ⟨S4x2048, .i32⟩
  | 66 => ⟨S_, .i32⟩
  | 67 => ⟨S4x2048, .i32⟩
  | 68 => ⟨S4x2048, .i32⟩
  | 69 => ⟨S4x2048, .i32⟩
  | 70 => ⟨S4x2048, .i32⟩
  | 71 => ⟨S4x2048, .i32⟩
  | 72 => ⟨S_, .i32⟩
  | 73 => ⟨S4x2048, .i32⟩
  | 74 => ⟨S4x2048, .i32⟩
  | 75 => ⟨S_, .i32⟩
  | 76 => ⟨S4x2048, .i32⟩
  | 77 => ⟨S4x2048, .i32⟩
  | 78 => ⟨S4x2048, .i32⟩
  | 79 => ⟨S4x2048, .i32⟩
  | 80 => ⟨S4x2048, .i32⟩
  | 81 => ⟨S_, .i32⟩
  | 82 => ⟨S4x2048, .i32⟩
  | 83 => ⟨S4x2048, .i32⟩
  | 84 => ⟨S_, .i32⟩
  | 85 => ⟨S4x2048, .i32⟩
  | 86 => ⟨S4x2048, .i32⟩
  | 87 => ⟨S4x2048, .i32⟩
  | 88 => ⟨S4x2048, .i32⟩
  | 89 => ⟨S4x2048, .i32⟩
  | 90 => ⟨S_, .i32⟩
  | 91 => ⟨S4x2048, .i32⟩
  | 92 => ⟨S4x2048, .i32⟩
  | 93 => ⟨S_, .i32⟩
  | 94 => ⟨S4x2048, .i32⟩
  | 95 => ⟨S4x2048, .i32⟩
  | 96 => ⟨S4x2048, .i32⟩
  | 97 => ⟨S4x2048, .i32⟩
  | 98 => ⟨S4x2048, .i32⟩
  | 99 => ⟨S4x2048, .i32⟩
  | 100 => ⟨S4x2048, .i32⟩
  | 101 => ⟨S4x2048, .i32⟩
  | 102 => ⟨S_, .i32⟩
  | 103 => ⟨S4x2048, .i32⟩
  | 104 => ⟨S4x2048, .i32⟩
  | 105 => ⟨S4x2048, .i32⟩
  | 106 => ⟨S_, .i32⟩
  | 107 => ⟨S4x2048, .i32⟩
  | 108 => ⟨S4x2048, .i32⟩
  | 109 => ⟨S_, .i32⟩
  | 110 => ⟨S4x2048, .i32⟩
  | 111 => ⟨S4x2048, .i32⟩
  | 112 => ⟨S4x2048, .i32⟩
  | 113 => ⟨S4x2048, .i32⟩
  | 114 => ⟨S4x2048, .i32⟩
  | 115 => ⟨S_, .i32⟩
  | 116 => ⟨S4x2048, .i32⟩
  | 117 => ⟨S4x2048, .i32⟩
  | 118 => ⟨S_, .i32⟩
  | 119 => ⟨S4x2048, .i32⟩
  | 120 => ⟨S4x2048, .i32⟩
  | 121 => ⟨S4x2048, .i32⟩
  | 122 => ⟨S4x2048, .i32⟩
  | 123 => ⟨S4x2048, .i32⟩
  | 124 => ⟨S_, .i32⟩
  | 125 => ⟨S4x2048, .i32⟩
  | 126 => ⟨S4x2048, .i32⟩
  | 127 => ⟨S_, .i32⟩
  | _ => ⟨S1x20, .f32⟩

abbrev hbmTy0_7 (i : Nat) : BufTy := match i % 128 with
  | 0 => ⟨S4x2048, .i32⟩
  | 1 => ⟨S4x2048, .i32⟩
  | 2 => ⟨S4x2048, .i32⟩
  | 3 => ⟨S4x2048, .i32⟩
  | 4 => ⟨S4x2048, .i32⟩
  | 5 => ⟨S_, .i32⟩
  | 6 => ⟨S4x2048, .i32⟩
  | 7 => ⟨S4x2048, .i32⟩
  | 8 => ⟨S_, .i32⟩
  | 9 => ⟨S4x2048, .i32⟩
  | 10 => ⟨S4x2048, .i32⟩
  | 11 => ⟨S4x2048, .i32⟩
  | 12 => ⟨S4x2048, .i32⟩
  | 13 => ⟨S4x2048, .i32⟩
  | 14 => ⟨S4x2048, .i32⟩
  | 15 => ⟨S4x2048, .i32⟩
  | 16 => ⟨S4x2048, .i32⟩
  | 17 => ⟨S_, .i32⟩
  | 18 => ⟨S4x2048, .i32⟩
  | 19 => ⟨S4x2048, .i32⟩
  | 20 => ⟨S4x2048, .i32⟩
  | 21 => ⟨S_, .i32⟩
  | 22 => ⟨S4x2048, .i32⟩
  | 23 => ⟨S4x2048, .i32⟩
  | 24 => ⟨S_, .i32⟩
  | 25 => ⟨S4x2048, .i32⟩
  | 26 => ⟨S4x2048, .i32⟩
  | 27 => ⟨S4x2048, .i32⟩
  | 28 => ⟨S4x2048, .i32⟩
  | 29 => ⟨S4x2048, .i32⟩
  | 30 => ⟨S_, .i32⟩
  | 31 => ⟨S4x2048, .i32⟩
  | 32 => ⟨S4x2048, .i32⟩
  | 33 => ⟨S_, .i32⟩
  | 34 => ⟨S4x2048, .i32⟩
  | 35 => ⟨S4x2048, .i32⟩
  | 36 => ⟨S4x2048, .i32⟩
  | 37 => ⟨S4x2048, .i32⟩
  | 38 => ⟨S4x2048, .i32⟩
  | 39 => ⟨S_, .i32⟩
  | 40 => ⟨S4x2048, .i32⟩
  | 41 => ⟨S4x2048, .i32⟩
  | 42 => ⟨S_, .i32⟩
  | 43 => ⟨S4x2048, .i32⟩
  | 44 => ⟨S4x2048, .i32⟩
  | 45 => ⟨S4x2048, .i32⟩
  | 46 => ⟨S4x2048, .i32⟩
  | 47 => ⟨S4x2048, .i32⟩
  | 48 => ⟨S_, .i32⟩
  | 49 => ⟨S4x2048, .i32⟩
  | 50 => ⟨S4x2048, .i32⟩
  | 51 => ⟨S_, .i32⟩
  | 52 => ⟨S4x2048, .i32⟩
  | 53 => ⟨S4x2048, .i32⟩
  | 54 => ⟨S4x2048, .i32⟩
  | 55 => ⟨S4x2048, .i32⟩
  | 56 => ⟨S4x2048, .i32⟩
  | 57 => ⟨S4x2048, .i32⟩
  | 58 => ⟨S4x2048, .i32⟩
  | 59 => ⟨S4x2048, .i32⟩
  | 60 => ⟨S_, .i32⟩
  | 61 => ⟨S4x2048, .i32⟩
  | 62 => ⟨S4x2048, .i32⟩
  | 63 => ⟨S4x2048, .i32⟩
  | 64 => ⟨S_, .i32⟩
  | 65 => ⟨S4x2048, .i32⟩
  | 66 => ⟨S4x2048, .i32⟩
  | 67 => ⟨S_, .i32⟩
  | 68 => ⟨S4x2048, .i32⟩
  | 69 => ⟨S4x2048, .i32⟩
  | 70 => ⟨S4x2048, .i32⟩
  | 71 => ⟨S4x2048, .i32⟩
  | 72 => ⟨S4x2048, .i32⟩
  | 73 => ⟨S_, .i32⟩
  | 74 => ⟨S4x2048, .i32⟩
  | 75 => ⟨S4x2048, .i32⟩
  | 76 => ⟨S_, .i32⟩
  | 77 => ⟨S4x2048, .i32⟩
  | 78 => ⟨S4x2048, .i32⟩
  | 79 => ⟨S4x2048, .i32⟩
  | 80 => ⟨S4x2048, .i32⟩
  | 81 => ⟨S4x2048, .i32⟩
  | 82 => ⟨S_, .i32⟩
  | 83 => ⟨S4x2048, .i32⟩
  | 84 => ⟨S4x2048, .i32⟩
  | 85 => ⟨S_, .i32⟩
  | 86 => ⟨S4x2048, .i32⟩
  | 87 => ⟨S4x2048, .i32⟩
  | 88 => ⟨S4x2048, .i32⟩
  | 89 => ⟨S4x2048, .i32⟩
  | 90 => ⟨S4x2048, .i32⟩
  | 91 => ⟨S_, .i32⟩
  | 92 => ⟨S4x2048, .i32⟩
  | 93 => ⟨S4x2048, .i32⟩
  | 94 => ⟨S_, .i32⟩
  | 95 => ⟨S4x2048, .i32⟩
  | 96 => ⟨S4x2048, .i32⟩
  | 97 => ⟨S4x2048, .i32⟩
  | 98 => ⟨S4x2048, .i32⟩
  | 99 => ⟨S4x2048, .i32⟩
  | 100 => ⟨S4x2048, .i32⟩
  | 101 => ⟨S4x2048, .i32⟩
  | 102 => ⟨S4x2048, .i32⟩
  | 103 => ⟨S_, .i32⟩
  | 104 => ⟨S4x2048, .i32⟩
  | 105 => ⟨S4x2048, .i32⟩
  | 106 => ⟨S4x2048, .i32⟩
  | 107 => ⟨S1x1, .i32⟩
  | 108 => ⟨S1x1, .i32⟩
  | 109 => ⟨S1x1, .i1⟩
  | 110 => ⟨S_, .i32⟩
  | 111 => ⟨S1x1, .i32⟩
  | 112 => ⟨S1x1, .i32⟩
  | 113 => ⟨S1x1, .i1⟩
  | 114 => ⟨S1x1, .i1⟩
  | 115 => ⟨S1x1, .i1⟩
  | 116 => ⟨S_, .i32⟩
  | 117 => ⟨S1x1, .i32⟩
  | 118 => ⟨S1x1, .i32⟩
  | 119 => ⟨S1x1, .i32⟩
  | 120 => ⟨S_, .i32⟩
  | 121 => ⟨S1x1, .i32⟩
  | 122 => ⟨S1x1, .i32⟩
  | 123 => ⟨S1x1, .i32⟩
  | 124 => ⟨S1x1, .i32⟩
  | 125 => ⟨S4x2048, .i32⟩
  | 126 => ⟨S4x2048, .i32⟩
  | 127 => ⟨S4x2048, .i32⟩
  | _ => ⟨S1x20, .f32⟩

abbrev hbmTy0_8 (i : Nat) : BufTy := match i % 128 with
  | 0 => ⟨S4x2048, .i32⟩
  | 1 => ⟨S4x2048, .i32⟩
  | 2 => ⟨S4x2048, .i32⟩
  | 3 => ⟨S4x2048, .i32⟩
  | 4 => ⟨S4x2048, .i32⟩
  | 5 => ⟨S4x2048, .i32⟩
  | 6 => ⟨S4x2048, .i32⟩
  | 7 => ⟨S4x2048, .i32⟩
  | 8 => ⟨S4x2048, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S1x1, .i32⟩
  | 28 => ⟨S1x1, .i32⟩
  | 29 => ⟨S1, .i32⟩
  | 30 => ⟨S_, .i32⟩
  | 31 => ⟨S1, .i32⟩
  | 32 => ⟨S_, .i32⟩
  | 33 => ⟨S2, .i64⟩
  | 34 => ⟨S_, .i64⟩
  | 35 => ⟨S2, .i64⟩
  | 36 => ⟨S2, .i64⟩
  | 37 => ⟨S_, .i64⟩
  | 38 => ⟨S2, .i64⟩
  | 39 => ⟨S2, .i64⟩
  | 40 => ⟨S2, .i32⟩
  | 41 => ⟨S2, .i32⟩
  | 42 => ⟨S_, .i32⟩
  | 43 => ⟨S_, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S1x20, .f32⟩

abbrev hbmTy0_9 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S1x20, .f32⟩

abbrev hbmTy0_10 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S2x1, .i32⟩
  | 9 => ⟨S2x1, .i32⟩
  | 10 => ⟨S2x2, .i32⟩
  | 11 => ⟨S1x2, .i32⟩
  | 12 => ⟨S2, .i32⟩
  | 13 => ⟨S1x2, .i32⟩
  | 14 => ⟨S2, .i32⟩
  | 15 => ⟨S1, .i32⟩
  | 16 => ⟨S_, .i32⟩
  | 17 => ⟨S1, .i32⟩
  | 18 => ⟨S_, .i32⟩
  | 19 => ⟨S4x2048, .i64⟩
  | 20 => ⟨S4x2048, .i64⟩
  | 21 => ⟨S_, .i64⟩
  | 22 => ⟨S4x2048, .i64⟩
  | 23 => ⟨S4x2048, .i64⟩
  | 24 => ⟨S_, .i64⟩
  | 25 => ⟨S4x2048, .i64⟩
  | 26 => ⟨S4x2048, .i64⟩
  | 27 => ⟨S4x2048, .i64⟩
  | 28 => ⟨S_, .i64⟩
  | 29 => ⟨S4x2048, .i64⟩
  | 30 => ⟨S4x2048, .i64⟩
  | 31 => ⟨S4x2048, .i32⟩
  | 32 => ⟨S4x2048, .i32⟩
  | 33 => ⟨S_, .i32⟩
  | 34 => ⟨S_, .i32⟩
  | 35 => ⟨S_, .i32⟩
  | 36 => ⟨S4x2048, .i32⟩
  | 37 => ⟨S4x2048, .i32⟩
  | 38 => ⟨S4x2048, .i32⟩
  | 39 => ⟨S4x2048, .i32⟩
  | 40 => ⟨S4x2048, .i32⟩
  | 41 => ⟨S_, .i32⟩
  | 42 => ⟨S4x2048, .i32⟩
  | 43 => ⟨S4x2048, .i32⟩
  | 44 => ⟨S_, .i32⟩
  | 45 => ⟨S4x2048, .i32⟩
  | 46 => ⟨S4x2048, .i32⟩
  | 47 => ⟨S4x2048, .i32⟩
  | 48 => ⟨S4x2048, .i32⟩
  | 49 => ⟨S4x2048, .i32⟩
  | 50 => ⟨S_, .i32⟩
  | 51 => ⟨S4x2048, .i32⟩
  | 52 => ⟨S4x2048, .i32⟩
  | 53 => ⟨S_, .i32⟩
  | 54 => ⟨S4x2048, .i32⟩
  | 55 => ⟨S4x2048, .i32⟩
  | 56 => ⟨S4x2048, .i32⟩
  | 57 => ⟨S4x2048, .i32⟩
  | 58 => ⟨S4x2048, .i32⟩
  | 59 => ⟨S_, .i32⟩
  | 60 => ⟨S4x2048, .i32⟩
  | 61 => ⟨S4x2048, .i32⟩
  | 62 => ⟨S_, .i32⟩
  | 63 => ⟨S4x2048, .i32⟩
  | 64 => ⟨S4x2048, .i32⟩
  | 65 => ⟨S4x2048, .i32⟩
  | 66 => ⟨S4x2048, .i32⟩
  | 67 => ⟨S4x2048, .i32⟩
  | 68 => ⟨S_, .i32⟩
  | 69 => ⟨S4x2048, .i32⟩
  | 70 => ⟨S4x2048, .i32⟩
  | 71 => ⟨S_, .i32⟩
  | 72 => ⟨S4x2048, .i32⟩
  | 73 => ⟨S4x2048, .i32⟩
  | 74 => ⟨S4x2048, .i32⟩
  | 75 => ⟨S4x2048, .i32⟩
  | 76 => ⟨S4x2048, .i32⟩
  | 77 => ⟨S4x2048, .i32⟩
  | 78 => ⟨S4x2048, .i32⟩
  | 79 => ⟨S4x2048, .i32⟩
  | 80 => ⟨S_, .i32⟩
  | 81 => ⟨S4x2048, .i32⟩
  | 82 => ⟨S4x2048, .i32⟩
  | 83 => ⟨S4x2048, .i32⟩
  | 84 => ⟨S_, .i32⟩
  | 85 => ⟨S4x2048, .i32⟩
  | 86 => ⟨S4x2048, .i32⟩
  | 87 => ⟨S_, .i32⟩
  | 88 => ⟨S4x2048, .i32⟩
  | 89 => ⟨S4x2048, .i32⟩
  | 90 => ⟨S4x2048, .i32⟩
  | 91 => ⟨S4x2048, .i32⟩
  | 92 => ⟨S4x2048, .i32⟩
  | 93 => ⟨S_, .i32⟩
  | 94 => ⟨S4x2048, .i32⟩
  | 95 => ⟨S4x2048, .i32⟩
  | 96 => ⟨S_, .i32⟩
  | 97 => ⟨S4x2048, .i32⟩
  | 98 => ⟨S4x2048, .i32⟩
  | 99 => ⟨S4x2048, .i32⟩
  | 100 => ⟨S4x2048, .i32⟩
  | 101 => ⟨S4x2048, .i32⟩
  | 102 => ⟨S_, .i32⟩
  | 103 => ⟨S4x2048, .i32⟩
  | 104 => ⟨S4x2048, .i32⟩
  | 105 => ⟨S_, .i32⟩
  | 106 => ⟨S4x2048, .i32⟩
  | 107 => ⟨S4x2048, .i32⟩
  | 108 => ⟨S4x2048, .i32⟩
  | 109 => ⟨S4x2048, .i32⟩
  | 110 => ⟨S4x2048, .i32⟩
  | 111 => ⟨S_, .i32⟩
  | 112 => ⟨S4x2048, .i32⟩
  | 113 => ⟨S4x2048, .i32⟩
  | 114 => ⟨S_, .i32⟩
  | 115 => ⟨S4x2048, .i32⟩
  | 116 => ⟨S4x2048, .i32⟩
  | 117 => ⟨S4x2048, .i32⟩
  | 118 => ⟨S4x2048, .i32⟩
  | 119 => ⟨S4x2048, .i32⟩
  | 120 => ⟨S4x2048, .i32⟩
  | 121 => ⟨S4x2048, .i32⟩
  | 122 => ⟨S4x2048, .i32⟩
  | 123 => ⟨S_, .i32⟩
  | 124 => ⟨S4x2048, .i32⟩
  | 125 => ⟨S4x2048, .i32⟩
  | 126 => ⟨S4x2048, .i32⟩
  | 127 => ⟨S_, .i32⟩
  | _ => ⟨S1x20, .f32⟩

abbrev hbmTy0_11 (i : Nat) : BufTy := match i % 128 with
  | 0 => ⟨S4x2048, .i32⟩
  | 1 => ⟨S4x2048, .i32⟩
  | 2 => ⟨S_, .i32⟩
  | 3 => ⟨S4x2048, .i32⟩
  | 4 => ⟨S4x2048, .i32⟩
  | 5 => ⟨S4x2048, .i32⟩
  | 6 => ⟨S4x2048, .i32⟩
  | 7 => ⟨S4x2048, .i32⟩
  | 8 => ⟨S_, .i32⟩
  | 9 => ⟨S4x2048, .i32⟩
  | 10 => ⟨S4x2048, .i32⟩
  | 11 => ⟨S_, .i32⟩
  | 12 => ⟨S4x2048, .i32⟩
  | 13 => ⟨S4x2048, .i32⟩
  | 14 => ⟨S4x2048, .i32⟩
  | 15 => ⟨S4x2048, .i32⟩
  | 16 => ⟨S4x2048, .i32⟩
  | 17 => ⟨S_, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S4x2048, .i32⟩
  | 24 => ⟨S4x2048, .i32⟩
  | 25 => ⟨S4x2048, .i32⟩
  | 26 => ⟨S_, .i32⟩
  | 27 => ⟨S4x2048, .i32⟩
  | 28 => ⟨S4x2048, .i32⟩
  | 29 => ⟨S_, .i32⟩
  | 30 => ⟨S4x2048, .i32⟩
  | 31 => ⟨S4x2048, .i32⟩
  | 32 => ⟨S4x2048, .i32⟩
  | 33 => ⟨S4x2048, .i32⟩
  | 34 => ⟨S4x2048, .i32⟩
  | 35 => ⟨S4x2048, .i32⟩
  | 36 => ⟨S4x2048, .i32⟩
  | 37 => ⟨S4x2048, .i32⟩
  | 38 => ⟨S_, .i32⟩
  | 39 => ⟨S4x2048, .i32⟩
  | 40 => ⟨S4x2048, .i32⟩
  | 41 => ⟨S4x2048, .i32⟩
  | 42 => ⟨S_, .i32⟩
  | 43 => ⟨S4x2048, .i32⟩
  | 44 => ⟨S4x2048, .i32⟩
  | 45 => ⟨S_, .i32⟩
  | 46 => ⟨S4x2048, .i32⟩
  | 47 => ⟨S4x2048, .i32⟩
  | 48 => ⟨S4x2048, .i32⟩
  | 49 => ⟨S4x2048, .i32⟩
  | 50 => ⟨S4x2048, .i32⟩
  | 51 => ⟨S_, .i32⟩
  | 52 => ⟨S4x2048, .i32⟩
  | 53 => ⟨S4x2048, .i32⟩
  | 54 => ⟨S_, .i32⟩
  | 55 => ⟨S4x2048, .i32⟩
  | 56 => ⟨S4x2048, .i32⟩
  | 57 => ⟨S4x2048, .i32⟩
  | 58 => ⟨S4x2048, .i32⟩
  | 59 => ⟨S4x2048, .i32⟩
  | 60 => ⟨S_, .i32⟩
  | 61 => ⟨S4x2048, .i32⟩
  | 62 => ⟨S4x2048, .i32⟩
  | 63 => ⟨S_, .i32⟩
  | 64 => ⟨S4x2048, .i32⟩
  | 65 => ⟨S4x2048, .i32⟩
  | 66 => ⟨S4x2048, .i32⟩
  | 67 => ⟨S4x2048, .i32⟩
  | 68 => ⟨S4x2048, .i32⟩
  | 69 => ⟨S_, .i32⟩
  | 70 => ⟨S4x2048, .i32⟩
  | 71 => ⟨S4x2048, .i32⟩
  | 72 => ⟨S_, .i32⟩
  | 73 => ⟨S4x2048, .i32⟩
  | 74 => ⟨S4x2048, .i32⟩
  | 75 => ⟨S4x2048, .i32⟩
  | 76 => ⟨S4x2048, .i32⟩
  | 77 => ⟨S4x2048, .i32⟩
  | 78 => ⟨S4x2048, .i32⟩
  | 79 => ⟨S4x2048, .i32⟩
  | 80 => ⟨S4x2048, .i32⟩
  | 81 => ⟨S_, .i32⟩
  | 82 => ⟨S4x2048, .i32⟩
  | 83 => ⟨S4x2048, .i32⟩
  | 84 => ⟨S4x2048, .i32⟩
  | 85 => ⟨S_, .i32⟩
  | 86 => ⟨S4x2048, .i32⟩
  | 87 => ⟨S4x2048, .i32⟩
  | 88 => ⟨S_, .i32⟩
  | 89 => ⟨S4x2048, .i32⟩
  | 90 => ⟨S4x2048, .i32⟩
  | 91 => ⟨S4x2048, .i32⟩
  | 92 => ⟨S4x2048, .i32⟩
  | 93 => ⟨S4x2048, .i32⟩
  | 94 => ⟨S_, .i32⟩
  | 95 => ⟨S4x2048, .i32⟩
  | 96 => ⟨S4x2048, .i32⟩
  | 97 => ⟨S_, .i32⟩
  | 98 => ⟨S4x2048, .i32⟩
  | 99 => ⟨S4x2048, .i32⟩
  | 100 => ⟨S4x2048, .i32⟩
  | 101 => ⟨S4x2048, .i32⟩
  | 102 => ⟨S4x2048, .i32⟩
  | 103 => ⟨S_, .i32⟩
  | 104 => ⟨S4x2048, .i32⟩
  | 105 => ⟨S4x2048, .i32⟩
  | 106 => ⟨S_, .i32⟩
  | 107 => ⟨S4x2048, .i32⟩
  | 108 => ⟨S4x2048, .i32⟩
  | 109 => ⟨S4x2048, .i32⟩
  | 110 => ⟨S4x2048, .i32⟩
  | 111 => ⟨S4x2048, .i32⟩
  | 112 => ⟨S_, .i32⟩
  | 113 => ⟨S4x2048, .i32⟩
  | 114 => ⟨S4x2048, .i32⟩
  | 115 => ⟨S_, .i32⟩
  | 116 => ⟨S4x2048, .i32⟩
  | 117 => ⟨S4x2048, .i32⟩
  | 118 => ⟨S4x2048, .i32⟩
  | 119 => ⟨S4x2048, .i32⟩
  | 120 => ⟨S4x2048, .i32⟩
  | 121 => ⟨S4x2048, .i32⟩
  | 122 => ⟨S4x2048, .i32⟩
  | 123 => ⟨S4x2048, .i32⟩
  | 124 => ⟨S_, .i32⟩
  | 125 => ⟨S4x2048, .i32⟩
  | 126 => ⟨S4x2048, .i32⟩
  | 127 => ⟨S4x2048, .i32⟩
  | _ => ⟨S1x20, .f32⟩

abbrev hbmTy0_12 (i : Nat) : BufTy := match i % 128 with
  | 0 => ⟨S1, .i32⟩
  | 1 => ⟨S_, .i32⟩
  | 2 => ⟨S1, .i32⟩
  | 3 => ⟨S_, .i32⟩
  | 4 => ⟨S4x2048, .i64⟩
  | 5 => ⟨S4x2048, .i64⟩
  | 6 => ⟨S_, .i64⟩
  | 7 => ⟨S4x2048, .i64⟩
  | 8 => ⟨S4x2048, .i64⟩
  | 9 => ⟨S_, .i64⟩
  | 10 => ⟨S4x2048, .i64⟩
  | 11 => ⟨S4x2048, .i64⟩
  | 12 => ⟨S4x2048, .i64⟩
  | 13 => ⟨S_, .i64⟩
  | 14 => ⟨S4x2048, .i64⟩
  | 15 => ⟨S4x2048, .i64⟩
  | 16 => ⟨S4x2048, .i32⟩
  | 17 => ⟨S4x2048, .i32⟩
  | 18 => ⟨S_, .i32⟩
  | 19 => ⟨S_, .i32⟩
  | 20 => ⟨S_, .i32⟩
  | 21 => ⟨S4x2048, .i32⟩
  | 22 => ⟨S4x2048, .i32⟩
  | 23 => ⟨S4x2048, .i32⟩
  | 24 => ⟨S4x2048, .i32⟩
  | 25 => ⟨S4x2048, .i32⟩
  | 26 => ⟨S_, .i32⟩
  | 27 => ⟨S4x2048, .i32⟩
  | 28 => ⟨S4x2048, .i32⟩
  | 29 => ⟨S_, .i32⟩
  | 30 => ⟨S4x2048, .i32⟩
  | 31 => ⟨S4x2048, .i32⟩
  | 32 => ⟨S4x2048, .i32⟩
  | 33 => ⟨S4x2048, .i32⟩
  | 34 => ⟨S4x2048, .i32⟩
  | 35 => ⟨S_, .i32⟩
  | 36 => ⟨S4x2048, .i32⟩
  | 37 => ⟨S4x2048, .i32⟩
  | 38 => ⟨S_, .i32⟩
  | 39 => ⟨S4x2048, .i32⟩
  | 40 => ⟨S4x2048, .i32⟩
  | 41 => ⟨S4x2048, .i32⟩
  | 42 => ⟨S4x2048, .i32⟩
  | 43 => ⟨S4x2048, .i32⟩
  | 44 => ⟨S_, .i32⟩
  | 45 => ⟨S4x2048, .i32⟩
  | 46 => ⟨S4x2048, .i32⟩
  | 47 => ⟨S_, .i32⟩
  | 48 => ⟨S4x2048, .i32⟩
  | 49 => ⟨S4x2048, .i32⟩
  | 50 => ⟨S4x2048, .i32⟩
  | 51 => ⟨S4x2048, .i32⟩
  | 52 => ⟨S4x2048, .i32⟩
  | 53 => ⟨S_, .i32⟩
  | 54 => ⟨S4x2048, .i32⟩
  | 55 => ⟨S4x2048, .i32⟩
  | 56 => ⟨S_, .i32⟩
  | 57 => ⟨S4x2048, .i32⟩
  | 58 => ⟨S4x2048, .i32⟩
  | 59 => ⟨S4x2048, .i32⟩
  | 60 => ⟨S4x2048, .i32⟩
  | 61 => ⟨S4x2048, .i32⟩
  | 62 => ⟨S4x2048, .i32⟩
  | 63 => ⟨S4x2048, .i32⟩
  | 64 => ⟨S4x2048, .i32⟩
  | 65 => ⟨S_, .i32⟩
  | 66 => ⟨S4x2048, .i32⟩
  | 67 => ⟨S4x2048, .i32⟩
  | 68 => ⟨S4x2048, .i32⟩
  | 69 => ⟨S_, .i32⟩
  | 70 => ⟨S4x2048, .i32⟩
  | 71 => ⟨S4x2048, .i32⟩
  | 72 => ⟨S_, .i32⟩
  | 73 => ⟨S4x2048, .i32⟩
  | 74 => ⟨S4x2048, .i32⟩
  | 75 => ⟨S4x2048, .i32⟩
  | 76 => ⟨S4x2048, .i32⟩
  | 77 => ⟨S4x2048, .i32⟩
  | 78 => ⟨S_, .i32⟩
  | 79 => ⟨S4x2048, .i32⟩
  | 80 => ⟨S4x2048, .i32⟩
  | 81 => ⟨S_, .i32⟩
  | 82 => ⟨S4x2048, .i32⟩
  | 83 => ⟨S4x2048, .i32⟩
  | 84 => ⟨S4x2048, .i32⟩
  | 85 => ⟨S4x2048, .i32⟩
  | 86 => ⟨S4x2048, .i32⟩
  | 87 => ⟨S_, .i32⟩
  | 88 => ⟨S4x2048, .i32⟩
  | 89 => ⟨S4x2048, .i32⟩
  | 90 => ⟨S_, .i32⟩
  | 91 => ⟨S4x2048, .i32⟩
  | 92 => ⟨S4x2048, .i32⟩
  | 93 => ⟨S4x2048, .i32⟩
  | 94 => ⟨S4x2048, .i32⟩
  | 95 => ⟨S4x2048, .i32⟩
  | 96 => ⟨S_, .i32⟩
  | 97 => ⟨S4x2048, .i32⟩
  | 98 => ⟨S4x2048, .i32⟩
  | 99 => ⟨S_, .i32⟩
  | 100 => ⟨S4x2048, .i32⟩
  | 101 => ⟨S4x2048, .i32⟩
  | 102 => ⟨S4x2048, .i32⟩
  | 103 => ⟨S4x2048, .i32⟩
  | 104 => ⟨S4x2048, .i32⟩
  | 105 => ⟨S4x2048, .i32⟩
  | 106 => ⟨S4x2048, .i32⟩
  | 107 => ⟨S4x2048, .i32⟩
  | 108 => ⟨S_, .i32⟩
  | 109 => ⟨S4x2048, .i32⟩
  | 110 => ⟨S4x2048, .i32⟩
  | 111 => ⟨S4x2048, .i32⟩
  | 112 => ⟨S_, .i32⟩
  | 113 => ⟨S4x2048, .i32⟩
  | 114 => ⟨S4x2048, .i32⟩
  | 115 => ⟨S_, .i32⟩
  | 116 => ⟨S4x2048, .i32⟩
  | 117 => ⟨S4x2048, .i32⟩
  | 118 => ⟨S4x2048, .i32⟩
  | 119 => ⟨S4x2048, .i32⟩
  | 120 => ⟨S4x2048, .i32⟩
  | 121 => ⟨S_, .i32⟩
  | 122 => ⟨S4x2048, .i32⟩
  | 123 => ⟨S4x2048, .i32⟩
  | 124 => ⟨S_, .i32⟩
  | 125 => ⟨S4x2048, .i32⟩
  | 126 => ⟨S4x2048, .i32⟩
  | 127 => ⟨S4x2048, .i32⟩
  | _ => ⟨S1x20, .f32⟩

abbrev hbmTy0_13 (i : Nat) : BufTy := match i % 128 with
  | 0 => ⟨S4x2048, .i32⟩
  | 1 => ⟨S4x2048, .i32⟩
  | 2 => ⟨S_, .i32⟩
  | 3 => ⟨S4x2048, .i32⟩
  | 4 => ⟨S4x2048, .i32⟩
  | 5 => ⟨S_, .i32⟩
  | 6 => ⟨S4x2048, .i32⟩
  | 7 => ⟨S4x2048, .i32⟩
  | 8 => ⟨S4x2048, .i32⟩
  | 9 => ⟨S4x2048, .i32⟩
  | 10 => ⟨S4x2048, .i32⟩
  | 11 => ⟨S_, .i32⟩
  | 12 => ⟨S4x2048, .i32⟩
  | 13 => ⟨S4x2048, .i32⟩
  | 14 => ⟨S_, .i32⟩
  | 15 => ⟨S4x2048, .i32⟩
  | 16 => ⟨S4x2048, .i32⟩
  | 17 => ⟨S4x2048, .i32⟩
  | 18 => ⟨S4x2048, .i32⟩
  | 19 => ⟨S4x2048, .i32⟩
  | 20 => ⟨S4x2048, .i32⟩
  | 21 => ⟨S4x2048, .i32⟩
  | 22 => ⟨S4x2048, .i32⟩
  | 23 => ⟨S_, .i32⟩
  | 24 => ⟨S4x2048, .i32⟩
  | 25 => ⟨S4x2048, .i32⟩
  | 26 => ⟨S4x2048, .i32⟩
  | 27 => ⟨S_, .i32⟩
  | 28 => ⟨S4x2048, .i32⟩
  | 29 => ⟨S4x2048, .i32⟩
  | 30 => ⟨S_, .i32⟩
  | 31 => ⟨S4x2048, .i32⟩
  | 32 => ⟨S4x2048, .i32⟩
  | 33 => ⟨S4x2048, .i32⟩
  | 34 => ⟨S4x2048, .i32⟩
  | 35 => ⟨S4x2048, .i32⟩
  | 36 => ⟨S_, .i32⟩
  | 37 => ⟨S4x2048, .i32⟩
  | 38 => ⟨S4x2048, .i32⟩
  | 39 => ⟨S_, .i32⟩
  | 40 => ⟨S4x2048, .i32⟩
  | 41 => ⟨S4x2048, .i32⟩
  | 42 => ⟨S4x2048, .i32⟩
  | 43 => ⟨S4x2048, .i32⟩
  | 44 => ⟨S4x2048, .i32⟩
  | 45 => ⟨S_, .i32⟩
  | 46 => ⟨S4x2048, .i32⟩
  | 47 => ⟨S4x2048, .i32⟩
  | 48 => ⟨S_, .i32⟩
  | 49 => ⟨S4x2048, .i32⟩
  | 50 => ⟨S4x2048, .i32⟩
  | 51 => ⟨S4x2048, .i32⟩
  | 52 => ⟨S4x2048, .i32⟩
  | 53 => ⟨S4x2048, .i32⟩
  | 54 => ⟨S_, .i32⟩
  | 55 => ⟨S4x2048, .i32⟩
  | 56 => ⟨S4x2048, .i32⟩
  | 57 => ⟨S_, .i32⟩
  | 58 => ⟨S4x2048, .i32⟩
  | 59 => ⟨S4x2048, .i32⟩
  | 60 => ⟨S4x2048, .i32⟩
  | 61 => ⟨S4x2048, .i32⟩
  | 62 => ⟨S4x2048, .i32⟩
  | 63 => ⟨S4x2048, .i32⟩
  | 64 => ⟨S4x2048, .i32⟩
  | 65 => ⟨S4x2048, .i32⟩
  | 66 => ⟨S_, .i32⟩
  | 67 => ⟨S4x2048, .i32⟩
  | 68 => ⟨S4x2048, .i32⟩
  | 69 => ⟨S4x2048, .i32⟩
  | 70 => ⟨S_, .i32⟩
  | 71 => ⟨S4x2048, .i32⟩
  | 72 => ⟨S4x2048, .i32⟩
  | 73 => ⟨S_, .i32⟩
  | 74 => ⟨S4x2048, .i32⟩
  | 75 => ⟨S4x2048, .i32⟩
  | 76 => ⟨S4x2048, .i32⟩
  | 77 => ⟨S4x2048, .i32⟩
  | 78 => ⟨S4x2048, .i32⟩
  | 79 => ⟨S_, .i32⟩
  | 80 => ⟨S4x2048, .i32⟩
  | 81 => ⟨S4x2048, .i32⟩
  | 82 => ⟨S_, .i32⟩
  | 83 => ⟨S4x2048, .i32⟩
  | 84 => ⟨S4x2048, .i32⟩
  | 85 => ⟨S4x2048, .i32⟩
  | 86 => ⟨S4x2048, .i32⟩
  | 87 => ⟨S4x2048, .i32⟩
  | 88 => ⟨S_, .i32⟩
  | 89 => ⟨S4x2048, .i32⟩
  | 90 => ⟨S4x2048, .i32⟩
  | 91 => ⟨S_, .i32⟩
  | 92 => ⟨S4x2048, .i32⟩
  | 93 => ⟨S4x2048, .i32⟩
  | 94 => ⟨S4x2048, .i32⟩
  | 95 => ⟨S4x2048, .i32⟩
  | 96 => ⟨S4x2048, .i32⟩
  | 97 => ⟨S_, .i32⟩
  | 98 => ⟨S4x2048, .i32⟩
  | 99 => ⟨S4x2048, .i32⟩
  | 100 => ⟨S_, .i32⟩
  | 101 => ⟨S4x2048, .i32⟩
  | 102 => ⟨S4x2048, .i32⟩
  | 103 => ⟨S4x2048, .i32⟩
  | 104 => ⟨S4x2048, .i32⟩
  | 105 => ⟨S4x2048, .i32⟩
  | 106 => ⟨S4x2048, .i32⟩
  | 107 => ⟨S4x2048, .i32⟩
  | 108 => ⟨S4x2048, .i32⟩
  | 109 => ⟨S_, .i32⟩
  | 110 => ⟨S4x2048, .i32⟩
  | 111 => ⟨S4x2048, .i32⟩
  | 112 => ⟨S4x2048, .i32⟩
  | 113 => ⟨S1x1, .i32⟩
  | 114 => ⟨S1x1, .i32⟩
  | 115 => ⟨S1x1, .i1⟩
  | 116 => ⟨S_, .i32⟩
  | 117 => ⟨S1x1, .i32⟩
  | 118 => ⟨S1x1, .i32⟩
  | 119 => ⟨S1x1, .i1⟩
  | 120 => ⟨S1x1, .i1⟩
  | 121 => ⟨S1x1, .i1⟩
  | 122 => ⟨S_, .i32⟩
  | 123 => ⟨S1x1, .i32⟩
  | 124 => ⟨S1x1, .i32⟩
  | 125 => ⟨S1x1, .i32⟩
  | 126 => ⟨S_, .i32⟩
  | 127 => ⟨S1x1, .i32⟩
  | _ => ⟨S1x20, .f32⟩

abbrev hbmTy0_14 (i : Nat) : BufTy := match i % 128 with
  | 0 => ⟨S1x1, .i32⟩
  | 1 => ⟨S1x1, .i32⟩
  | 2 => ⟨S1x1, .i32⟩
  | 3 => ⟨S4x2048, .i32⟩
  | 4 => ⟨S4x2048, .i32⟩
  | 5 => ⟨S4x2048, .i32⟩
  | 6 => ⟨S4x2048, .i32⟩
  | 7 => ⟨S4x2048, .i32⟩
  | 8 => ⟨S4x2048, .i32⟩
  | 9 => ⟨S4x2048, .i32⟩
  | 10 => ⟨S4x2048, .i32⟩
  | 11 => ⟨S4x2048, .i32⟩
  | 12 => ⟨S4x2048, .i32⟩
  | 13 => ⟨S4x2048, .i32⟩
  | 14 => ⟨S4x2048, .i32⟩
  | 15 => ⟨S8192x48, .f32⟩
  | 16 => ⟨S8192x1, .i32⟩
  | 17 => ⟨S8192x1, .i32⟩
  | 18 => ⟨S1x60, .f32⟩
  | 19 => ⟨S1x60, .f32⟩
  | 20 => ⟨S49152x8x60, .f32⟩
  | 21 => ⟨S8192x1, .f32⟩
  | 22 => ⟨S8192x1, .f32⟩
  | 23 => ⟨S4x2048x1, .i32⟩
  | 24 => ⟨S4x2048x1, .i32⟩
  | 25 => ⟨S4x2048x2, .i32⟩
  | 26 => ⟨S4x4096, .i32⟩
  | 27 => ⟨S4x2048, .f32⟩
  | 28 => ⟨S4x2048, .f32⟩
  | 29 => ⟨S4x2048x1, .f32⟩
  | 30 => ⟨S4x2048x1, .f32⟩
  | 31 => ⟨S4x2048x2, .f32⟩
  | 32 => ⟨S4x4096, .f32⟩
  | _ => ⟨S1x20, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S1x20, .f32⟩

abbrev bufTy : (tb : Table) → Fin (tcTables nBuf tb) → BufTy
  | .hbm, ⟨i, _⟩ => hbmTy i
  | .local _ .vmem, ⟨0, _⟩ => ⟨S1x20, .f32⟩
  | .local _ .vmem, ⟨1, _⟩ => ⟨S60x20, .f32⟩
  | .local _ .vmem, ⟨2, _⟩ => ⟨S1x60, .f32⟩
  | .local _ .vmem, ⟨3, _⟩ => ⟨S60x60, .f32⟩
  | .local _ .vmem, ⟨4, _⟩ => ⟨S1x60, .f32⟩
  | .local _ .vmem, ⟨5, _⟩ => ⟨S1536x8x60, .f32⟩
  | .local _ .vmem, ⟨6, _⟩ => ⟨S1536x8x60, .f32⟩
  | .local _ .vmem, ⟨7, _⟩ => ⟨S256x48, .f32⟩
  | .local _ .vmem, ⟨8, _⟩ => ⟨S256x48, .f32⟩
  | .local _ .vmem, ⟨9, _⟩ => ⟨S256x1, .i32⟩
  | .local _ .vmem, ⟨10, _⟩ => ⟨S256x1, .i32⟩
  | .local _ .vmem, ⟨11, _⟩ => ⟨S256x1, .i32⟩
  | .local _ .vmem, ⟨12, _⟩ => ⟨S256x1, .i32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S60x48, .f32⟩
  | _, _ => ⟨S1x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c : Ref sig .tc := ⟨.hbm, 22, rfl⟩
abbrev main_call0_v5 : Ref sig .tc := ⟨.hbm, 23, rfl⟩
abbrev main_call0_v6 : Ref sig .tc := ⟨.hbm, 24, rfl⟩
abbrev main_call0_c_0 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_call0_v0 : Ref sig .tc := ⟨.hbm, 30, rfl⟩
abbrev main_call0_call0_c : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_c_0 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_c_1 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_c_2 : Ref sig .tc := ⟨.hbm, 47, rfl⟩
abbrev main_call0_call0_v14 : Ref sig .tc := ⟨.hbm, 48, rfl⟩
abbrev main_call0_call0_v15 : Ref sig .tc := ⟨.hbm, 49, rfl⟩
abbrev main_call0_call0_c_3 : Ref sig .tc := ⟨.hbm, 50, rfl⟩
abbrev main_call0_call0_v16 : Ref sig .tc := ⟨.hbm, 51, rfl⟩
abbrev main_call0_call0_v17 : Ref sig .tc := ⟨.hbm, 52, rfl⟩
abbrev main_call0_call0_v18 : Ref sig .tc := ⟨.hbm, 53, rfl⟩
abbrev main_call0_call0_v19 : Ref sig .tc := ⟨.hbm, 54, rfl⟩
abbrev main_call0_call0_v20 : Ref sig .tc := ⟨.hbm, 55, rfl⟩
abbrev main_call0_call0_c_4 : Ref sig .tc := ⟨.hbm, 56, rfl⟩
abbrev main_call0_call0_v21 : Ref sig .tc := ⟨.hbm, 57, rfl⟩
abbrev main_call0_call0_v22 : Ref sig .tc := ⟨.hbm, 58, rfl⟩
abbrev main_call0_call0_c_5 : Ref sig .tc := ⟨.hbm, 59, rfl⟩
abbrev main_call0_call0_v23 : Ref sig .tc := ⟨.hbm, 60, rfl⟩
abbrev main_call0_call0_v24 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_v27 : Ref sig .tc := ⟨.hbm, 64, rfl⟩
abbrev main_call0_call0_c_6 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_c_7 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_v32 : Ref sig .tc := ⟨.hbm, 71, rfl⟩
abbrev main_call0_call0_v33 : Ref sig .tc := ⟨.hbm, 72, rfl⟩
abbrev main_call0_call0_v34 : Ref sig .tc := ⟨.hbm, 73, rfl⟩
abbrev main_call0_call0_v35 : Ref sig .tc := ⟨.hbm, 74, rfl⟩
abbrev main_call0_call0_v36 : Ref sig .tc := ⟨.hbm, 75, rfl⟩
abbrev main_call0_call0_v37 : Ref sig .tc := ⟨.hbm, 76, rfl⟩
abbrev main_call0_call0_c_8 : Ref sig .tc := ⟨.hbm, 77, rfl⟩
abbrev main_call0_call0_v38 : Ref sig .tc := ⟨.hbm, 78, rfl⟩
abbrev main_call0_call0_v39 : Ref sig .tc := ⟨.hbm, 79, rfl⟩
abbrev main_call0_call0_v40 : Ref sig .tc := ⟨.hbm, 80, rfl⟩
abbrev main_call0_call0_c_9 : Ref sig .tc := ⟨.hbm, 81, rfl⟩
abbrev main_call0_call0_v41 : Ref sig .tc := ⟨.hbm, 82, rfl⟩
abbrev main_call0_call0_v42 : Ref sig .tc := ⟨.hbm, 83, rfl⟩
abbrev main_call0_call0_c_10 : Ref sig .tc := ⟨.hbm, 84, rfl⟩
abbrev main_call0_call0_v43 : Ref sig .tc := ⟨.hbm, 85, rfl⟩
abbrev main_call0_call0_v44 : Ref sig .tc := ⟨.hbm, 86, rfl⟩
abbrev main_call0_call0_v45 : Ref sig .tc := ⟨.hbm, 87, rfl⟩
abbrev main_call0_call0_v46 : Ref sig .tc := ⟨.hbm, 88, rfl⟩
abbrev main_call0_call0_v47 : Ref sig .tc := ⟨.hbm, 89, rfl⟩
abbrev main_call0_call0_c_11 : Ref sig .tc := ⟨.hbm, 90, rfl⟩
abbrev main_call0_call0_v48 : Ref sig .tc := ⟨.hbm, 91, rfl⟩
abbrev main_call0_call0_v49 : Ref sig .tc := ⟨.hbm, 92, rfl⟩
abbrev main_call0_call0_c_12 : Ref sig .tc := ⟨.hbm, 93, rfl⟩
abbrev main_call0_call0_v50 : Ref sig .tc := ⟨.hbm, 94, rfl⟩
abbrev main_call0_call0_v51 : Ref sig .tc := ⟨.hbm, 95, rfl⟩
abbrev main_call0_call0_v52 : Ref sig .tc := ⟨.hbm, 96, rfl⟩
abbrev main_call0_call0_v53 : Ref sig .tc := ⟨.hbm, 97, rfl⟩
abbrev main_call0_call0_v54 : Ref sig .tc := ⟨.hbm, 98, rfl⟩
abbrev main_call0_call0_c_13 : Ref sig .tc := ⟨.hbm, 99, rfl⟩
abbrev main_call0_call0_v55 : Ref sig .tc := ⟨.hbm, 100, rfl⟩
abbrev main_call0_call0_v56 : Ref sig .tc := ⟨.hbm, 101, rfl⟩
abbrev main_call0_call0_c_14 : Ref sig .tc := ⟨.hbm, 102, rfl⟩
abbrev main_call0_call0_v57 : Ref sig .tc := ⟨.hbm, 103, rfl⟩
abbrev main_call0_call0_v58 : Ref sig .tc := ⟨.hbm, 104, rfl⟩
abbrev main_call0_call0_v59 : Ref sig .tc := ⟨.hbm, 105, rfl⟩
abbrev main_call0_call0_v60 : Ref sig .tc := ⟨.hbm, 106, rfl⟩
abbrev main_call0_call0_v61 : Ref sig .tc := ⟨.hbm, 107, rfl⟩
abbrev main_call0_call0_c_15 : Ref sig .tc := ⟨.hbm, 108, rfl⟩
abbrev main_call0_call0_v62 : Ref sig .tc := ⟨.hbm, 109, rfl⟩
abbrev main_call0_call0_v63 : Ref sig .tc := ⟨.hbm, 110, rfl⟩
abbrev main_call0_call0_c_16 : Ref sig .tc := ⟨.hbm, 111, rfl⟩
abbrev main_call0_call0_v64 : Ref sig .tc := ⟨.hbm, 112, rfl⟩
abbrev main_call0_call0_v65 : Ref sig .tc := ⟨.hbm, 113, rfl⟩
abbrev main_call0_call0_v66 : Ref sig .tc := ⟨.hbm, 114, rfl⟩
abbrev main_call0_call0_v67 : Ref sig .tc := ⟨.hbm, 115, rfl⟩
abbrev main_call0_call0_v68 : Ref sig .tc := ⟨.hbm, 116, rfl⟩
abbrev main_call0_call0_v69 : Ref sig .tc := ⟨.hbm, 117, rfl⟩
abbrev main_call0_call0_v70 : Ref sig .tc := ⟨.hbm, 118, rfl⟩
abbrev main_call0_call0_v71 : Ref sig .tc := ⟨.hbm, 119, rfl⟩
abbrev main_call0_call0_c_17 : Ref sig .tc := ⟨.hbm, 120, rfl⟩
abbrev main_call0_call0_v72 : Ref sig .tc := ⟨.hbm, 121, rfl⟩
abbrev main_call0_call0_v73 : Ref sig .tc := ⟨.hbm, 122, rfl⟩
abbrev main_call0_call0_v74 : Ref sig .tc := ⟨.hbm, 123, rfl⟩
abbrev main_call0_call0_c_18 : Ref sig .tc := ⟨.hbm, 124, rfl⟩
abbrev main_call0_call0_v75 : Ref sig .tc := ⟨.hbm, 125, rfl⟩
abbrev main_call0_call0_v76 : Ref sig .tc := ⟨.hbm, 126, rfl⟩
abbrev main_call0_call0_c_19 : Ref sig .tc := ⟨.hbm, 127, rfl⟩
abbrev main_call0_call0_v77 : Ref sig .tc := ⟨.hbm, 128, rfl⟩
abbrev main_call0_call0_v78 : Ref sig .tc := ⟨.hbm, 129, rfl⟩
abbrev main_call0_call0_v79 : Ref sig .tc := ⟨.hbm, 130, rfl⟩
abbrev main_call0_call0_v80 : Ref sig .tc := ⟨.hbm, 131, rfl⟩
abbrev main_call0_call0_v81 : Ref sig .tc := ⟨.hbm, 132, rfl⟩
abbrev main_call0_call0_c_20 : Ref sig .tc := ⟨.hbm, 133, rfl⟩
abbrev main_call0_call0_v82 : Ref sig .tc := ⟨.hbm, 134, rfl⟩
abbrev main_call0_call0_v83 : Ref sig .tc := ⟨.hbm, 135, rfl⟩
abbrev main_call0_call0_c_21 : Ref sig .tc := ⟨.hbm, 136, rfl⟩
abbrev main_call0_call0_v84 : Ref sig .tc := ⟨.hbm, 137, rfl⟩
abbrev main_call0_call0_v85 : Ref sig .tc := ⟨.hbm, 138, rfl⟩
abbrev main_call0_call0_v86 : Ref sig .tc := ⟨.hbm, 139, rfl⟩
abbrev main_call0_call0_v87 : Ref sig .tc := ⟨.hbm, 140, rfl⟩
abbrev main_call0_call0_v88 : Ref sig .tc := ⟨.hbm, 141, rfl⟩
abbrev main_call0_call0_c_22 : Ref sig .tc := ⟨.hbm, 142, rfl⟩
abbrev main_call0_call0_v89 : Ref sig .tc := ⟨.hbm, 143, rfl⟩
abbrev main_call0_call0_v90 : Ref sig .tc := ⟨.hbm, 144, rfl⟩
abbrev main_call0_call0_c_23 : Ref sig .tc := ⟨.hbm, 145, rfl⟩
abbrev main_call0_call0_v91 : Ref sig .tc := ⟨.hbm, 146, rfl⟩
abbrev main_call0_call0_v92 : Ref sig .tc := ⟨.hbm, 147, rfl⟩
abbrev main_call0_call0_v93 : Ref sig .tc := ⟨.hbm, 148, rfl⟩
abbrev main_call0_call0_v94 : Ref sig .tc := ⟨.hbm, 149, rfl⟩
abbrev main_call0_call0_v95 : Ref sig .tc := ⟨.hbm, 150, rfl⟩
abbrev main_call0_call0_c_24 : Ref sig .tc := ⟨.hbm, 151, rfl⟩
abbrev main_call0_call0_v96 : Ref sig .tc := ⟨.hbm, 152, rfl⟩
abbrev main_call0_call0_v97 : Ref sig .tc := ⟨.hbm, 153, rfl⟩
abbrev main_call0_call0_c_25 : Ref sig .tc := ⟨.hbm, 154, rfl⟩
abbrev main_call0_call0_v98 : Ref sig .tc := ⟨.hbm, 155, rfl⟩
abbrev main_call0_call0_v99 : Ref sig .tc := ⟨.hbm, 156, rfl⟩
abbrev main_call0_call0_v100 : Ref sig .tc := ⟨.hbm, 157, rfl⟩
abbrev main_call0_call0_v101 : Ref sig .tc := ⟨.hbm, 158, rfl⟩
abbrev main_call0_call0_v102 : Ref sig .tc := ⟨.hbm, 159, rfl⟩
abbrev main_call0_call0_v103 : Ref sig .tc := ⟨.hbm, 160, rfl⟩
abbrev main_call0_call0_v104 : Ref sig .tc := ⟨.hbm, 161, rfl⟩
abbrev main_call0_call0_v105 : Ref sig .tc := ⟨.hbm, 162, rfl⟩
abbrev main_call0_call0_c_26 : Ref sig .tc := ⟨.hbm, 163, rfl⟩
abbrev main_call0_call0_v106 : Ref sig .tc := ⟨.hbm, 164, rfl⟩
abbrev main_call0_call0_v107 : Ref sig .tc := ⟨.hbm, 165, rfl⟩
abbrev main_call0_call0_v108 : Ref sig .tc := ⟨.hbm, 166, rfl⟩
abbrev main_call0_call0_c_27 : Ref sig .tc := ⟨.hbm, 167, rfl⟩
abbrev main_call0_call0_v109 : Ref sig .tc := ⟨.hbm, 168, rfl⟩
abbrev main_call0_call0_v110 : Ref sig .tc := ⟨.hbm, 169, rfl⟩
abbrev main_call0_call0_c_28 : Ref sig .tc := ⟨.hbm, 170, rfl⟩
abbrev main_call0_call0_v111 : Ref sig .tc := ⟨.hbm, 171, rfl⟩
abbrev main_call0_call0_v112 : Ref sig .tc := ⟨.hbm, 172, rfl⟩
abbrev main_call0_call0_v113 : Ref sig .tc := ⟨.hbm, 173, rfl⟩
abbrev main_call0_call0_v114 : Ref sig .tc := ⟨.hbm, 174, rfl⟩
abbrev main_call0_call0_v115 : Ref sig .tc := ⟨.hbm, 175, rfl⟩
abbrev main_call0_call0_c_29 : Ref sig .tc := ⟨.hbm, 176, rfl⟩
abbrev main_call0_call0_v116 : Ref sig .tc := ⟨.hbm, 177, rfl⟩
abbrev main_call0_call0_v117 : Ref sig .tc := ⟨.hbm, 178, rfl⟩
abbrev main_call0_call0_c_30 : Ref sig .tc := ⟨.hbm, 179, rfl⟩
abbrev main_call0_call0_v118 : Ref sig .tc := ⟨.hbm, 180, rfl⟩
abbrev main_call0_call0_v119 : Ref sig .tc := ⟨.hbm, 181, rfl⟩
abbrev main_call0_call0_v120 : Ref sig .tc := ⟨.hbm, 182, rfl⟩
abbrev main_call0_call0_v121 : Ref sig .tc := ⟨.hbm, 183, rfl⟩
abbrev main_call0_call0_v122 : Ref sig .tc := ⟨.hbm, 184, rfl⟩
abbrev main_call0_call0_c_31 : Ref sig .tc := ⟨.hbm, 185, rfl⟩
abbrev main_call0_call0_v123 : Ref sig .tc := ⟨.hbm, 186, rfl⟩
abbrev main_call0_call0_v124 : Ref sig .tc := ⟨.hbm, 187, rfl⟩
abbrev main_call0_call0_c_32 : Ref sig .tc := ⟨.hbm, 188, rfl⟩
abbrev main_call0_call0_v125 : Ref sig .tc := ⟨.hbm, 189, rfl⟩
abbrev main_call0_call0_v126 : Ref sig .tc := ⟨.hbm, 190, rfl⟩
abbrev main_call0_call0_v127 : Ref sig .tc := ⟨.hbm, 191, rfl⟩
abbrev main_call0_call0_v128 : Ref sig .tc := ⟨.hbm, 192, rfl⟩
abbrev main_call0_call0_v129 : Ref sig .tc := ⟨.hbm, 193, rfl⟩
abbrev main_call0_call0_c_33 : Ref sig .tc := ⟨.hbm, 194, rfl⟩
abbrev main_call0_call0_v130 : Ref sig .tc := ⟨.hbm, 195, rfl⟩
abbrev main_call0_call0_v131 : Ref sig .tc := ⟨.hbm, 196, rfl⟩
abbrev main_call0_call0_c_34 : Ref sig .tc := ⟨.hbm, 197, rfl⟩
abbrev main_call0_call0_v132 : Ref sig .tc := ⟨.hbm, 198, rfl⟩
abbrev main_call0_call0_v133 : Ref sig .tc := ⟨.hbm, 199, rfl⟩
abbrev main_call0_call0_v134 : Ref sig .tc := ⟨.hbm, 200, rfl⟩
abbrev main_call0_call0_v135 : Ref sig .tc := ⟨.hbm, 201, rfl⟩
abbrev main_call0_call0_v136 : Ref sig .tc := ⟨.hbm, 202, rfl⟩
abbrev main_call0_call0_v137 : Ref sig .tc := ⟨.hbm, 203, rfl⟩
abbrev main_call0_call0_v138 : Ref sig .tc := ⟨.hbm, 204, rfl⟩
abbrev main_call0_call0_v139 : Ref sig .tc := ⟨.hbm, 205, rfl⟩
abbrev main_call0_call0_c_35 : Ref sig .tc := ⟨.hbm, 206, rfl⟩
abbrev main_call0_call0_v140 : Ref sig .tc := ⟨.hbm, 207, rfl⟩
abbrev main_call0_call0_v141 : Ref sig .tc := ⟨.hbm, 208, rfl⟩
abbrev main_call0_call0_v142 : Ref sig .tc := ⟨.hbm, 209, rfl⟩
abbrev main_call0_call0_c_36 : Ref sig .tc := ⟨.hbm, 210, rfl⟩
abbrev main_call0_call0_v143 : Ref sig .tc := ⟨.hbm, 211, rfl⟩
abbrev main_call0_call0_v144 : Ref sig .tc := ⟨.hbm, 212, rfl⟩
abbrev main_call0_call0_c_37 : Ref sig .tc := ⟨.hbm, 213, rfl⟩
abbrev main_call0_call0_v145 : Ref sig .tc := ⟨.hbm, 214, rfl⟩
abbrev main_call0_call0_v146 : Ref sig .tc := ⟨.hbm, 215, rfl⟩
abbrev main_call0_call0_v147 : Ref sig .tc := ⟨.hbm, 216, rfl⟩
abbrev main_call0_call0_v148 : Ref sig .tc := ⟨.hbm, 217, rfl⟩
abbrev main_call0_call0_v149 : Ref sig .tc := ⟨.hbm, 218, rfl⟩
abbrev main_call0_call0_c_38 : Ref sig .tc := ⟨.hbm, 219, rfl⟩
abbrev main_call0_call0_v150 : Ref sig .tc := ⟨.hbm, 220, rfl⟩
abbrev main_call0_call0_v151 : Ref sig .tc := ⟨.hbm, 221, rfl⟩
abbrev main_call0_call0_c_39 : Ref sig .tc := ⟨.hbm, 222, rfl⟩
abbrev main_call0_call0_v152 : Ref sig .tc := ⟨.hbm, 223, rfl⟩
abbrev main_call0_call0_v153 : Ref sig .tc := ⟨.hbm, 224, rfl⟩
abbrev main_call0_call0_v154 : Ref sig .tc := ⟨.hbm, 225, rfl⟩
abbrev main_call0_call0_v155 : Ref sig .tc := ⟨.hbm, 226, rfl⟩
abbrev main_call0_call0_v156 : Ref sig .tc := ⟨.hbm, 227, rfl⟩
abbrev main_call0_call0_c_40 : Ref sig .tc := ⟨.hbm, 228, rfl⟩
abbrev main_call0_call0_v157 : Ref sig .tc := ⟨.hbm, 229, rfl⟩
abbrev main_call0_call0_v158 : Ref sig .tc := ⟨.hbm, 230, rfl⟩
abbrev main_call0_call0_c_41 : Ref sig .tc := ⟨.hbm, 231, rfl⟩
abbrev main_call0_call0_v159 : Ref sig .tc := ⟨.hbm, 232, rfl⟩
abbrev main_call0_call0_v160 : Ref sig .tc := ⟨.hbm, 233, rfl⟩
abbrev main_call0_call0_v161 : Ref sig .tc := ⟨.hbm, 234, rfl⟩
abbrev main_call0_call0_v162 : Ref sig .tc := ⟨.hbm, 235, rfl⟩
abbrev main_call0_call0_v163 : Ref sig .tc := ⟨.hbm, 236, rfl⟩
abbrev main_call0_call0_c_42 : Ref sig .tc := ⟨.hbm, 237, rfl⟩
abbrev main_call0_call0_v164 : Ref sig .tc := ⟨.hbm, 238, rfl⟩
abbrev main_call0_call0_v165 : Ref sig .tc := ⟨.hbm, 239, rfl⟩
abbrev main_call0_call0_c_43 : Ref sig .tc := ⟨.hbm, 240, rfl⟩
abbrev main_call0_call0_v166 : Ref sig .tc := ⟨.hbm, 241, rfl⟩
abbrev main_call0_call0_v167 : Ref sig .tc := ⟨.hbm, 242, rfl⟩
abbrev main_call0_call0_v168 : Ref sig .tc := ⟨.hbm, 243, rfl⟩
abbrev main_call0_call0_v169 : Ref sig .tc := ⟨.hbm, 244, rfl⟩
abbrev main_call0_call0_v170 : Ref sig .tc := ⟨.hbm, 245, rfl⟩
abbrev main_call0_v11_0 : Ref sig .tc := ⟨.hbm, 246, rfl⟩
abbrev main_call0_call0_v172 : Ref sig .tc := ⟨.hbm, 247, rfl⟩
abbrev main_call0_call0_v173 : Ref sig .tc := ⟨.hbm, 248, rfl⟩
abbrev main_call0_call0_c_44 : Ref sig .tc := ⟨.hbm, 249, rfl⟩
abbrev main_call0_call0_v174 : Ref sig .tc := ⟨.hbm, 250, rfl⟩
abbrev main_call0_v11_1 : Ref sig .tc := ⟨.hbm, 251, rfl⟩
abbrev main_call0_v12 : Ref sig .tc := ⟨.hbm, 252, rfl⟩
abbrev main_call0_v13 : Ref sig .tc := ⟨.hbm, 253, rfl⟩
abbrev main_v7 : Ref sig .tc := ⟨.hbm, 254, rfl⟩
abbrev main_v8 : Ref sig .tc := ⟨.hbm, 255, rfl⟩
abbrev main_v9 : Ref sig .tc := ⟨.hbm, 256, rfl⟩
abbrev main_v10 : Ref sig .tc := ⟨.hbm, 257, rfl⟩
abbrev main_v11 : Ref sig .tc := ⟨.hbm, 258, rfl⟩
abbrev main_c_2 : Ref sig .tc := ⟨.hbm, 259, rfl⟩
abbrev main_c_3 : Ref sig .tc := ⟨.hbm, 260, rfl⟩
abbrev main_call1_c : Ref sig .tc := ⟨.hbm, 261, rfl⟩
abbrev main_call1_c_0 : Ref sig .tc := ⟨.hbm, 262, rfl⟩
abbrev main_call1_c_1 : Ref sig .tc := ⟨.hbm, 263, rfl⟩
abbrev main_call1_call0_v0 : Ref sig .tc := ⟨.hbm, 264, rfl⟩
abbrev main_call1_v0 : Ref sig .tc := ⟨.hbm, 265, rfl⟩
abbrev main_call1_v1 : Ref sig .tc := ⟨.hbm, 266, rfl⟩
abbrev main_call1_c_2 : Ref sig .tc := ⟨.hbm, 267, rfl⟩
abbrev main_call1_c_3 : Ref sig .tc := ⟨.hbm, 268, rfl⟩
abbrev main_call1_call1_v0 : Ref sig .tc := ⟨.hbm, 269, rfl⟩
abbrev main_call1_v2 : Ref sig .tc := ⟨.hbm, 270, rfl⟩
abbrev main_call1_v3 : Ref sig .tc := ⟨.hbm, 271, rfl⟩
abbrev main_call1_c_4 : Ref sig .tc := ⟨.hbm, 272, rfl⟩
abbrev main_call1_c_5 : Ref sig .tc := ⟨.hbm, 273, rfl⟩
abbrev main_call1_call2_v0 : Ref sig .tc := ⟨.hbm, 274, rfl⟩
abbrev main_call1_v4 : Ref sig .tc := ⟨.hbm, 275, rfl⟩
abbrev main_call1_v5 : Ref sig .tc := ⟨.hbm, 276, rfl⟩
abbrev main_call1_v6 : Ref sig .tc := ⟨.hbm, 277, rfl⟩
abbrev main_call1_v7 : Ref sig .tc := ⟨.hbm, 278, rfl⟩
abbrev main_call1_call3_v0 : Ref sig .tc := ⟨.hbm, 279, rfl⟩
abbrev main_call1_call3_v1 : Ref sig .tc := ⟨.hbm, 280, rfl⟩
abbrev main_call1_call3_v2 : Ref sig .tc := ⟨.hbm, 281, rfl⟩
abbrev main_call1_call3_v3 : Ref sig .tc := ⟨.hbm, 282, rfl⟩
abbrev main_call1_call3_v4 : Ref sig .tc := ⟨.hbm, 283, rfl⟩
abbrev main_call1_call3_c : Ref sig .tc := ⟨.hbm, 284, rfl⟩
abbrev main_call1_call3_v5 : Ref sig .tc := ⟨.hbm, 285, rfl⟩
abbrev main_call1_call3_v6 : Ref sig .tc := ⟨.hbm, 286, rfl⟩
abbrev main_call1_call3_c_0 : Ref sig .tc := ⟨.hbm, 287, rfl⟩
abbrev main_call1_call3_v7 : Ref sig .tc := ⟨.hbm, 288, rfl⟩
abbrev main_call1_call3_v8 : Ref sig .tc := ⟨.hbm, 289, rfl⟩
abbrev main_call1_call3_v9 : Ref sig .tc := ⟨.hbm, 290, rfl⟩
abbrev main_call1_call3_v10 : Ref sig .tc := ⟨.hbm, 291, rfl⟩
abbrev main_call1_call3_call0_v0 : Ref sig .tc := ⟨.hbm, 292, rfl⟩
abbrev main_call1_call3_call0_c : Ref sig .tc := ⟨.hbm, 293, rfl⟩
abbrev main_call1_call3_call0_v1 : Ref sig .tc := ⟨.hbm, 294, rfl⟩
abbrev main_call1_call3_call0_v2 : Ref sig .tc := ⟨.hbm, 295, rfl⟩
abbrev main_call1_call3_call0_v3 : Ref sig .tc := ⟨.hbm, 296, rfl⟩
abbrev main_call1_call3_call0_v4 : Ref sig .tc := ⟨.hbm, 297, rfl⟩
abbrev main_call1_call3_call0_v5 : Ref sig .tc := ⟨.hbm, 298, rfl⟩
abbrev main_call1_call3_call0_v6 : Ref sig .tc := ⟨.hbm, 299, rfl⟩
abbrev main_call1_call3_call0_c_0 : Ref sig .tc := ⟨.hbm, 300, rfl⟩
abbrev main_call1_call3_call0_v7 : Ref sig .tc := ⟨.hbm, 301, rfl⟩
abbrev main_call1_call3_call0_v8 : Ref sig .tc := ⟨.hbm, 302, rfl⟩
abbrev main_call1_call3_call0_c_1 : Ref sig .tc := ⟨.hbm, 303, rfl⟩
abbrev main_call1_call3_call0_v9 : Ref sig .tc := ⟨.hbm, 304, rfl⟩
abbrev main_call1_call3_call0_v10 : Ref sig .tc := ⟨.hbm, 305, rfl⟩
abbrev main_call1_call3_call0_v11 : Ref sig .tc := ⟨.hbm, 306, rfl⟩
abbrev main_call1_call3_call0_v12 : Ref sig .tc := ⟨.hbm, 307, rfl⟩
abbrev main_call1_call3_call0_v13 : Ref sig .tc := ⟨.hbm, 308, rfl⟩
abbrev main_call1_call3_call0_c_2 : Ref sig .tc := ⟨.hbm, 309, rfl⟩
abbrev main_call1_call3_call0_v14 : Ref sig .tc := ⟨.hbm, 310, rfl⟩
abbrev main_call1_call3_call0_v15 : Ref sig .tc := ⟨.hbm, 311, rfl⟩
abbrev main_call1_call3_call0_c_3 : Ref sig .tc := ⟨.hbm, 312, rfl⟩
abbrev main_call1_call3_call0_v16 : Ref sig .tc := ⟨.hbm, 313, rfl⟩
abbrev main_call1_call3_call0_v17 : Ref sig .tc := ⟨.hbm, 314, rfl⟩
abbrev main_call1_call3_call0_v18 : Ref sig .tc := ⟨.hbm, 315, rfl⟩
abbrev main_call1_call3_call0_v19 : Ref sig .tc := ⟨.hbm, 316, rfl⟩
abbrev main_call1_call3_call0_v20 : Ref sig .tc := ⟨.hbm, 317, rfl⟩
abbrev main_call1_call3_call0_c_4 : Ref sig .tc := ⟨.hbm, 318, rfl⟩
abbrev main_call1_call3_call0_v21 : Ref sig .tc := ⟨.hbm, 319, rfl⟩
abbrev main_call1_call3_call0_v22 : Ref sig .tc := ⟨.hbm, 320, rfl⟩
abbrev main_call1_call3_call0_c_5 : Ref sig .tc := ⟨.hbm, 321, rfl⟩
abbrev main_call1_call3_call0_v23 : Ref sig .tc := ⟨.hbm, 322, rfl⟩
abbrev main_call1_call3_call0_v24 : Ref sig .tc := ⟨.hbm, 323, rfl⟩
abbrev main_call1_call3_call0_v25 : Ref sig .tc := ⟨.hbm, 324, rfl⟩
abbrev main_call1_call3_call0_v26 : Ref sig .tc := ⟨.hbm, 325, rfl⟩
abbrev main_call1_call3_call0_v27 : Ref sig .tc := ⟨.hbm, 326, rfl⟩
abbrev main_call1_call3_call0_c_6 : Ref sig .tc := ⟨.hbm, 327, rfl⟩
abbrev main_call1_call3_call0_v28 : Ref sig .tc := ⟨.hbm, 328, rfl⟩
abbrev main_call1_call3_call0_v29 : Ref sig .tc := ⟨.hbm, 329, rfl⟩
abbrev main_call1_call3_call0_c_7 : Ref sig .tc := ⟨.hbm, 330, rfl⟩
abbrev main_call1_call3_call0_v30 : Ref sig .tc := ⟨.hbm, 331, rfl⟩
abbrev main_call1_call3_call0_v31 : Ref sig .tc := ⟨.hbm, 332, rfl⟩
abbrev main_call1_call3_call0_v32 : Ref sig .tc := ⟨.hbm, 333, rfl⟩
abbrev main_call1_call3_call0_v33 : Ref sig .tc := ⟨.hbm, 334, rfl⟩
abbrev main_call1_call3_call0_v34 : Ref sig .tc := ⟨.hbm, 335, rfl⟩
abbrev main_call1_call3_call0_v35 : Ref sig .tc := ⟨.hbm, 336, rfl⟩
abbrev main_call1_call3_call0_v36 : Ref sig .tc := ⟨.hbm, 337, rfl⟩
abbrev main_call1_call3_call0_v37 : Ref sig .tc := ⟨.hbm, 338, rfl⟩
abbrev main_call1_call3_call0_c_8 : Ref sig .tc := ⟨.hbm, 339, rfl⟩
abbrev main_call1_call3_call0_v38 : Ref sig .tc := ⟨.hbm, 340, rfl⟩
abbrev main_call1_call3_call0_v39 : Ref sig .tc := ⟨.hbm, 341, rfl⟩
abbrev main_call1_call3_call0_v40 : Ref sig .tc := ⟨.hbm, 342, rfl⟩
abbrev main_call1_call3_call0_c_9 : Ref sig .tc := ⟨.hbm, 343, rfl⟩
abbrev main_call1_call3_call0_v41 : Ref sig .tc := ⟨.hbm, 344, rfl⟩
abbrev main_call1_call3_call0_v42 : Ref sig .tc := ⟨.hbm, 345, rfl⟩
abbrev main_call1_call3_call0_c_10 : Ref sig .tc := ⟨.hbm, 346, rfl⟩
abbrev main_call1_call3_call0_v43 : Ref sig .tc := ⟨.hbm, 347, rfl⟩
abbrev main_call1_call3_call0_v44 : Ref sig .tc := ⟨.hbm, 348, rfl⟩
abbrev main_call1_call3_call0_v45 : Ref sig .tc := ⟨.hbm, 349, rfl⟩
abbrev main_call1_call3_call0_v46 : Ref sig .tc := ⟨.hbm, 350, rfl⟩
abbrev main_call1_call3_call0_v47 : Ref sig .tc := ⟨.hbm, 351, rfl⟩
abbrev main_call1_call3_call0_c_11 : Ref sig .tc := ⟨.hbm, 352, rfl⟩
abbrev main_call1_call3_call0_v48 : Ref sig .tc := ⟨.hbm, 353, rfl⟩
abbrev main_call1_call3_call0_v49 : Ref sig .tc := ⟨.hbm, 354, rfl⟩
abbrev main_call1_call3_call0_c_12 : Ref sig .tc := ⟨.hbm, 355, rfl⟩
abbrev main_call1_call3_call0_v50 : Ref sig .tc := ⟨.hbm, 356, rfl⟩
abbrev main_call1_call3_call0_v51 : Ref sig .tc := ⟨.hbm, 357, rfl⟩
abbrev main_call1_call3_call0_v52 : Ref sig .tc := ⟨.hbm, 358, rfl⟩
abbrev main_call1_call3_call0_v53 : Ref sig .tc := ⟨.hbm, 359, rfl⟩
abbrev main_call1_call3_call0_v54 : Ref sig .tc := ⟨.hbm, 360, rfl⟩
abbrev main_call1_call3_call0_c_13 : Ref sig .tc := ⟨.hbm, 361, rfl⟩
abbrev main_call1_call3_call0_v55 : Ref sig .tc := ⟨.hbm, 362, rfl⟩
abbrev main_call1_call3_call0_v56 : Ref sig .tc := ⟨.hbm, 363, rfl⟩
abbrev main_call1_call3_call0_c_14 : Ref sig .tc := ⟨.hbm, 364, rfl⟩
abbrev main_call1_call3_call0_v57 : Ref sig .tc := ⟨.hbm, 365, rfl⟩
abbrev main_call1_call3_call0_v58 : Ref sig .tc := ⟨.hbm, 366, rfl⟩
abbrev main_call1_call3_call0_v59 : Ref sig .tc := ⟨.hbm, 367, rfl⟩
abbrev main_call1_call3_call0_v60 : Ref sig .tc := ⟨.hbm, 368, rfl⟩
abbrev main_call1_call3_call0_v61 : Ref sig .tc := ⟨.hbm, 369, rfl⟩
abbrev main_call1_call3_call0_c_15 : Ref sig .tc := ⟨.hbm, 370, rfl⟩
abbrev main_call1_call3_call0_v62 : Ref sig .tc := ⟨.hbm, 371, rfl⟩
abbrev main_call1_call3_call0_v63 : Ref sig .tc := ⟨.hbm, 372, rfl⟩
abbrev main_call1_call3_call0_c_16 : Ref sig .tc := ⟨.hbm, 373, rfl⟩
abbrev main_call1_call3_call0_v64 : Ref sig .tc := ⟨.hbm, 374, rfl⟩
abbrev main_call1_call3_call0_v65 : Ref sig .tc := ⟨.hbm, 375, rfl⟩
abbrev main_call1_call3_call0_v66 : Ref sig .tc := ⟨.hbm, 376, rfl⟩
abbrev main_call1_call3_call0_v67 : Ref sig .tc := ⟨.hbm, 377, rfl⟩
abbrev main_call1_call3_call0_v68 : Ref sig .tc := ⟨.hbm, 378, rfl⟩
abbrev main_call1_call3_call0_v69 : Ref sig .tc := ⟨.hbm, 379, rfl⟩
abbrev main_call1_call3_call0_v70 : Ref sig .tc := ⟨.hbm, 380, rfl⟩
abbrev main_call1_call3_call0_v71 : Ref sig .tc := ⟨.hbm, 381, rfl⟩
abbrev main_call1_call3_call0_c_17 : Ref sig .tc := ⟨.hbm, 382, rfl⟩
abbrev main_call1_call3_call0_v72 : Ref sig .tc := ⟨.hbm, 383, rfl⟩
abbrev main_call1_call3_call0_v73 : Ref sig .tc := ⟨.hbm, 384, rfl⟩
abbrev main_call1_call3_call0_v74 : Ref sig .tc := ⟨.hbm, 385, rfl⟩
abbrev main_call1_call3_call0_c_18 : Ref sig .tc := ⟨.hbm, 386, rfl⟩
abbrev main_call1_call3_call0_v75 : Ref sig .tc := ⟨.hbm, 387, rfl⟩
abbrev main_call1_call3_call0_v76 : Ref sig .tc := ⟨.hbm, 388, rfl⟩
abbrev main_call1_call3_call0_c_19 : Ref sig .tc := ⟨.hbm, 389, rfl⟩
abbrev main_call1_call3_call0_v77 : Ref sig .tc := ⟨.hbm, 390, rfl⟩
abbrev main_call1_call3_call0_v78 : Ref sig .tc := ⟨.hbm, 391, rfl⟩
abbrev main_call1_call3_call0_v79 : Ref sig .tc := ⟨.hbm, 392, rfl⟩
abbrev main_call1_call3_call0_v80 : Ref sig .tc := ⟨.hbm, 393, rfl⟩
abbrev main_call1_call3_call0_v81 : Ref sig .tc := ⟨.hbm, 394, rfl⟩
abbrev main_call1_call3_call0_c_20 : Ref sig .tc := ⟨.hbm, 395, rfl⟩
abbrev main_call1_call3_call0_v82 : Ref sig .tc := ⟨.hbm, 396, rfl⟩
abbrev main_call1_call3_call0_v83 : Ref sig .tc := ⟨.hbm, 397, rfl⟩
abbrev main_call1_call3_call0_c_21 : Ref sig .tc := ⟨.hbm, 398, rfl⟩
abbrev main_call1_call3_call0_v84 : Ref sig .tc := ⟨.hbm, 399, rfl⟩
abbrev main_call1_call3_call0_v85 : Ref sig .tc := ⟨.hbm, 400, rfl⟩
abbrev main_call1_call3_call0_v86 : Ref sig .tc := ⟨.hbm, 401, rfl⟩
abbrev main_call1_call3_call0_v87 : Ref sig .tc := ⟨.hbm, 402, rfl⟩
abbrev main_call1_call3_call0_v88 : Ref sig .tc := ⟨.hbm, 403, rfl⟩
abbrev main_call1_call3_call0_c_22 : Ref sig .tc := ⟨.hbm, 404, rfl⟩
abbrev main_call1_call3_call0_v89 : Ref sig .tc := ⟨.hbm, 405, rfl⟩
abbrev main_call1_call3_call0_v90 : Ref sig .tc := ⟨.hbm, 406, rfl⟩
abbrev main_call1_call3_call0_c_23 : Ref sig .tc := ⟨.hbm, 407, rfl⟩
abbrev main_call1_call3_call0_v91 : Ref sig .tc := ⟨.hbm, 408, rfl⟩
abbrev main_call1_call3_call0_v92 : Ref sig .tc := ⟨.hbm, 409, rfl⟩
abbrev main_call1_call3_call0_v93 : Ref sig .tc := ⟨.hbm, 410, rfl⟩
abbrev main_call1_call3_call0_v94 : Ref sig .tc := ⟨.hbm, 411, rfl⟩
abbrev main_call1_call3_call0_v95 : Ref sig .tc := ⟨.hbm, 412, rfl⟩
abbrev main_call1_call3_call0_c_24 : Ref sig .tc := ⟨.hbm, 413, rfl⟩
abbrev main_call1_call3_call0_v96 : Ref sig .tc := ⟨.hbm, 414, rfl⟩
abbrev main_call1_call3_call0_v97 : Ref sig .tc := ⟨.hbm, 415, rfl⟩
abbrev main_call1_call3_call0_c_25 : Ref sig .tc := ⟨.hbm, 416, rfl⟩
abbrev main_call1_call3_call0_v98 : Ref sig .tc := ⟨.hbm, 417, rfl⟩
abbrev main_call1_call3_call0_v99 : Ref sig .tc := ⟨.hbm, 418, rfl⟩
abbrev main_call1_call3_call0_v100 : Ref sig .tc := ⟨.hbm, 419, rfl⟩
abbrev main_call1_call3_call0_v101 : Ref sig .tc := ⟨.hbm, 420, rfl⟩
abbrev main_call1_call3_call0_v102 : Ref sig .tc := ⟨.hbm, 421, rfl⟩
abbrev main_call1_call3_call0_v103 : Ref sig .tc := ⟨.hbm, 422, rfl⟩
abbrev main_call1_call3_call0_v104 : Ref sig .tc := ⟨.hbm, 423, rfl⟩
abbrev main_call1_call3_call0_v105 : Ref sig .tc := ⟨.hbm, 424, rfl⟩
abbrev main_call1_call3_call0_c_26 : Ref sig .tc := ⟨.hbm, 425, rfl⟩
abbrev main_call1_call3_call0_v106 : Ref sig .tc := ⟨.hbm, 426, rfl⟩
abbrev main_call1_call3_call0_v107 : Ref sig .tc := ⟨.hbm, 427, rfl⟩
abbrev main_call1_call3_call0_v108 : Ref sig .tc := ⟨.hbm, 428, rfl⟩
abbrev main_call1_call3_call0_c_27 : Ref sig .tc := ⟨.hbm, 429, rfl⟩
abbrev main_call1_call3_call0_v109 : Ref sig .tc := ⟨.hbm, 430, rfl⟩
abbrev main_call1_call3_call0_v110 : Ref sig .tc := ⟨.hbm, 431, rfl⟩
abbrev main_call1_call3_call0_c_28 : Ref sig .tc := ⟨.hbm, 432, rfl⟩
abbrev main_call1_call3_call0_v111 : Ref sig .tc := ⟨.hbm, 433, rfl⟩
abbrev main_call1_call3_call0_v112 : Ref sig .tc := ⟨.hbm, 434, rfl⟩
abbrev main_call1_call3_call0_v113 : Ref sig .tc := ⟨.hbm, 435, rfl⟩
abbrev main_call1_call3_call0_v114 : Ref sig .tc := ⟨.hbm, 436, rfl⟩
abbrev main_call1_call3_call0_v115 : Ref sig .tc := ⟨.hbm, 437, rfl⟩
abbrev main_call1_call3_call0_c_29 : Ref sig .tc := ⟨.hbm, 438, rfl⟩
abbrev main_call1_call3_call0_v116 : Ref sig .tc := ⟨.hbm, 439, rfl⟩
abbrev main_call1_call3_call0_v117 : Ref sig .tc := ⟨.hbm, 440, rfl⟩
abbrev main_call1_call3_call0_c_30 : Ref sig .tc := ⟨.hbm, 441, rfl⟩
abbrev main_call1_call3_call0_v118 : Ref sig .tc := ⟨.hbm, 442, rfl⟩
abbrev main_call1_call3_call0_v119 : Ref sig .tc := ⟨.hbm, 443, rfl⟩
abbrev main_call1_call3_call0_v120 : Ref sig .tc := ⟨.hbm, 444, rfl⟩
abbrev main_call1_call3_call0_v121 : Ref sig .tc := ⟨.hbm, 445, rfl⟩
abbrev main_call1_call3_call0_v122 : Ref sig .tc := ⟨.hbm, 446, rfl⟩
abbrev main_call1_call3_call0_c_31 : Ref sig .tc := ⟨.hbm, 447, rfl⟩
abbrev main_call1_call3_call0_v123 : Ref sig .tc := ⟨.hbm, 448, rfl⟩
abbrev main_call1_call3_call0_v124 : Ref sig .tc := ⟨.hbm, 449, rfl⟩
abbrev main_call1_call3_call0_c_32 : Ref sig .tc := ⟨.hbm, 450, rfl⟩
abbrev main_call1_call3_call0_v125 : Ref sig .tc := ⟨.hbm, 451, rfl⟩
abbrev main_call1_call3_call0_v126 : Ref sig .tc := ⟨.hbm, 452, rfl⟩
abbrev main_call1_call3_call0_v127 : Ref sig .tc := ⟨.hbm, 453, rfl⟩
abbrev main_call1_call3_call0_v128 : Ref sig .tc := ⟨.hbm, 454, rfl⟩
abbrev main_call1_call3_call0_v129 : Ref sig .tc := ⟨.hbm, 455, rfl⟩
abbrev main_call1_call3_call0_c_33 : Ref sig .tc := ⟨.hbm, 456, rfl⟩
abbrev main_call1_call3_call0_v130 : Ref sig .tc := ⟨.hbm, 457, rfl⟩
abbrev main_call1_call3_call0_v131 : Ref sig .tc := ⟨.hbm, 458, rfl⟩
abbrev main_call1_call3_call0_c_34 : Ref sig .tc := ⟨.hbm, 459, rfl⟩
abbrev main_call1_call3_call0_v132 : Ref sig .tc := ⟨.hbm, 460, rfl⟩
abbrev main_call1_call3_call0_v133 : Ref sig .tc := ⟨.hbm, 461, rfl⟩
abbrev main_call1_call3_call0_v134 : Ref sig .tc := ⟨.hbm, 462, rfl⟩
abbrev main_call1_call3_call0_v135 : Ref sig .tc := ⟨.hbm, 463, rfl⟩
abbrev main_call1_call3_call0_v136 : Ref sig .tc := ⟨.hbm, 464, rfl⟩
abbrev main_call1_call3_call0_v137 : Ref sig .tc := ⟨.hbm, 465, rfl⟩
abbrev main_call1_call3_call0_v138 : Ref sig .tc := ⟨.hbm, 466, rfl⟩
abbrev main_call1_call3_call0_v139 : Ref sig .tc := ⟨.hbm, 467, rfl⟩
abbrev main_call1_call3_call0_c_35 : Ref sig .tc := ⟨.hbm, 468, rfl⟩
abbrev main_call1_call3_call0_v140 : Ref sig .tc := ⟨.hbm, 469, rfl⟩
abbrev main_call1_call3_call0_v141 : Ref sig .tc := ⟨.hbm, 470, rfl⟩
abbrev main_call1_call3_call0_v142 : Ref sig .tc := ⟨.hbm, 471, rfl⟩
abbrev main_call1_call3_call0_c_36 : Ref sig .tc := ⟨.hbm, 472, rfl⟩
abbrev main_call1_call3_call0_v143 : Ref sig .tc := ⟨.hbm, 473, rfl⟩
abbrev main_call1_call3_call0_v144 : Ref sig .tc := ⟨.hbm, 474, rfl⟩
abbrev main_call1_call3_call0_c_37 : Ref sig .tc := ⟨.hbm, 475, rfl⟩
abbrev main_call1_call3_call0_v145 : Ref sig .tc := ⟨.hbm, 476, rfl⟩
abbrev main_call1_call3_call0_v146 : Ref sig .tc := ⟨.hbm, 477, rfl⟩
abbrev main_call1_call3_call0_v147 : Ref sig .tc := ⟨.hbm, 478, rfl⟩
abbrev main_call1_call3_call0_v148 : Ref sig .tc := ⟨.hbm, 479, rfl⟩
abbrev main_call1_call3_call0_v149 : Ref sig .tc := ⟨.hbm, 480, rfl⟩
abbrev main_call1_call3_call0_c_38 : Ref sig .tc := ⟨.hbm, 481, rfl⟩
abbrev main_call1_call3_call0_v150 : Ref sig .tc := ⟨.hbm, 482, rfl⟩
abbrev main_call1_call3_call0_v151 : Ref sig .tc := ⟨.hbm, 483, rfl⟩
abbrev main_call1_call3_call0_c_39 : Ref sig .tc := ⟨.hbm, 484, rfl⟩
abbrev main_call1_call3_call0_v152 : Ref sig .tc := ⟨.hbm, 485, rfl⟩
abbrev main_call1_call3_call0_v153 : Ref sig .tc := ⟨.hbm, 486, rfl⟩
abbrev main_call1_call3_call0_v154 : Ref sig .tc := ⟨.hbm, 487, rfl⟩
abbrev main_call1_call3_call0_v155 : Ref sig .tc := ⟨.hbm, 488, rfl⟩
abbrev main_call1_call3_call0_v156 : Ref sig .tc := ⟨.hbm, 489, rfl⟩
abbrev main_call1_call3_call0_c_40 : Ref sig .tc := ⟨.hbm, 490, rfl⟩
abbrev main_call1_call3_call0_v157 : Ref sig .tc := ⟨.hbm, 491, rfl⟩
abbrev main_call1_call3_call0_v158 : Ref sig .tc := ⟨.hbm, 492, rfl⟩
abbrev main_call1_call3_call0_c_41 : Ref sig .tc := ⟨.hbm, 493, rfl⟩
abbrev main_call1_call3_call0_v159 : Ref sig .tc := ⟨.hbm, 494, rfl⟩
abbrev main_call1_call3_call0_v160 : Ref sig .tc := ⟨.hbm, 495, rfl⟩
abbrev main_call1_call3_call0_v161 : Ref sig .tc := ⟨.hbm, 496, rfl⟩
abbrev main_call1_call3_call0_v162 : Ref sig .tc := ⟨.hbm, 497, rfl⟩
abbrev main_call1_call3_call0_v163 : Ref sig .tc := ⟨.hbm, 498, rfl⟩
abbrev main_call1_call3_call0_c_42 : Ref sig .tc := ⟨.hbm, 499, rfl⟩
abbrev main_call1_call3_call0_v164 : Ref sig .tc := ⟨.hbm, 500, rfl⟩
abbrev main_call1_call3_call0_v165 : Ref sig .tc := ⟨.hbm, 501, rfl⟩
abbrev main_call1_call3_call0_c_43 : Ref sig .tc := ⟨.hbm, 502, rfl⟩
abbrev main_call1_call3_call0_v166 : Ref sig .tc := ⟨.hbm, 503, rfl⟩
abbrev main_call1_call3_call0_v167 : Ref sig .tc := ⟨.hbm, 504, rfl⟩
abbrev main_call1_call3_call0_v168 : Ref sig .tc := ⟨.hbm, 505, rfl⟩
abbrev main_call1_call3_call0_v169 : Ref sig .tc := ⟨.hbm, 506, rfl⟩
abbrev main_call1_call3_call0_v170 : Ref sig .tc := ⟨.hbm, 507, rfl⟩
abbrev main_call1_call3_v11_0 : Ref sig .tc := ⟨.hbm, 508, rfl⟩
abbrev main_call1_call3_call0_v172 : Ref sig .tc := ⟨.hbm, 509, rfl⟩
abbrev main_call1_call3_call0_v173 : Ref sig .tc := ⟨.hbm, 510, rfl⟩
abbrev main_call1_call3_call0_c_44 : Ref sig .tc := ⟨.hbm, 511, rfl⟩
abbrev main_call1_call3_call0_v174 : Ref sig .tc := ⟨.hbm, 512, rfl⟩
abbrev main_call1_call3_v11_1 : Ref sig .tc := ⟨.hbm, 513, rfl⟩
abbrev main_call1_call3_v12 : Ref sig .tc := ⟨.hbm, 514, rfl⟩
abbrev main_call1_call3_v13 : Ref sig .tc := ⟨.hbm, 515, rfl⟩
abbrev main_call1_v8 : Ref sig .tc := ⟨.hbm, 516, rfl⟩
abbrev main_call1_v9 : Ref sig .tc := ⟨.hbm, 517, rfl⟩
abbrev main_call1_v10 : Ref sig .tc := ⟨.hbm, 518, rfl⟩
abbrev main_call1_v11 : Ref sig .tc := ⟨.hbm, 519, rfl⟩
abbrev main_call1_v12 : Ref sig .tc := ⟨.hbm, 520, rfl⟩
abbrev main_call1_v13 : Ref sig .tc := ⟨.hbm, 521, rfl⟩
abbrev main_call1_v14 : Ref sig .tc := ⟨.hbm, 522, rfl⟩
abbrev main_call1_v15 : Ref sig .tc := ⟨.hbm, 523, rfl⟩
abbrev main_call1_v16 : Ref sig .tc := ⟨.hbm, 524, rfl⟩
abbrev main_call1_v17 : Ref sig .tc := ⟨.hbm, 525, rfl⟩
abbrev main_call1_v18 : Ref sig .tc := ⟨.hbm, 526, rfl⟩
abbrev main_call1_c_6 : Ref sig .tc := ⟨.hbm, 527, rfl⟩
abbrev main_call1_v19 : Ref sig .tc := ⟨.hbm, 528, rfl⟩
abbrev main_call1_v20 : Ref sig .tc := ⟨.hbm, 529, rfl⟩
abbrev main_call1_c_7 : Ref sig .tc := ⟨.hbm, 530, rfl⟩
abbrev main_call1_v21 : Ref sig .tc := ⟨.hbm, 531, rfl⟩
abbrev main_call1_v22 : Ref sig .tc := ⟨.hbm, 532, rfl⟩
abbrev main_call1_v23 : Ref sig .tc := ⟨.hbm, 533, rfl⟩
abbrev main_call1_c_8 : Ref sig .tc := ⟨.hbm, 534, rfl⟩
abbrev main_call1_v24 : Ref sig .tc := ⟨.hbm, 535, rfl⟩
abbrev main_call1_v25 : Ref sig .tc := ⟨.hbm, 536, rfl⟩
abbrev main_call1_v26 : Ref sig .tc := ⟨.hbm, 537, rfl⟩
abbrev main_call1_v27 : Ref sig .tc := ⟨.hbm, 538, rfl⟩
abbrev main_call1_call4_v0 : Ref sig .tc := ⟨.hbm, 539, rfl⟩
abbrev main_call1_call4_c : Ref sig .tc := ⟨.hbm, 540, rfl⟩
abbrev main_call1_call4_v1 : Ref sig .tc := ⟨.hbm, 541, rfl⟩
abbrev main_call1_call4_v2 : Ref sig .tc := ⟨.hbm, 542, rfl⟩
abbrev main_call1_call4_v3 : Ref sig .tc := ⟨.hbm, 543, rfl⟩
abbrev main_call1_call4_v4 : Ref sig .tc := ⟨.hbm, 544, rfl⟩
abbrev main_call1_call4_v5 : Ref sig .tc := ⟨.hbm, 545, rfl⟩
abbrev main_call1_call4_v6 : Ref sig .tc := ⟨.hbm, 546, rfl⟩
abbrev main_call1_call4_c_0 : Ref sig .tc := ⟨.hbm, 547, rfl⟩
abbrev main_call1_call4_v7 : Ref sig .tc := ⟨.hbm, 548, rfl⟩
abbrev main_call1_call4_v8 : Ref sig .tc := ⟨.hbm, 549, rfl⟩
abbrev main_call1_call4_c_1 : Ref sig .tc := ⟨.hbm, 550, rfl⟩
abbrev main_call1_call4_v9 : Ref sig .tc := ⟨.hbm, 551, rfl⟩
abbrev main_call1_call4_v10 : Ref sig .tc := ⟨.hbm, 552, rfl⟩
abbrev main_call1_call4_v11 : Ref sig .tc := ⟨.hbm, 553, rfl⟩
abbrev main_call1_call4_v12 : Ref sig .tc := ⟨.hbm, 554, rfl⟩
abbrev main_call1_call4_v13 : Ref sig .tc := ⟨.hbm, 555, rfl⟩
abbrev main_call1_call4_c_2 : Ref sig .tc := ⟨.hbm, 556, rfl⟩
abbrev main_call1_call4_v14 : Ref sig .tc := ⟨.hbm, 557, rfl⟩
abbrev main_call1_call4_v15 : Ref sig .tc := ⟨.hbm, 558, rfl⟩
abbrev main_call1_call4_c_3 : Ref sig .tc := ⟨.hbm, 559, rfl⟩
abbrev main_call1_call4_v16 : Ref sig .tc := ⟨.hbm, 560, rfl⟩
abbrev main_call1_call4_v17 : Ref sig .tc := ⟨.hbm, 561, rfl⟩
abbrev main_call1_call4_v18 : Ref sig .tc := ⟨.hbm, 562, rfl⟩
abbrev main_call1_call4_v19 : Ref sig .tc := ⟨.hbm, 563, rfl⟩
abbrev main_call1_call4_v20 : Ref sig .tc := ⟨.hbm, 564, rfl⟩
abbrev main_call1_call4_c_4 : Ref sig .tc := ⟨.hbm, 565, rfl⟩
abbrev main_call1_call4_v21 : Ref sig .tc := ⟨.hbm, 566, rfl⟩
abbrev main_call1_call4_v22 : Ref sig .tc := ⟨.hbm, 567, rfl⟩
abbrev main_call1_call4_c_5 : Ref sig .tc := ⟨.hbm, 568, rfl⟩
abbrev main_call1_call4_v23 : Ref sig .tc := ⟨.hbm, 569, rfl⟩
abbrev main_call1_call4_v24 : Ref sig .tc := ⟨.hbm, 570, rfl⟩
abbrev main_call1_call4_v25 : Ref sig .tc := ⟨.hbm, 571, rfl⟩
abbrev main_call1_call4_v26 : Ref sig .tc := ⟨.hbm, 572, rfl⟩
abbrev main_call1_call4_v27 : Ref sig .tc := ⟨.hbm, 573, rfl⟩
abbrev main_call1_call4_c_6 : Ref sig .tc := ⟨.hbm, 574, rfl⟩
abbrev main_call1_call4_v28 : Ref sig .tc := ⟨.hbm, 575, rfl⟩
abbrev main_call1_call4_v29 : Ref sig .tc := ⟨.hbm, 576, rfl⟩
abbrev main_call1_call4_c_7 : Ref sig .tc := ⟨.hbm, 577, rfl⟩
abbrev main_call1_call4_v30 : Ref sig .tc := ⟨.hbm, 578, rfl⟩
abbrev main_call1_call4_v31 : Ref sig .tc := ⟨.hbm, 579, rfl⟩
abbrev main_call1_call4_v32 : Ref sig .tc := ⟨.hbm, 580, rfl⟩
abbrev main_call1_call4_v33 : Ref sig .tc := ⟨.hbm, 581, rfl⟩
abbrev main_call1_call4_v34 : Ref sig .tc := ⟨.hbm, 582, rfl⟩
abbrev main_call1_call4_v35 : Ref sig .tc := ⟨.hbm, 583, rfl⟩
abbrev main_call1_call4_v36 : Ref sig .tc := ⟨.hbm, 584, rfl⟩
abbrev main_call1_call4_v37 : Ref sig .tc := ⟨.hbm, 585, rfl⟩
abbrev main_call1_call4_c_8 : Ref sig .tc := ⟨.hbm, 586, rfl⟩
abbrev main_call1_call4_v38 : Ref sig .tc := ⟨.hbm, 587, rfl⟩
abbrev main_call1_call4_v39 : Ref sig .tc := ⟨.hbm, 588, rfl⟩
abbrev main_call1_call4_v40 : Ref sig .tc := ⟨.hbm, 589, rfl⟩
abbrev main_call1_call4_c_9 : Ref sig .tc := ⟨.hbm, 590, rfl⟩
abbrev main_call1_call4_v41 : Ref sig .tc := ⟨.hbm, 591, rfl⟩
abbrev main_call1_call4_v42 : Ref sig .tc := ⟨.hbm, 592, rfl⟩
abbrev main_call1_call4_c_10 : Ref sig .tc := ⟨.hbm, 593, rfl⟩
abbrev main_call1_call4_v43 : Ref sig .tc := ⟨.hbm, 594, rfl⟩
abbrev main_call1_call4_v44 : Ref sig .tc := ⟨.hbm, 595, rfl⟩
abbrev main_call1_call4_v45 : Ref sig .tc := ⟨.hbm, 596, rfl⟩
abbrev main_call1_call4_v46 : Ref sig .tc := ⟨.hbm, 597, rfl⟩
abbrev main_call1_call4_v47 : Ref sig .tc := ⟨.hbm, 598, rfl⟩
abbrev main_call1_call4_c_11 : Ref sig .tc := ⟨.hbm, 599, rfl⟩
abbrev main_call1_call4_v48 : Ref sig .tc := ⟨.hbm, 600, rfl⟩
abbrev main_call1_call4_v49 : Ref sig .tc := ⟨.hbm, 601, rfl⟩
abbrev main_call1_call4_c_12 : Ref sig .tc := ⟨.hbm, 602, rfl⟩
abbrev main_call1_call4_v50 : Ref sig .tc := ⟨.hbm, 603, rfl⟩
abbrev main_call1_call4_v51 : Ref sig .tc := ⟨.hbm, 604, rfl⟩
abbrev main_call1_call4_v52 : Ref sig .tc := ⟨.hbm, 605, rfl⟩
abbrev main_call1_call4_v53 : Ref sig .tc := ⟨.hbm, 606, rfl⟩
abbrev main_call1_call4_v54 : Ref sig .tc := ⟨.hbm, 607, rfl⟩
abbrev main_call1_call4_c_13 : Ref sig .tc := ⟨.hbm, 608, rfl⟩
abbrev main_call1_call4_v55 : Ref sig .tc := ⟨.hbm, 609, rfl⟩
abbrev main_call1_call4_v56 : Ref sig .tc := ⟨.hbm, 610, rfl⟩
abbrev main_call1_call4_c_14 : Ref sig .tc := ⟨.hbm, 611, rfl⟩
abbrev main_call1_call4_v57 : Ref sig .tc := ⟨.hbm, 612, rfl⟩
abbrev main_call1_call4_v58 : Ref sig .tc := ⟨.hbm, 613, rfl⟩
abbrev main_call1_call4_v59 : Ref sig .tc := ⟨.hbm, 614, rfl⟩
abbrev main_call1_call4_v60 : Ref sig .tc := ⟨.hbm, 615, rfl⟩
abbrev main_call1_call4_v61 : Ref sig .tc := ⟨.hbm, 616, rfl⟩
abbrev main_call1_call4_c_15 : Ref sig .tc := ⟨.hbm, 617, rfl⟩
abbrev main_call1_call4_v62 : Ref sig .tc := ⟨.hbm, 618, rfl⟩
abbrev main_call1_call4_v63 : Ref sig .tc := ⟨.hbm, 619, rfl⟩
abbrev main_call1_call4_c_16 : Ref sig .tc := ⟨.hbm, 620, rfl⟩
abbrev main_call1_call4_v64 : Ref sig .tc := ⟨.hbm, 621, rfl⟩
abbrev main_call1_call4_v65 : Ref sig .tc := ⟨.hbm, 622, rfl⟩
abbrev main_call1_call4_v66 : Ref sig .tc := ⟨.hbm, 623, rfl⟩
abbrev main_call1_call4_v67 : Ref sig .tc := ⟨.hbm, 624, rfl⟩
abbrev main_call1_call4_v68 : Ref sig .tc := ⟨.hbm, 625, rfl⟩
abbrev main_call1_call4_v69 : Ref sig .tc := ⟨.hbm, 626, rfl⟩
abbrev main_call1_call4_v70 : Ref sig .tc := ⟨.hbm, 627, rfl⟩
abbrev main_call1_call4_v71 : Ref sig .tc := ⟨.hbm, 628, rfl⟩
abbrev main_call1_call4_c_17 : Ref sig .tc := ⟨.hbm, 629, rfl⟩
abbrev main_call1_call4_v72 : Ref sig .tc := ⟨.hbm, 630, rfl⟩
abbrev main_call1_call4_v73 : Ref sig .tc := ⟨.hbm, 631, rfl⟩
abbrev main_call1_call4_v74 : Ref sig .tc := ⟨.hbm, 632, rfl⟩
abbrev main_call1_call4_c_18 : Ref sig .tc := ⟨.hbm, 633, rfl⟩
abbrev main_call1_call4_v75 : Ref sig .tc := ⟨.hbm, 634, rfl⟩
abbrev main_call1_call4_v76 : Ref sig .tc := ⟨.hbm, 635, rfl⟩
abbrev main_call1_call4_c_19 : Ref sig .tc := ⟨.hbm, 636, rfl⟩
abbrev main_call1_call4_v77 : Ref sig .tc := ⟨.hbm, 637, rfl⟩
abbrev main_call1_call4_v78 : Ref sig .tc := ⟨.hbm, 638, rfl⟩
abbrev main_call1_call4_v79 : Ref sig .tc := ⟨.hbm, 639, rfl⟩
abbrev main_call1_call4_v80 : Ref sig .tc := ⟨.hbm, 640, rfl⟩
abbrev main_call1_call4_v81 : Ref sig .tc := ⟨.hbm, 641, rfl⟩
abbrev main_call1_call4_c_20 : Ref sig .tc := ⟨.hbm, 642, rfl⟩
abbrev main_call1_call4_v82 : Ref sig .tc := ⟨.hbm, 643, rfl⟩
abbrev main_call1_call4_v83 : Ref sig .tc := ⟨.hbm, 644, rfl⟩
abbrev main_call1_call4_c_21 : Ref sig .tc := ⟨.hbm, 645, rfl⟩
abbrev main_call1_call4_v84 : Ref sig .tc := ⟨.hbm, 646, rfl⟩
abbrev main_call1_call4_v85 : Ref sig .tc := ⟨.hbm, 647, rfl⟩
abbrev main_call1_call4_v86 : Ref sig .tc := ⟨.hbm, 648, rfl⟩
abbrev main_call1_call4_v87 : Ref sig .tc := ⟨.hbm, 649, rfl⟩
abbrev main_call1_call4_v88 : Ref sig .tc := ⟨.hbm, 650, rfl⟩
abbrev main_call1_call4_c_22 : Ref sig .tc := ⟨.hbm, 651, rfl⟩
abbrev main_call1_call4_v89 : Ref sig .tc := ⟨.hbm, 652, rfl⟩
abbrev main_call1_call4_v90 : Ref sig .tc := ⟨.hbm, 653, rfl⟩
abbrev main_call1_call4_c_23 : Ref sig .tc := ⟨.hbm, 654, rfl⟩
abbrev main_call1_call4_v91 : Ref sig .tc := ⟨.hbm, 655, rfl⟩
abbrev main_call1_call4_v92 : Ref sig .tc := ⟨.hbm, 656, rfl⟩
abbrev main_call1_call4_v93 : Ref sig .tc := ⟨.hbm, 657, rfl⟩
abbrev main_call1_call4_v94 : Ref sig .tc := ⟨.hbm, 658, rfl⟩
abbrev main_call1_call4_v95 : Ref sig .tc := ⟨.hbm, 659, rfl⟩
abbrev main_call1_call4_c_24 : Ref sig .tc := ⟨.hbm, 660, rfl⟩
abbrev main_call1_call4_v96 : Ref sig .tc := ⟨.hbm, 661, rfl⟩
abbrev main_call1_call4_v97 : Ref sig .tc := ⟨.hbm, 662, rfl⟩
abbrev main_call1_call4_c_25 : Ref sig .tc := ⟨.hbm, 663, rfl⟩
abbrev main_call1_call4_v98 : Ref sig .tc := ⟨.hbm, 664, rfl⟩
abbrev main_call1_call4_v99 : Ref sig .tc := ⟨.hbm, 665, rfl⟩
abbrev main_call1_call4_v100 : Ref sig .tc := ⟨.hbm, 666, rfl⟩
abbrev main_call1_call4_v101 : Ref sig .tc := ⟨.hbm, 667, rfl⟩
abbrev main_call1_call4_v102 : Ref sig .tc := ⟨.hbm, 668, rfl⟩
abbrev main_call1_call4_v103 : Ref sig .tc := ⟨.hbm, 669, rfl⟩
abbrev main_call1_call4_v104 : Ref sig .tc := ⟨.hbm, 670, rfl⟩
abbrev main_call1_call4_v105 : Ref sig .tc := ⟨.hbm, 671, rfl⟩
abbrev main_call1_call4_c_26 : Ref sig .tc := ⟨.hbm, 672, rfl⟩
abbrev main_call1_call4_v106 : Ref sig .tc := ⟨.hbm, 673, rfl⟩
abbrev main_call1_call4_v107 : Ref sig .tc := ⟨.hbm, 674, rfl⟩
abbrev main_call1_call4_v108 : Ref sig .tc := ⟨.hbm, 675, rfl⟩
abbrev main_call1_call4_c_27 : Ref sig .tc := ⟨.hbm, 676, rfl⟩
abbrev main_call1_call4_v109 : Ref sig .tc := ⟨.hbm, 677, rfl⟩
abbrev main_call1_call4_v110 : Ref sig .tc := ⟨.hbm, 678, rfl⟩
abbrev main_call1_call4_c_28 : Ref sig .tc := ⟨.hbm, 679, rfl⟩
abbrev main_call1_call4_v111 : Ref sig .tc := ⟨.hbm, 680, rfl⟩
abbrev main_call1_call4_v112 : Ref sig .tc := ⟨.hbm, 681, rfl⟩
abbrev main_call1_call4_v113 : Ref sig .tc := ⟨.hbm, 682, rfl⟩
abbrev main_call1_call4_v114 : Ref sig .tc := ⟨.hbm, 683, rfl⟩
abbrev main_call1_call4_v115 : Ref sig .tc := ⟨.hbm, 684, rfl⟩
abbrev main_call1_call4_c_29 : Ref sig .tc := ⟨.hbm, 685, rfl⟩
abbrev main_call1_call4_v116 : Ref sig .tc := ⟨.hbm, 686, rfl⟩
abbrev main_call1_call4_v117 : Ref sig .tc := ⟨.hbm, 687, rfl⟩
abbrev main_call1_call4_c_30 : Ref sig .tc := ⟨.hbm, 688, rfl⟩
abbrev main_call1_call4_v118 : Ref sig .tc := ⟨.hbm, 689, rfl⟩
abbrev main_call1_call4_v119 : Ref sig .tc := ⟨.hbm, 690, rfl⟩
abbrev main_call1_call4_v120 : Ref sig .tc := ⟨.hbm, 691, rfl⟩
abbrev main_call1_call4_v121 : Ref sig .tc := ⟨.hbm, 692, rfl⟩
abbrev main_call1_call4_v122 : Ref sig .tc := ⟨.hbm, 693, rfl⟩
abbrev main_call1_call4_c_31 : Ref sig .tc := ⟨.hbm, 694, rfl⟩
abbrev main_call1_call4_v123 : Ref sig .tc := ⟨.hbm, 695, rfl⟩
abbrev main_call1_call4_v124 : Ref sig .tc := ⟨.hbm, 696, rfl⟩
abbrev main_call1_call4_c_32 : Ref sig .tc := ⟨.hbm, 697, rfl⟩
abbrev main_call1_call4_v125 : Ref sig .tc := ⟨.hbm, 698, rfl⟩
abbrev main_call1_call4_v126 : Ref sig .tc := ⟨.hbm, 699, rfl⟩
abbrev main_call1_call4_v127 : Ref sig .tc := ⟨.hbm, 700, rfl⟩
abbrev main_call1_call4_v128 : Ref sig .tc := ⟨.hbm, 701, rfl⟩
abbrev main_call1_call4_v129 : Ref sig .tc := ⟨.hbm, 702, rfl⟩
abbrev main_call1_call4_c_33 : Ref sig .tc := ⟨.hbm, 703, rfl⟩
abbrev main_call1_call4_v130 : Ref sig .tc := ⟨.hbm, 704, rfl⟩
abbrev main_call1_call4_v131 : Ref sig .tc := ⟨.hbm, 705, rfl⟩
abbrev main_call1_call4_c_34 : Ref sig .tc := ⟨.hbm, 706, rfl⟩
abbrev main_call1_call4_v132 : Ref sig .tc := ⟨.hbm, 707, rfl⟩
abbrev main_call1_call4_v133 : Ref sig .tc := ⟨.hbm, 708, rfl⟩
abbrev main_call1_call4_v134 : Ref sig .tc := ⟨.hbm, 709, rfl⟩
abbrev main_call1_call4_v135 : Ref sig .tc := ⟨.hbm, 710, rfl⟩
abbrev main_call1_call4_v136 : Ref sig .tc := ⟨.hbm, 711, rfl⟩
abbrev main_call1_call4_v137 : Ref sig .tc := ⟨.hbm, 712, rfl⟩
abbrev main_call1_call4_v138 : Ref sig .tc := ⟨.hbm, 713, rfl⟩
abbrev main_call1_call4_v139 : Ref sig .tc := ⟨.hbm, 714, rfl⟩
abbrev main_call1_call4_c_35 : Ref sig .tc := ⟨.hbm, 715, rfl⟩
abbrev main_call1_call4_v140 : Ref sig .tc := ⟨.hbm, 716, rfl⟩
abbrev main_call1_call4_v141 : Ref sig .tc := ⟨.hbm, 717, rfl⟩
abbrev main_call1_call4_v142 : Ref sig .tc := ⟨.hbm, 718, rfl⟩
abbrev main_call1_call4_c_36 : Ref sig .tc := ⟨.hbm, 719, rfl⟩
abbrev main_call1_call4_v143 : Ref sig .tc := ⟨.hbm, 720, rfl⟩
abbrev main_call1_call4_v144 : Ref sig .tc := ⟨.hbm, 721, rfl⟩
abbrev main_call1_call4_c_37 : Ref sig .tc := ⟨.hbm, 722, rfl⟩
abbrev main_call1_call4_v145 : Ref sig .tc := ⟨.hbm, 723, rfl⟩
abbrev main_call1_call4_v146 : Ref sig .tc := ⟨.hbm, 724, rfl⟩
abbrev main_call1_call4_v147 : Ref sig .tc := ⟨.hbm, 725, rfl⟩
abbrev main_call1_call4_v148 : Ref sig .tc := ⟨.hbm, 726, rfl⟩
abbrev main_call1_call4_v149 : Ref sig .tc := ⟨.hbm, 727, rfl⟩
abbrev main_call1_call4_c_38 : Ref sig .tc := ⟨.hbm, 728, rfl⟩
abbrev main_call1_call4_v150 : Ref sig .tc := ⟨.hbm, 729, rfl⟩
abbrev main_call1_call4_v151 : Ref sig .tc := ⟨.hbm, 730, rfl⟩
abbrev main_call1_call4_c_39 : Ref sig .tc := ⟨.hbm, 731, rfl⟩
abbrev main_call1_call4_v152 : Ref sig .tc := ⟨.hbm, 732, rfl⟩
abbrev main_call1_call4_v153 : Ref sig .tc := ⟨.hbm, 733, rfl⟩
abbrev main_call1_call4_v154 : Ref sig .tc := ⟨.hbm, 734, rfl⟩
abbrev main_call1_call4_v155 : Ref sig .tc := ⟨.hbm, 735, rfl⟩
abbrev main_call1_call4_v156 : Ref sig .tc := ⟨.hbm, 736, rfl⟩
abbrev main_call1_call4_c_40 : Ref sig .tc := ⟨.hbm, 737, rfl⟩
abbrev main_call1_call4_v157 : Ref sig .tc := ⟨.hbm, 738, rfl⟩
abbrev main_call1_call4_v158 : Ref sig .tc := ⟨.hbm, 739, rfl⟩
abbrev main_call1_call4_c_41 : Ref sig .tc := ⟨.hbm, 740, rfl⟩
abbrev main_call1_call4_v159 : Ref sig .tc := ⟨.hbm, 741, rfl⟩
abbrev main_call1_call4_v160 : Ref sig .tc := ⟨.hbm, 742, rfl⟩
abbrev main_call1_call4_v161 : Ref sig .tc := ⟨.hbm, 743, rfl⟩
abbrev main_call1_call4_v162 : Ref sig .tc := ⟨.hbm, 744, rfl⟩
abbrev main_call1_call4_v163 : Ref sig .tc := ⟨.hbm, 745, rfl⟩
abbrev main_call1_call4_c_42 : Ref sig .tc := ⟨.hbm, 746, rfl⟩
abbrev main_call1_call4_v164 : Ref sig .tc := ⟨.hbm, 747, rfl⟩
abbrev main_call1_call4_v165 : Ref sig .tc := ⟨.hbm, 748, rfl⟩
abbrev main_call1_call4_c_43 : Ref sig .tc := ⟨.hbm, 749, rfl⟩
abbrev main_call1_call4_v166 : Ref sig .tc := ⟨.hbm, 750, rfl⟩
abbrev main_call1_call4_v167 : Ref sig .tc := ⟨.hbm, 751, rfl⟩
abbrev main_call1_call4_v168 : Ref sig .tc := ⟨.hbm, 752, rfl⟩
abbrev main_call1_call4_v169 : Ref sig .tc := ⟨.hbm, 753, rfl⟩
abbrev main_call1_call4_v170 : Ref sig .tc := ⟨.hbm, 754, rfl⟩
abbrev main_call1_v28_0 : Ref sig .tc := ⟨.hbm, 755, rfl⟩
abbrev main_call1_call4_v172 : Ref sig .tc := ⟨.hbm, 756, rfl⟩
abbrev main_call1_call4_v173 : Ref sig .tc := ⟨.hbm, 757, rfl⟩
abbrev main_call1_call4_c_44 : Ref sig .tc := ⟨.hbm, 758, rfl⟩
abbrev main_call1_call4_v174 : Ref sig .tc := ⟨.hbm, 759, rfl⟩
abbrev main_call1_v28_1 : Ref sig .tc := ⟨.hbm, 760, rfl⟩
abbrev main_call1_v29 : Ref sig .tc := ⟨.hbm, 761, rfl⟩
abbrev main_call1_v30 : Ref sig .tc := ⟨.hbm, 762, rfl⟩
abbrev main_call1_v31 : Ref sig .tc := ⟨.hbm, 763, rfl⟩
abbrev main_call1_v32 : Ref sig .tc := ⟨.hbm, 764, rfl⟩
abbrev main_call1_v33 : Ref sig .tc := ⟨.hbm, 765, rfl⟩
abbrev main_call1_v34 : Ref sig .tc := ⟨.hbm, 766, rfl⟩
abbrev main_call1_v35 : Ref sig .tc := ⟨.hbm, 767, rfl⟩
abbrev main_call1_c_9 : Ref sig .tc := ⟨.hbm, 768, rfl⟩
abbrev main_call1_v36 : Ref sig .tc := ⟨.hbm, 769, rfl⟩
abbrev main_call1_v37 : Ref sig .tc := ⟨.hbm, 770, rfl⟩
abbrev main_call1_c_10 : Ref sig .tc := ⟨.hbm, 771, rfl⟩
abbrev main_call1_v38 : Ref sig .tc := ⟨.hbm, 772, rfl⟩
abbrev main_call1_v39 : Ref sig .tc := ⟨.hbm, 773, rfl⟩
abbrev main_call1_v40 : Ref sig .tc := ⟨.hbm, 774, rfl⟩
abbrev main_call1_c_11 : Ref sig .tc := ⟨.hbm, 775, rfl⟩
abbrev main_call1_v41 : Ref sig .tc := ⟨.hbm, 776, rfl⟩
abbrev main_call1_v42 : Ref sig .tc := ⟨.hbm, 777, rfl⟩
abbrev main_call1_v43 : Ref sig .tc := ⟨.hbm, 778, rfl⟩
abbrev main_call1_v44 : Ref sig .tc := ⟨.hbm, 779, rfl⟩
abbrev main_call1_call5_v0 : Ref sig .tc := ⟨.hbm, 780, rfl⟩
abbrev main_call1_call5_c : Ref sig .tc := ⟨.hbm, 781, rfl⟩
abbrev main_call1_call5_v1 : Ref sig .tc := ⟨.hbm, 782, rfl⟩
abbrev main_call1_call5_v2 : Ref sig .tc := ⟨.hbm, 783, rfl⟩
abbrev main_call1_call5_v3 : Ref sig .tc := ⟨.hbm, 784, rfl⟩
abbrev main_call1_call5_v4 : Ref sig .tc := ⟨.hbm, 785, rfl⟩
abbrev main_call1_call5_v5 : Ref sig .tc := ⟨.hbm, 786, rfl⟩
abbrev main_call1_call5_v6 : Ref sig .tc := ⟨.hbm, 787, rfl⟩
abbrev main_call1_call5_c_0 : Ref sig .tc := ⟨.hbm, 788, rfl⟩
abbrev main_call1_call5_v7 : Ref sig .tc := ⟨.hbm, 789, rfl⟩
abbrev main_call1_call5_v8 : Ref sig .tc := ⟨.hbm, 790, rfl⟩
abbrev main_call1_call5_c_1 : Ref sig .tc := ⟨.hbm, 791, rfl⟩
abbrev main_call1_call5_v9 : Ref sig .tc := ⟨.hbm, 792, rfl⟩
abbrev main_call1_call5_v10 : Ref sig .tc := ⟨.hbm, 793, rfl⟩
abbrev main_call1_call5_v11 : Ref sig .tc := ⟨.hbm, 794, rfl⟩
abbrev main_call1_call5_v12 : Ref sig .tc := ⟨.hbm, 795, rfl⟩
abbrev main_call1_call5_v13 : Ref sig .tc := ⟨.hbm, 796, rfl⟩
abbrev main_call1_call5_c_2 : Ref sig .tc := ⟨.hbm, 797, rfl⟩
abbrev main_call1_call5_v14 : Ref sig .tc := ⟨.hbm, 798, rfl⟩
abbrev main_call1_call5_v15 : Ref sig .tc := ⟨.hbm, 799, rfl⟩
abbrev main_call1_call5_c_3 : Ref sig .tc := ⟨.hbm, 800, rfl⟩
abbrev main_call1_call5_v16 : Ref sig .tc := ⟨.hbm, 801, rfl⟩
abbrev main_call1_call5_v17 : Ref sig .tc := ⟨.hbm, 802, rfl⟩
abbrev main_call1_call5_v18 : Ref sig .tc := ⟨.hbm, 803, rfl⟩
abbrev main_call1_call5_v19 : Ref sig .tc := ⟨.hbm, 804, rfl⟩
abbrev main_call1_call5_v20 : Ref sig .tc := ⟨.hbm, 805, rfl⟩
abbrev main_call1_call5_c_4 : Ref sig .tc := ⟨.hbm, 806, rfl⟩
abbrev main_call1_call5_v21 : Ref sig .tc := ⟨.hbm, 807, rfl⟩
abbrev main_call1_call5_v22 : Ref sig .tc := ⟨.hbm, 808, rfl⟩
abbrev main_call1_call5_c_5 : Ref sig .tc := ⟨.hbm, 809, rfl⟩
abbrev main_call1_call5_v23 : Ref sig .tc := ⟨.hbm, 810, rfl⟩
abbrev main_call1_call5_v24 : Ref sig .tc := ⟨.hbm, 811, rfl⟩
abbrev main_call1_call5_v25 : Ref sig .tc := ⟨.hbm, 812, rfl⟩
abbrev main_call1_call5_v26 : Ref sig .tc := ⟨.hbm, 813, rfl⟩
abbrev main_call1_call5_v27 : Ref sig .tc := ⟨.hbm, 814, rfl⟩
abbrev main_call1_call5_c_6 : Ref sig .tc := ⟨.hbm, 815, rfl⟩
abbrev main_call1_call5_v28 : Ref sig .tc := ⟨.hbm, 816, rfl⟩
abbrev main_call1_call5_v29 : Ref sig .tc := ⟨.hbm, 817, rfl⟩
abbrev main_call1_call5_c_7 : Ref sig .tc := ⟨.hbm, 818, rfl⟩
abbrev main_call1_call5_v30 : Ref sig .tc := ⟨.hbm, 819, rfl⟩
abbrev main_call1_call5_v31 : Ref sig .tc := ⟨.hbm, 820, rfl⟩
abbrev main_call1_call5_v32 : Ref sig .tc := ⟨.hbm, 821, rfl⟩
abbrev main_call1_call5_v33 : Ref sig .tc := ⟨.hbm, 822, rfl⟩
abbrev main_call1_call5_v34 : Ref sig .tc := ⟨.hbm, 823, rfl⟩
abbrev main_call1_call5_v35 : Ref sig .tc := ⟨.hbm, 824, rfl⟩
abbrev main_call1_call5_v36 : Ref sig .tc := ⟨.hbm, 825, rfl⟩
abbrev main_call1_call5_v37 : Ref sig .tc := ⟨.hbm, 826, rfl⟩
abbrev main_call1_call5_c_8 : Ref sig .tc := ⟨.hbm, 827, rfl⟩
abbrev main_call1_call5_v38 : Ref sig .tc := ⟨.hbm, 828, rfl⟩
abbrev main_call1_call5_v39 : Ref sig .tc := ⟨.hbm, 829, rfl⟩
abbrev main_call1_call5_v40 : Ref sig .tc := ⟨.hbm, 830, rfl⟩
abbrev main_call1_call5_c_9 : Ref sig .tc := ⟨.hbm, 831, rfl⟩
abbrev main_call1_call5_v41 : Ref sig .tc := ⟨.hbm, 832, rfl⟩
abbrev main_call1_call5_v42 : Ref sig .tc := ⟨.hbm, 833, rfl⟩
abbrev main_call1_call5_c_10 : Ref sig .tc := ⟨.hbm, 834, rfl⟩
abbrev main_call1_call5_v43 : Ref sig .tc := ⟨.hbm, 835, rfl⟩
abbrev main_call1_call5_v44 : Ref sig .tc := ⟨.hbm, 836, rfl⟩
abbrev main_call1_call5_v45 : Ref sig .tc := ⟨.hbm, 837, rfl⟩
abbrev main_call1_call5_v46 : Ref sig .tc := ⟨.hbm, 838, rfl⟩
abbrev main_call1_call5_v47 : Ref sig .tc := ⟨.hbm, 839, rfl⟩
abbrev main_call1_call5_c_11 : Ref sig .tc := ⟨.hbm, 840, rfl⟩
abbrev main_call1_call5_v48 : Ref sig .tc := ⟨.hbm, 841, rfl⟩
abbrev main_call1_call5_v49 : Ref sig .tc := ⟨.hbm, 842, rfl⟩
abbrev main_call1_call5_c_12 : Ref sig .tc := ⟨.hbm, 843, rfl⟩
abbrev main_call1_call5_v50 : Ref sig .tc := ⟨.hbm, 844, rfl⟩
abbrev main_call1_call5_v51 : Ref sig .tc := ⟨.hbm, 845, rfl⟩
abbrev main_call1_call5_v52 : Ref sig .tc := ⟨.hbm, 846, rfl⟩
abbrev main_call1_call5_v53 : Ref sig .tc := ⟨.hbm, 847, rfl⟩
abbrev main_call1_call5_v54 : Ref sig .tc := ⟨.hbm, 848, rfl⟩
abbrev main_call1_call5_c_13 : Ref sig .tc := ⟨.hbm, 849, rfl⟩
abbrev main_call1_call5_v55 : Ref sig .tc := ⟨.hbm, 850, rfl⟩
abbrev main_call1_call5_v56 : Ref sig .tc := ⟨.hbm, 851, rfl⟩
abbrev main_call1_call5_c_14 : Ref sig .tc := ⟨.hbm, 852, rfl⟩
abbrev main_call1_call5_v57 : Ref sig .tc := ⟨.hbm, 853, rfl⟩
abbrev main_call1_call5_v58 : Ref sig .tc := ⟨.hbm, 854, rfl⟩
abbrev main_call1_call5_v59 : Ref sig .tc := ⟨.hbm, 855, rfl⟩
abbrev main_call1_call5_v60 : Ref sig .tc := ⟨.hbm, 856, rfl⟩
abbrev main_call1_call5_v61 : Ref sig .tc := ⟨.hbm, 857, rfl⟩
abbrev main_call1_call5_c_15 : Ref sig .tc := ⟨.hbm, 858, rfl⟩
abbrev main_call1_call5_v62 : Ref sig .tc := ⟨.hbm, 859, rfl⟩
abbrev main_call1_call5_v63 : Ref sig .tc := ⟨.hbm, 860, rfl⟩
abbrev main_call1_call5_c_16 : Ref sig .tc := ⟨.hbm, 861, rfl⟩
abbrev main_call1_call5_v64 : Ref sig .tc := ⟨.hbm, 862, rfl⟩
abbrev main_call1_call5_v65 : Ref sig .tc := ⟨.hbm, 863, rfl⟩
abbrev main_call1_call5_v66 : Ref sig .tc := ⟨.hbm, 864, rfl⟩
abbrev main_call1_call5_v67 : Ref sig .tc := ⟨.hbm, 865, rfl⟩
abbrev main_call1_call5_v68 : Ref sig .tc := ⟨.hbm, 866, rfl⟩
abbrev main_call1_call5_v69 : Ref sig .tc := ⟨.hbm, 867, rfl⟩
abbrev main_call1_call5_v70 : Ref sig .tc := ⟨.hbm, 868, rfl⟩
abbrev main_call1_call5_v71 : Ref sig .tc := ⟨.hbm, 869, rfl⟩
abbrev main_call1_call5_c_17 : Ref sig .tc := ⟨.hbm, 870, rfl⟩
abbrev main_call1_call5_v72 : Ref sig .tc := ⟨.hbm, 871, rfl⟩
abbrev main_call1_call5_v73 : Ref sig .tc := ⟨.hbm, 872, rfl⟩
abbrev main_call1_call5_v74 : Ref sig .tc := ⟨.hbm, 873, rfl⟩
abbrev main_call1_call5_c_18 : Ref sig .tc := ⟨.hbm, 874, rfl⟩
abbrev main_call1_call5_v75 : Ref sig .tc := ⟨.hbm, 875, rfl⟩
abbrev main_call1_call5_v76 : Ref sig .tc := ⟨.hbm, 876, rfl⟩
abbrev main_call1_call5_c_19 : Ref sig .tc := ⟨.hbm, 877, rfl⟩
abbrev main_call1_call5_v77 : Ref sig .tc := ⟨.hbm, 878, rfl⟩
abbrev main_call1_call5_v78 : Ref sig .tc := ⟨.hbm, 879, rfl⟩
abbrev main_call1_call5_v79 : Ref sig .tc := ⟨.hbm, 880, rfl⟩
abbrev main_call1_call5_v80 : Ref sig .tc := ⟨.hbm, 881, rfl⟩
abbrev main_call1_call5_v81 : Ref sig .tc := ⟨.hbm, 882, rfl⟩
abbrev main_call1_call5_c_20 : Ref sig .tc := ⟨.hbm, 883, rfl⟩
abbrev main_call1_call5_v82 : Ref sig .tc := ⟨.hbm, 884, rfl⟩
abbrev main_call1_call5_v83 : Ref sig .tc := ⟨.hbm, 885, rfl⟩
abbrev main_call1_call5_c_21 : Ref sig .tc := ⟨.hbm, 886, rfl⟩
abbrev main_call1_call5_v84 : Ref sig .tc := ⟨.hbm, 887, rfl⟩
abbrev main_call1_call5_v85 : Ref sig .tc := ⟨.hbm, 888, rfl⟩
abbrev main_call1_call5_v86 : Ref sig .tc := ⟨.hbm, 889, rfl⟩
abbrev main_call1_call5_v87 : Ref sig .tc := ⟨.hbm, 890, rfl⟩
abbrev main_call1_call5_v88 : Ref sig .tc := ⟨.hbm, 891, rfl⟩
abbrev main_call1_call5_c_22 : Ref sig .tc := ⟨.hbm, 892, rfl⟩
abbrev main_call1_call5_v89 : Ref sig .tc := ⟨.hbm, 893, rfl⟩
abbrev main_call1_call5_v90 : Ref sig .tc := ⟨.hbm, 894, rfl⟩
abbrev main_call1_call5_c_23 : Ref sig .tc := ⟨.hbm, 895, rfl⟩
abbrev main_call1_call5_v91 : Ref sig .tc := ⟨.hbm, 896, rfl⟩
abbrev main_call1_call5_v92 : Ref sig .tc := ⟨.hbm, 897, rfl⟩
abbrev main_call1_call5_v93 : Ref sig .tc := ⟨.hbm, 898, rfl⟩
abbrev main_call1_call5_v94 : Ref sig .tc := ⟨.hbm, 899, rfl⟩
abbrev main_call1_call5_v95 : Ref sig .tc := ⟨.hbm, 900, rfl⟩
abbrev main_call1_call5_c_24 : Ref sig .tc := ⟨.hbm, 901, rfl⟩
abbrev main_call1_call5_v96 : Ref sig .tc := ⟨.hbm, 902, rfl⟩
abbrev main_call1_call5_v97 : Ref sig .tc := ⟨.hbm, 903, rfl⟩
abbrev main_call1_call5_c_25 : Ref sig .tc := ⟨.hbm, 904, rfl⟩
abbrev main_call1_call5_v98 : Ref sig .tc := ⟨.hbm, 905, rfl⟩
abbrev main_call1_call5_v99 : Ref sig .tc := ⟨.hbm, 906, rfl⟩
abbrev main_call1_call5_v100 : Ref sig .tc := ⟨.hbm, 907, rfl⟩
abbrev main_call1_call5_v101 : Ref sig .tc := ⟨.hbm, 908, rfl⟩
abbrev main_call1_call5_v102 : Ref sig .tc := ⟨.hbm, 909, rfl⟩
abbrev main_call1_call5_v103 : Ref sig .tc := ⟨.hbm, 910, rfl⟩
abbrev main_call1_call5_v104 : Ref sig .tc := ⟨.hbm, 911, rfl⟩
abbrev main_call1_call5_v105 : Ref sig .tc := ⟨.hbm, 912, rfl⟩
abbrev main_call1_call5_c_26 : Ref sig .tc := ⟨.hbm, 913, rfl⟩
abbrev main_call1_call5_v106 : Ref sig .tc := ⟨.hbm, 914, rfl⟩
abbrev main_call1_call5_v107 : Ref sig .tc := ⟨.hbm, 915, rfl⟩
abbrev main_call1_call5_v108 : Ref sig .tc := ⟨.hbm, 916, rfl⟩
abbrev main_call1_call5_c_27 : Ref sig .tc := ⟨.hbm, 917, rfl⟩
abbrev main_call1_call5_v109 : Ref sig .tc := ⟨.hbm, 918, rfl⟩
abbrev main_call1_call5_v110 : Ref sig .tc := ⟨.hbm, 919, rfl⟩
abbrev main_call1_call5_c_28 : Ref sig .tc := ⟨.hbm, 920, rfl⟩
abbrev main_call1_call5_v111 : Ref sig .tc := ⟨.hbm, 921, rfl⟩
abbrev main_call1_call5_v112 : Ref sig .tc := ⟨.hbm, 922, rfl⟩
abbrev main_call1_call5_v113 : Ref sig .tc := ⟨.hbm, 923, rfl⟩
abbrev main_call1_call5_v114 : Ref sig .tc := ⟨.hbm, 924, rfl⟩
abbrev main_call1_call5_v115 : Ref sig .tc := ⟨.hbm, 925, rfl⟩
abbrev main_call1_call5_c_29 : Ref sig .tc := ⟨.hbm, 926, rfl⟩
abbrev main_call1_call5_v116 : Ref sig .tc := ⟨.hbm, 927, rfl⟩
abbrev main_call1_call5_v117 : Ref sig .tc := ⟨.hbm, 928, rfl⟩
abbrev main_call1_call5_c_30 : Ref sig .tc := ⟨.hbm, 929, rfl⟩
abbrev main_call1_call5_v118 : Ref sig .tc := ⟨.hbm, 930, rfl⟩
abbrev main_call1_call5_v119 : Ref sig .tc := ⟨.hbm, 931, rfl⟩
abbrev main_call1_call5_v120 : Ref sig .tc := ⟨.hbm, 932, rfl⟩
abbrev main_call1_call5_v121 : Ref sig .tc := ⟨.hbm, 933, rfl⟩
abbrev main_call1_call5_v122 : Ref sig .tc := ⟨.hbm, 934, rfl⟩
abbrev main_call1_call5_c_31 : Ref sig .tc := ⟨.hbm, 935, rfl⟩
abbrev main_call1_call5_v123 : Ref sig .tc := ⟨.hbm, 936, rfl⟩
abbrev main_call1_call5_v124 : Ref sig .tc := ⟨.hbm, 937, rfl⟩
abbrev main_call1_call5_c_32 : Ref sig .tc := ⟨.hbm, 938, rfl⟩
abbrev main_call1_call5_v125 : Ref sig .tc := ⟨.hbm, 939, rfl⟩
abbrev main_call1_call5_v126 : Ref sig .tc := ⟨.hbm, 940, rfl⟩
abbrev main_call1_call5_v127 : Ref sig .tc := ⟨.hbm, 941, rfl⟩
abbrev main_call1_call5_v128 : Ref sig .tc := ⟨.hbm, 942, rfl⟩
abbrev main_call1_call5_v129 : Ref sig .tc := ⟨.hbm, 943, rfl⟩
abbrev main_call1_call5_c_33 : Ref sig .tc := ⟨.hbm, 944, rfl⟩
abbrev main_call1_call5_v130 : Ref sig .tc := ⟨.hbm, 945, rfl⟩
abbrev main_call1_call5_v131 : Ref sig .tc := ⟨.hbm, 946, rfl⟩
abbrev main_call1_call5_c_34 : Ref sig .tc := ⟨.hbm, 947, rfl⟩
abbrev main_call1_call5_v132 : Ref sig .tc := ⟨.hbm, 948, rfl⟩
abbrev main_call1_call5_v133 : Ref sig .tc := ⟨.hbm, 949, rfl⟩
abbrev main_call1_call5_v134 : Ref sig .tc := ⟨.hbm, 950, rfl⟩
abbrev main_call1_call5_v135 : Ref sig .tc := ⟨.hbm, 951, rfl⟩
abbrev main_call1_call5_v136 : Ref sig .tc := ⟨.hbm, 952, rfl⟩
abbrev main_call1_call5_v137 : Ref sig .tc := ⟨.hbm, 953, rfl⟩
abbrev main_call1_call5_v138 : Ref sig .tc := ⟨.hbm, 954, rfl⟩
abbrev main_call1_call5_v139 : Ref sig .tc := ⟨.hbm, 955, rfl⟩
abbrev main_call1_call5_c_35 : Ref sig .tc := ⟨.hbm, 956, rfl⟩
abbrev main_call1_call5_v140 : Ref sig .tc := ⟨.hbm, 957, rfl⟩
abbrev main_call1_call5_v141 : Ref sig .tc := ⟨.hbm, 958, rfl⟩
abbrev main_call1_call5_v142 : Ref sig .tc := ⟨.hbm, 959, rfl⟩
abbrev main_call1_call5_c_36 : Ref sig .tc := ⟨.hbm, 960, rfl⟩
abbrev main_call1_call5_v143 : Ref sig .tc := ⟨.hbm, 961, rfl⟩
abbrev main_call1_call5_v144 : Ref sig .tc := ⟨.hbm, 962, rfl⟩
abbrev main_call1_call5_c_37 : Ref sig .tc := ⟨.hbm, 963, rfl⟩
abbrev main_call1_call5_v145 : Ref sig .tc := ⟨.hbm, 964, rfl⟩
abbrev main_call1_call5_v146 : Ref sig .tc := ⟨.hbm, 965, rfl⟩
abbrev main_call1_call5_v147 : Ref sig .tc := ⟨.hbm, 966, rfl⟩
abbrev main_call1_call5_v148 : Ref sig .tc := ⟨.hbm, 967, rfl⟩
abbrev main_call1_call5_v149 : Ref sig .tc := ⟨.hbm, 968, rfl⟩
abbrev main_call1_call5_c_38 : Ref sig .tc := ⟨.hbm, 969, rfl⟩
abbrev main_call1_call5_v150 : Ref sig .tc := ⟨.hbm, 970, rfl⟩
abbrev main_call1_call5_v151 : Ref sig .tc := ⟨.hbm, 971, rfl⟩
abbrev main_call1_call5_c_39 : Ref sig .tc := ⟨.hbm, 972, rfl⟩
abbrev main_call1_call5_v152 : Ref sig .tc := ⟨.hbm, 973, rfl⟩
abbrev main_call1_call5_v153 : Ref sig .tc := ⟨.hbm, 974, rfl⟩
abbrev main_call1_call5_v154 : Ref sig .tc := ⟨.hbm, 975, rfl⟩
abbrev main_call1_call5_v155 : Ref sig .tc := ⟨.hbm, 976, rfl⟩
abbrev main_call1_call5_v156 : Ref sig .tc := ⟨.hbm, 977, rfl⟩
abbrev main_call1_call5_c_40 : Ref sig .tc := ⟨.hbm, 978, rfl⟩
abbrev main_call1_call5_v157 : Ref sig .tc := ⟨.hbm, 979, rfl⟩
abbrev main_call1_call5_v158 : Ref sig .tc := ⟨.hbm, 980, rfl⟩
abbrev main_call1_call5_c_41 : Ref sig .tc := ⟨.hbm, 981, rfl⟩
abbrev main_call1_call5_v159 : Ref sig .tc := ⟨.hbm, 982, rfl⟩
abbrev main_call1_call5_v160 : Ref sig .tc := ⟨.hbm, 983, rfl⟩
abbrev main_call1_call5_v161 : Ref sig .tc := ⟨.hbm, 984, rfl⟩
abbrev main_call1_call5_v162 : Ref sig .tc := ⟨.hbm, 985, rfl⟩
abbrev main_call1_call5_v163 : Ref sig .tc := ⟨.hbm, 986, rfl⟩
abbrev main_call1_call5_c_42 : Ref sig .tc := ⟨.hbm, 987, rfl⟩
abbrev main_call1_call5_v164 : Ref sig .tc := ⟨.hbm, 988, rfl⟩
abbrev main_call1_call5_v165 : Ref sig .tc := ⟨.hbm, 989, rfl⟩
abbrev main_call1_call5_c_43 : Ref sig .tc := ⟨.hbm, 990, rfl⟩
abbrev main_call1_call5_v166 : Ref sig .tc := ⟨.hbm, 991, rfl⟩
abbrev main_call1_call5_v167 : Ref sig .tc := ⟨.hbm, 992, rfl⟩
abbrev main_call1_call5_v168 : Ref sig .tc := ⟨.hbm, 993, rfl⟩
abbrev main_call1_call5_v169 : Ref sig .tc := ⟨.hbm, 994, rfl⟩
abbrev main_call1_call5_v170 : Ref sig .tc := ⟨.hbm, 995, rfl⟩
abbrev main_call1_v45_0 : Ref sig .tc := ⟨.hbm, 996, rfl⟩
abbrev main_call1_call5_v172 : Ref sig .tc := ⟨.hbm, 997, rfl⟩
abbrev main_call1_call5_v173 : Ref sig .tc := ⟨.hbm, 998, rfl⟩
abbrev main_call1_call5_c_44 : Ref sig .tc := ⟨.hbm, 999, rfl⟩
abbrev main_call1_call5_v174 : Ref sig .tc := ⟨.hbm, 1000, rfl⟩
abbrev main_call1_v45_1 : Ref sig .tc := ⟨.hbm, 1001, rfl⟩
abbrev main_call1_v46 : Ref sig .tc := ⟨.hbm, 1002, rfl⟩
abbrev main_call1_v47 : Ref sig .tc := ⟨.hbm, 1003, rfl⟩
abbrev main_call1_v48 : Ref sig .tc := ⟨.hbm, 1004, rfl⟩
abbrev main_call1_v49 : Ref sig .tc := ⟨.hbm, 1005, rfl⟩
abbrev main_call1_c_12 : Ref sig .tc := ⟨.hbm, 1006, rfl⟩
abbrev main_call1_v50 : Ref sig .tc := ⟨.hbm, 1007, rfl⟩
abbrev main_call1_v51 : Ref sig .tc := ⟨.hbm, 1008, rfl⟩
abbrev main_call1_v52 : Ref sig .tc := ⟨.hbm, 1009, rfl⟩
abbrev main_call1_v53 : Ref sig .tc := ⟨.hbm, 1010, rfl⟩
abbrev main_call1_v54 : Ref sig .tc := ⟨.hbm, 1011, rfl⟩
abbrev main_call1_c_13 : Ref sig .tc := ⟨.hbm, 1012, rfl⟩
abbrev main_call1_v55 : Ref sig .tc := ⟨.hbm, 1013, rfl⟩
abbrev main_call1_v56 : Ref sig .tc := ⟨.hbm, 1014, rfl⟩
abbrev main_call1_v57 : Ref sig .tc := ⟨.hbm, 1015, rfl⟩
abbrev main_call1_c_14 : Ref sig .tc := ⟨.hbm, 1016, rfl⟩
abbrev main_call1_v58 : Ref sig .tc := ⟨.hbm, 1017, rfl⟩
abbrev main_call1_v59 : Ref sig .tc := ⟨.hbm, 1018, rfl⟩
abbrev main_call1_v60 : Ref sig .tc := ⟨.hbm, 1019, rfl⟩
abbrev main_call1_v61 : Ref sig .tc := ⟨.hbm, 1020, rfl⟩
abbrev main_call1_v62 : Ref sig .tc := ⟨.hbm, 1021, rfl⟩
abbrev main_call1_v63 : Ref sig .tc := ⟨.hbm, 1022, rfl⟩
abbrev main_call1_v64 : Ref sig .tc := ⟨.hbm, 1023, rfl⟩
abbrev main_call1_v65 : Ref sig .tc := ⟨.hbm, 1024, rfl⟩
abbrev main_call1_v66 : Ref sig .tc := ⟨.hbm, 1025, rfl⟩
abbrev main_call1_v67 : Ref sig .tc := ⟨.hbm, 1026, rfl⟩
abbrev main_call1_v68 : Ref sig .tc := ⟨.hbm, 1027, rfl⟩
abbrev main_call1_v69 : Ref sig .tc := ⟨.hbm, 1028, rfl⟩
abbrev main_call1_v70 : Ref sig .tc := ⟨.hbm, 1029, rfl⟩
abbrev main_call1_v71 : Ref sig .tc := ⟨.hbm, 1030, rfl⟩
abbrev main_call1_v72 : Ref sig .tc := ⟨.hbm, 1031, rfl⟩
abbrev main_v12 : Ref sig .tc := ⟨.hbm, 1032, rfl⟩
abbrev main_c_4 : Ref sig .tc := ⟨.hbm, 1033, rfl⟩
abbrev main_c_5 : Ref sig .tc := ⟨.hbm, 1034, rfl⟩
abbrev main_call2_c : Ref sig .tc := ⟨.hbm, 1035, rfl⟩
abbrev main_call2_c_0 : Ref sig .tc := ⟨.hbm, 1036, rfl⟩
abbrev main_call2_c_1 : Ref sig .tc := ⟨.hbm, 1037, rfl⟩
abbrev main_call2_call0_v0 : Ref sig .tc := ⟨.hbm, 1038, rfl⟩
abbrev main_call2_v0 : Ref sig .tc := ⟨.hbm, 1039, rfl⟩
abbrev main_call2_v1 : Ref sig .tc := ⟨.hbm, 1040, rfl⟩
abbrev main_call2_c_2 : Ref sig .tc := ⟨.hbm, 1041, rfl⟩
abbrev main_call2_c_3 : Ref sig .tc := ⟨.hbm, 1042, rfl⟩
abbrev main_call2_call1_v0 : Ref sig .tc := ⟨.hbm, 1043, rfl⟩
abbrev main_call2_v2 : Ref sig .tc := ⟨.hbm, 1044, rfl⟩
abbrev main_call2_v3 : Ref sig .tc := ⟨.hbm, 1045, rfl⟩
abbrev main_call2_c_4 : Ref sig .tc := ⟨.hbm, 1046, rfl⟩
abbrev main_call2_c_5 : Ref sig .tc := ⟨.hbm, 1047, rfl⟩
abbrev main_call2_call2_v0 : Ref sig .tc := ⟨.hbm, 1048, rfl⟩
abbrev main_call2_v4 : Ref sig .tc := ⟨.hbm, 1049, rfl⟩
abbrev main_call2_v5 : Ref sig .tc := ⟨.hbm, 1050, rfl⟩
abbrev main_call2_v6 : Ref sig .tc := ⟨.hbm, 1051, rfl⟩
abbrev main_call2_v7 : Ref sig .tc := ⟨.hbm, 1052, rfl⟩
abbrev main_call2_call3_v0 : Ref sig .tc := ⟨.hbm, 1053, rfl⟩
abbrev main_call2_call3_v1 : Ref sig .tc := ⟨.hbm, 1054, rfl⟩
abbrev main_call2_call3_v2 : Ref sig .tc := ⟨.hbm, 1055, rfl⟩
abbrev main_call2_call3_v3 : Ref sig .tc := ⟨.hbm, 1056, rfl⟩
abbrev main_call2_call3_v4 : Ref sig .tc := ⟨.hbm, 1057, rfl⟩
abbrev main_call2_call3_c : Ref sig .tc := ⟨.hbm, 1058, rfl⟩
abbrev main_call2_call3_v5 : Ref sig .tc := ⟨.hbm, 1059, rfl⟩
abbrev main_call2_call3_v6 : Ref sig .tc := ⟨.hbm, 1060, rfl⟩
abbrev main_call2_call3_c_0 : Ref sig .tc := ⟨.hbm, 1061, rfl⟩
abbrev main_call2_call3_v7 : Ref sig .tc := ⟨.hbm, 1062, rfl⟩
abbrev main_call2_call3_v8 : Ref sig .tc := ⟨.hbm, 1063, rfl⟩
abbrev main_call2_call3_v9 : Ref sig .tc := ⟨.hbm, 1064, rfl⟩
abbrev main_call2_call3_v10 : Ref sig .tc := ⟨.hbm, 1065, rfl⟩
abbrev main_call2_call3_call0_v0 : Ref sig .tc := ⟨.hbm, 1066, rfl⟩
abbrev main_call2_call3_call0_c : Ref sig .tc := ⟨.hbm, 1067, rfl⟩
abbrev main_call2_call3_call0_v1 : Ref sig .tc := ⟨.hbm, 1068, rfl⟩
abbrev main_call2_call3_call0_v2 : Ref sig .tc := ⟨.hbm, 1069, rfl⟩
abbrev main_call2_call3_call0_v3 : Ref sig .tc := ⟨.hbm, 1070, rfl⟩
abbrev main_call2_call3_call0_v4 : Ref sig .tc := ⟨.hbm, 1071, rfl⟩
abbrev main_call2_call3_call0_v5 : Ref sig .tc := ⟨.hbm, 1072, rfl⟩
abbrev main_call2_call3_call0_v6 : Ref sig .tc := ⟨.hbm, 1073, rfl⟩
abbrev main_call2_call3_call0_c_0 : Ref sig .tc := ⟨.hbm, 1074, rfl⟩
abbrev main_call2_call3_call0_v7 : Ref sig .tc := ⟨.hbm, 1075, rfl⟩
abbrev main_call2_call3_call0_v8 : Ref sig .tc := ⟨.hbm, 1076, rfl⟩
abbrev main_call2_call3_call0_c_1 : Ref sig .tc := ⟨.hbm, 1077, rfl⟩
abbrev main_call2_call3_call0_v9 : Ref sig .tc := ⟨.hbm, 1078, rfl⟩
abbrev main_call2_call3_call0_v10 : Ref sig .tc := ⟨.hbm, 1079, rfl⟩
abbrev main_call2_call3_call0_v11 : Ref sig .tc := ⟨.hbm, 1080, rfl⟩
abbrev main_call2_call3_call0_v12 : Ref sig .tc := ⟨.hbm, 1081, rfl⟩
abbrev main_call2_call3_call0_v13 : Ref sig .tc := ⟨.hbm, 1082, rfl⟩
abbrev main_call2_call3_call0_c_2 : Ref sig .tc := ⟨.hbm, 1083, rfl⟩
abbrev main_call2_call3_call0_v14 : Ref sig .tc := ⟨.hbm, 1084, rfl⟩
abbrev main_call2_call3_call0_v15 : Ref sig .tc := ⟨.hbm, 1085, rfl⟩
abbrev main_call2_call3_call0_c_3 : Ref sig .tc := ⟨.hbm, 1086, rfl⟩
abbrev main_call2_call3_call0_v16 : Ref sig .tc := ⟨.hbm, 1087, rfl⟩
abbrev main_call2_call3_call0_v17 : Ref sig .tc := ⟨.hbm, 1088, rfl⟩
abbrev main_call2_call3_call0_v18 : Ref sig .tc := ⟨.hbm, 1089, rfl⟩
abbrev main_call2_call3_call0_v19 : Ref sig .tc := ⟨.hbm, 1090, rfl⟩
abbrev main_call2_call3_call0_v20 : Ref sig .tc := ⟨.hbm, 1091, rfl⟩
abbrev main_call2_call3_call0_c_4 : Ref sig .tc := ⟨.hbm, 1092, rfl⟩
abbrev main_call2_call3_call0_v21 : Ref sig .tc := ⟨.hbm, 1093, rfl⟩
abbrev main_call2_call3_call0_v22 : Ref sig .tc := ⟨.hbm, 1094, rfl⟩
abbrev main_call2_call3_call0_c_5 : Ref sig .tc := ⟨.hbm, 1095, rfl⟩
abbrev main_call2_call3_call0_v23 : Ref sig .tc := ⟨.hbm, 1096, rfl⟩
abbrev main_call2_call3_call0_v24 : Ref sig .tc := ⟨.hbm, 1097, rfl⟩
abbrev main_call2_call3_call0_v25 : Ref sig .tc := ⟨.hbm, 1098, rfl⟩
abbrev main_call2_call3_call0_v26 : Ref sig .tc := ⟨.hbm, 1099, rfl⟩
abbrev main_call2_call3_call0_v27 : Ref sig .tc := ⟨.hbm, 1100, rfl⟩
abbrev main_call2_call3_call0_c_6 : Ref sig .tc := ⟨.hbm, 1101, rfl⟩
abbrev main_call2_call3_call0_v28 : Ref sig .tc := ⟨.hbm, 1102, rfl⟩
abbrev main_call2_call3_call0_v29 : Ref sig .tc := ⟨.hbm, 1103, rfl⟩
abbrev main_call2_call3_call0_c_7 : Ref sig .tc := ⟨.hbm, 1104, rfl⟩
abbrev main_call2_call3_call0_v30 : Ref sig .tc := ⟨.hbm, 1105, rfl⟩
abbrev main_call2_call3_call0_v31 : Ref sig .tc := ⟨.hbm, 1106, rfl⟩
abbrev main_call2_call3_call0_v32 : Ref sig .tc := ⟨.hbm, 1107, rfl⟩
abbrev main_call2_call3_call0_v33 : Ref sig .tc := ⟨.hbm, 1108, rfl⟩
abbrev main_call2_call3_call0_v34 : Ref sig .tc := ⟨.hbm, 1109, rfl⟩
abbrev main_call2_call3_call0_v35 : Ref sig .tc := ⟨.hbm, 1110, rfl⟩
abbrev main_call2_call3_call0_v36 : Ref sig .tc := ⟨.hbm, 1111, rfl⟩
abbrev main_call2_call3_call0_v37 : Ref sig .tc := ⟨.hbm, 1112, rfl⟩
abbrev main_call2_call3_call0_c_8 : Ref sig .tc := ⟨.hbm, 1113, rfl⟩
abbrev main_call2_call3_call0_v38 : Ref sig .tc := ⟨.hbm, 1114, rfl⟩
abbrev main_call2_call3_call0_v39 : Ref sig .tc := ⟨.hbm, 1115, rfl⟩
abbrev main_call2_call3_call0_v40 : Ref sig .tc := ⟨.hbm, 1116, rfl⟩
abbrev main_call2_call3_call0_c_9 : Ref sig .tc := ⟨.hbm, 1117, rfl⟩
abbrev main_call2_call3_call0_v41 : Ref sig .tc := ⟨.hbm, 1118, rfl⟩
abbrev main_call2_call3_call0_v42 : Ref sig .tc := ⟨.hbm, 1119, rfl⟩
abbrev main_call2_call3_call0_c_10 : Ref sig .tc := ⟨.hbm, 1120, rfl⟩
abbrev main_call2_call3_call0_v43 : Ref sig .tc := ⟨.hbm, 1121, rfl⟩
abbrev main_call2_call3_call0_v44 : Ref sig .tc := ⟨.hbm, 1122, rfl⟩
abbrev main_call2_call3_call0_v45 : Ref sig .tc := ⟨.hbm, 1123, rfl⟩
abbrev main_call2_call3_call0_v46 : Ref sig .tc := ⟨.hbm, 1124, rfl⟩
abbrev main_call2_call3_call0_v47 : Ref sig .tc := ⟨.hbm, 1125, rfl⟩
abbrev main_call2_call3_call0_c_11 : Ref sig .tc := ⟨.hbm, 1126, rfl⟩
abbrev main_call2_call3_call0_v48 : Ref sig .tc := ⟨.hbm, 1127, rfl⟩
abbrev main_call2_call3_call0_v49 : Ref sig .tc := ⟨.hbm, 1128, rfl⟩
abbrev main_call2_call3_call0_c_12 : Ref sig .tc := ⟨.hbm, 1129, rfl⟩
abbrev main_call2_call3_call0_v50 : Ref sig .tc := ⟨.hbm, 1130, rfl⟩
abbrev main_call2_call3_call0_v51 : Ref sig .tc := ⟨.hbm, 1131, rfl⟩
abbrev main_call2_call3_call0_v52 : Ref sig .tc := ⟨.hbm, 1132, rfl⟩
abbrev main_call2_call3_call0_v53 : Ref sig .tc := ⟨.hbm, 1133, rfl⟩
abbrev main_call2_call3_call0_v54 : Ref sig .tc := ⟨.hbm, 1134, rfl⟩
abbrev main_call2_call3_call0_c_13 : Ref sig .tc := ⟨.hbm, 1135, rfl⟩
abbrev main_call2_call3_call0_v55 : Ref sig .tc := ⟨.hbm, 1136, rfl⟩
abbrev main_call2_call3_call0_v56 : Ref sig .tc := ⟨.hbm, 1137, rfl⟩
abbrev main_call2_call3_call0_c_14 : Ref sig .tc := ⟨.hbm, 1138, rfl⟩
abbrev main_call2_call3_call0_v57 : Ref sig .tc := ⟨.hbm, 1139, rfl⟩
abbrev main_call2_call3_call0_v58 : Ref sig .tc := ⟨.hbm, 1140, rfl⟩
abbrev main_call2_call3_call0_v59 : Ref sig .tc := ⟨.hbm, 1141, rfl⟩
abbrev main_call2_call3_call0_v60 : Ref sig .tc := ⟨.hbm, 1142, rfl⟩
abbrev main_call2_call3_call0_v61 : Ref sig .tc := ⟨.hbm, 1143, rfl⟩
abbrev main_call2_call3_call0_c_15 : Ref sig .tc := ⟨.hbm, 1144, rfl⟩
abbrev main_call2_call3_call0_v62 : Ref sig .tc := ⟨.hbm, 1145, rfl⟩
abbrev main_call2_call3_call0_v63 : Ref sig .tc := ⟨.hbm, 1146, rfl⟩
abbrev main_call2_call3_call0_c_16 : Ref sig .tc := ⟨.hbm, 1147, rfl⟩
abbrev main_call2_call3_call0_v64 : Ref sig .tc := ⟨.hbm, 1148, rfl⟩
abbrev main_call2_call3_call0_v65 : Ref sig .tc := ⟨.hbm, 1149, rfl⟩
abbrev main_call2_call3_call0_v66 : Ref sig .tc := ⟨.hbm, 1150, rfl⟩
abbrev main_call2_call3_call0_v67 : Ref sig .tc := ⟨.hbm, 1151, rfl⟩
abbrev main_call2_call3_call0_v68 : Ref sig .tc := ⟨.hbm, 1152, rfl⟩
abbrev main_call2_call3_call0_v69 : Ref sig .tc := ⟨.hbm, 1153, rfl⟩
abbrev main_call2_call3_call0_v70 : Ref sig .tc := ⟨.hbm, 1154, rfl⟩
abbrev main_call2_call3_call0_v71 : Ref sig .tc := ⟨.hbm, 1155, rfl⟩
abbrev main_call2_call3_call0_c_17 : Ref sig .tc := ⟨.hbm, 1156, rfl⟩
abbrev main_call2_call3_call0_v72 : Ref sig .tc := ⟨.hbm, 1157, rfl⟩
abbrev main_call2_call3_call0_v73 : Ref sig .tc := ⟨.hbm, 1158, rfl⟩
abbrev main_call2_call3_call0_v74 : Ref sig .tc := ⟨.hbm, 1159, rfl⟩
abbrev main_call2_call3_call0_c_18 : Ref sig .tc := ⟨.hbm, 1160, rfl⟩
abbrev main_call2_call3_call0_v75 : Ref sig .tc := ⟨.hbm, 1161, rfl⟩
abbrev main_call2_call3_call0_v76 : Ref sig .tc := ⟨.hbm, 1162, rfl⟩
abbrev main_call2_call3_call0_c_19 : Ref sig .tc := ⟨.hbm, 1163, rfl⟩
abbrev main_call2_call3_call0_v77 : Ref sig .tc := ⟨.hbm, 1164, rfl⟩
abbrev main_call2_call3_call0_v78 : Ref sig .tc := ⟨.hbm, 1165, rfl⟩
abbrev main_call2_call3_call0_v79 : Ref sig .tc := ⟨.hbm, 1166, rfl⟩
abbrev main_call2_call3_call0_v80 : Ref sig .tc := ⟨.hbm, 1167, rfl⟩
abbrev main_call2_call3_call0_v81 : Ref sig .tc := ⟨.hbm, 1168, rfl⟩
abbrev main_call2_call3_call0_c_20 : Ref sig .tc := ⟨.hbm, 1169, rfl⟩
abbrev main_call2_call3_call0_v82 : Ref sig .tc := ⟨.hbm, 1170, rfl⟩
abbrev main_call2_call3_call0_v83 : Ref sig .tc := ⟨.hbm, 1171, rfl⟩
abbrev main_call2_call3_call0_c_21 : Ref sig .tc := ⟨.hbm, 1172, rfl⟩
abbrev main_call2_call3_call0_v84 : Ref sig .tc := ⟨.hbm, 1173, rfl⟩
abbrev main_call2_call3_call0_v85 : Ref sig .tc := ⟨.hbm, 1174, rfl⟩
abbrev main_call2_call3_call0_v86 : Ref sig .tc := ⟨.hbm, 1175, rfl⟩
abbrev main_call2_call3_call0_v87 : Ref sig .tc := ⟨.hbm, 1176, rfl⟩
abbrev main_call2_call3_call0_v88 : Ref sig .tc := ⟨.hbm, 1177, rfl⟩
abbrev main_call2_call3_call0_c_22 : Ref sig .tc := ⟨.hbm, 1178, rfl⟩
abbrev main_call2_call3_call0_v89 : Ref sig .tc := ⟨.hbm, 1179, rfl⟩
abbrev main_call2_call3_call0_v90 : Ref sig .tc := ⟨.hbm, 1180, rfl⟩
abbrev main_call2_call3_call0_c_23 : Ref sig .tc := ⟨.hbm, 1181, rfl⟩
abbrev main_call2_call3_call0_v91 : Ref sig .tc := ⟨.hbm, 1182, rfl⟩
abbrev main_call2_call3_call0_v92 : Ref sig .tc := ⟨.hbm, 1183, rfl⟩
abbrev main_call2_call3_call0_v93 : Ref sig .tc := ⟨.hbm, 1184, rfl⟩
abbrev main_call2_call3_call0_v94 : Ref sig .tc := ⟨.hbm, 1185, rfl⟩
abbrev main_call2_call3_call0_v95 : Ref sig .tc := ⟨.hbm, 1186, rfl⟩
abbrev main_call2_call3_call0_c_24 : Ref sig .tc := ⟨.hbm, 1187, rfl⟩
abbrev main_call2_call3_call0_v96 : Ref sig .tc := ⟨.hbm, 1188, rfl⟩
abbrev main_call2_call3_call0_v97 : Ref sig .tc := ⟨.hbm, 1189, rfl⟩
abbrev main_call2_call3_call0_c_25 : Ref sig .tc := ⟨.hbm, 1190, rfl⟩
abbrev main_call2_call3_call0_v98 : Ref sig .tc := ⟨.hbm, 1191, rfl⟩
abbrev main_call2_call3_call0_v99 : Ref sig .tc := ⟨.hbm, 1192, rfl⟩
abbrev main_call2_call3_call0_v100 : Ref sig .tc := ⟨.hbm, 1193, rfl⟩
abbrev main_call2_call3_call0_v101 : Ref sig .tc := ⟨.hbm, 1194, rfl⟩
abbrev main_call2_call3_call0_v102 : Ref sig .tc := ⟨.hbm, 1195, rfl⟩
abbrev main_call2_call3_call0_v103 : Ref sig .tc := ⟨.hbm, 1196, rfl⟩
abbrev main_call2_call3_call0_v104 : Ref sig .tc := ⟨.hbm, 1197, rfl⟩
abbrev main_call2_call3_call0_v105 : Ref sig .tc := ⟨.hbm, 1198, rfl⟩
abbrev main_call2_call3_call0_c_26 : Ref sig .tc := ⟨.hbm, 1199, rfl⟩
abbrev main_call2_call3_call0_v106 : Ref sig .tc := ⟨.hbm, 1200, rfl⟩
abbrev main_call2_call3_call0_v107 : Ref sig .tc := ⟨.hbm, 1201, rfl⟩
abbrev main_call2_call3_call0_v108 : Ref sig .tc := ⟨.hbm, 1202, rfl⟩
abbrev main_call2_call3_call0_c_27 : Ref sig .tc := ⟨.hbm, 1203, rfl⟩
abbrev main_call2_call3_call0_v109 : Ref sig .tc := ⟨.hbm, 1204, rfl⟩
abbrev main_call2_call3_call0_v110 : Ref sig .tc := ⟨.hbm, 1205, rfl⟩
abbrev main_call2_call3_call0_c_28 : Ref sig .tc := ⟨.hbm, 1206, rfl⟩
abbrev main_call2_call3_call0_v111 : Ref sig .tc := ⟨.hbm, 1207, rfl⟩
abbrev main_call2_call3_call0_v112 : Ref sig .tc := ⟨.hbm, 1208, rfl⟩
abbrev main_call2_call3_call0_v113 : Ref sig .tc := ⟨.hbm, 1209, rfl⟩
abbrev main_call2_call3_call0_v114 : Ref sig .tc := ⟨.hbm, 1210, rfl⟩
abbrev main_call2_call3_call0_v115 : Ref sig .tc := ⟨.hbm, 1211, rfl⟩
abbrev main_call2_call3_call0_c_29 : Ref sig .tc := ⟨.hbm, 1212, rfl⟩
abbrev main_call2_call3_call0_v116 : Ref sig .tc := ⟨.hbm, 1213, rfl⟩
abbrev main_call2_call3_call0_v117 : Ref sig .tc := ⟨.hbm, 1214, rfl⟩
abbrev main_call2_call3_call0_c_30 : Ref sig .tc := ⟨.hbm, 1215, rfl⟩
abbrev main_call2_call3_call0_v118 : Ref sig .tc := ⟨.hbm, 1216, rfl⟩
abbrev main_call2_call3_call0_v119 : Ref sig .tc := ⟨.hbm, 1217, rfl⟩
abbrev main_call2_call3_call0_v120 : Ref sig .tc := ⟨.hbm, 1218, rfl⟩
abbrev main_call2_call3_call0_v121 : Ref sig .tc := ⟨.hbm, 1219, rfl⟩
abbrev main_call2_call3_call0_v122 : Ref sig .tc := ⟨.hbm, 1220, rfl⟩
abbrev main_call2_call3_call0_c_31 : Ref sig .tc := ⟨.hbm, 1221, rfl⟩
abbrev main_call2_call3_call0_v123 : Ref sig .tc := ⟨.hbm, 1222, rfl⟩
abbrev main_call2_call3_call0_v124 : Ref sig .tc := ⟨.hbm, 1223, rfl⟩
abbrev main_call2_call3_call0_c_32 : Ref sig .tc := ⟨.hbm, 1224, rfl⟩
abbrev main_call2_call3_call0_v125 : Ref sig .tc := ⟨.hbm, 1225, rfl⟩
abbrev main_call2_call3_call0_v126 : Ref sig .tc := ⟨.hbm, 1226, rfl⟩
abbrev main_call2_call3_call0_v127 : Ref sig .tc := ⟨.hbm, 1227, rfl⟩
abbrev main_call2_call3_call0_v128 : Ref sig .tc := ⟨.hbm, 1228, rfl⟩
abbrev main_call2_call3_call0_v129 : Ref sig .tc := ⟨.hbm, 1229, rfl⟩
abbrev main_call2_call3_call0_c_33 : Ref sig .tc := ⟨.hbm, 1230, rfl⟩
abbrev main_call2_call3_call0_v130 : Ref sig .tc := ⟨.hbm, 1231, rfl⟩
abbrev main_call2_call3_call0_v131 : Ref sig .tc := ⟨.hbm, 1232, rfl⟩
abbrev main_call2_call3_call0_c_34 : Ref sig .tc := ⟨.hbm, 1233, rfl⟩
abbrev main_call2_call3_call0_v132 : Ref sig .tc := ⟨.hbm, 1234, rfl⟩
abbrev main_call2_call3_call0_v133 : Ref sig .tc := ⟨.hbm, 1235, rfl⟩
abbrev main_call2_call3_call0_v134 : Ref sig .tc := ⟨.hbm, 1236, rfl⟩
abbrev main_call2_call3_call0_v135 : Ref sig .tc := ⟨.hbm, 1237, rfl⟩
abbrev main_call2_call3_call0_v136 : Ref sig .tc := ⟨.hbm, 1238, rfl⟩
abbrev main_call2_call3_call0_v137 : Ref sig .tc := ⟨.hbm, 1239, rfl⟩
abbrev main_call2_call3_call0_v138 : Ref sig .tc := ⟨.hbm, 1240, rfl⟩
abbrev main_call2_call3_call0_v139 : Ref sig .tc := ⟨.hbm, 1241, rfl⟩
abbrev main_call2_call3_call0_c_35 : Ref sig .tc := ⟨.hbm, 1242, rfl⟩
abbrev main_call2_call3_call0_v140 : Ref sig .tc := ⟨.hbm, 1243, rfl⟩
abbrev main_call2_call3_call0_v141 : Ref sig .tc := ⟨.hbm, 1244, rfl⟩
abbrev main_call2_call3_call0_v142 : Ref sig .tc := ⟨.hbm, 1245, rfl⟩
abbrev main_call2_call3_call0_c_36 : Ref sig .tc := ⟨.hbm, 1246, rfl⟩
abbrev main_call2_call3_call0_v143 : Ref sig .tc := ⟨.hbm, 1247, rfl⟩
abbrev main_call2_call3_call0_v144 : Ref sig .tc := ⟨.hbm, 1248, rfl⟩
abbrev main_call2_call3_call0_c_37 : Ref sig .tc := ⟨.hbm, 1249, rfl⟩
abbrev main_call2_call3_call0_v145 : Ref sig .tc := ⟨.hbm, 1250, rfl⟩
abbrev main_call2_call3_call0_v146 : Ref sig .tc := ⟨.hbm, 1251, rfl⟩
abbrev main_call2_call3_call0_v147 : Ref sig .tc := ⟨.hbm, 1252, rfl⟩
abbrev main_call2_call3_call0_v148 : Ref sig .tc := ⟨.hbm, 1253, rfl⟩
abbrev main_call2_call3_call0_v149 : Ref sig .tc := ⟨.hbm, 1254, rfl⟩
abbrev main_call2_call3_call0_c_38 : Ref sig .tc := ⟨.hbm, 1255, rfl⟩
abbrev main_call2_call3_call0_v150 : Ref sig .tc := ⟨.hbm, 1256, rfl⟩
abbrev main_call2_call3_call0_v151 : Ref sig .tc := ⟨.hbm, 1257, rfl⟩
abbrev main_call2_call3_call0_c_39 : Ref sig .tc := ⟨.hbm, 1258, rfl⟩
abbrev main_call2_call3_call0_v152 : Ref sig .tc := ⟨.hbm, 1259, rfl⟩
abbrev main_call2_call3_call0_v153 : Ref sig .tc := ⟨.hbm, 1260, rfl⟩
abbrev main_call2_call3_call0_v154 : Ref sig .tc := ⟨.hbm, 1261, rfl⟩
abbrev main_call2_call3_call0_v155 : Ref sig .tc := ⟨.hbm, 1262, rfl⟩
abbrev main_call2_call3_call0_v156 : Ref sig .tc := ⟨.hbm, 1263, rfl⟩
abbrev main_call2_call3_call0_c_40 : Ref sig .tc := ⟨.hbm, 1264, rfl⟩
abbrev main_call2_call3_call0_v157 : Ref sig .tc := ⟨.hbm, 1265, rfl⟩
abbrev main_call2_call3_call0_v158 : Ref sig .tc := ⟨.hbm, 1266, rfl⟩
abbrev main_call2_call3_call0_c_41 : Ref sig .tc := ⟨.hbm, 1267, rfl⟩
abbrev main_call2_call3_call0_v159 : Ref sig .tc := ⟨.hbm, 1268, rfl⟩
abbrev main_call2_call3_call0_v160 : Ref sig .tc := ⟨.hbm, 1269, rfl⟩
abbrev main_call2_call3_call0_v161 : Ref sig .tc := ⟨.hbm, 1270, rfl⟩
abbrev main_call2_call3_call0_v162 : Ref sig .tc := ⟨.hbm, 1271, rfl⟩
abbrev main_call2_call3_call0_v163 : Ref sig .tc := ⟨.hbm, 1272, rfl⟩
abbrev main_call2_call3_call0_c_42 : Ref sig .tc := ⟨.hbm, 1273, rfl⟩
abbrev main_call2_call3_call0_v164 : Ref sig .tc := ⟨.hbm, 1274, rfl⟩
abbrev main_call2_call3_call0_v165 : Ref sig .tc := ⟨.hbm, 1275, rfl⟩
abbrev main_call2_call3_call0_c_43 : Ref sig .tc := ⟨.hbm, 1276, rfl⟩
abbrev main_call2_call3_call0_v166 : Ref sig .tc := ⟨.hbm, 1277, rfl⟩
abbrev main_call2_call3_call0_v167 : Ref sig .tc := ⟨.hbm, 1278, rfl⟩
abbrev main_call2_call3_call0_v168 : Ref sig .tc := ⟨.hbm, 1279, rfl⟩
abbrev main_call2_call3_call0_v169 : Ref sig .tc := ⟨.hbm, 1280, rfl⟩
abbrev main_call2_call3_call0_v170 : Ref sig .tc := ⟨.hbm, 1281, rfl⟩
abbrev main_call2_call3_v11_0 : Ref sig .tc := ⟨.hbm, 1282, rfl⟩
abbrev main_call2_call3_call0_v172 : Ref sig .tc := ⟨.hbm, 1283, rfl⟩
abbrev main_call2_call3_call0_v173 : Ref sig .tc := ⟨.hbm, 1284, rfl⟩
abbrev main_call2_call3_call0_c_44 : Ref sig .tc := ⟨.hbm, 1285, rfl⟩
abbrev main_call2_call3_call0_v174 : Ref sig .tc := ⟨.hbm, 1286, rfl⟩
abbrev main_call2_call3_v11_1 : Ref sig .tc := ⟨.hbm, 1287, rfl⟩
abbrev main_call2_call3_v12 : Ref sig .tc := ⟨.hbm, 1288, rfl⟩
abbrev main_call2_call3_v13 : Ref sig .tc := ⟨.hbm, 1289, rfl⟩
abbrev main_call2_v8 : Ref sig .tc := ⟨.hbm, 1290, rfl⟩
abbrev main_call2_v9 : Ref sig .tc := ⟨.hbm, 1291, rfl⟩
abbrev main_call2_v10 : Ref sig .tc := ⟨.hbm, 1292, rfl⟩
abbrev main_call2_v11 : Ref sig .tc := ⟨.hbm, 1293, rfl⟩
abbrev main_call2_v12 : Ref sig .tc := ⟨.hbm, 1294, rfl⟩
abbrev main_call2_v13 : Ref sig .tc := ⟨.hbm, 1295, rfl⟩
abbrev main_call2_v14 : Ref sig .tc := ⟨.hbm, 1296, rfl⟩
abbrev main_call2_v15 : Ref sig .tc := ⟨.hbm, 1297, rfl⟩
abbrev main_call2_v16 : Ref sig .tc := ⟨.hbm, 1298, rfl⟩
abbrev main_call2_v17 : Ref sig .tc := ⟨.hbm, 1299, rfl⟩
abbrev main_call2_v18 : Ref sig .tc := ⟨.hbm, 1300, rfl⟩
abbrev main_call2_c_6 : Ref sig .tc := ⟨.hbm, 1301, rfl⟩
abbrev main_call2_v19 : Ref sig .tc := ⟨.hbm, 1302, rfl⟩
abbrev main_call2_v20 : Ref sig .tc := ⟨.hbm, 1303, rfl⟩
abbrev main_call2_c_7 : Ref sig .tc := ⟨.hbm, 1304, rfl⟩
abbrev main_call2_v21 : Ref sig .tc := ⟨.hbm, 1305, rfl⟩
abbrev main_call2_v22 : Ref sig .tc := ⟨.hbm, 1306, rfl⟩
abbrev main_call2_v23 : Ref sig .tc := ⟨.hbm, 1307, rfl⟩
abbrev main_call2_c_8 : Ref sig .tc := ⟨.hbm, 1308, rfl⟩
abbrev main_call2_v24 : Ref sig .tc := ⟨.hbm, 1309, rfl⟩
abbrev main_call2_v25 : Ref sig .tc := ⟨.hbm, 1310, rfl⟩
abbrev main_call2_v26 : Ref sig .tc := ⟨.hbm, 1311, rfl⟩
abbrev main_call2_v27 : Ref sig .tc := ⟨.hbm, 1312, rfl⟩
abbrev main_call2_call4_v0 : Ref sig .tc := ⟨.hbm, 1313, rfl⟩
abbrev main_call2_call4_c : Ref sig .tc := ⟨.hbm, 1314, rfl⟩
abbrev main_call2_call4_v1 : Ref sig .tc := ⟨.hbm, 1315, rfl⟩
abbrev main_call2_call4_v2 : Ref sig .tc := ⟨.hbm, 1316, rfl⟩
abbrev main_call2_call4_v3 : Ref sig .tc := ⟨.hbm, 1317, rfl⟩
abbrev main_call2_call4_v4 : Ref sig .tc := ⟨.hbm, 1318, rfl⟩
abbrev main_call2_call4_v5 : Ref sig .tc := ⟨.hbm, 1319, rfl⟩
abbrev main_call2_call4_v6 : Ref sig .tc := ⟨.hbm, 1320, rfl⟩
abbrev main_call2_call4_c_0 : Ref sig .tc := ⟨.hbm, 1321, rfl⟩
abbrev main_call2_call4_v7 : Ref sig .tc := ⟨.hbm, 1322, rfl⟩
abbrev main_call2_call4_v8 : Ref sig .tc := ⟨.hbm, 1323, rfl⟩
abbrev main_call2_call4_c_1 : Ref sig .tc := ⟨.hbm, 1324, rfl⟩
abbrev main_call2_call4_v9 : Ref sig .tc := ⟨.hbm, 1325, rfl⟩
abbrev main_call2_call4_v10 : Ref sig .tc := ⟨.hbm, 1326, rfl⟩
abbrev main_call2_call4_v11 : Ref sig .tc := ⟨.hbm, 1327, rfl⟩
abbrev main_call2_call4_v12 : Ref sig .tc := ⟨.hbm, 1328, rfl⟩
abbrev main_call2_call4_v13 : Ref sig .tc := ⟨.hbm, 1329, rfl⟩
abbrev main_call2_call4_c_2 : Ref sig .tc := ⟨.hbm, 1330, rfl⟩
abbrev main_call2_call4_v14 : Ref sig .tc := ⟨.hbm, 1331, rfl⟩
abbrev main_call2_call4_v15 : Ref sig .tc := ⟨.hbm, 1332, rfl⟩
abbrev main_call2_call4_c_3 : Ref sig .tc := ⟨.hbm, 1333, rfl⟩
abbrev main_call2_call4_v16 : Ref sig .tc := ⟨.hbm, 1334, rfl⟩
abbrev main_call2_call4_v17 : Ref sig .tc := ⟨.hbm, 1335, rfl⟩
abbrev main_call2_call4_v18 : Ref sig .tc := ⟨.hbm, 1336, rfl⟩
abbrev main_call2_call4_v19 : Ref sig .tc := ⟨.hbm, 1337, rfl⟩
abbrev main_call2_call4_v20 : Ref sig .tc := ⟨.hbm, 1338, rfl⟩
abbrev main_call2_call4_c_4 : Ref sig .tc := ⟨.hbm, 1339, rfl⟩
abbrev main_call2_call4_v21 : Ref sig .tc := ⟨.hbm, 1340, rfl⟩
abbrev main_call2_call4_v22 : Ref sig .tc := ⟨.hbm, 1341, rfl⟩
abbrev main_call2_call4_c_5 : Ref sig .tc := ⟨.hbm, 1342, rfl⟩
abbrev main_call2_call4_v23 : Ref sig .tc := ⟨.hbm, 1343, rfl⟩
abbrev main_call2_call4_v24 : Ref sig .tc := ⟨.hbm, 1344, rfl⟩
abbrev main_call2_call4_v25 : Ref sig .tc := ⟨.hbm, 1345, rfl⟩
abbrev main_call2_call4_v26 : Ref sig .tc := ⟨.hbm, 1346, rfl⟩
abbrev main_call2_call4_v27 : Ref sig .tc := ⟨.hbm, 1347, rfl⟩
abbrev main_call2_call4_c_6 : Ref sig .tc := ⟨.hbm, 1348, rfl⟩
abbrev main_call2_call4_v28 : Ref sig .tc := ⟨.hbm, 1349, rfl⟩
abbrev main_call2_call4_v29 : Ref sig .tc := ⟨.hbm, 1350, rfl⟩
abbrev main_call2_call4_c_7 : Ref sig .tc := ⟨.hbm, 1351, rfl⟩
abbrev main_call2_call4_v30 : Ref sig .tc := ⟨.hbm, 1352, rfl⟩
abbrev main_call2_call4_v31 : Ref sig .tc := ⟨.hbm, 1353, rfl⟩
abbrev main_call2_call4_v32 : Ref sig .tc := ⟨.hbm, 1354, rfl⟩
abbrev main_call2_call4_v33 : Ref sig .tc := ⟨.hbm, 1355, rfl⟩
abbrev main_call2_call4_v34 : Ref sig .tc := ⟨.hbm, 1356, rfl⟩
abbrev main_call2_call4_v35 : Ref sig .tc := ⟨.hbm, 1357, rfl⟩
abbrev main_call2_call4_v36 : Ref sig .tc := ⟨.hbm, 1358, rfl⟩
abbrev main_call2_call4_v37 : Ref sig .tc := ⟨.hbm, 1359, rfl⟩
abbrev main_call2_call4_c_8 : Ref sig .tc := ⟨.hbm, 1360, rfl⟩
abbrev main_call2_call4_v38 : Ref sig .tc := ⟨.hbm, 1361, rfl⟩
abbrev main_call2_call4_v39 : Ref sig .tc := ⟨.hbm, 1362, rfl⟩
abbrev main_call2_call4_v40 : Ref sig .tc := ⟨.hbm, 1363, rfl⟩
abbrev main_call2_call4_c_9 : Ref sig .tc := ⟨.hbm, 1364, rfl⟩
abbrev main_call2_call4_v41 : Ref sig .tc := ⟨.hbm, 1365, rfl⟩
abbrev main_call2_call4_v42 : Ref sig .tc := ⟨.hbm, 1366, rfl⟩
abbrev main_call2_call4_c_10 : Ref sig .tc := ⟨.hbm, 1367, rfl⟩
abbrev main_call2_call4_v43 : Ref sig .tc := ⟨.hbm, 1368, rfl⟩
abbrev main_call2_call4_v44 : Ref sig .tc := ⟨.hbm, 1369, rfl⟩
abbrev main_call2_call4_v45 : Ref sig .tc := ⟨.hbm, 1370, rfl⟩
abbrev main_call2_call4_v46 : Ref sig .tc := ⟨.hbm, 1371, rfl⟩
abbrev main_call2_call4_v47 : Ref sig .tc := ⟨.hbm, 1372, rfl⟩
abbrev main_call2_call4_c_11 : Ref sig .tc := ⟨.hbm, 1373, rfl⟩
abbrev main_call2_call4_v48 : Ref sig .tc := ⟨.hbm, 1374, rfl⟩
abbrev main_call2_call4_v49 : Ref sig .tc := ⟨.hbm, 1375, rfl⟩
abbrev main_call2_call4_c_12 : Ref sig .tc := ⟨.hbm, 1376, rfl⟩
abbrev main_call2_call4_v50 : Ref sig .tc := ⟨.hbm, 1377, rfl⟩
abbrev main_call2_call4_v51 : Ref sig .tc := ⟨.hbm, 1378, rfl⟩
abbrev main_call2_call4_v52 : Ref sig .tc := ⟨.hbm, 1379, rfl⟩
abbrev main_call2_call4_v53 : Ref sig .tc := ⟨.hbm, 1380, rfl⟩
abbrev main_call2_call4_v54 : Ref sig .tc := ⟨.hbm, 1381, rfl⟩
abbrev main_call2_call4_c_13 : Ref sig .tc := ⟨.hbm, 1382, rfl⟩
abbrev main_call2_call4_v55 : Ref sig .tc := ⟨.hbm, 1383, rfl⟩
abbrev main_call2_call4_v56 : Ref sig .tc := ⟨.hbm, 1384, rfl⟩
abbrev main_call2_call4_c_14 : Ref sig .tc := ⟨.hbm, 1385, rfl⟩
abbrev main_call2_call4_v57 : Ref sig .tc := ⟨.hbm, 1386, rfl⟩
abbrev main_call2_call4_v58 : Ref sig .tc := ⟨.hbm, 1387, rfl⟩
abbrev main_call2_call4_v59 : Ref sig .tc := ⟨.hbm, 1388, rfl⟩
abbrev main_call2_call4_v60 : Ref sig .tc := ⟨.hbm, 1389, rfl⟩
abbrev main_call2_call4_v61 : Ref sig .tc := ⟨.hbm, 1390, rfl⟩
abbrev main_call2_call4_c_15 : Ref sig .tc := ⟨.hbm, 1391, rfl⟩
abbrev main_call2_call4_v62 : Ref sig .tc := ⟨.hbm, 1392, rfl⟩
abbrev main_call2_call4_v63 : Ref sig .tc := ⟨.hbm, 1393, rfl⟩
abbrev main_call2_call4_c_16 : Ref sig .tc := ⟨.hbm, 1394, rfl⟩
abbrev main_call2_call4_v64 : Ref sig .tc := ⟨.hbm, 1395, rfl⟩
abbrev main_call2_call4_v65 : Ref sig .tc := ⟨.hbm, 1396, rfl⟩
abbrev main_call2_call4_v66 : Ref sig .tc := ⟨.hbm, 1397, rfl⟩
abbrev main_call2_call4_v67 : Ref sig .tc := ⟨.hbm, 1398, rfl⟩
abbrev main_call2_call4_v68 : Ref sig .tc := ⟨.hbm, 1399, rfl⟩
abbrev main_call2_call4_v69 : Ref sig .tc := ⟨.hbm, 1400, rfl⟩
abbrev main_call2_call4_v70 : Ref sig .tc := ⟨.hbm, 1401, rfl⟩
abbrev main_call2_call4_v71 : Ref sig .tc := ⟨.hbm, 1402, rfl⟩
abbrev main_call2_call4_c_17 : Ref sig .tc := ⟨.hbm, 1403, rfl⟩
abbrev main_call2_call4_v72 : Ref sig .tc := ⟨.hbm, 1404, rfl⟩
abbrev main_call2_call4_v73 : Ref sig .tc := ⟨.hbm, 1405, rfl⟩
abbrev main_call2_call4_v74 : Ref sig .tc := ⟨.hbm, 1406, rfl⟩
abbrev main_call2_call4_c_18 : Ref sig .tc := ⟨.hbm, 1407, rfl⟩
abbrev main_call2_call4_v75 : Ref sig .tc := ⟨.hbm, 1408, rfl⟩
abbrev main_call2_call4_v76 : Ref sig .tc := ⟨.hbm, 1409, rfl⟩
abbrev main_call2_call4_c_19 : Ref sig .tc := ⟨.hbm, 1410, rfl⟩
abbrev main_call2_call4_v77 : Ref sig .tc := ⟨.hbm, 1411, rfl⟩
abbrev main_call2_call4_v78 : Ref sig .tc := ⟨.hbm, 1412, rfl⟩
abbrev main_call2_call4_v79 : Ref sig .tc := ⟨.hbm, 1413, rfl⟩
abbrev main_call2_call4_v80 : Ref sig .tc := ⟨.hbm, 1414, rfl⟩
abbrev main_call2_call4_v81 : Ref sig .tc := ⟨.hbm, 1415, rfl⟩
abbrev main_call2_call4_c_20 : Ref sig .tc := ⟨.hbm, 1416, rfl⟩
abbrev main_call2_call4_v82 : Ref sig .tc := ⟨.hbm, 1417, rfl⟩
abbrev main_call2_call4_v83 : Ref sig .tc := ⟨.hbm, 1418, rfl⟩
abbrev main_call2_call4_c_21 : Ref sig .tc := ⟨.hbm, 1419, rfl⟩
abbrev main_call2_call4_v84 : Ref sig .tc := ⟨.hbm, 1420, rfl⟩
abbrev main_call2_call4_v85 : Ref sig .tc := ⟨.hbm, 1421, rfl⟩
abbrev main_call2_call4_v86 : Ref sig .tc := ⟨.hbm, 1422, rfl⟩
abbrev main_call2_call4_v87 : Ref sig .tc := ⟨.hbm, 1423, rfl⟩
abbrev main_call2_call4_v88 : Ref sig .tc := ⟨.hbm, 1424, rfl⟩
abbrev main_call2_call4_c_22 : Ref sig .tc := ⟨.hbm, 1425, rfl⟩
abbrev main_call2_call4_v89 : Ref sig .tc := ⟨.hbm, 1426, rfl⟩
abbrev main_call2_call4_v90 : Ref sig .tc := ⟨.hbm, 1427, rfl⟩
abbrev main_call2_call4_c_23 : Ref sig .tc := ⟨.hbm, 1428, rfl⟩
abbrev main_call2_call4_v91 : Ref sig .tc := ⟨.hbm, 1429, rfl⟩
abbrev main_call2_call4_v92 : Ref sig .tc := ⟨.hbm, 1430, rfl⟩
abbrev main_call2_call4_v93 : Ref sig .tc := ⟨.hbm, 1431, rfl⟩
abbrev main_call2_call4_v94 : Ref sig .tc := ⟨.hbm, 1432, rfl⟩
abbrev main_call2_call4_v95 : Ref sig .tc := ⟨.hbm, 1433, rfl⟩
abbrev main_call2_call4_c_24 : Ref sig .tc := ⟨.hbm, 1434, rfl⟩
abbrev main_call2_call4_v96 : Ref sig .tc := ⟨.hbm, 1435, rfl⟩
abbrev main_call2_call4_v97 : Ref sig .tc := ⟨.hbm, 1436, rfl⟩
abbrev main_call2_call4_c_25 : Ref sig .tc := ⟨.hbm, 1437, rfl⟩
abbrev main_call2_call4_v98 : Ref sig .tc := ⟨.hbm, 1438, rfl⟩
abbrev main_call2_call4_v99 : Ref sig .tc := ⟨.hbm, 1439, rfl⟩
abbrev main_call2_call4_v100 : Ref sig .tc := ⟨.hbm, 1440, rfl⟩
abbrev main_call2_call4_v101 : Ref sig .tc := ⟨.hbm, 1441, rfl⟩
abbrev main_call2_call4_v102 : Ref sig .tc := ⟨.hbm, 1442, rfl⟩
abbrev main_call2_call4_v103 : Ref sig .tc := ⟨.hbm, 1443, rfl⟩
abbrev main_call2_call4_v104 : Ref sig .tc := ⟨.hbm, 1444, rfl⟩
abbrev main_call2_call4_v105 : Ref sig .tc := ⟨.hbm, 1445, rfl⟩
abbrev main_call2_call4_c_26 : Ref sig .tc := ⟨.hbm, 1446, rfl⟩
abbrev main_call2_call4_v106 : Ref sig .tc := ⟨.hbm, 1447, rfl⟩
abbrev main_call2_call4_v107 : Ref sig .tc := ⟨.hbm, 1448, rfl⟩
abbrev main_call2_call4_v108 : Ref sig .tc := ⟨.hbm, 1449, rfl⟩
abbrev main_call2_call4_c_27 : Ref sig .tc := ⟨.hbm, 1450, rfl⟩
abbrev main_call2_call4_v109 : Ref sig .tc := ⟨.hbm, 1451, rfl⟩
abbrev main_call2_call4_v110 : Ref sig .tc := ⟨.hbm, 1452, rfl⟩
abbrev main_call2_call4_c_28 : Ref sig .tc := ⟨.hbm, 1453, rfl⟩
abbrev main_call2_call4_v111 : Ref sig .tc := ⟨.hbm, 1454, rfl⟩
abbrev main_call2_call4_v112 : Ref sig .tc := ⟨.hbm, 1455, rfl⟩
abbrev main_call2_call4_v113 : Ref sig .tc := ⟨.hbm, 1456, rfl⟩
abbrev main_call2_call4_v114 : Ref sig .tc := ⟨.hbm, 1457, rfl⟩
abbrev main_call2_call4_v115 : Ref sig .tc := ⟨.hbm, 1458, rfl⟩
abbrev main_call2_call4_c_29 : Ref sig .tc := ⟨.hbm, 1459, rfl⟩
abbrev main_call2_call4_v116 : Ref sig .tc := ⟨.hbm, 1460, rfl⟩
abbrev main_call2_call4_v117 : Ref sig .tc := ⟨.hbm, 1461, rfl⟩
abbrev main_call2_call4_c_30 : Ref sig .tc := ⟨.hbm, 1462, rfl⟩
abbrev main_call2_call4_v118 : Ref sig .tc := ⟨.hbm, 1463, rfl⟩
abbrev main_call2_call4_v119 : Ref sig .tc := ⟨.hbm, 1464, rfl⟩
abbrev main_call2_call4_v120 : Ref sig .tc := ⟨.hbm, 1465, rfl⟩
abbrev main_call2_call4_v121 : Ref sig .tc := ⟨.hbm, 1466, rfl⟩
abbrev main_call2_call4_v122 : Ref sig .tc := ⟨.hbm, 1467, rfl⟩
abbrev main_call2_call4_c_31 : Ref sig .tc := ⟨.hbm, 1468, rfl⟩
abbrev main_call2_call4_v123 : Ref sig .tc := ⟨.hbm, 1469, rfl⟩
abbrev main_call2_call4_v124 : Ref sig .tc := ⟨.hbm, 1470, rfl⟩
abbrev main_call2_call4_c_32 : Ref sig .tc := ⟨.hbm, 1471, rfl⟩
abbrev main_call2_call4_v125 : Ref sig .tc := ⟨.hbm, 1472, rfl⟩
abbrev main_call2_call4_v126 : Ref sig .tc := ⟨.hbm, 1473, rfl⟩
abbrev main_call2_call4_v127 : Ref sig .tc := ⟨.hbm, 1474, rfl⟩
abbrev main_call2_call4_v128 : Ref sig .tc := ⟨.hbm, 1475, rfl⟩
abbrev main_call2_call4_v129 : Ref sig .tc := ⟨.hbm, 1476, rfl⟩
abbrev main_call2_call4_c_33 : Ref sig .tc := ⟨.hbm, 1477, rfl⟩
abbrev main_call2_call4_v130 : Ref sig .tc := ⟨.hbm, 1478, rfl⟩
abbrev main_call2_call4_v131 : Ref sig .tc := ⟨.hbm, 1479, rfl⟩
abbrev main_call2_call4_c_34 : Ref sig .tc := ⟨.hbm, 1480, rfl⟩
abbrev main_call2_call4_v132 : Ref sig .tc := ⟨.hbm, 1481, rfl⟩
abbrev main_call2_call4_v133 : Ref sig .tc := ⟨.hbm, 1482, rfl⟩
abbrev main_call2_call4_v134 : Ref sig .tc := ⟨.hbm, 1483, rfl⟩
abbrev main_call2_call4_v135 : Ref sig .tc := ⟨.hbm, 1484, rfl⟩
abbrev main_call2_call4_v136 : Ref sig .tc := ⟨.hbm, 1485, rfl⟩
abbrev main_call2_call4_v137 : Ref sig .tc := ⟨.hbm, 1486, rfl⟩
abbrev main_call2_call4_v138 : Ref sig .tc := ⟨.hbm, 1487, rfl⟩
abbrev main_call2_call4_v139 : Ref sig .tc := ⟨.hbm, 1488, rfl⟩
abbrev main_call2_call4_c_35 : Ref sig .tc := ⟨.hbm, 1489, rfl⟩
abbrev main_call2_call4_v140 : Ref sig .tc := ⟨.hbm, 1490, rfl⟩
abbrev main_call2_call4_v141 : Ref sig .tc := ⟨.hbm, 1491, rfl⟩
abbrev main_call2_call4_v142 : Ref sig .tc := ⟨.hbm, 1492, rfl⟩
abbrev main_call2_call4_c_36 : Ref sig .tc := ⟨.hbm, 1493, rfl⟩
abbrev main_call2_call4_v143 : Ref sig .tc := ⟨.hbm, 1494, rfl⟩
abbrev main_call2_call4_v144 : Ref sig .tc := ⟨.hbm, 1495, rfl⟩
abbrev main_call2_call4_c_37 : Ref sig .tc := ⟨.hbm, 1496, rfl⟩
abbrev main_call2_call4_v145 : Ref sig .tc := ⟨.hbm, 1497, rfl⟩
abbrev main_call2_call4_v146 : Ref sig .tc := ⟨.hbm, 1498, rfl⟩
abbrev main_call2_call4_v147 : Ref sig .tc := ⟨.hbm, 1499, rfl⟩
abbrev main_call2_call4_v148 : Ref sig .tc := ⟨.hbm, 1500, rfl⟩
abbrev main_call2_call4_v149 : Ref sig .tc := ⟨.hbm, 1501, rfl⟩
abbrev main_call2_call4_c_38 : Ref sig .tc := ⟨.hbm, 1502, rfl⟩
abbrev main_call2_call4_v150 : Ref sig .tc := ⟨.hbm, 1503, rfl⟩
abbrev main_call2_call4_v151 : Ref sig .tc := ⟨.hbm, 1504, rfl⟩
abbrev main_call2_call4_c_39 : Ref sig .tc := ⟨.hbm, 1505, rfl⟩
abbrev main_call2_call4_v152 : Ref sig .tc := ⟨.hbm, 1506, rfl⟩
abbrev main_call2_call4_v153 : Ref sig .tc := ⟨.hbm, 1507, rfl⟩
abbrev main_call2_call4_v154 : Ref sig .tc := ⟨.hbm, 1508, rfl⟩
abbrev main_call2_call4_v155 : Ref sig .tc := ⟨.hbm, 1509, rfl⟩
abbrev main_call2_call4_v156 : Ref sig .tc := ⟨.hbm, 1510, rfl⟩
abbrev main_call2_call4_c_40 : Ref sig .tc := ⟨.hbm, 1511, rfl⟩
abbrev main_call2_call4_v157 : Ref sig .tc := ⟨.hbm, 1512, rfl⟩
abbrev main_call2_call4_v158 : Ref sig .tc := ⟨.hbm, 1513, rfl⟩
abbrev main_call2_call4_c_41 : Ref sig .tc := ⟨.hbm, 1514, rfl⟩
abbrev main_call2_call4_v159 : Ref sig .tc := ⟨.hbm, 1515, rfl⟩
abbrev main_call2_call4_v160 : Ref sig .tc := ⟨.hbm, 1516, rfl⟩
abbrev main_call2_call4_v161 : Ref sig .tc := ⟨.hbm, 1517, rfl⟩
abbrev main_call2_call4_v162 : Ref sig .tc := ⟨.hbm, 1518, rfl⟩
abbrev main_call2_call4_v163 : Ref sig .tc := ⟨.hbm, 1519, rfl⟩
abbrev main_call2_call4_c_42 : Ref sig .tc := ⟨.hbm, 1520, rfl⟩
abbrev main_call2_call4_v164 : Ref sig .tc := ⟨.hbm, 1521, rfl⟩
abbrev main_call2_call4_v165 : Ref sig .tc := ⟨.hbm, 1522, rfl⟩
abbrev main_call2_call4_c_43 : Ref sig .tc := ⟨.hbm, 1523, rfl⟩
abbrev main_call2_call4_v166 : Ref sig .tc := ⟨.hbm, 1524, rfl⟩
abbrev main_call2_call4_v167 : Ref sig .tc := ⟨.hbm, 1525, rfl⟩
abbrev main_call2_call4_v168 : Ref sig .tc := ⟨.hbm, 1526, rfl⟩
abbrev main_call2_call4_v169 : Ref sig .tc := ⟨.hbm, 1527, rfl⟩
abbrev main_call2_call4_v170 : Ref sig .tc := ⟨.hbm, 1528, rfl⟩
abbrev main_call2_v28_0 : Ref sig .tc := ⟨.hbm, 1529, rfl⟩
abbrev main_call2_call4_v172 : Ref sig .tc := ⟨.hbm, 1530, rfl⟩
abbrev main_call2_call4_v173 : Ref sig .tc := ⟨.hbm, 1531, rfl⟩
abbrev main_call2_call4_c_44 : Ref sig .tc := ⟨.hbm, 1532, rfl⟩
abbrev main_call2_call4_v174 : Ref sig .tc := ⟨.hbm, 1533, rfl⟩
abbrev main_call2_v28_1 : Ref sig .tc := ⟨.hbm, 1534, rfl⟩
abbrev main_call2_v29 : Ref sig .tc := ⟨.hbm, 1535, rfl⟩
abbrev main_call2_v30 : Ref sig .tc := ⟨.hbm, 1536, rfl⟩
abbrev main_call2_v31 : Ref sig .tc := ⟨.hbm, 1537, rfl⟩
abbrev main_call2_v32 : Ref sig .tc := ⟨.hbm, 1538, rfl⟩
abbrev main_call2_v33 : Ref sig .tc := ⟨.hbm, 1539, rfl⟩
abbrev main_call2_v34 : Ref sig .tc := ⟨.hbm, 1540, rfl⟩
abbrev main_call2_v35 : Ref sig .tc := ⟨.hbm, 1541, rfl⟩
abbrev main_call2_c_9 : Ref sig .tc := ⟨.hbm, 1542, rfl⟩
abbrev main_call2_v36 : Ref sig .tc := ⟨.hbm, 1543, rfl⟩
abbrev main_call2_v37 : Ref sig .tc := ⟨.hbm, 1544, rfl⟩
abbrev main_call2_c_10 : Ref sig .tc := ⟨.hbm, 1545, rfl⟩
abbrev main_call2_v38 : Ref sig .tc := ⟨.hbm, 1546, rfl⟩
abbrev main_call2_v39 : Ref sig .tc := ⟨.hbm, 1547, rfl⟩
abbrev main_call2_v40 : Ref sig .tc := ⟨.hbm, 1548, rfl⟩
abbrev main_call2_c_11 : Ref sig .tc := ⟨.hbm, 1549, rfl⟩
abbrev main_call2_v41 : Ref sig .tc := ⟨.hbm, 1550, rfl⟩
abbrev main_call2_v42 : Ref sig .tc := ⟨.hbm, 1551, rfl⟩
abbrev main_call2_v43 : Ref sig .tc := ⟨.hbm, 1552, rfl⟩
abbrev main_call2_v44 : Ref sig .tc := ⟨.hbm, 1553, rfl⟩
abbrev main_call2_call5_v0 : Ref sig .tc := ⟨.hbm, 1554, rfl⟩
abbrev main_call2_call5_c : Ref sig .tc := ⟨.hbm, 1555, rfl⟩
abbrev main_call2_call5_v1 : Ref sig .tc := ⟨.hbm, 1556, rfl⟩
abbrev main_call2_call5_v2 : Ref sig .tc := ⟨.hbm, 1557, rfl⟩
abbrev main_call2_call5_v3 : Ref sig .tc := ⟨.hbm, 1558, rfl⟩
abbrev main_call2_call5_v4 : Ref sig .tc := ⟨.hbm, 1559, rfl⟩
abbrev main_call2_call5_v5 : Ref sig .tc := ⟨.hbm, 1560, rfl⟩
abbrev main_call2_call5_v6 : Ref sig .tc := ⟨.hbm, 1561, rfl⟩
abbrev main_call2_call5_c_0 : Ref sig .tc := ⟨.hbm, 1562, rfl⟩
abbrev main_call2_call5_v7 : Ref sig .tc := ⟨.hbm, 1563, rfl⟩
abbrev main_call2_call5_v8 : Ref sig .tc := ⟨.hbm, 1564, rfl⟩
abbrev main_call2_call5_c_1 : Ref sig .tc := ⟨.hbm, 1565, rfl⟩
abbrev main_call2_call5_v9 : Ref sig .tc := ⟨.hbm, 1566, rfl⟩
abbrev main_call2_call5_v10 : Ref sig .tc := ⟨.hbm, 1567, rfl⟩
abbrev main_call2_call5_v11 : Ref sig .tc := ⟨.hbm, 1568, rfl⟩
abbrev main_call2_call5_v12 : Ref sig .tc := ⟨.hbm, 1569, rfl⟩
abbrev main_call2_call5_v13 : Ref sig .tc := ⟨.hbm, 1570, rfl⟩
abbrev main_call2_call5_c_2 : Ref sig .tc := ⟨.hbm, 1571, rfl⟩
abbrev main_call2_call5_v14 : Ref sig .tc := ⟨.hbm, 1572, rfl⟩
abbrev main_call2_call5_v15 : Ref sig .tc := ⟨.hbm, 1573, rfl⟩
abbrev main_call2_call5_c_3 : Ref sig .tc := ⟨.hbm, 1574, rfl⟩
abbrev main_call2_call5_v16 : Ref sig .tc := ⟨.hbm, 1575, rfl⟩
abbrev main_call2_call5_v17 : Ref sig .tc := ⟨.hbm, 1576, rfl⟩
abbrev main_call2_call5_v18 : Ref sig .tc := ⟨.hbm, 1577, rfl⟩
abbrev main_call2_call5_v19 : Ref sig .tc := ⟨.hbm, 1578, rfl⟩
abbrev main_call2_call5_v20 : Ref sig .tc := ⟨.hbm, 1579, rfl⟩
abbrev main_call2_call5_c_4 : Ref sig .tc := ⟨.hbm, 1580, rfl⟩
abbrev main_call2_call5_v21 : Ref sig .tc := ⟨.hbm, 1581, rfl⟩
abbrev main_call2_call5_v22 : Ref sig .tc := ⟨.hbm, 1582, rfl⟩
abbrev main_call2_call5_c_5 : Ref sig .tc := ⟨.hbm, 1583, rfl⟩
abbrev main_call2_call5_v23 : Ref sig .tc := ⟨.hbm, 1584, rfl⟩
abbrev main_call2_call5_v24 : Ref sig .tc := ⟨.hbm, 1585, rfl⟩
abbrev main_call2_call5_v25 : Ref sig .tc := ⟨.hbm, 1586, rfl⟩
abbrev main_call2_call5_v26 : Ref sig .tc := ⟨.hbm, 1587, rfl⟩
abbrev main_call2_call5_v27 : Ref sig .tc := ⟨.hbm, 1588, rfl⟩
abbrev main_call2_call5_c_6 : Ref sig .tc := ⟨.hbm, 1589, rfl⟩
abbrev main_call2_call5_v28 : Ref sig .tc := ⟨.hbm, 1590, rfl⟩
abbrev main_call2_call5_v29 : Ref sig .tc := ⟨.hbm, 1591, rfl⟩
abbrev main_call2_call5_c_7 : Ref sig .tc := ⟨.hbm, 1592, rfl⟩
abbrev main_call2_call5_v30 : Ref sig .tc := ⟨.hbm, 1593, rfl⟩
abbrev main_call2_call5_v31 : Ref sig .tc := ⟨.hbm, 1594, rfl⟩
abbrev main_call2_call5_v32 : Ref sig .tc := ⟨.hbm, 1595, rfl⟩
abbrev main_call2_call5_v33 : Ref sig .tc := ⟨.hbm, 1596, rfl⟩
abbrev main_call2_call5_v34 : Ref sig .tc := ⟨.hbm, 1597, rfl⟩
abbrev main_call2_call5_v35 : Ref sig .tc := ⟨.hbm, 1598, rfl⟩
abbrev main_call2_call5_v36 : Ref sig .tc := ⟨.hbm, 1599, rfl⟩
abbrev main_call2_call5_v37 : Ref sig .tc := ⟨.hbm, 1600, rfl⟩
abbrev main_call2_call5_c_8 : Ref sig .tc := ⟨.hbm, 1601, rfl⟩
abbrev main_call2_call5_v38 : Ref sig .tc := ⟨.hbm, 1602, rfl⟩
abbrev main_call2_call5_v39 : Ref sig .tc := ⟨.hbm, 1603, rfl⟩
abbrev main_call2_call5_v40 : Ref sig .tc := ⟨.hbm, 1604, rfl⟩
abbrev main_call2_call5_c_9 : Ref sig .tc := ⟨.hbm, 1605, rfl⟩
abbrev main_call2_call5_v41 : Ref sig .tc := ⟨.hbm, 1606, rfl⟩
abbrev main_call2_call5_v42 : Ref sig .tc := ⟨.hbm, 1607, rfl⟩
abbrev main_call2_call5_c_10 : Ref sig .tc := ⟨.hbm, 1608, rfl⟩
abbrev main_call2_call5_v43 : Ref sig .tc := ⟨.hbm, 1609, rfl⟩
abbrev main_call2_call5_v44 : Ref sig .tc := ⟨.hbm, 1610, rfl⟩
abbrev main_call2_call5_v45 : Ref sig .tc := ⟨.hbm, 1611, rfl⟩
abbrev main_call2_call5_v46 : Ref sig .tc := ⟨.hbm, 1612, rfl⟩
abbrev main_call2_call5_v47 : Ref sig .tc := ⟨.hbm, 1613, rfl⟩
abbrev main_call2_call5_c_11 : Ref sig .tc := ⟨.hbm, 1614, rfl⟩
abbrev main_call2_call5_v48 : Ref sig .tc := ⟨.hbm, 1615, rfl⟩
abbrev main_call2_call5_v49 : Ref sig .tc := ⟨.hbm, 1616, rfl⟩
abbrev main_call2_call5_c_12 : Ref sig .tc := ⟨.hbm, 1617, rfl⟩
abbrev main_call2_call5_v50 : Ref sig .tc := ⟨.hbm, 1618, rfl⟩
abbrev main_call2_call5_v51 : Ref sig .tc := ⟨.hbm, 1619, rfl⟩
abbrev main_call2_call5_v52 : Ref sig .tc := ⟨.hbm, 1620, rfl⟩
abbrev main_call2_call5_v53 : Ref sig .tc := ⟨.hbm, 1621, rfl⟩
abbrev main_call2_call5_v54 : Ref sig .tc := ⟨.hbm, 1622, rfl⟩
abbrev main_call2_call5_c_13 : Ref sig .tc := ⟨.hbm, 1623, rfl⟩
abbrev main_call2_call5_v55 : Ref sig .tc := ⟨.hbm, 1624, rfl⟩
abbrev main_call2_call5_v56 : Ref sig .tc := ⟨.hbm, 1625, rfl⟩
abbrev main_call2_call5_c_14 : Ref sig .tc := ⟨.hbm, 1626, rfl⟩
abbrev main_call2_call5_v57 : Ref sig .tc := ⟨.hbm, 1627, rfl⟩
abbrev main_call2_call5_v58 : Ref sig .tc := ⟨.hbm, 1628, rfl⟩
abbrev main_call2_call5_v59 : Ref sig .tc := ⟨.hbm, 1629, rfl⟩
abbrev main_call2_call5_v60 : Ref sig .tc := ⟨.hbm, 1630, rfl⟩
abbrev main_call2_call5_v61 : Ref sig .tc := ⟨.hbm, 1631, rfl⟩
abbrev main_call2_call5_c_15 : Ref sig .tc := ⟨.hbm, 1632, rfl⟩
abbrev main_call2_call5_v62 : Ref sig .tc := ⟨.hbm, 1633, rfl⟩
abbrev main_call2_call5_v63 : Ref sig .tc := ⟨.hbm, 1634, rfl⟩
abbrev main_call2_call5_c_16 : Ref sig .tc := ⟨.hbm, 1635, rfl⟩
abbrev main_call2_call5_v64 : Ref sig .tc := ⟨.hbm, 1636, rfl⟩
abbrev main_call2_call5_v65 : Ref sig .tc := ⟨.hbm, 1637, rfl⟩
abbrev main_call2_call5_v66 : Ref sig .tc := ⟨.hbm, 1638, rfl⟩
abbrev main_call2_call5_v67 : Ref sig .tc := ⟨.hbm, 1639, rfl⟩
abbrev main_call2_call5_v68 : Ref sig .tc := ⟨.hbm, 1640, rfl⟩
abbrev main_call2_call5_v69 : Ref sig .tc := ⟨.hbm, 1641, rfl⟩
abbrev main_call2_call5_v70 : Ref sig .tc := ⟨.hbm, 1642, rfl⟩
abbrev main_call2_call5_v71 : Ref sig .tc := ⟨.hbm, 1643, rfl⟩
abbrev main_call2_call5_c_17 : Ref sig .tc := ⟨.hbm, 1644, rfl⟩
abbrev main_call2_call5_v72 : Ref sig .tc := ⟨.hbm, 1645, rfl⟩
abbrev main_call2_call5_v73 : Ref sig .tc := ⟨.hbm, 1646, rfl⟩
abbrev main_call2_call5_v74 : Ref sig .tc := ⟨.hbm, 1647, rfl⟩
abbrev main_call2_call5_c_18 : Ref sig .tc := ⟨.hbm, 1648, rfl⟩
abbrev main_call2_call5_v75 : Ref sig .tc := ⟨.hbm, 1649, rfl⟩
abbrev main_call2_call5_v76 : Ref sig .tc := ⟨.hbm, 1650, rfl⟩
abbrev main_call2_call5_c_19 : Ref sig .tc := ⟨.hbm, 1651, rfl⟩
abbrev main_call2_call5_v77 : Ref sig .tc := ⟨.hbm, 1652, rfl⟩
abbrev main_call2_call5_v78 : Ref sig .tc := ⟨.hbm, 1653, rfl⟩
abbrev main_call2_call5_v79 : Ref sig .tc := ⟨.hbm, 1654, rfl⟩
abbrev main_call2_call5_v80 : Ref sig .tc := ⟨.hbm, 1655, rfl⟩
abbrev main_call2_call5_v81 : Ref sig .tc := ⟨.hbm, 1656, rfl⟩
abbrev main_call2_call5_c_20 : Ref sig .tc := ⟨.hbm, 1657, rfl⟩
abbrev main_call2_call5_v82 : Ref sig .tc := ⟨.hbm, 1658, rfl⟩
abbrev main_call2_call5_v83 : Ref sig .tc := ⟨.hbm, 1659, rfl⟩
abbrev main_call2_call5_c_21 : Ref sig .tc := ⟨.hbm, 1660, rfl⟩
abbrev main_call2_call5_v84 : Ref sig .tc := ⟨.hbm, 1661, rfl⟩
abbrev main_call2_call5_v85 : Ref sig .tc := ⟨.hbm, 1662, rfl⟩
abbrev main_call2_call5_v86 : Ref sig .tc := ⟨.hbm, 1663, rfl⟩
abbrev main_call2_call5_v87 : Ref sig .tc := ⟨.hbm, 1664, rfl⟩
abbrev main_call2_call5_v88 : Ref sig .tc := ⟨.hbm, 1665, rfl⟩
abbrev main_call2_call5_c_22 : Ref sig .tc := ⟨.hbm, 1666, rfl⟩
abbrev main_call2_call5_v89 : Ref sig .tc := ⟨.hbm, 1667, rfl⟩
abbrev main_call2_call5_v90 : Ref sig .tc := ⟨.hbm, 1668, rfl⟩
abbrev main_call2_call5_c_23 : Ref sig .tc := ⟨.hbm, 1669, rfl⟩
abbrev main_call2_call5_v91 : Ref sig .tc := ⟨.hbm, 1670, rfl⟩
abbrev main_call2_call5_v92 : Ref sig .tc := ⟨.hbm, 1671, rfl⟩
abbrev main_call2_call5_v93 : Ref sig .tc := ⟨.hbm, 1672, rfl⟩
abbrev main_call2_call5_v94 : Ref sig .tc := ⟨.hbm, 1673, rfl⟩
abbrev main_call2_call5_v95 : Ref sig .tc := ⟨.hbm, 1674, rfl⟩
abbrev main_call2_call5_c_24 : Ref sig .tc := ⟨.hbm, 1675, rfl⟩
abbrev main_call2_call5_v96 : Ref sig .tc := ⟨.hbm, 1676, rfl⟩
abbrev main_call2_call5_v97 : Ref sig .tc := ⟨.hbm, 1677, rfl⟩
abbrev main_call2_call5_c_25 : Ref sig .tc := ⟨.hbm, 1678, rfl⟩
abbrev main_call2_call5_v98 : Ref sig .tc := ⟨.hbm, 1679, rfl⟩
abbrev main_call2_call5_v99 : Ref sig .tc := ⟨.hbm, 1680, rfl⟩
abbrev main_call2_call5_v100 : Ref sig .tc := ⟨.hbm, 1681, rfl⟩
abbrev main_call2_call5_v101 : Ref sig .tc := ⟨.hbm, 1682, rfl⟩
abbrev main_call2_call5_v102 : Ref sig .tc := ⟨.hbm, 1683, rfl⟩
abbrev main_call2_call5_v103 : Ref sig .tc := ⟨.hbm, 1684, rfl⟩
abbrev main_call2_call5_v104 : Ref sig .tc := ⟨.hbm, 1685, rfl⟩
abbrev main_call2_call5_v105 : Ref sig .tc := ⟨.hbm, 1686, rfl⟩
abbrev main_call2_call5_c_26 : Ref sig .tc := ⟨.hbm, 1687, rfl⟩
abbrev main_call2_call5_v106 : Ref sig .tc := ⟨.hbm, 1688, rfl⟩
abbrev main_call2_call5_v107 : Ref sig .tc := ⟨.hbm, 1689, rfl⟩
abbrev main_call2_call5_v108 : Ref sig .tc := ⟨.hbm, 1690, rfl⟩
abbrev main_call2_call5_c_27 : Ref sig .tc := ⟨.hbm, 1691, rfl⟩
abbrev main_call2_call5_v109 : Ref sig .tc := ⟨.hbm, 1692, rfl⟩
abbrev main_call2_call5_v110 : Ref sig .tc := ⟨.hbm, 1693, rfl⟩
abbrev main_call2_call5_c_28 : Ref sig .tc := ⟨.hbm, 1694, rfl⟩
abbrev main_call2_call5_v111 : Ref sig .tc := ⟨.hbm, 1695, rfl⟩
abbrev main_call2_call5_v112 : Ref sig .tc := ⟨.hbm, 1696, rfl⟩
abbrev main_call2_call5_v113 : Ref sig .tc := ⟨.hbm, 1697, rfl⟩
abbrev main_call2_call5_v114 : Ref sig .tc := ⟨.hbm, 1698, rfl⟩
abbrev main_call2_call5_v115 : Ref sig .tc := ⟨.hbm, 1699, rfl⟩
abbrev main_call2_call5_c_29 : Ref sig .tc := ⟨.hbm, 1700, rfl⟩
abbrev main_call2_call5_v116 : Ref sig .tc := ⟨.hbm, 1701, rfl⟩
abbrev main_call2_call5_v117 : Ref sig .tc := ⟨.hbm, 1702, rfl⟩
abbrev main_call2_call5_c_30 : Ref sig .tc := ⟨.hbm, 1703, rfl⟩
abbrev main_call2_call5_v118 : Ref sig .tc := ⟨.hbm, 1704, rfl⟩
abbrev main_call2_call5_v119 : Ref sig .tc := ⟨.hbm, 1705, rfl⟩
abbrev main_call2_call5_v120 : Ref sig .tc := ⟨.hbm, 1706, rfl⟩
abbrev main_call2_call5_v121 : Ref sig .tc := ⟨.hbm, 1707, rfl⟩
abbrev main_call2_call5_v122 : Ref sig .tc := ⟨.hbm, 1708, rfl⟩
abbrev main_call2_call5_c_31 : Ref sig .tc := ⟨.hbm, 1709, rfl⟩
abbrev main_call2_call5_v123 : Ref sig .tc := ⟨.hbm, 1710, rfl⟩
abbrev main_call2_call5_v124 : Ref sig .tc := ⟨.hbm, 1711, rfl⟩
abbrev main_call2_call5_c_32 : Ref sig .tc := ⟨.hbm, 1712, rfl⟩
abbrev main_call2_call5_v125 : Ref sig .tc := ⟨.hbm, 1713, rfl⟩
abbrev main_call2_call5_v126 : Ref sig .tc := ⟨.hbm, 1714, rfl⟩
abbrev main_call2_call5_v127 : Ref sig .tc := ⟨.hbm, 1715, rfl⟩
abbrev main_call2_call5_v128 : Ref sig .tc := ⟨.hbm, 1716, rfl⟩
abbrev main_call2_call5_v129 : Ref sig .tc := ⟨.hbm, 1717, rfl⟩
abbrev main_call2_call5_c_33 : Ref sig .tc := ⟨.hbm, 1718, rfl⟩
abbrev main_call2_call5_v130 : Ref sig .tc := ⟨.hbm, 1719, rfl⟩
abbrev main_call2_call5_v131 : Ref sig .tc := ⟨.hbm, 1720, rfl⟩
abbrev main_call2_call5_c_34 : Ref sig .tc := ⟨.hbm, 1721, rfl⟩
abbrev main_call2_call5_v132 : Ref sig .tc := ⟨.hbm, 1722, rfl⟩
abbrev main_call2_call5_v133 : Ref sig .tc := ⟨.hbm, 1723, rfl⟩
abbrev main_call2_call5_v134 : Ref sig .tc := ⟨.hbm, 1724, rfl⟩
abbrev main_call2_call5_v135 : Ref sig .tc := ⟨.hbm, 1725, rfl⟩
abbrev main_call2_call5_v136 : Ref sig .tc := ⟨.hbm, 1726, rfl⟩
abbrev main_call2_call5_v137 : Ref sig .tc := ⟨.hbm, 1727, rfl⟩
abbrev main_call2_call5_v138 : Ref sig .tc := ⟨.hbm, 1728, rfl⟩
abbrev main_call2_call5_v139 : Ref sig .tc := ⟨.hbm, 1729, rfl⟩
abbrev main_call2_call5_c_35 : Ref sig .tc := ⟨.hbm, 1730, rfl⟩
abbrev main_call2_call5_v140 : Ref sig .tc := ⟨.hbm, 1731, rfl⟩
abbrev main_call2_call5_v141 : Ref sig .tc := ⟨.hbm, 1732, rfl⟩
abbrev main_call2_call5_v142 : Ref sig .tc := ⟨.hbm, 1733, rfl⟩
abbrev main_call2_call5_c_36 : Ref sig .tc := ⟨.hbm, 1734, rfl⟩
abbrev main_call2_call5_v143 : Ref sig .tc := ⟨.hbm, 1735, rfl⟩
abbrev main_call2_call5_v144 : Ref sig .tc := ⟨.hbm, 1736, rfl⟩
abbrev main_call2_call5_c_37 : Ref sig .tc := ⟨.hbm, 1737, rfl⟩
abbrev main_call2_call5_v145 : Ref sig .tc := ⟨.hbm, 1738, rfl⟩
abbrev main_call2_call5_v146 : Ref sig .tc := ⟨.hbm, 1739, rfl⟩
abbrev main_call2_call5_v147 : Ref sig .tc := ⟨.hbm, 1740, rfl⟩
abbrev main_call2_call5_v148 : Ref sig .tc := ⟨.hbm, 1741, rfl⟩
abbrev main_call2_call5_v149 : Ref sig .tc := ⟨.hbm, 1742, rfl⟩
abbrev main_call2_call5_c_38 : Ref sig .tc := ⟨.hbm, 1743, rfl⟩
abbrev main_call2_call5_v150 : Ref sig .tc := ⟨.hbm, 1744, rfl⟩
abbrev main_call2_call5_v151 : Ref sig .tc := ⟨.hbm, 1745, rfl⟩
abbrev main_call2_call5_c_39 : Ref sig .tc := ⟨.hbm, 1746, rfl⟩
abbrev main_call2_call5_v152 : Ref sig .tc := ⟨.hbm, 1747, rfl⟩
abbrev main_call2_call5_v153 : Ref sig .tc := ⟨.hbm, 1748, rfl⟩
abbrev main_call2_call5_v154 : Ref sig .tc := ⟨.hbm, 1749, rfl⟩
abbrev main_call2_call5_v155 : Ref sig .tc := ⟨.hbm, 1750, rfl⟩
abbrev main_call2_call5_v156 : Ref sig .tc := ⟨.hbm, 1751, rfl⟩
abbrev main_call2_call5_c_40 : Ref sig .tc := ⟨.hbm, 1752, rfl⟩
abbrev main_call2_call5_v157 : Ref sig .tc := ⟨.hbm, 1753, rfl⟩
abbrev main_call2_call5_v158 : Ref sig .tc := ⟨.hbm, 1754, rfl⟩
abbrev main_call2_call5_c_41 : Ref sig .tc := ⟨.hbm, 1755, rfl⟩
abbrev main_call2_call5_v159 : Ref sig .tc := ⟨.hbm, 1756, rfl⟩
abbrev main_call2_call5_v160 : Ref sig .tc := ⟨.hbm, 1757, rfl⟩
abbrev main_call2_call5_v161 : Ref sig .tc := ⟨.hbm, 1758, rfl⟩
abbrev main_call2_call5_v162 : Ref sig .tc := ⟨.hbm, 1759, rfl⟩
abbrev main_call2_call5_v163 : Ref sig .tc := ⟨.hbm, 1760, rfl⟩
abbrev main_call2_call5_c_42 : Ref sig .tc := ⟨.hbm, 1761, rfl⟩
abbrev main_call2_call5_v164 : Ref sig .tc := ⟨.hbm, 1762, rfl⟩
abbrev main_call2_call5_v165 : Ref sig .tc := ⟨.hbm, 1763, rfl⟩
abbrev main_call2_call5_c_43 : Ref sig .tc := ⟨.hbm, 1764, rfl⟩
abbrev main_call2_call5_v166 : Ref sig .tc := ⟨.hbm, 1765, rfl⟩
abbrev main_call2_call5_v167 : Ref sig .tc := ⟨.hbm, 1766, rfl⟩
abbrev main_call2_call5_v168 : Ref sig .tc := ⟨.hbm, 1767, rfl⟩
abbrev main_call2_call5_v169 : Ref sig .tc := ⟨.hbm, 1768, rfl⟩
abbrev main_call2_call5_v170 : Ref sig .tc := ⟨.hbm, 1769, rfl⟩
abbrev main_call2_v45_0 : Ref sig .tc := ⟨.hbm, 1770, rfl⟩
abbrev main_call2_call5_v172 : Ref sig .tc := ⟨.hbm, 1771, rfl⟩
abbrev main_call2_call5_v173 : Ref sig .tc := ⟨.hbm, 1772, rfl⟩
abbrev main_call2_call5_c_44 : Ref sig .tc := ⟨.hbm, 1773, rfl⟩
abbrev main_call2_call5_v174 : Ref sig .tc := ⟨.hbm, 1774, rfl⟩
abbrev main_call2_v45_1 : Ref sig .tc := ⟨.hbm, 1775, rfl⟩
abbrev main_call2_v46 : Ref sig .tc := ⟨.hbm, 1776, rfl⟩
abbrev main_call2_v47 : Ref sig .tc := ⟨.hbm, 1777, rfl⟩
abbrev main_call2_v48 : Ref sig .tc := ⟨.hbm, 1778, rfl⟩
abbrev main_call2_v49 : Ref sig .tc := ⟨.hbm, 1779, rfl⟩
abbrev main_call2_c_12 : Ref sig .tc := ⟨.hbm, 1780, rfl⟩
abbrev main_call2_v50 : Ref sig .tc := ⟨.hbm, 1781, rfl⟩
abbrev main_call2_v51 : Ref sig .tc := ⟨.hbm, 1782, rfl⟩
abbrev main_call2_v52 : Ref sig .tc := ⟨.hbm, 1783, rfl⟩
abbrev main_call2_v53 : Ref sig .tc := ⟨.hbm, 1784, rfl⟩
abbrev main_call2_v54 : Ref sig .tc := ⟨.hbm, 1785, rfl⟩
abbrev main_call2_c_13 : Ref sig .tc := ⟨.hbm, 1786, rfl⟩
abbrev main_call2_v55 : Ref sig .tc := ⟨.hbm, 1787, rfl⟩
abbrev main_call2_v56 : Ref sig .tc := ⟨.hbm, 1788, rfl⟩
abbrev main_call2_v57 : Ref sig .tc := ⟨.hbm, 1789, rfl⟩
abbrev main_call2_c_14 : Ref sig .tc := ⟨.hbm, 1790, rfl⟩
abbrev main_call2_v58 : Ref sig .tc := ⟨.hbm, 1791, rfl⟩
abbrev main_call2_v59 : Ref sig .tc := ⟨.hbm, 1792, rfl⟩
abbrev main_call2_v60 : Ref sig .tc := ⟨.hbm, 1793, rfl⟩
abbrev main_call2_v61 : Ref sig .tc := ⟨.hbm, 1794, rfl⟩
abbrev main_call2_v62 : Ref sig .tc := ⟨.hbm, 1795, rfl⟩
abbrev main_call2_v63 : Ref sig .tc := ⟨.hbm, 1796, rfl⟩
abbrev main_call2_v64 : Ref sig .tc := ⟨.hbm, 1797, rfl⟩
abbrev main_call2_v65 : Ref sig .tc := ⟨.hbm, 1798, rfl⟩
abbrev main_call2_v66 : Ref sig .tc := ⟨.hbm, 1799, rfl⟩
abbrev main_call2_v67 : Ref sig .tc := ⟨.hbm, 1800, rfl⟩
abbrev main_call2_v68 : Ref sig .tc := ⟨.hbm, 1801, rfl⟩
abbrev main_call2_v69 : Ref sig .tc := ⟨.hbm, 1802, rfl⟩
abbrev main_call2_v70 : Ref sig .tc := ⟨.hbm, 1803, rfl⟩
abbrev main_call2_v71 : Ref sig .tc := ⟨.hbm, 1804, rfl⟩
abbrev main_call2_v72 : Ref sig .tc := ⟨.hbm, 1805, rfl⟩
abbrev main_v13 : Ref sig .tc := ⟨.hbm, 1806, rfl⟩
abbrev main_v14 : Ref sig .tc := ⟨.hbm, 1807, rfl⟩
abbrev main_v15 : Ref sig .tc := ⟨.hbm, 1808, rfl⟩
abbrev main_v16 : Ref sig .tc := ⟨.hbm, 1809, rfl⟩
abbrev main_v17 : Ref sig .tc := ⟨.hbm, 1810, rfl⟩
abbrev main_v18 : Ref sig .tc := ⟨.hbm, 1811, rfl⟩
abbrev main_v19 : Ref sig .tc := ⟨.hbm, 1812, rfl⟩
abbrev main_v20_0 : Ref sig .tc := ⟨.hbm, 1813, rfl⟩
abbrev main_v20_1 : Ref sig .tc := ⟨.hbm, 1814, rfl⟩
abbrev main_v21 : Ref sig .tc := ⟨.hbm, 1815, rfl⟩
abbrev main_v22 : Ref sig .tc := ⟨.hbm, 1816, rfl⟩
abbrev main_v23 : Ref sig .tc := ⟨.hbm, 1817, rfl⟩
abbrev main_v24 : Ref sig .tc := ⟨.hbm, 1818, rfl⟩
abbrev main_v25 : Ref sig .tc := ⟨.hbm, 1819, rfl⟩
abbrev main_v26 : Ref sig .tc := ⟨.hbm, 1820, rfl⟩
abbrev main_v27 : Ref sig .tc := ⟨.hbm, 1821, rfl⟩
abbrev main_v28 : Ref sig .tc := ⟨.hbm, 1822, rfl⟩
abbrev main_v29 : Ref sig .tc := ⟨.hbm, 1823, rfl⟩
abbrev main_v30 : Ref sig .tc := ⟨.hbm, 1824, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S60x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x60 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x60 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x60 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x8x60 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "temp" => some ((5⁻¹ : ℝ) : EReal)
  | _ => none
-- ==== ReferenceIdeal.lean ====
abbrev S1x20 : Shape := ⟨2, ![1, 20]⟩
abbrev S60x20 : Shape := ⟨2, ![60, 20]⟩
abbrev S60 : Shape := ⟨1, ![60]⟩
abbrev S60x60 : Shape := ⟨2, ![60, 60]⟩
abbrev S393216x60 : Shape := ⟨2, ![393216, 60]⟩
abbrev S393216 : Shape := ⟨1, ![393216]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S4x2048 : Shape := ⟨2, ![4, 2048]⟩
abbrev S20x60 : Shape := ⟨2, ![20, 60]⟩
abbrev S1x60 : Shape := ⟨2, ![1, 60]⟩
abbrev S60x393216 : Shape := ⟨2, ![60, 393216]⟩
abbrev S1x393216 : Shape := ⟨2, ![1, 393216]⟩
abbrev S4x98304 : Shape := ⟨2, ![4, 98304]⟩
abbrev S4x2048x48 : Shape := ⟨3, ![4, 2048, 48]⟩
abbrev S4x2048x32 : Shape := ⟨3, ![4, 2048, 32]⟩
abbrev S4x2048x16 : Shape := ⟨3, ![4, 2048, 16]⟩
abbrev S4x2048x1 : Shape := ⟨3, ![4, 2048, 1]⟩
abbrev S4x2048x1x1 : Shape := ⟨4, ![4, 2048, 1, 1]⟩
abbrev S1x1x1x1 : Shape := ⟨4, ![1, 1, 1, 1]⟩
abbrev S4x2048x2 : Shape := ⟨3, ![4, 2048, 2]⟩
abbrev S4x4096 : Shape := ⟨2, ![4, 4096]⟩

abbrev nBuf : Space → Nat
  | .hbm => 1931
  | .vmem => 0
  | .smem => 0
  | _ => 0

abbrev hbmTy0_0 (i : Nat) : BufTy := match i % 128 with
  | 0 => ⟨S1x20, .f32⟩
  | 1 => ⟨S60x20, .f32⟩
  | 2 => ⟨S60, .f32⟩
  | 3 => ⟨S60x60, .f32⟩
  | 4 => ⟨S60, .f32⟩
  | 5 => ⟨S393216x60, .f32⟩
  | 6 => ⟨S393216, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S1, .i32⟩
  | 18 => ⟨S_, .i32⟩
  | 19 => ⟨S1, .i32⟩
  | 20 => ⟨S_, .i32⟩
  | 21 => ⟨S2, .i64⟩
  | 22 => ⟨S_, .i64⟩
  | 23 => ⟨S2, .i64⟩
  | 24 => ⟨S2, .i64⟩
  | 25 => ⟨S_, .i64⟩
  | 26 => ⟨S2, .i64⟩
  | 27 => ⟨S2, .i64⟩
  | 28 => ⟨S2, .i32⟩
  | 29 => ⟨S2, .i32⟩
  | 30 => ⟨S_, .i32⟩
  | 31 => ⟨S_, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S1x20, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x2, .i32⟩
  | _ => ⟨S1x20, .f32⟩

abbrev hbmTy0_2 (i : Nat) : BufTy := match i % 128 with
  | 0 => ⟨S2, .i32⟩
  | 1 => ⟨S1x2, .i32⟩
  | 2 => ⟨S2, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S1x1, .i32⟩
  | 22 => ⟨S1x1, .i32⟩
  | 23 => ⟨S1, .i32⟩
  | 24 => ⟨S_, .i32⟩
  | 25 => ⟨S1, .i32⟩
  | 26 => ⟨S_, .i32⟩
  | 27 => ⟨S2, .i64⟩
  | 28 => ⟨S_, .i64⟩
  | 29 => ⟨S2, .i64⟩
  | 30 => ⟨S2, .i64⟩
  | 31 => ⟨S_, .i64⟩
  | 32 => ⟨S2, .i64⟩
  | 33 => ⟨S2, .i64⟩
  | 34 => ⟨S2, .i32⟩
  | 35 => ⟨S2, .i32⟩
  | 36 => ⟨S_, .i32⟩
  | 37 => ⟨S_, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S1x20, .f32⟩

abbrev hbmTy0_3 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S1x20, .f32⟩

abbrev hbmTy0_4 (i : Nat) : BufTy := match i % 128 with
  | 0 => ⟨S2, .i32⟩
  | 1 => ⟨S2, .i32⟩
  | 2 => ⟨S2x1, .i32⟩
  | 3 => ⟨S2x1, .i32⟩
  | 4 => ⟨S2x2, .i32⟩
  | 5 => ⟨S1x2, .i32⟩
  | 6 => ⟨S2, .i32⟩
  | 7 => ⟨S1x2, .i32⟩
  | 8 => ⟨S2, .i32⟩
  | 9 => ⟨S1, .i32⟩
  | 10 => ⟨S_, .i32⟩
  | 11 => ⟨S1, .i32⟩
  | 12 => ⟨S_, .i32⟩
  | 13 => ⟨S4x2048, .i64⟩
  | 14 => ⟨S4x2048, .i64⟩
  | 15 => ⟨S_, .i64⟩
  | 16 => ⟨S4x2048, .i64⟩
  | 17 => ⟨S4x2048, .i64⟩
  | 18 => ⟨S_, .i64⟩
  | 19 => ⟨S4x2048, .i64⟩
  | 20 => ⟨S4x2048, .i64⟩
  | 21 => ⟨S4x2048, .i64⟩
  | 22 => ⟨S_, .i64⟩
  | 23 => ⟨S4x2048, .i64⟩
  | 24 => ⟨S4x2048, .i64⟩
  | 25 => ⟨S4x2048, .i32⟩
  | 26 => ⟨S4x2048, .i32⟩
  | 27 => ⟨S_, .i32⟩
  | 28 => ⟨S_, .i32⟩
  | 29 => ⟨S_, .i32⟩
  | 30 => ⟨S4x2048, .i32⟩
  | 31 => ⟨S4x2048, .i32⟩
  | 32 => ⟨S4x2048, .i32⟩
  | 33 => ⟨S4x2048, .i32⟩
  | 34 => ⟨S4x2048, .i32⟩
  | 35 => ⟨S_, .i32⟩
  | 36 => ⟨S4x2048, .i32⟩
  | 37 => ⟨S4x2048, .i32⟩
  | 38 => ⟨S_, .i32⟩
  | 39 => ⟨S4x2048, .i32⟩
  | 40 => ⟨S4x2048, .i32⟩
  | 41 => ⟨S4x2048, .i32⟩
  | 42 => ⟨S4x2048, .i32⟩
  | 43 => ⟨S4x2048, .i32⟩
  | 44 => ⟨S_, .i32⟩
  | 45 => ⟨S4x2048, .i32⟩
  | 46 => ⟨S4x2048, .i32⟩
  | 47 => ⟨S_, .i32⟩
  | 48 => ⟨S4x2048, .i32⟩
  | 49 => ⟨S4x2048, .i32⟩
  | 50 => ⟨S4x2048, .i32⟩
  | 51 => ⟨S4x2048, .i32⟩
  | 52 => ⟨S4x2048, .i32⟩
  | 53 => ⟨S_, .i32⟩
  | 54 => ⟨S4x2048, .i32⟩
  | 55 => ⟨S4x2048, .i32⟩
  | 56 => ⟨S_, .i32⟩
  | 57 => ⟨S4x2048, .i32⟩
  | 58 => ⟨S4x2048, .i32⟩
  | 59 => ⟨S4x2048, .i32⟩
  | 60 => ⟨S4x2048, .i32⟩
  | 61 => ⟨S4x2048, .i32⟩
  | 62 => ⟨S_, .i32⟩
  | 63 => ⟨S4x2048, .i32⟩
  | 64 => ⟨S4x2048, .i32⟩
  | 65 => ⟨S_, .i32⟩
  | 66 => ⟨S4x2048, .i32⟩
  | 67 => ⟨S4x2048, .i32⟩
  | 68 => ⟨S4x2048, .i32⟩
  | 69 => ⟨S4x2048, .i32⟩
  | 70 => ⟨S4x2048, .i32⟩
  | 71 => ⟨S4x2048, .i32⟩
  | 72 => ⟨S4x2048, .i32⟩
  | 73 => ⟨S4x2048, .i32⟩
  | 74 => ⟨S_, .i32⟩
  | 75 => ⟨S4x2048, .i32⟩
  | 76 => ⟨S4x2048, .i32⟩
  | 77 => ⟨S4x2048, .i32⟩
  | 78 => ⟨S_, .i32⟩
  | 79 => ⟨S4x2048, .i32⟩
  | 80 => ⟨S4x2048, .i32⟩
  | 81 => ⟨S_, .i32⟩
  | 82 => ⟨S4x2048, .i32⟩
  | 83 => ⟨S4x2048, .i32⟩
  | 84 => ⟨S4x2048, .i32⟩
  | 85 => ⟨S4x2048, .i32⟩
  | 86 => ⟨S4x2048, .i32⟩
  | 87 => ⟨S_, .i32⟩
  | 88 => ⟨S4x2048, .i32⟩
  | 89 => ⟨S4x2048, .i32⟩
  | 90 => ⟨S_, .i32⟩
  | 91 => ⟨S4x2048, .i32⟩
  | 92 => ⟨S4x2048, .i32⟩
  | 93 => ⟨S4x2048, .i32⟩
  | 94 => ⟨S4x2048, .i32⟩
  | 95 => ⟨S4x2048, .i32⟩
  | 96 => ⟨S_, .i32⟩
  | 97 => ⟨S4x2048, .i32⟩
  | 98 => ⟨S4x2048, .i32⟩
  | 99 => ⟨S_, .i32⟩
  | 100 => ⟨S4x2048, .i32⟩
  | 101 => ⟨S4x2048, .i32⟩
  | 102 => ⟨S4x2048, .i32⟩
  | 103 => ⟨S4x2048, .i32⟩
  | 104 => ⟨S4x2048, .i32⟩
  | 105 => ⟨S_, .i32⟩
  | 106 => ⟨S4x2048, .i32⟩
  | 107 => ⟨S4x2048, .i32⟩
  | 108 => ⟨S_, .i32⟩
  | 109 => ⟨S4x2048, .i32⟩
  | 110 => ⟨S4x2048, .i32⟩
  | 111 => ⟨S4x2048, .i32⟩
  | 112 => ⟨S4x2048, .i32⟩
  | 113 => ⟨S4x2048, .i32⟩
  | 114 => ⟨S4x2048, .i32⟩
  | 115 => ⟨S4x2048, .i32⟩
  | 116 => ⟨S4x2048, .i32⟩
  | 117 => ⟨S_, .i32⟩
  | 118 => ⟨S4x2048, .i32⟩
  | 119 => ⟨S4x2048, .i32⟩
  | 120 => ⟨S4x2048, .i32⟩
  | 121 => ⟨S_, .i32⟩
  | 122 => ⟨S4x2048, .i32⟩
  | 123 => ⟨S4x2048, .i32⟩
  | 124 => ⟨S_, .i32⟩
  | 125 => ⟨S4x2048, .i32⟩
  | 126 => ⟨S4x2048, .i32⟩
  | 127 => ⟨S4x2048, .i32⟩
  | _ => ⟨S1x20, .f32⟩

abbrev hbmTy0_5 (i : Nat) : BufTy := match i % 128 with
  | 0 => ⟨S4x2048, .i32⟩
  | 1 => ⟨S4x2048, .i32⟩
  | 2 => ⟨S_, .i32⟩
  | 3 => ⟨S4x2048, .i32⟩
  | 4 => ⟨S4x2048, .i32⟩
  | 5 => ⟨S_, .i32⟩
  | 6 => ⟨S4x2048, .i32⟩
  | 7 => ⟨S4x2048, .i32⟩
  | 8 => ⟨S4x2048, .i32⟩
  | 9 => ⟨S4x2048, .i32⟩
  | 10 => ⟨S4x2048, .i32⟩
  | 11 => ⟨S_, .i32⟩
  | 12 => ⟨S4x2048, .i32⟩
  | 13 => ⟨S4x2048, .i32⟩
  | 14 => ⟨S_, .i32⟩
  | 15 => ⟨S4x2048, .i32⟩
  | 16 => ⟨S4x2048, .i32⟩
  | 17 => ⟨S4x2048, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S_, .i32⟩
  | 24 => ⟨S4x2048, .i32⟩
  | 25 => ⟨S4x2048, .i32⟩
  | 26 => ⟨S4x2048, .i32⟩
  | 27 => ⟨S4x2048, .i32⟩
  | 28 => ⟨S4x2048, .i32⟩
  | 29 => ⟨S4x2048, .i32⟩
  | 30 => ⟨S4x2048, .i32⟩
  | 31 => ⟨S4x2048, .i32⟩
  | 32 => ⟨S_, .i32⟩
  | 33 => ⟨S4x2048, .i32⟩
  | 34 => ⟨S4x2048, .i32⟩
  | 35 => ⟨S4x2048, .i32⟩
  | 36 => ⟨S_, .i32⟩
  | 37 => ⟨S4x2048, .i32⟩
  | 38 => ⟨S4x2048, .i32⟩
  | 39 => ⟨S_, .i32⟩
  | 40 => ⟨S4x2048, .i32⟩
  | 41 => ⟨S4x2048, .i32⟩
  | 42 => ⟨S4x2048, .i32⟩
  | 43 => ⟨S4x2048, .i32⟩
  | 44 => ⟨S4x2048, .i32⟩
  | 45 => ⟨S_, .i32⟩
  | 46 => ⟨S4x2048, .i32⟩
  | 47 => ⟨S4x2048, .i32⟩
  | 48 => ⟨S_, .i32⟩
  | 49 => ⟨S4x2048, .i32⟩
  | 50 => ⟨S4x2048, .i32⟩
  | 51 => ⟨S4x2048, .i32⟩
  | 52 => ⟨S4x2048, .i32⟩
  | 53 => ⟨S4x2048, .i32⟩
  | 54 => ⟨S_, .i32⟩
  | 55 => ⟨S4x2048, .i32⟩
  | 56 => ⟨S4x2048, .i32⟩
  | 57 => ⟨S_, .i32⟩
  | 58 => ⟨S4x2048, .i32⟩
  | 59 => ⟨S4x2048, .i32⟩
  | 60 => ⟨S4x2048, .i32⟩
  | 61 => ⟨S4x2048, .i32⟩
  | 62 => ⟨S4x2048, .i32⟩
  | 63 => ⟨S_, .i32⟩
  | 64 => ⟨S4x2048, .i32⟩
  | 65 => ⟨S4x2048, .i32⟩
  | 66 => ⟨S_, .i32⟩
  | 67 => ⟨S4x2048, .i32⟩
  | 68 => ⟨S4x2048, .i32⟩
  | 69 => ⟨S4x2048, .i32⟩
  | 70 => ⟨S4x2048, .i32⟩
  | 71 => ⟨S4x2048, .i32⟩
  | 72 => ⟨S4x2048, .i32⟩
  | 73 => ⟨S4x2048, .i32⟩
  | 74 => ⟨S4x2048, .i32⟩
  | 75 => ⟨S_, .i32⟩
  | 76 => ⟨S4x2048, .i32⟩
  | 77 => ⟨S4x2048, .i32⟩
  | 78 => ⟨S4x2048, .i32⟩
  | 79 => ⟨S_, .i32⟩
  | 80 => ⟨S4x2048, .i32⟩
  | 81 => ⟨S4x2048, .i32⟩
  | 82 => ⟨S_, .i32⟩
  | 83 => ⟨S4x2048, .i32⟩
  | 84 => ⟨S4x2048, .i32⟩
  | 85 => ⟨S4x2048, .i32⟩
  | 86 => ⟨S4x2048, .i32⟩
  | 87 => ⟨S4x2048, .i32⟩
  | 88 => ⟨S_, .i32⟩
  | 89 => ⟨S4x2048, .i32⟩
  | 90 => ⟨S4x2048, .i32⟩
  | 91 => ⟨S_, .i32⟩
  | 92 => ⟨S4x2048, .i32⟩
  | 93 => ⟨S4x2048, .i32⟩
  | 94 => ⟨S4x2048, .i32⟩
  | 95 => ⟨S4x2048, .i32⟩
  | 96 => ⟨S4x2048, .i32⟩
  | 97 => ⟨S_, .i32⟩
  | 98 => ⟨S4x2048, .i32⟩
  | 99 => ⟨S4x2048, .i32⟩
  | 100 => ⟨S_, .i32⟩
  | 101 => ⟨S4x2048, .i32⟩
  | 102 => ⟨S4x2048, .i32⟩
  | 103 => ⟨S4x2048, .i32⟩
  | 104 => ⟨S4x2048, .i32⟩
  | 105 => ⟨S4x2048, .i32⟩
  | 106 => ⟨S_, .i32⟩
  | 107 => ⟨S4x2048, .i32⟩
  | 108 => ⟨S4x2048, .i32⟩
  | 109 => ⟨S_, .i32⟩
  | 110 => ⟨S4x2048, .i32⟩
  | 111 => ⟨S4x2048, .i32⟩
  | 112 => ⟨S4x2048, .i32⟩
  | 113 => ⟨S4x2048, .i32⟩
  | 114 => ⟨S4x2048, .i32⟩
  | 115 => ⟨S4x2048, .i32⟩
  | 116 => ⟨S4x2048, .i32⟩
  | 117 => ⟨S4x2048, .i32⟩
  | 118 => ⟨S_, .i32⟩
  | 119 => ⟨S4x2048, .i32⟩
  | 120 => ⟨S4x2048, .i32⟩
  | 121 => ⟨S4x2048, .i32⟩
  | 122 => ⟨S1, .i32⟩
  | 123 => ⟨S_, .i32⟩
  | 124 => ⟨S1, .i32⟩
  | 125 => ⟨S_, .i32⟩
  | 126 => ⟨S4x2048, .i64⟩
  | 127 => ⟨S4x2048, .i64⟩
  | _ => ⟨S1x20, .f32⟩

abbrev hbmTy0_6 (i : Nat) : BufTy := match i % 128 with
  | 0 => ⟨S_, .i64⟩
  | 1 => ⟨S4x2048, .i64⟩
  | 2 => ⟨S4x2048, .i64⟩
  | 3 => ⟨S_, .i64⟩
  | 4 => ⟨S4x2048, .i64⟩
  | 5 => ⟨S4x2048, .i64⟩
  | 6 => ⟨S4x2048, .i64⟩
  | 7 => ⟨S_, .i64⟩
  | 8 => ⟨S4x2048, .i64⟩
  | 9 => ⟨S4x2048, .i64⟩
  | 10 => ⟨S4x2048, .i32⟩
  | 11 => ⟨S4x2048, .i32⟩
  | 12 => ⟨S_, .i32⟩
  | 13 => ⟨S_, .i32⟩
  | 14 => ⟨S_, .i32⟩
  | 15 => ⟨S4x2048, .i32⟩
  | 16 => ⟨S4x2048, .i32⟩
  | 17 => ⟨S4x2048, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S_, .i32⟩
  | 24 => ⟨S4x2048, .i32⟩
  | 25 => ⟨S4x2048, .i32⟩
  | 26 => ⟨S4x2048, .i32⟩
  | 27 => ⟨S4x2048, .i32⟩
  | 28 => ⟨S4x2048, .i32⟩
  | 29 => ⟨S_, .i32⟩
  | 30 => ⟨S4x2048, .i32⟩
  | 31 => ⟨S4x2048, .i32⟩
  | 32 => ⟨S_, .i32⟩
  | 33 => ⟨S4x2048, .i32⟩
  | 34 => ⟨S4x2048, .i32⟩
  | 35 => ⟨S4x2048, .i32⟩
  | 36 => ⟨S4x2048, .i32⟩
  | 37 => ⟨S4x2048, .i32⟩
  | 38 => ⟨S_, .i32⟩
  | 39 => ⟨S4x2048, .i32⟩
  | 40 => ⟨S4x2048, .i32⟩
  | 41 => ⟨S_, .i32⟩
  | 42 => ⟨S4x2048, .i32⟩
  | 43 => ⟨S4x2048, .i32⟩
  | 44 => ⟨S4x2048, .i32⟩
  | 45 => ⟨S4x2048, .i32⟩
  | 46 => ⟨S4x2048, .i32⟩
  | 47 => ⟨S_, .i32⟩
  | 48 => ⟨S4x2048, .i32⟩
  | 49 => ⟨S4x2048, .i32⟩
  | 50 => ⟨S_, .i32⟩
  | 51 => ⟨S4x2048, .i32⟩
  | 52 => ⟨S4x2048, .i32⟩
  | 53 => ⟨S4x2048, .i32⟩
  | 54 => ⟨S4x2048, .i32⟩
  | 55 => ⟨S4x2048, .i32⟩
  | 56 => ⟨S4x2048, .i32⟩
  | 57 => ⟨S4x2048, .i32⟩
  | 58 => ⟨S4x2048, .i32⟩
  | 59 => ⟨S_, .i32⟩
  | 60 => ⟨S4x2048, .i32⟩
  | 61 => ⟨S4x2048, .i32⟩
  | 62 => ⟨S4x2048, .i32⟩
  | 63 => ⟨S_, .i32⟩
  | 64 => ⟨S4x2048, .i32⟩
  | 65 => ⟨S4x2048, .i32⟩
  | 66 => ⟨S_, .i32⟩
  | 67 => ⟨S4x2048, .i32⟩
  | 68 => ⟨S4x2048, .i32⟩
  | 69 => ⟨S4x2048, .i32⟩
  | 70 => ⟨S4x2048, .i32⟩
  | 71 => ⟨S4x2048, .i32⟩
  | 72 => ⟨S_, .i32⟩
  | 73 => ⟨S4x2048, .i32⟩
  | 74 => ⟨S4x2048, .i32⟩
  | 75 => ⟨S_, .i32⟩
  | 76 => ⟨S4x2048, .i32⟩
  | 77 => ⟨S4x2048, .i32⟩
  | 78 => ⟨S4x2048, .i32⟩
  | 79 => ⟨S4x2048, .i32⟩
  | 80 => ⟨S4x2048, .i32⟩
  | 81 => ⟨S_, .i32⟩
  | 82 => ⟨S4x2048, .i32⟩
  | 83 => ⟨S4x2048, .i32⟩
  | 84 => ⟨S_, .i32⟩
  | 85 => ⟨S4x2048, .i32⟩
  | 86 => ⟨S4x2048, .i32⟩
  | 87 => ⟨S4x2048, .i32⟩
  | 88 => ⟨S4x2048, .i32⟩
  | 89 => ⟨S4x2048, .i32⟩
  | 90 => ⟨S_, .i32⟩
  | 91 => ⟨S4x2048, .i32⟩
  | 92 => ⟨S4x2048, .i32⟩
  | 93 => ⟨S_, .i32⟩
  | 94 => ⟨S4x2048, .i32⟩
  | 95 => ⟨S4x2048, .i32⟩
  | 96 => ⟨S4x2048, .i32⟩
  | 97 => ⟨S4x2048, .i32⟩
  | 98 => ⟨S4x2048, .i32⟩
  | 99 => ⟨S4x2048, .i32⟩
  | 100 => ⟨S4x2048, .i32⟩
  | 101 => ⟨S4x2048, .i32⟩
  | 102 => ⟨S_, .i32⟩
  | 103 => ⟨S4x2048, .i32⟩
  | 104 => ⟨S4x2048, .i32⟩
  | 105 => ⟨S4x2048, .i32⟩
  | 106 => ⟨S_, .i32⟩
  | 107 => ⟨S4x2048, .i32⟩
  | 108 => ⟨S4x2048, .i32⟩
  | 109 => ⟨S_, .i32⟩
  | 110 => ⟨S4x2048, .i32⟩
  | 111 => ⟨S4x2048, .i32⟩
  | 112 => ⟨S4x2048, .i32⟩
  | 113 => ⟨S4x2048, .i32⟩
  | 114 => ⟨S4x2048, .i32⟩
  | 115 => ⟨S_, .i32⟩
  | 116 => ⟨S4x2048, .i32⟩
  | 117 => ⟨S4x2048, .i32⟩
  | 118 => ⟨S_, .i32⟩
  | 119 => ⟨S4x2048, .i32⟩
  | 120 => ⟨S4x2048, .i32⟩
  | 121 => ⟨S4x2048, .i32⟩
  | 122 => ⟨S4x2048, .i32⟩
  | 123 => ⟨S4x2048, .i32⟩
  | 124 => ⟨S_, .i32⟩
  | 125 => ⟨S4x2048, .i32⟩
  | 126 => ⟨S4x2048, .i32⟩
  | 127 => ⟨S_, .i32⟩
  | _ => ⟨S1x20, .f32⟩

abbrev hbmTy0_7 (i : Nat) : BufTy := match i % 128 with
  | 0 => ⟨S4x2048, .i32⟩
  | 1 => ⟨S4x2048, .i32⟩
  | 2 => ⟨S4x2048, .i32⟩
  | 3 => ⟨S4x2048, .i32⟩
  | 4 => ⟨S4x2048, .i32⟩
  | 5 => ⟨S_, .i32⟩
  | 6 => ⟨S4x2048, .i32⟩
  | 7 => ⟨S4x2048, .i32⟩
  | 8 => ⟨S_, .i32⟩
  | 9 => ⟨S4x2048, .i32⟩
  | 10 => ⟨S4x2048, .i32⟩
  | 11 => ⟨S4x2048, .i32⟩
  | 12 => ⟨S4x2048, .i32⟩
  | 13 => ⟨S4x2048, .i32⟩
  | 14 => ⟨S4x2048, .i32⟩
  | 15 => ⟨S4x2048, .i32⟩
  | 16 => ⟨S4x2048, .i32⟩
  | 17 => ⟨S_, .i32⟩
  | 18 => ⟨S4x2048, .i32⟩
  | 19 => ⟨S4x2048, .i32⟩
  | 20 => ⟨S4x2048, .i32⟩
  | 21 => ⟨S_, .i32⟩
  | 22 => ⟨S4x2048, .i32⟩
  | 23 => ⟨S4x2048, .i32⟩
  | 24 => ⟨S_, .i32⟩
  | 25 => ⟨S4x2048, .i32⟩
  | 26 => ⟨S4x2048, .i32⟩
  | 27 => ⟨S4x2048, .i32⟩
  | 28 => ⟨S4x2048, .i32⟩
  | 29 => ⟨S4x2048, .i32⟩
  | 30 => ⟨S_, .i32⟩
  | 31 => ⟨S4x2048, .i32⟩
  | 32 => ⟨S4x2048, .i32⟩
  | 33 => ⟨S_, .i32⟩
  | 34 => ⟨S4x2048, .i32⟩
  | 35 => ⟨S4x2048, .i32⟩
  | 36 => ⟨S4x2048, .i32⟩
  | 37 => ⟨S4x2048, .i32⟩
  | 38 => ⟨S4x2048, .i32⟩
  | 39 => ⟨S_, .i32⟩
  | 40 => ⟨S4x2048, .i32⟩
  | 41 => ⟨S4x2048, .i32⟩
  | 42 => ⟨S_, .i32⟩
  | 43 => ⟨S4x2048, .i32⟩
  | 44 => ⟨S4x2048, .i32⟩
  | 45 => ⟨S4x2048, .i32⟩
  | 46 => ⟨S4x2048, .i32⟩
  | 47 => ⟨S4x2048, .i32⟩
  | 48 => ⟨S_, .i32⟩
  | 49 => ⟨S4x2048, .i32⟩
  | 50 => ⟨S4x2048, .i32⟩
  | 51 => ⟨S_, .i32⟩
  | 52 => ⟨S4x2048, .i32⟩
  | 53 => ⟨S4x2048, .i32⟩
  | 54 => ⟨S4x2048, .i32⟩
  | 55 => ⟨S4x2048, .i32⟩
  | 56 => ⟨S4x2048, .i32⟩
  | 57 => ⟨S4x2048, .i32⟩
  | 58 => ⟨S4x2048, .i32⟩
  | 59 => ⟨S4x2048, .i32⟩
  | 60 => ⟨S_, .i32⟩
  | 61 => ⟨S4x2048, .i32⟩
  | 62 => ⟨S4x2048, .i32⟩
  | 63 => ⟨S4x2048, .i32⟩
  | 64 => ⟨S_, .i32⟩
  | 65 => ⟨S4x2048, .i32⟩
  | 66 => ⟨S4x2048, .i32⟩
  | 67 => ⟨S_, .i32⟩
  | 68 => ⟨S4x2048, .i32⟩
  | 69 => ⟨S4x2048, .i32⟩
  | 70 => ⟨S4x2048, .i32⟩
  | 71 => ⟨S4x2048, .i32⟩
  | 72 => ⟨S4x2048, .i32⟩
  | 73 => ⟨S_, .i32⟩
  | 74 => ⟨S4x2048, .i32⟩
  | 75 => ⟨S4x2048, .i32⟩
  | 76 => ⟨S_, .i32⟩
  | 77 => ⟨S4x2048, .i32⟩
  | 78 => ⟨S4x2048, .i32⟩
  | 79 => ⟨S4x2048, .i32⟩
  | 80 => ⟨S4x2048, .i32⟩
  | 81 => ⟨S4x2048, .i32⟩
  | 82 => ⟨S_, .i32⟩
  | 83 => ⟨S4x2048, .i32⟩
  | 84 => ⟨S4x2048, .i32⟩
  | 85 => ⟨S_, .i32⟩
  | 86 => ⟨S4x2048, .i32⟩
  | 87 => ⟨S4x2048, .i32⟩
  | 88 => ⟨S4x2048, .i32⟩
  | 89 => ⟨S4x2048, .i32⟩
  | 90 => ⟨S4x2048, .i32⟩
  | 91 => ⟨S_, .i32⟩
  | 92 => ⟨S4x2048, .i32⟩
  | 93 => ⟨S4x2048, .i32⟩
  | 94 => ⟨S_, .i32⟩
  | 95 => ⟨S4x2048, .i32⟩
  | 96 => ⟨S4x2048, .i32⟩
  | 97 => ⟨S4x2048, .i32⟩
  | 98 => ⟨S4x2048, .i32⟩
  | 99 => ⟨S4x2048, .i32⟩
  | 100 => ⟨S4x2048, .i32⟩
  | 101 => ⟨S4x2048, .i32⟩
  | 102 => ⟨S4x2048, .i32⟩
  | 103 => ⟨S_, .i32⟩
  | 104 => ⟨S4x2048, .i32⟩
  | 105 => ⟨S4x2048, .i32⟩
  | 106 => ⟨S4x2048, .i32⟩
  | 107 => ⟨S1x1, .i32⟩
  | 108 => ⟨S1x1, .i32⟩
  | 109 => ⟨S1x1, .i1⟩
  | 110 => ⟨S_, .i32⟩
  | 111 => ⟨S1x1, .i32⟩
  | 112 => ⟨S1x1, .i32⟩
  | 113 => ⟨S1x1, .i1⟩
  | 114 => ⟨S1x1, .i1⟩
  | 115 => ⟨S1x1, .i1⟩
  | 116 => ⟨S_, .i32⟩
  | 117 => ⟨S1x1, .i32⟩
  | 118 => ⟨S1x1, .i32⟩
  | 119 => ⟨S1x1, .i32⟩
  | 120 => ⟨S_, .i32⟩
  | 121 => ⟨S1x1, .i32⟩
  | 122 => ⟨S1x1, .i32⟩
  | 123 => ⟨S1x1, .i32⟩
  | 124 => ⟨S1x1, .i32⟩
  | 125 => ⟨S4x2048, .i32⟩
  | 126 => ⟨S4x2048, .i32⟩
  | 127 => ⟨S4x2048, .i32⟩
  | _ => ⟨S1x20, .f32⟩

abbrev hbmTy0_8 (i : Nat) : BufTy := match i % 128 with
  | 0 => ⟨S4x2048, .i32⟩
  | 1 => ⟨S4x2048, .i32⟩
  | 2 => ⟨S4x2048, .i32⟩
  | 3 => ⟨S4x2048, .i32⟩
  | 4 => ⟨S4x2048, .i32⟩
  | 5 => ⟨S4x2048, .i32⟩
  | 6 => ⟨S4x2048, .i32⟩
  | 7 => ⟨S4x2048, .i32⟩
  | 8 => ⟨S4x2048, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S1x1, .i32⟩
  | 28 => ⟨S1x1, .i32⟩
  | 29 => ⟨S1, .i32⟩
  | 30 => ⟨S_, .i32⟩
  | 31 => ⟨S1, .i32⟩
  | 32 => ⟨S_, .i32⟩
  | 33 => ⟨S2, .i64⟩
  | 34 => ⟨S_, .i64⟩
  | 35 => ⟨S2, .i64⟩
  | 36 => ⟨S2, .i64⟩
  | 37 => ⟨S_, .i64⟩
  | 38 => ⟨S2, .i64⟩
  | 39 => ⟨S2, .i64⟩
  | 40 => ⟨S2, .i32⟩
  | 41 => ⟨S2, .i32⟩
  | 42 => ⟨S_, .i32⟩
  | 43 => ⟨S_, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S1x20, .f32⟩

abbrev hbmTy0_9 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S1x20, .f32⟩

abbrev hbmTy0_10 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S2x1, .i32⟩
  | 9 => ⟨S2x1, .i32⟩
  | 10 => ⟨S2x2, .i32⟩
  | 11 => ⟨S1x2, .i32⟩
  | 12 => ⟨S2, .i32⟩
  | 13 => ⟨S1x2, .i32⟩
  | 14 => ⟨S2, .i32⟩
  | 15 => ⟨S1, .i32⟩
  | 16 => ⟨S_, .i32⟩
  | 17 => ⟨S1, .i32⟩
  | 18 => ⟨S_, .i32⟩
  | 19 => ⟨S4x2048, .i64⟩
  | 20 => ⟨S4x2048, .i64⟩
  | 21 => ⟨S_, .i64⟩
  | 22 => ⟨S4x2048, .i64⟩
  | 23 => ⟨S4x2048, .i64⟩
  | 24 => ⟨S_, .i64⟩
  | 25 => ⟨S4x2048, .i64⟩
  | 26 => ⟨S4x2048, .i64⟩
  | 27 => ⟨S4x2048, .i64⟩
  | 28 => ⟨S_, .i64⟩
  | 29 => ⟨S4x2048, .i64⟩
  | 30 => ⟨S4x2048, .i64⟩
  | 31 => ⟨S4x2048, .i32⟩
  | 32 => ⟨S4x2048, .i32⟩
  | 33 => ⟨S_, .i32⟩
  | 34 => ⟨S_, .i32⟩
  | 35 => ⟨S_, .i32⟩
  | 36 => ⟨S4x2048, .i32⟩
  | 37 => ⟨S4x2048, .i32⟩
  | 38 => ⟨S4x2048, .i32⟩
  | 39 => ⟨S4x2048, .i32⟩
  | 40 => ⟨S4x2048, .i32⟩
  | 41 => ⟨S_, .i32⟩
  | 42 => ⟨S4x2048, .i32⟩
  | 43 => ⟨S4x2048, .i32⟩
  | 44 => ⟨S_, .i32⟩
  | 45 => ⟨S4x2048, .i32⟩
  | 46 => ⟨S4x2048, .i32⟩
  | 47 => ⟨S4x2048, .i32⟩
  | 48 => ⟨S4x2048, .i32⟩
  | 49 => ⟨S4x2048, .i32⟩
  | 50 => ⟨S_, .i32⟩
  | 51 => ⟨S4x2048, .i32⟩
  | 52 => ⟨S4x2048, .i32⟩
  | 53 => ⟨S_, .i32⟩
  | 54 => ⟨S4x2048, .i32⟩
  | 55 => ⟨S4x2048, .i32⟩
  | 56 => ⟨S4x2048, .i32⟩
  | 57 => ⟨S4x2048, .i32⟩
  | 58 => ⟨S4x2048, .i32⟩
  | 59 => ⟨S_, .i32⟩
  | 60 => ⟨S4x2048, .i32⟩
  | 61 => ⟨S4x2048, .i32⟩
  | 62 => ⟨S_, .i32⟩
  | 63 => ⟨S4x2048, .i32⟩
  | 64 => ⟨S4x2048, .i32⟩
  | 65 => ⟨S4x2048, .i32⟩
  | 66 => ⟨S4x2048, .i32⟩
  | 67 => ⟨S4x2048, .i32⟩
  | 68 => ⟨S_, .i32⟩
  | 69 => ⟨S4x2048, .i32⟩
  | 70 => ⟨S4x2048, .i32⟩
  | 71 => ⟨S_, .i32⟩
  | 72 => ⟨S4x2048, .i32⟩
  | 73 => ⟨S4x2048, .i32⟩
  | 74 => ⟨S4x2048, .i32⟩
  | 75 => ⟨S4x2048, .i32⟩
  | 76 => ⟨S4x2048, .i32⟩
  | 77 => ⟨S4x2048, .i32⟩
  | 78 => ⟨S4x2048, .i32⟩
  | 79 => ⟨S4x2048, .i32⟩
  | 80 => ⟨S_, .i32⟩
  | 81 => ⟨S4x2048, .i32⟩
  | 82 => ⟨S4x2048, .i32⟩
  | 83 => ⟨S4x2048, .i32⟩
  | 84 => ⟨S_, .i32⟩
  | 85 => ⟨S4x2048, .i32⟩
  | 86 => ⟨S4x2048, .i32⟩
  | 87 => ⟨S_, .i32⟩
  | 88 => ⟨S4x2048, .i32⟩
  | 89 => ⟨S4x2048, .i32⟩
  | 90 => ⟨S4x2048, .i32⟩
  | 91 => ⟨S4x2048, .i32⟩
  | 92 => ⟨S4x2048, .i32⟩
  | 93 => ⟨S_, .i32⟩
  | 94 => ⟨S4x2048, .i32⟩
  | 95 => ⟨S4x2048, .i32⟩
  | 96 => ⟨S_, .i32⟩
  | 97 => ⟨S4x2048, .i32⟩
  | 98 => ⟨S4x2048, .i32⟩
  | 99 => ⟨S4x2048, .i32⟩
  | 100 => ⟨S4x2048, .i32⟩
  | 101 => ⟨S4x2048, .i32⟩
  | 102 => ⟨S_, .i32⟩
  | 103 => ⟨S4x2048, .i32⟩
  | 104 => ⟨S4x2048, .i32⟩
  | 105 => ⟨S_, .i32⟩
  | 106 => ⟨S4x2048, .i32⟩
  | 107 => ⟨S4x2048, .i32⟩
  | 108 => ⟨S4x2048, .i32⟩
  | 109 => ⟨S4x2048, .i32⟩
  | 110 => ⟨S4x2048, .i32⟩
  | 111 => ⟨S_, .i32⟩
  | 112 => ⟨S4x2048, .i32⟩
  | 113 => ⟨S4x2048, .i32⟩
  | 114 => ⟨S_, .i32⟩
  | 115 => ⟨S4x2048, .i32⟩
  | 116 => ⟨S4x2048, .i32⟩
  | 117 => ⟨S4x2048, .i32⟩
  | 118 => ⟨S4x2048, .i32⟩
  | 119 => ⟨S4x2048, .i32⟩
  | 120 => ⟨S4x2048, .i32⟩
  | 121 => ⟨S4x2048, .i32⟩
  | 122 => ⟨S4x2048, .i32⟩
  | 123 => ⟨S_, .i32⟩
  | 124 => ⟨S4x2048, .i32⟩
  | 125 => ⟨S4x2048, .i32⟩
  | 126 => ⟨S4x2048, .i32⟩
  | 127 => ⟨S_, .i32⟩
  | _ => ⟨S1x20, .f32⟩

abbrev hbmTy0_11 (i : Nat) : BufTy := match i % 128 with
  | 0 => ⟨S4x2048, .i32⟩
  | 1 => ⟨S4x2048, .i32⟩
  | 2 => ⟨S_, .i32⟩
  | 3 => ⟨S4x2048, .i32⟩
  | 4 => ⟨S4x2048, .i32⟩
  | 5 => ⟨S4x2048, .i32⟩
  | 6 => ⟨S4x2048, .i32⟩
  | 7 => ⟨S4x2048, .i32⟩
  | 8 => ⟨S_, .i32⟩
  | 9 => ⟨S4x2048, .i32⟩
  | 10 => ⟨S4x2048, .i32⟩
  | 11 => ⟨S_, .i32⟩
  | 12 => ⟨S4x2048, .i32⟩
  | 13 => ⟨S4x2048, .i32⟩
  | 14 => ⟨S4x2048, .i32⟩
  | 15 => ⟨S4x2048, .i32⟩
  | 16 => ⟨S4x2048, .i32⟩
  | 17 => ⟨S_, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S4x2048, .i32⟩
  | 24 => ⟨S4x2048, .i32⟩
  | 25 => ⟨S4x2048, .i32⟩
  | 26 => ⟨S_, .i32⟩
  | 27 => ⟨S4x2048, .i32⟩
  | 28 => ⟨S4x2048, .i32⟩
  | 29 => ⟨S_, .i32⟩
  | 30 => ⟨S4x2048, .i32⟩
  | 31 => ⟨S4x2048, .i32⟩
  | 32 => ⟨S4x2048, .i32⟩
  | 33 => ⟨S4x2048, .i32⟩
  | 34 => ⟨S4x2048, .i32⟩
  | 35 => ⟨S4x2048, .i32⟩
  | 36 => ⟨S4x2048, .i32⟩
  | 37 => ⟨S4x2048, .i32⟩
  | 38 => ⟨S_, .i32⟩
  | 39 => ⟨S4x2048, .i32⟩
  | 40 => ⟨S4x2048, .i32⟩
  | 41 => ⟨S4x2048, .i32⟩
  | 42 => ⟨S_, .i32⟩
  | 43 => ⟨S4x2048, .i32⟩
  | 44 => ⟨S4x2048, .i32⟩
  | 45 => ⟨S_, .i32⟩
  | 46 => ⟨S4x2048, .i32⟩
  | 47 => ⟨S4x2048, .i32⟩
  | 48 => ⟨S4x2048, .i32⟩
  | 49 => ⟨S4x2048, .i32⟩
  | 50 => ⟨S4x2048, .i32⟩
  | 51 => ⟨S_, .i32⟩
  | 52 => ⟨S4x2048, .i32⟩
  | 53 => ⟨S4x2048, .i32⟩
  | 54 => ⟨S_, .i32⟩
  | 55 => ⟨S4x2048, .i32⟩
  | 56 => ⟨S4x2048, .i32⟩
  | 57 => ⟨S4x2048, .i32⟩
  | 58 => ⟨S4x2048, .i32⟩
  | 59 => ⟨S4x2048, .i32⟩
  | 60 => ⟨S_, .i32⟩
  | 61 => ⟨S4x2048, .i32⟩
  | 62 => ⟨S4x2048, .i32⟩
  | 63 => ⟨S_, .i32⟩
  | 64 => ⟨S4x2048, .i32⟩
  | 65 => ⟨S4x2048, .i32⟩
  | 66 => ⟨S4x2048, .i32⟩
  | 67 => ⟨S4x2048, .i32⟩
  | 68 => ⟨S4x2048, .i32⟩
  | 69 => ⟨S_, .i32⟩
  | 70 => ⟨S4x2048, .i32⟩
  | 71 => ⟨S4x2048, .i32⟩
  | 72 => ⟨S_, .i32⟩
  | 73 => ⟨S4x2048, .i32⟩
  | 74 => ⟨S4x2048, .i32⟩
  | 75 => ⟨S4x2048, .i32⟩
  | 76 => ⟨S4x2048, .i32⟩
  | 77 => ⟨S4x2048, .i32⟩
  | 78 => ⟨S4x2048, .i32⟩
  | 79 => ⟨S4x2048, .i32⟩
  | 80 => ⟨S4x2048, .i32⟩
  | 81 => ⟨S_, .i32⟩
  | 82 => ⟨S4x2048, .i32⟩
  | 83 => ⟨S4x2048, .i32⟩
  | 84 => ⟨S4x2048, .i32⟩
  | 85 => ⟨S_, .i32⟩
  | 86 => ⟨S4x2048, .i32⟩
  | 87 => ⟨S4x2048, .i32⟩
  | 88 => ⟨S_, .i32⟩
  | 89 => ⟨S4x2048, .i32⟩
  | 90 => ⟨S4x2048, .i32⟩
  | 91 => ⟨S4x2048, .i32⟩
  | 92 => ⟨S4x2048, .i32⟩
  | 93 => ⟨S4x2048, .i32⟩
  | 94 => ⟨S_, .i32⟩
  | 95 => ⟨S4x2048, .i32⟩
  | 96 => ⟨S4x2048, .i32⟩
  | 97 => ⟨S_, .i32⟩
  | 98 => ⟨S4x2048, .i32⟩
  | 99 => ⟨S4x2048, .i32⟩
  | 100 => ⟨S4x2048, .i32⟩
  | 101 => ⟨S4x2048, .i32⟩
  | 102 => ⟨S4x2048, .i32⟩
  | 103 => ⟨S_, .i32⟩
  | 104 => ⟨S4x2048, .i32⟩
  | 105 => ⟨S4x2048, .i32⟩
  | 106 => ⟨S_, .i32⟩
  | 107 => ⟨S4x2048, .i32⟩
  | 108 => ⟨S4x2048, .i32⟩
  | 109 => ⟨S4x2048, .i32⟩
  | 110 => ⟨S4x2048, .i32⟩
  | 111 => ⟨S4x2048, .i32⟩
  | 112 => ⟨S_, .i32⟩
  | 113 => ⟨S4x2048, .i32⟩
  | 114 => ⟨S4x2048, .i32⟩
  | 115 => ⟨S_, .i32⟩
  | 116 => ⟨S4x2048, .i32⟩
  | 117 => ⟨S4x2048, .i32⟩
  | 118 => ⟨S4x2048, .i32⟩
  | 119 => ⟨S4x2048, .i32⟩
  | 120 => ⟨S4x2048, .i32⟩
  | 121 => ⟨S4x2048, .i32⟩
  | 122 => ⟨S4x2048, .i32⟩
  | 123 => ⟨S4x2048, .i32⟩
  | 124 => ⟨S_, .i32⟩
  | 125 => ⟨S4x2048, .i32⟩
  | 126 => ⟨S4x2048, .i32⟩
  | 127 => ⟨S4x2048, .i32⟩
  | _ => ⟨S1x20, .f32⟩

abbrev hbmTy0_12 (i : Nat) : BufTy := match i % 128 with
  | 0 => ⟨S1, .i32⟩
  | 1 => ⟨S_, .i32⟩
  | 2 => ⟨S1, .i32⟩
  | 3 => ⟨S_, .i32⟩
  | 4 => ⟨S4x2048, .i64⟩
  | 5 => ⟨S4x2048, .i64⟩
  | 6 => ⟨S_, .i64⟩
  | 7 => ⟨S4x2048, .i64⟩
  | 8 => ⟨S4x2048, .i64⟩
  | 9 => ⟨S_, .i64⟩
  | 10 => ⟨S4x2048, .i64⟩
  | 11 => ⟨S4x2048, .i64⟩
  | 12 => ⟨S4x2048, .i64⟩
  | 13 => ⟨S_, .i64⟩
  | 14 => ⟨S4x2048, .i64⟩
  | 15 => ⟨S4x2048, .i64⟩
  | 16 => ⟨S4x2048, .i32⟩
  | 17 => ⟨S4x2048, .i32⟩
  | 18 => ⟨S_, .i32⟩
  | 19 => ⟨S_, .i32⟩
  | 20 => ⟨S_, .i32⟩
  | 21 => ⟨S4x2048, .i32⟩
  | 22 => ⟨S4x2048, .i32⟩
  | 23 => ⟨S4x2048, .i32⟩
  | 24 => ⟨S4x2048, .i32⟩
  | 25 => ⟨S4x2048, .i32⟩
  | 26 => ⟨S_, .i32⟩
  | 27 => ⟨S4x2048, .i32⟩
  | 28 => ⟨S4x2048, .i32⟩
  | 29 => ⟨S_, .i32⟩
  | 30 => ⟨S4x2048, .i32⟩
  | 31 => ⟨S4x2048, .i32⟩
  | 32 => ⟨S4x2048, .i32⟩
  | 33 => ⟨S4x2048, .i32⟩
  | 34 => ⟨S4x2048, .i32⟩
  | 35 => ⟨S_, .i32⟩
  | 36 => ⟨S4x2048, .i32⟩
  | 37 => ⟨S4x2048, .i32⟩
  | 38 => ⟨S_, .i32⟩
  | 39 => ⟨S4x2048, .i32⟩
  | 40 => ⟨S4x2048, .i32⟩
  | 41 => ⟨S4x2048, .i32⟩
  | 42 => ⟨S4x2048, .i32⟩
  | 43 => ⟨S4x2048, .i32⟩
  | 44 => ⟨S_, .i32⟩
  | 45 => ⟨S4x2048, .i32⟩
  | 46 => ⟨S4x2048, .i32⟩
  | 47 => ⟨S_, .i32⟩
  | 48 => ⟨S4x2048, .i32⟩
  | 49 => ⟨S4x2048, .i32⟩
  | 50 => ⟨S4x2048, .i32⟩
  | 51 => ⟨S4x2048, .i32⟩
  | 52 => ⟨S4x2048, .i32⟩
  | 53 => ⟨S_, .i32⟩
  | 54 => ⟨S4x2048, .i32⟩
  | 55 => ⟨S4x2048, .i32⟩
  | 56 => ⟨S_, .i32⟩
  | 57 => ⟨S4x2048, .i32⟩
  | 58 => ⟨S4x2048, .i32⟩
  | 59 => ⟨S4x2048, .i32⟩
  | 60 => ⟨S4x2048, .i32⟩
  | 61 => ⟨S4x2048, .i32⟩
  | 62 => ⟨S4x2048, .i32⟩
  | 63 => ⟨S4x2048, .i32⟩
  | 64 => ⟨S4x2048, .i32⟩
  | 65 => ⟨S_, .i32⟩
  | 66 => ⟨S4x2048, .i32⟩
  | 67 => ⟨S4x2048, .i32⟩
  | 68 => ⟨S4x2048, .i32⟩
  | 69 => ⟨S_, .i32⟩
  | 70 => ⟨S4x2048, .i32⟩
  | 71 => ⟨S4x2048, .i32⟩
  | 72 => ⟨S_, .i32⟩
  | 73 => ⟨S4x2048, .i32⟩
  | 74 => ⟨S4x2048, .i32⟩
  | 75 => ⟨S4x2048, .i32⟩
  | 76 => ⟨S4x2048, .i32⟩
  | 77 => ⟨S4x2048, .i32⟩
  | 78 => ⟨S_, .i32⟩
  | 79 => ⟨S4x2048, .i32⟩
  | 80 => ⟨S4x2048, .i32⟩
  | 81 => ⟨S_, .i32⟩
  | 82 => ⟨S4x2048, .i32⟩
  | 83 => ⟨S4x2048, .i32⟩
  | 84 => ⟨S4x2048, .i32⟩
  | 85 => ⟨S4x2048, .i32⟩
  | 86 => ⟨S4x2048, .i32⟩
  | 87 => ⟨S_, .i32⟩
  | 88 => ⟨S4x2048, .i32⟩
  | 89 => ⟨S4x2048, .i32⟩
  | 90 => ⟨S_, .i32⟩
  | 91 => ⟨S4x2048, .i32⟩
  | 92 => ⟨S4x2048, .i32⟩
  | 93 => ⟨S4x2048, .i32⟩
  | 94 => ⟨S4x2048, .i32⟩
  | 95 => ⟨S4x2048, .i32⟩
  | 96 => ⟨S_, .i32⟩
  | 97 => ⟨S4x2048, .i32⟩
  | 98 => ⟨S4x2048, .i32⟩
  | 99 => ⟨S_, .i32⟩
  | 100 => ⟨S4x2048, .i32⟩
  | 101 => ⟨S4x2048, .i32⟩
  | 102 => ⟨S4x2048, .i32⟩
  | 103 => ⟨S4x2048, .i32⟩
  | 104 => ⟨S4x2048, .i32⟩
  | 105 => ⟨S4x2048, .i32⟩
  | 106 => ⟨S4x2048, .i32⟩
  | 107 => ⟨S4x2048, .i32⟩
  | 108 => ⟨S_, .i32⟩
  | 109 => ⟨S4x2048, .i32⟩
  | 110 => ⟨S4x2048, .i32⟩
  | 111 => ⟨S4x2048, .i32⟩
  | 112 => ⟨S_, .i32⟩
  | 113 => ⟨S4x2048, .i32⟩
  | 114 => ⟨S4x2048, .i32⟩
  | 115 => ⟨S_, .i32⟩
  | 116 => ⟨S4x2048, .i32⟩
  | 117 => ⟨S4x2048, .i32⟩
  | 118 => ⟨S4x2048, .i32⟩
  | 119 => ⟨S4x2048, .i32⟩
  | 120 => ⟨S4x2048, .i32⟩
  | 121 => ⟨S_, .i32⟩
  | 122 => ⟨S4x2048, .i32⟩
  | 123 => ⟨S4x2048, .i32⟩
  | 124 => ⟨S_, .i32⟩
  | 125 => ⟨S4x2048, .i32⟩
  | 126 => ⟨S4x2048, .i32⟩
  | 127 => ⟨S4x2048, .i32⟩
  | _ => ⟨S1x20, .f32⟩

abbrev hbmTy0_13 (i : Nat) : BufTy := match i % 128 with
  | 0 => ⟨S4x2048, .i32⟩
  | 1 => ⟨S4x2048, .i32⟩
  | 2 => ⟨S_, .i32⟩
  | 3 => ⟨S4x2048, .i32⟩
  | 4 => ⟨S4x2048, .i32⟩
  | 5 => ⟨S_, .i32⟩
  | 6 => ⟨S4x2048, .i32⟩
  | 7 => ⟨S4x2048, .i32⟩
  | 8 => ⟨S4x2048, .i32⟩
  | 9 => ⟨S4x2048, .i32⟩
  | 10 => ⟨S4x2048, .i32⟩
  | 11 => ⟨S_, .i32⟩
  | 12 => ⟨S4x2048, .i32⟩
  | 13 => ⟨S4x2048, .i32⟩
  | 14 => ⟨S_, .i32⟩
  | 15 => ⟨S4x2048, .i32⟩
  | 16 => ⟨S4x2048, .i32⟩
  | 17 => ⟨S4x2048, .i32⟩
  | 18 => ⟨S4x2048, .i32⟩
  | 19 => ⟨S4x2048, .i32⟩
  | 20 => ⟨S4x2048, .i32⟩
  | 21 => ⟨S4x2048, .i32⟩
  | 22 => ⟨S4x2048, .i32⟩
  | 23 => ⟨S_, .i32⟩
  | 24 => ⟨S4x2048, .i32⟩
  | 25 => ⟨S4x2048, .i32⟩
  | 26 => ⟨S4x2048, .i32⟩
  | 27 => ⟨S_, .i32⟩
  | 28 => ⟨S4x2048, .i32⟩
  | 29 => ⟨S4x2048, .i32⟩
  | 30 => ⟨S_, .i32⟩
  | 31 => ⟨S4x2048, .i32⟩
  | 32 => ⟨S4x2048, .i32⟩
  | 33 => ⟨S4x2048, .i32⟩
  | 34 => ⟨S4x2048, .i32⟩
  | 35 => ⟨S4x2048, .i32⟩
  | 36 => ⟨S_, .i32⟩
  | 37 => ⟨S4x2048, .i32⟩
  | 38 => ⟨S4x2048, .i32⟩
  | 39 => ⟨S_, .i32⟩
  | 40 => ⟨S4x2048, .i32⟩
  | 41 => ⟨S4x2048, .i32⟩
  | 42 => ⟨S4x2048, .i32⟩
  | 43 => ⟨S4x2048, .i32⟩
  | 44 => ⟨S4x2048, .i32⟩
  | 45 => ⟨S_, .i32⟩
  | 46 => ⟨S4x2048, .i32⟩
  | 47 => ⟨S4x2048, .i32⟩
  | 48 => ⟨S_, .i32⟩
  | 49 => ⟨S4x2048, .i32⟩
  | 50 => ⟨S4x2048, .i32⟩
  | 51 => ⟨S4x2048, .i32⟩
  | 52 => ⟨S4x2048, .i32⟩
  | 53 => ⟨S4x2048, .i32⟩
  | 54 => ⟨S_, .i32⟩
  | 55 => ⟨S4x2048, .i32⟩
  | 56 => ⟨S4x2048, .i32⟩
  | 57 => ⟨S_, .i32⟩
  | 58 => ⟨S4x2048, .i32⟩
  | 59 => ⟨S4x2048, .i32⟩
  | 60 => ⟨S4x2048, .i32⟩
  | 61 => ⟨S4x2048, .i32⟩
  | 62 => ⟨S4x2048, .i32⟩
  | 63 => ⟨S4x2048, .i32⟩
  | 64 => ⟨S4x2048, .i32⟩
  | 65 => ⟨S4x2048, .i32⟩
  | 66 => ⟨S_, .i32⟩
  | 67 => ⟨S4x2048, .i32⟩
  | 68 => ⟨S4x2048, .i32⟩
  | 69 => ⟨S4x2048, .i32⟩
  | 70 => ⟨S_, .i32⟩
  | 71 => ⟨S4x2048, .i32⟩
  | 72 => ⟨S4x2048, .i32⟩
  | 73 => ⟨S_, .i32⟩
  | 74 => ⟨S4x2048, .i32⟩
  | 75 => ⟨S4x2048, .i32⟩
  | 76 => ⟨S4x2048, .i32⟩
  | 77 => ⟨S4x2048, .i32⟩
  | 78 => ⟨S4x2048, .i32⟩
  | 79 => ⟨S_, .i32⟩
  | 80 => ⟨S4x2048, .i32⟩
  | 81 => ⟨S4x2048, .i32⟩
  | 82 => ⟨S_, .i32⟩
  | 83 => ⟨S4x2048, .i32⟩
  | 84 => ⟨S4x2048, .i32⟩
  | 85 => ⟨S4x2048, .i32⟩
  | 86 => ⟨S4x2048, .i32⟩
  | 87 => ⟨S4x2048, .i32⟩
  | 88 => ⟨S_, .i32⟩
  | 89 => ⟨S4x2048, .i32⟩
  | 90 => ⟨S4x2048, .i32⟩
  | 91 => ⟨S_, .i32⟩
  | 92 => ⟨S4x2048, .i32⟩
  | 93 => ⟨S4x2048, .i32⟩
  | 94 => ⟨S4x2048, .i32⟩
  | 95 => ⟨S4x2048, .i32⟩
  | 96 => ⟨S4x2048, .i32⟩
  | 97 => ⟨S_, .i32⟩
  | 98 => ⟨S4x2048, .i32⟩
  | 99 => ⟨S4x2048, .i32⟩
  | 100 => ⟨S_, .i32⟩
  | 101 => ⟨S4x2048, .i32⟩
  | 102 => ⟨S4x2048, .i32⟩
  | 103 => ⟨S4x2048, .i32⟩
  | 104 => ⟨S4x2048, .i32⟩
  | 105 => ⟨S4x2048, .i32⟩
  | 106 => ⟨S4x2048, .i32⟩
  | 107 => ⟨S4x2048, .i32⟩
  | 108 => ⟨S4x2048, .i32⟩
  | 109 => ⟨S_, .i32⟩
  | 110 => ⟨S4x2048, .i32⟩
  | 111 => ⟨S4x2048, .i32⟩
  | 112 => ⟨S4x2048, .i32⟩
  | 113 => ⟨S1x1, .i32⟩
  | 114 => ⟨S1x1, .i32⟩
  | 115 => ⟨S1x1, .i1⟩
  | 116 => ⟨S_, .i32⟩
  | 117 => ⟨S1x1, .i32⟩
  | 118 => ⟨S1x1, .i32⟩
  | 119 => ⟨S1x1, .i1⟩
  | 120 => ⟨S1x1, .i1⟩
  | 121 => ⟨S1x1, .i1⟩
  | 122 => ⟨S_, .i32⟩
  | 123 => ⟨S1x1, .i32⟩
  | 124 => ⟨S1x1, .i32⟩
  | 125 => ⟨S1x1, .i32⟩
  | 126 => ⟨S_, .i32⟩
  | 127 => ⟨S1x1, .i32⟩
  | _ => ⟨S1x20, .f32⟩

abbrev hbmTy0_14 (i : Nat) : BufTy := match i % 128 with
  | 0 => ⟨S1x1, .i32⟩
  | 1 => ⟨S1x1, .i32⟩
  | 2 => ⟨S1x1, .i32⟩
  | 3 => ⟨S4x2048, .i32⟩
  | 4 => ⟨S4x2048, .i32⟩
  | 5 => ⟨S4x2048, .i32⟩
  | 6 => ⟨S4x2048, .i32⟩
  | 7 => ⟨S4x2048, .i32⟩
  | 8 => ⟨S4x2048, .i32⟩
  | 9 => ⟨S4x2048, .i32⟩
  | 10 => ⟨S4x2048, .i32⟩
  | 11 => ⟨S4x2048, .i32⟩
  | 12 => ⟨S4x2048, .i32⟩
  | 13 => ⟨S4x2048, .i32⟩
  | 14 => ⟨S4x2048, .i32⟩
  | 15 => ⟨S20x60, .f32⟩
  | 16 => ⟨S1x60, .f32⟩
  | 17 => ⟨S1x60, .f32⟩
  | 18 => ⟨S1x60, .f32⟩
  | 19 => ⟨S1x60, .f32⟩
  | 20 => ⟨S60x60, .f32⟩
  | 21 => ⟨S1x60, .f32⟩
  | 22 => ⟨S1x60, .f32⟩
  | 23 => ⟨S1x60, .f32⟩
  | 24 => ⟨S1x60, .f32⟩
  | 25 => ⟨S60x393216, .f32⟩
  | 26 => ⟨S1x393216, .f32⟩
  | 27 => ⟨S1x393216, .f32⟩
  | 28 => ⟨S1x393216, .f32⟩
  | 29 => ⟨S_, .f32⟩
  | 30 => ⟨S1x393216, .f32⟩
  | 31 => ⟨S1x393216, .i1⟩
  | 32 => ⟨S_, .f32⟩
  | 33 => ⟨S1x393216, .f32⟩
  | 34 => ⟨S1x393216, .i1⟩
  | 35 => ⟨S_, .f32⟩
  | 36 => ⟨S_, .f32⟩
  | 37 => ⟨S1x393216, .f32⟩
  | 38 => ⟨S1x393216, .f32⟩
  | 39 => ⟨S1x393216, .f32⟩
  | 40 => ⟨S_, .f32⟩
  | 41 => ⟨S1x393216, .f32⟩
  | 42 => ⟨S1x393216, .f32⟩
  | 43 => ⟨S1x393216, .f32⟩
  | 44 => ⟨S4x98304, .f32⟩
  | 45 => ⟨S_, .f32⟩
  | 46 => ⟨S4x98304, .f32⟩
  | 47 => ⟨S4x98304, .f32⟩
  | 48 => ⟨S4x98304, .f32⟩
  | 49 => ⟨S_, .f32⟩
  | 50 => ⟨S4x98304, .f32⟩
  | 51 => ⟨S4x98304, .f32⟩
  | 52 => ⟨S4x2048x48, .f32⟩
  | 53 => ⟨S4x2048x32, .f32⟩
  | 54 => ⟨S4x2048x16, .f32⟩
  | 55 => ⟨S_, .f32⟩
  | 56 => ⟨S4x2048, .f32⟩
  | 57 => ⟨S_, .f32⟩
  | 58 => ⟨S4x2048, .f32⟩
  | 59 => ⟨S4x2048, .f32⟩
  | 60 => ⟨S4x2048x1, .f32⟩
  | 61 => ⟨S4x2048x32, .f32⟩
  | 62 => ⟨S4x2048x32, .f32⟩
  | 63 => ⟨S4x2048x32, .f32⟩
  | 64 => ⟨S_, .f32⟩
  | 65 => ⟨S4x2048, .f32⟩
  | 66 => ⟨S4x2048x1, .f32⟩
  | 67 => ⟨S4x2048x32, .f32⟩
  | 68 => ⟨S4x2048x32, .f32⟩
  | 69 => ⟨S_, .f32⟩
  | 70 => ⟨S4x2048, .f32⟩
  | 71 => ⟨S_, .f32⟩
  | 72 => ⟨S4x2048, .f32⟩
  | 73 => ⟨S4x2048, .f32⟩
  | 74 => ⟨S4x2048x1, .f32⟩
  | 75 => ⟨S4x2048x16, .f32⟩
  | 76 => ⟨S4x2048x16, .f32⟩
  | 77 => ⟨S4x2048x16, .f32⟩
  | 78 => ⟨S_, .f32⟩
  | 79 => ⟨S4x2048, .f32⟩
  | 80 => ⟨S4x2048x1, .f32⟩
  | 81 => ⟨S4x2048x16, .f32⟩
  | 82 => ⟨S4x2048x16, .f32⟩
  | 83 => ⟨S4x2048x1, .i32⟩
  | 84 => ⟨S_, .i32⟩
  | 85 => ⟨S4x2048x1, .i32⟩
  | 86 => ⟨S4x2048x1, .i1⟩
  | 87 => ⟨S_, .i32⟩
  | 88 => ⟨S4x2048x1, .i32⟩
  | 89 => ⟨S4x2048x1, .i32⟩
  | 90 => ⟨S4x2048x1, .i32⟩
  | 91 => ⟨S4x2048x1x1, .i32⟩
  | 92 => ⟨S1, .i32⟩
  | 93 => ⟨S_, .i32⟩
  | 94 => ⟨S4x2048x1x1, .i32⟩
  | 95 => ⟨S4x2048x1x1, .i1⟩
  | 96 => ⟨S1x1x1x1, .i32⟩
  | 97 => ⟨S4x2048x1x1, .i32⟩
  | 98 => ⟨S4x2048x1x1, .i1⟩
  | 99 => ⟨S4x2048x1x1, .i1⟩
  | 100 => ⟨S_, .i1⟩
  | 101 => ⟨S4x2048x1, .i1⟩
  | 102 => ⟨S4x2048x1, .f32⟩
  | 103 => ⟨S_, .f32⟩
  | 104 => ⟨S4x2048x1, .f32⟩
  | 105 => ⟨S4x2048x1, .f32⟩
  | 106 => ⟨S4x2048, .f32⟩
  | 107 => ⟨S4x2048x1, .i32⟩
  | 108 => ⟨S_, .i32⟩
  | 109 => ⟨S4x2048x1, .i32⟩
  | 110 => ⟨S4x2048x1, .i1⟩
  | 111 => ⟨S_, .i32⟩
  | 112 => ⟨S4x2048x1, .i32⟩
  | 113 => ⟨S4x2048x1, .i32⟩
  | 114 => ⟨S4x2048x1, .i32⟩
  | 115 => ⟨S4x2048x1x1, .i32⟩
  | 116 => ⟨S1, .i32⟩
  | 117 => ⟨S_, .i32⟩
  | 118 => ⟨S4x2048x1x1, .i32⟩
  | 119 => ⟨S4x2048x1x1, .i1⟩
  | 120 => ⟨S1x1x1x1, .i32⟩
  | 121 => ⟨S4x2048x1x1, .i32⟩
  | 122 => ⟨S4x2048x1x1, .i1⟩
  | 123 => ⟨S4x2048x1x1, .i1⟩
  | 124 => ⟨S_, .i1⟩
  | 125 => ⟨S4x2048x1, .i1⟩
  | 126 => ⟨S4x2048x1, .f32⟩
  | 127 => ⟨S_, .f32⟩
  | _ => ⟨S1x20, .f32⟩

abbrev hbmTy0_15 (i : Nat) : BufTy := match i % 128 with
  | 0 => ⟨S4x2048x1, .f32⟩
  | 1 => ⟨S4x2048x1, .f32⟩
  | 2 => ⟨S4x2048, .f32⟩
  | 3 => ⟨S4x2048x1, .i32⟩
  | 4 => ⟨S4x2048x1, .i32⟩
  | 5 => ⟨S4x2048x2, .i32⟩
  | 6 => ⟨S4x4096, .i32⟩
  | 7 => ⟨S4x2048x1, .f32⟩
  | 8 => ⟨S4x2048x1, .f32⟩
  | 9 => ⟨S4x2048x2, .f32⟩
  | 10 => ⟨S4x4096, .f32⟩
  | _ => ⟨S1x20, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | _ => ⟨S1x20, .f32⟩

abbrev bufTy : (tb : Table) → Fin (tcTables nBuf tb) → BufTy
  | .hbm, ⟨i, _⟩ => hbmTy i
  | _, _ => ⟨S1x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c : Ref sig .tc := ⟨.hbm, 22, rfl⟩
abbrev main_call0_v5 : Ref sig .tc := ⟨.hbm, 23, rfl⟩
abbrev main_call0_v6 : Ref sig .tc := ⟨.hbm, 24, rfl⟩
abbrev main_call0_c_0 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_call0_v0 : Ref sig .tc := ⟨.hbm, 30, rfl⟩
abbrev main_call0_call0_c : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_c_0 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_c_1 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_c_2 : Ref sig .tc := ⟨.hbm, 47, rfl⟩
abbrev main_call0_call0_v14 : Ref sig .tc := ⟨.hbm, 48, rfl⟩
abbrev main_call0_call0_v15 : Ref sig .tc := ⟨.hbm, 49, rfl⟩
abbrev main_call0_call0_c_3 : Ref sig .tc := ⟨.hbm, 50, rfl⟩
abbrev main_call0_call0_v16 : Ref sig .tc := ⟨.hbm, 51, rfl⟩
abbrev main_call0_call0_v17 : Ref sig .tc := ⟨.hbm, 52, rfl⟩
abbrev main_call0_call0_v18 : Ref sig .tc := ⟨.hbm, 53, rfl⟩
abbrev main_call0_call0_v19 : Ref sig .tc := ⟨.hbm, 54, rfl⟩
abbrev main_call0_call0_v20 : Ref sig .tc := ⟨.hbm, 55, rfl⟩
abbrev main_call0_call0_c_4 : Ref sig .tc := ⟨.hbm, 56, rfl⟩
abbrev main_call0_call0_v21 : Ref sig .tc := ⟨.hbm, 57, rfl⟩
abbrev main_call0_call0_v22 : Ref sig .tc := ⟨.hbm, 58, rfl⟩
abbrev main_call0_call0_c_5 : Ref sig .tc := ⟨.hbm, 59, rfl⟩
abbrev main_call0_call0_v23 : Ref sig .tc := ⟨.hbm, 60, rfl⟩
abbrev main_call0_call0_v24 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_v27 : Ref sig .tc := ⟨.hbm, 64, rfl⟩
abbrev main_call0_call0_c_6 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_c_7 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_v32 : Ref sig .tc := ⟨.hbm, 71, rfl⟩
abbrev main_call0_call0_v33 : Ref sig .tc := ⟨.hbm, 72, rfl⟩
abbrev main_call0_call0_v34 : Ref sig .tc := ⟨.hbm, 73, rfl⟩
abbrev main_call0_call0_v35 : Ref sig .tc := ⟨.hbm, 74, rfl⟩
abbrev main_call0_call0_v36 : Ref sig .tc := ⟨.hbm, 75, rfl⟩
abbrev main_call0_call0_v37 : Ref sig .tc := ⟨.hbm, 76, rfl⟩
abbrev main_call0_call0_c_8 : Ref sig .tc := ⟨.hbm, 77, rfl⟩
abbrev main_call0_call0_v38 : Ref sig .tc := ⟨.hbm, 78, rfl⟩
abbrev main_call0_call0_v39 : Ref sig .tc := ⟨.hbm, 79, rfl⟩
abbrev main_call0_call0_v40 : Ref sig .tc := ⟨.hbm, 80, rfl⟩
abbrev main_call0_call0_c_9 : Ref sig .tc := ⟨.hbm, 81, rfl⟩
abbrev main_call0_call0_v41 : Ref sig .tc := ⟨.hbm, 82, rfl⟩
abbrev main_call0_call0_v42 : Ref sig .tc := ⟨.hbm, 83, rfl⟩
abbrev main_call0_call0_c_10 : Ref sig .tc := ⟨.hbm, 84, rfl⟩
abbrev main_call0_call0_v43 : Ref sig .tc := ⟨.hbm, 85, rfl⟩
abbrev main_call0_call0_v44 : Ref sig .tc := ⟨.hbm, 86, rfl⟩
abbrev main_call0_call0_v45 : Ref sig .tc := ⟨.hbm, 87, rfl⟩
abbrev main_call0_call0_v46 : Ref sig .tc := ⟨.hbm, 88, rfl⟩
abbrev main_call0_call0_v47 : Ref sig .tc := ⟨.hbm, 89, rfl⟩
abbrev main_call0_call0_c_11 : Ref sig .tc := ⟨.hbm, 90, rfl⟩
abbrev main_call0_call0_v48 : Ref sig .tc := ⟨.hbm, 91, rfl⟩
abbrev main_call0_call0_v49 : Ref sig .tc := ⟨.hbm, 92, rfl⟩
abbrev main_call0_call0_c_12 : Ref sig .tc := ⟨.hbm, 93, rfl⟩
abbrev main_call0_call0_v50 : Ref sig .tc := ⟨.hbm, 94, rfl⟩
abbrev main_call0_call0_v51 : Ref sig .tc := ⟨.hbm, 95, rfl⟩
abbrev main_call0_call0_v52 : Ref sig .tc := ⟨.hbm, 96, rfl⟩
abbrev main_call0_call0_v53 : Ref sig .tc := ⟨.hbm, 97, rfl⟩
abbrev main_call0_call0_v54 : Ref sig .tc := ⟨.hbm, 98, rfl⟩
abbrev main_call0_call0_c_13 : Ref sig .tc := ⟨.hbm, 99, rfl⟩
abbrev main_call0_call0_v55 : Ref sig .tc := ⟨.hbm, 100, rfl⟩
abbrev main_call0_call0_v56 : Ref sig .tc := ⟨.hbm, 101, rfl⟩
abbrev main_call0_call0_c_14 : Ref sig .tc := ⟨.hbm, 102, rfl⟩
abbrev main_call0_call0_v57 : Ref sig .tc := ⟨.hbm, 103, rfl⟩
abbrev main_call0_call0_v58 : Ref sig .tc := ⟨.hbm, 104, rfl⟩
abbrev main_call0_call0_v59 : Ref sig .tc := ⟨.hbm, 105, rfl⟩
abbrev main_call0_call0_v60 : Ref sig .tc := ⟨.hbm, 106, rfl⟩
abbrev main_call0_call0_v61 : Ref sig .tc := ⟨.hbm, 107, rfl⟩
abbrev main_call0_call0_c_15 : Ref sig .tc := ⟨.hbm, 108, rfl⟩
abbrev main_call0_call0_v62 : Ref sig .tc := ⟨.hbm, 109, rfl⟩
abbrev main_call0_call0_v63 : Ref sig .tc := ⟨.hbm, 110, rfl⟩
abbrev main_call0_call0_c_16 : Ref sig .tc := ⟨.hbm, 111, rfl⟩
abbrev main_call0_call0_v64 : Ref sig .tc := ⟨.hbm, 112, rfl⟩
abbrev main_call0_call0_v65 : Ref sig .tc := ⟨.hbm, 113, rfl⟩
abbrev main_call0_call0_v66 : Ref sig .tc := ⟨.hbm, 114, rfl⟩
abbrev main_call0_call0_v67 : Ref sig .tc := ⟨.hbm, 115, rfl⟩
abbrev main_call0_call0_v68 : Ref sig .tc := ⟨.hbm, 116, rfl⟩
abbrev main_call0_call0_v69 : Ref sig .tc := ⟨.hbm, 117, rfl⟩
abbrev main_call0_call0_v70 : Ref sig .tc := ⟨.hbm, 118, rfl⟩
abbrev main_call0_call0_v71 : Ref sig .tc := ⟨.hbm, 119, rfl⟩
abbrev main_call0_call0_c_17 : Ref sig .tc := ⟨.hbm, 120, rfl⟩
abbrev main_call0_call0_v72 : Ref sig .tc := ⟨.hbm, 121, rfl⟩
abbrev main_call0_call0_v73 : Ref sig .tc := ⟨.hbm, 122, rfl⟩
abbrev main_call0_call0_v74 : Ref sig .tc := ⟨.hbm, 123, rfl⟩
abbrev main_call0_call0_c_18 : Ref sig .tc := ⟨.hbm, 124, rfl⟩
abbrev main_call0_call0_v75 : Ref sig .tc := ⟨.hbm, 125, rfl⟩
abbrev main_call0_call0_v76 : Ref sig .tc := ⟨.hbm, 126, rfl⟩
abbrev main_call0_call0_c_19 : Ref sig .tc := ⟨.hbm, 127, rfl⟩
abbrev main_call0_call0_v77 : Ref sig .tc := ⟨.hbm, 128, rfl⟩
abbrev main_call0_call0_v78 : Ref sig .tc := ⟨.hbm, 129, rfl⟩
abbrev main_call0_call0_v79 : Ref sig .tc := ⟨.hbm, 130, rfl⟩
abbrev main_call0_call0_v80 : Ref sig .tc := ⟨.hbm, 131, rfl⟩
abbrev main_call0_call0_v81 : Ref sig .tc := ⟨.hbm, 132, rfl⟩
abbrev main_call0_call0_c_20 : Ref sig .tc := ⟨.hbm, 133, rfl⟩
abbrev main_call0_call0_v82 : Ref sig .tc := ⟨.hbm, 134, rfl⟩
abbrev main_call0_call0_v83 : Ref sig .tc := ⟨.hbm, 135, rfl⟩
abbrev main_call0_call0_c_21 : Ref sig .tc := ⟨.hbm, 136, rfl⟩
abbrev main_call0_call0_v84 : Ref sig .tc := ⟨.hbm, 137, rfl⟩
abbrev main_call0_call0_v85 : Ref sig .tc := ⟨.hbm, 138, rfl⟩
abbrev main_call0_call0_v86 : Ref sig .tc := ⟨.hbm, 139, rfl⟩
abbrev main_call0_call0_v87 : Ref sig .tc := ⟨.hbm, 140, rfl⟩
abbrev main_call0_call0_v88 : Ref sig .tc := ⟨.hbm, 141, rfl⟩
abbrev main_call0_call0_c_22 : Ref sig .tc := ⟨.hbm, 142, rfl⟩
abbrev main_call0_call0_v89 : Ref sig .tc := ⟨.hbm, 143, rfl⟩
abbrev main_call0_call0_v90 : Ref sig .tc := ⟨.hbm, 144, rfl⟩
abbrev main_call0_call0_c_23 : Ref sig .tc := ⟨.hbm, 145, rfl⟩
abbrev main_call0_call0_v91 : Ref sig .tc := ⟨.hbm, 146, rfl⟩
abbrev main_call0_call0_v92 : Ref sig .tc := ⟨.hbm, 147, rfl⟩
abbrev main_call0_call0_v93 : Ref sig .tc := ⟨.hbm, 148, rfl⟩
abbrev main_call0_call0_v94 : Ref sig .tc := ⟨.hbm, 149, rfl⟩
abbrev main_call0_call0_v95 : Ref sig .tc := ⟨.hbm, 150, rfl⟩
abbrev main_call0_call0_c_24 : Ref sig .tc := ⟨.hbm, 151, rfl⟩
abbrev main_call0_call0_v96 : Ref sig .tc := ⟨.hbm, 152, rfl⟩
abbrev main_call0_call0_v97 : Ref sig .tc := ⟨.hbm, 153, rfl⟩
abbrev main_call0_call0_c_25 : Ref sig .tc := ⟨.hbm, 154, rfl⟩
abbrev main_call0_call0_v98 : Ref sig .tc := ⟨.hbm, 155, rfl⟩
abbrev main_call0_call0_v99 : Ref sig .tc := ⟨.hbm, 156, rfl⟩
abbrev main_call0_call0_v100 : Ref sig .tc := ⟨.hbm, 157, rfl⟩
abbrev main_call0_call0_v101 : Ref sig .tc := ⟨.hbm, 158, rfl⟩
abbrev main_call0_call0_v102 : Ref sig .tc := ⟨.hbm, 159, rfl⟩
abbrev main_call0_call0_v103 : Ref sig .tc := ⟨.hbm, 160, rfl⟩
abbrev main_call0_call0_v104 : Ref sig .tc := ⟨.hbm, 161, rfl⟩
abbrev main_call0_call0_v105 : Ref sig .tc := ⟨.hbm, 162, rfl⟩
abbrev main_call0_call0_c_26 : Ref sig .tc := ⟨.hbm, 163, rfl⟩
abbrev main_call0_call0_v106 : Ref sig .tc := ⟨.hbm, 164, rfl⟩
abbrev main_call0_call0_v107 : Ref sig .tc := ⟨.hbm, 165, rfl⟩
abbrev main_call0_call0_v108 : Ref sig .tc := ⟨.hbm, 166, rfl⟩
abbrev main_call0_call0_c_27 : Ref sig .tc := ⟨.hbm, 167, rfl⟩
abbrev main_call0_call0_v109 : Ref sig .tc := ⟨.hbm, 168, rfl⟩
abbrev main_call0_call0_v110 : Ref sig .tc := ⟨.hbm, 169, rfl⟩
abbrev main_call0_call0_c_28 : Ref sig .tc := ⟨.hbm, 170, rfl⟩
abbrev main_call0_call0_v111 : Ref sig .tc := ⟨.hbm, 171, rfl⟩
abbrev main_call0_call0_v112 : Ref sig .tc := ⟨.hbm, 172, rfl⟩
abbrev main_call0_call0_v113 : Ref sig .tc := ⟨.hbm, 173, rfl⟩
abbrev main_call0_call0_v114 : Ref sig .tc := ⟨.hbm, 174, rfl⟩
abbrev main_call0_call0_v115 : Ref sig .tc := ⟨.hbm, 175, rfl⟩
abbrev main_call0_call0_c_29 : Ref sig .tc := ⟨.hbm, 176, rfl⟩
abbrev main_call0_call0_v116 : Ref sig .tc := ⟨.hbm, 177, rfl⟩
abbrev main_call0_call0_v117 : Ref sig .tc := ⟨.hbm, 178, rfl⟩
abbrev main_call0_call0_c_30 : Ref sig .tc := ⟨.hbm, 179, rfl⟩
abbrev main_call0_call0_v118 : Ref sig .tc := ⟨.hbm, 180, rfl⟩
abbrev main_call0_call0_v119 : Ref sig .tc := ⟨.hbm, 181, rfl⟩
abbrev main_call0_call0_v120 : Ref sig .tc := ⟨.hbm, 182, rfl⟩
abbrev main_call0_call0_v121 : Ref sig .tc := ⟨.hbm, 183, rfl⟩
abbrev main_call0_call0_v122 : Ref sig .tc := ⟨.hbm, 184, rfl⟩
abbrev main_call0_call0_c_31 : Ref sig .tc := ⟨.hbm, 185, rfl⟩
abbrev main_call0_call0_v123 : Ref sig .tc := ⟨.hbm, 186, rfl⟩
abbrev main_call0_call0_v124 : Ref sig .tc := ⟨.hbm, 187, rfl⟩
abbrev main_call0_call0_c_32 : Ref sig .tc := ⟨.hbm, 188, rfl⟩
abbrev main_call0_call0_v125 : Ref sig .tc := ⟨.hbm, 189, rfl⟩
abbrev main_call0_call0_v126 : Ref sig .tc := ⟨.hbm, 190, rfl⟩
abbrev main_call0_call0_v127 : Ref sig .tc := ⟨.hbm, 191, rfl⟩
abbrev main_call0_call0_v128 : Ref sig .tc := ⟨.hbm, 192, rfl⟩
abbrev main_call0_call0_v129 : Ref sig .tc := ⟨.hbm, 193, rfl⟩
abbrev main_call0_call0_c_33 : Ref sig .tc := ⟨.hbm, 194, rfl⟩
abbrev main_call0_call0_v130 : Ref sig .tc := ⟨.hbm, 195, rfl⟩
abbrev main_call0_call0_v131 : Ref sig .tc := ⟨.hbm, 196, rfl⟩
abbrev main_call0_call0_c_34 : Ref sig .tc := ⟨.hbm, 197, rfl⟩
abbrev main_call0_call0_v132 : Ref sig .tc := ⟨.hbm, 198, rfl⟩
abbrev main_call0_call0_v133 : Ref sig .tc := ⟨.hbm, 199, rfl⟩
abbrev main_call0_call0_v134 : Ref sig .tc := ⟨.hbm, 200, rfl⟩
abbrev main_call0_call0_v135 : Ref sig .tc := ⟨.hbm, 201, rfl⟩
abbrev main_call0_call0_v136 : Ref sig .tc := ⟨.hbm, 202, rfl⟩
abbrev main_call0_call0_v137 : Ref sig .tc := ⟨.hbm, 203, rfl⟩
abbrev main_call0_call0_v138 : Ref sig .tc := ⟨.hbm, 204, rfl⟩
abbrev main_call0_call0_v139 : Ref sig .tc := ⟨.hbm, 205, rfl⟩
abbrev main_call0_call0_c_35 : Ref sig .tc := ⟨.hbm, 206, rfl⟩
abbrev main_call0_call0_v140 : Ref sig .tc := ⟨.hbm, 207, rfl⟩
abbrev main_call0_call0_v141 : Ref sig .tc := ⟨.hbm, 208, rfl⟩
abbrev main_call0_call0_v142 : Ref sig .tc := ⟨.hbm, 209, rfl⟩
abbrev main_call0_call0_c_36 : Ref sig .tc := ⟨.hbm, 210, rfl⟩
abbrev main_call0_call0_v143 : Ref sig .tc := ⟨.hbm, 211, rfl⟩
abbrev main_call0_call0_v144 : Ref sig .tc := ⟨.hbm, 212, rfl⟩
abbrev main_call0_call0_c_37 : Ref sig .tc := ⟨.hbm, 213, rfl⟩
abbrev main_call0_call0_v145 : Ref sig .tc := ⟨.hbm, 214, rfl⟩
abbrev main_call0_call0_v146 : Ref sig .tc := ⟨.hbm, 215, rfl⟩
abbrev main_call0_call0_v147 : Ref sig .tc := ⟨.hbm, 216, rfl⟩
abbrev main_call0_call0_v148 : Ref sig .tc := ⟨.hbm, 217, rfl⟩
abbrev main_call0_call0_v149 : Ref sig .tc := ⟨.hbm, 218, rfl⟩
abbrev main_call0_call0_c_38 : Ref sig .tc := ⟨.hbm, 219, rfl⟩
abbrev main_call0_call0_v150 : Ref sig .tc := ⟨.hbm, 220, rfl⟩
abbrev main_call0_call0_v151 : Ref sig .tc := ⟨.hbm, 221, rfl⟩
abbrev main_call0_call0_c_39 : Ref sig .tc := ⟨.hbm, 222, rfl⟩
abbrev main_call0_call0_v152 : Ref sig .tc := ⟨.hbm, 223, rfl⟩
abbrev main_call0_call0_v153 : Ref sig .tc := ⟨.hbm, 224, rfl⟩
abbrev main_call0_call0_v154 : Ref sig .tc := ⟨.hbm, 225, rfl⟩
abbrev main_call0_call0_v155 : Ref sig .tc := ⟨.hbm, 226, rfl⟩
abbrev main_call0_call0_v156 : Ref sig .tc := ⟨.hbm, 227, rfl⟩
abbrev main_call0_call0_c_40 : Ref sig .tc := ⟨.hbm, 228, rfl⟩
abbrev main_call0_call0_v157 : Ref sig .tc := ⟨.hbm, 229, rfl⟩
abbrev main_call0_call0_v158 : Ref sig .tc := ⟨.hbm, 230, rfl⟩
abbrev main_call0_call0_c_41 : Ref sig .tc := ⟨.hbm, 231, rfl⟩
abbrev main_call0_call0_v159 : Ref sig .tc := ⟨.hbm, 232, rfl⟩
abbrev main_call0_call0_v160 : Ref sig .tc := ⟨.hbm, 233, rfl⟩
abbrev main_call0_call0_v161 : Ref sig .tc := ⟨.hbm, 234, rfl⟩
abbrev main_call0_call0_v162 : Ref sig .tc := ⟨.hbm, 235, rfl⟩
abbrev main_call0_call0_v163 : Ref sig .tc := ⟨.hbm, 236, rfl⟩
abbrev main_call0_call0_c_42 : Ref sig .tc := ⟨.hbm, 237, rfl⟩
abbrev main_call0_call0_v164 : Ref sig .tc := ⟨.hbm, 238, rfl⟩
abbrev main_call0_call0_v165 : Ref sig .tc := ⟨.hbm, 239, rfl⟩
abbrev main_call0_call0_c_43 : Ref sig .tc := ⟨.hbm, 240, rfl⟩
abbrev main_call0_call0_v166 : Ref sig .tc := ⟨.hbm, 241, rfl⟩
abbrev main_call0_call0_v167 : Ref sig .tc := ⟨.hbm, 242, rfl⟩
abbrev main_call0_call0_v168 : Ref sig .tc := ⟨.hbm, 243, rfl⟩
abbrev main_call0_call0_v169 : Ref sig .tc := ⟨.hbm, 244, rfl⟩
abbrev main_call0_call0_v170 : Ref sig .tc := ⟨.hbm, 245, rfl⟩
abbrev main_call0_v11_0 : Ref sig .tc := ⟨.hbm, 246, rfl⟩
abbrev main_call0_call0_v172 : Ref sig .tc := ⟨.hbm, 247, rfl⟩
abbrev main_call0_call0_v173 : Ref sig .tc := ⟨.hbm, 248, rfl⟩
abbrev main_call0_call0_c_44 : Ref sig .tc := ⟨.hbm, 249, rfl⟩
abbrev main_call0_call0_v174 : Ref sig .tc := ⟨.hbm, 250, rfl⟩
abbrev main_call0_v11_1 : Ref sig .tc := ⟨.hbm, 251, rfl⟩
abbrev main_call0_v12 : Ref sig .tc := ⟨.hbm, 252, rfl⟩
abbrev main_call0_v13 : Ref sig .tc := ⟨.hbm, 253, rfl⟩
abbrev main_v7 : Ref sig .tc := ⟨.hbm, 254, rfl⟩
abbrev main_v8 : Ref sig .tc := ⟨.hbm, 255, rfl⟩
abbrev main_v9 : Ref sig .tc := ⟨.hbm, 256, rfl⟩
abbrev main_v10 : Ref sig .tc := ⟨.hbm, 257, rfl⟩
abbrev main_v11 : Ref sig .tc := ⟨.hbm, 258, rfl⟩
abbrev main_c_2 : Ref sig .tc := ⟨.hbm, 259, rfl⟩
abbrev main_c_3 : Ref sig .tc := ⟨.hbm, 260, rfl⟩
abbrev main_call1_c : Ref sig .tc := ⟨.hbm, 261, rfl⟩
abbrev main_call1_c_0 : Ref sig .tc := ⟨.hbm, 262, rfl⟩
abbrev main_call1_c_1 : Ref sig .tc := ⟨.hbm, 263, rfl⟩
abbrev main_call1_call0_v0 : Ref sig .tc := ⟨.hbm, 264, rfl⟩
abbrev main_call1_v0 : Ref sig .tc := ⟨.hbm, 265, rfl⟩
abbrev main_call1_v1 : Ref sig .tc := ⟨.hbm, 266, rfl⟩
abbrev main_call1_c_2 : Ref sig .tc := ⟨.hbm, 267, rfl⟩
abbrev main_call1_c_3 : Ref sig .tc := ⟨.hbm, 268, rfl⟩
abbrev main_call1_call1_v0 : Ref sig .tc := ⟨.hbm, 269, rfl⟩
abbrev main_call1_v2 : Ref sig .tc := ⟨.hbm, 270, rfl⟩
abbrev main_call1_v3 : Ref sig .tc := ⟨.hbm, 271, rfl⟩
abbrev main_call1_c_4 : Ref sig .tc := ⟨.hbm, 272, rfl⟩
abbrev main_call1_c_5 : Ref sig .tc := ⟨.hbm, 273, rfl⟩
abbrev main_call1_call2_v0 : Ref sig .tc := ⟨.hbm, 274, rfl⟩
abbrev main_call1_v4 : Ref sig .tc := ⟨.hbm, 275, rfl⟩
abbrev main_call1_v5 : Ref sig .tc := ⟨.hbm, 276, rfl⟩
abbrev main_call1_v6 : Ref sig .tc := ⟨.hbm, 277, rfl⟩
abbrev main_call1_v7 : Ref sig .tc := ⟨.hbm, 278, rfl⟩
abbrev main_call1_call3_v0 : Ref sig .tc := ⟨.hbm, 279, rfl⟩
abbrev main_call1_call3_v1 : Ref sig .tc := ⟨.hbm, 280, rfl⟩
abbrev main_call1_call3_v2 : Ref sig .tc := ⟨.hbm, 281, rfl⟩
abbrev main_call1_call3_v3 : Ref sig .tc := ⟨.hbm, 282, rfl⟩
abbrev main_call1_call3_v4 : Ref sig .tc := ⟨.hbm, 283, rfl⟩
abbrev main_call1_call3_c : Ref sig .tc := ⟨.hbm, 284, rfl⟩
abbrev main_call1_call3_v5 : Ref sig .tc := ⟨.hbm, 285, rfl⟩
abbrev main_call1_call3_v6 : Ref sig .tc := ⟨.hbm, 286, rfl⟩
abbrev main_call1_call3_c_0 : Ref sig .tc := ⟨.hbm, 287, rfl⟩
abbrev main_call1_call3_v7 : Ref sig .tc := ⟨.hbm, 288, rfl⟩
abbrev main_call1_call3_v8 : Ref sig .tc := ⟨.hbm, 289, rfl⟩
abbrev main_call1_call3_v9 : Ref sig .tc := ⟨.hbm, 290, rfl⟩
abbrev main_call1_call3_v10 : Ref sig .tc := ⟨.hbm, 291, rfl⟩
abbrev main_call1_call3_call0_v0 : Ref sig .tc := ⟨.hbm, 292, rfl⟩
abbrev main_call1_call3_call0_c : Ref sig .tc := ⟨.hbm, 293, rfl⟩
abbrev main_call1_call3_call0_v1 : Ref sig .tc := ⟨.hbm, 294, rfl⟩
abbrev main_call1_call3_call0_v2 : Ref sig .tc := ⟨.hbm, 295, rfl⟩
abbrev main_call1_call3_call0_v3 : Ref sig .tc := ⟨.hbm, 296, rfl⟩
abbrev main_call1_call3_call0_v4 : Ref sig .tc := ⟨.hbm, 297, rfl⟩
abbrev main_call1_call3_call0_v5 : Ref sig .tc := ⟨.hbm, 298, rfl⟩
abbrev main_call1_call3_call0_v6 : Ref sig .tc := ⟨.hbm, 299, rfl⟩
abbrev main_call1_call3_call0_c_0 : Ref sig .tc := ⟨.hbm, 300, rfl⟩
abbrev main_call1_call3_call0_v7 : Ref sig .tc := ⟨.hbm, 301, rfl⟩
abbrev main_call1_call3_call0_v8 : Ref sig .tc := ⟨.hbm, 302, rfl⟩
abbrev main_call1_call3_call0_c_1 : Ref sig .tc := ⟨.hbm, 303, rfl⟩
abbrev main_call1_call3_call0_v9 : Ref sig .tc := ⟨.hbm, 304, rfl⟩
abbrev main_call1_call3_call0_v10 : Ref sig .tc := ⟨.hbm, 305, rfl⟩
abbrev main_call1_call3_call0_v11 : Ref sig .tc := ⟨.hbm, 306, rfl⟩
abbrev main_call1_call3_call0_v12 : Ref sig .tc := ⟨.hbm, 307, rfl⟩
abbrev main_call1_call3_call0_v13 : Ref sig .tc := ⟨.hbm, 308, rfl⟩
abbrev main_call1_call3_call0_c_2 : Ref sig .tc := ⟨.hbm, 309, rfl⟩
abbrev main_call1_call3_call0_v14 : Ref sig .tc := ⟨.hbm, 310, rfl⟩
abbrev main_call1_call3_call0_v15 : Ref sig .tc := ⟨.hbm, 311, rfl⟩
abbrev main_call1_call3_call0_c_3 : Ref sig .tc := ⟨.hbm, 312, rfl⟩
abbrev main_call1_call3_call0_v16 : Ref sig .tc := ⟨.hbm, 313, rfl⟩
abbrev main_call1_call3_call0_v17 : Ref sig .tc := ⟨.hbm, 314, rfl⟩
abbrev main_call1_call3_call0_v18 : Ref sig .tc := ⟨.hbm, 315, rfl⟩
abbrev main_call1_call3_call0_v19 : Ref sig .tc := ⟨.hbm, 316, rfl⟩
abbrev main_call1_call3_call0_v20 : Ref sig .tc := ⟨.hbm, 317, rfl⟩
abbrev main_call1_call3_call0_c_4 : Ref sig .tc := ⟨.hbm, 318, rfl⟩
abbrev main_call1_call3_call0_v21 : Ref sig .tc := ⟨.hbm, 319, rfl⟩
abbrev main_call1_call3_call0_v22 : Ref sig .tc := ⟨.hbm, 320, rfl⟩
abbrev main_call1_call3_call0_c_5 : Ref sig .tc := ⟨.hbm, 321, rfl⟩
abbrev main_call1_call3_call0_v23 : Ref sig .tc := ⟨.hbm, 322, rfl⟩
abbrev main_call1_call3_call0_v24 : Ref sig .tc := ⟨.hbm, 323, rfl⟩
abbrev main_call1_call3_call0_v25 : Ref sig .tc := ⟨.hbm, 324, rfl⟩
abbrev main_call1_call3_call0_v26 : Ref sig .tc := ⟨.hbm, 325, rfl⟩
abbrev main_call1_call3_call0_v27 : Ref sig .tc := ⟨.hbm, 326, rfl⟩
abbrev main_call1_call3_call0_c_6 : Ref sig .tc := ⟨.hbm, 327, rfl⟩
abbrev main_call1_call3_call0_v28 : Ref sig .tc := ⟨.hbm, 328, rfl⟩
abbrev main_call1_call3_call0_v29 : Ref sig .tc := ⟨.hbm, 329, rfl⟩
abbrev main_call1_call3_call0_c_7 : Ref sig .tc := ⟨.hbm, 330, rfl⟩
abbrev main_call1_call3_call0_v30 : Ref sig .tc := ⟨.hbm, 331, rfl⟩
abbrev main_call1_call3_call0_v31 : Ref sig .tc := ⟨.hbm, 332, rfl⟩
abbrev main_call1_call3_call0_v32 : Ref sig .tc := ⟨.hbm, 333, rfl⟩
abbrev main_call1_call3_call0_v33 : Ref sig .tc := ⟨.hbm, 334, rfl⟩
abbrev main_call1_call3_call0_v34 : Ref sig .tc := ⟨.hbm, 335, rfl⟩
abbrev main_call1_call3_call0_v35 : Ref sig .tc := ⟨.hbm, 336, rfl⟩
abbrev main_call1_call3_call0_v36 : Ref sig .tc := ⟨.hbm, 337, rfl⟩
abbrev main_call1_call3_call0_v37 : Ref sig .tc := ⟨.hbm, 338, rfl⟩
abbrev main_call1_call3_call0_c_8 : Ref sig .tc := ⟨.hbm, 339, rfl⟩
abbrev main_call1_call3_call0_v38 : Ref sig .tc := ⟨.hbm, 340, rfl⟩
abbrev main_call1_call3_call0_v39 : Ref sig .tc := ⟨.hbm, 341, rfl⟩
abbrev main_call1_call3_call0_v40 : Ref sig .tc := ⟨.hbm, 342, rfl⟩
abbrev main_call1_call3_call0_c_9 : Ref sig .tc := ⟨.hbm, 343, rfl⟩
abbrev main_call1_call3_call0_v41 : Ref sig .tc := ⟨.hbm, 344, rfl⟩
abbrev main_call1_call3_call0_v42 : Ref sig .tc := ⟨.hbm, 345, rfl⟩
abbrev main_call1_call3_call0_c_10 : Ref sig .tc := ⟨.hbm, 346, rfl⟩
abbrev main_call1_call3_call0_v43 : Ref sig .tc := ⟨.hbm, 347, rfl⟩
abbrev main_call1_call3_call0_v44 : Ref sig .tc := ⟨.hbm, 348, rfl⟩
abbrev main_call1_call3_call0_v45 : Ref sig .tc := ⟨.hbm, 349, rfl⟩
abbrev main_call1_call3_call0_v46 : Ref sig .tc := ⟨.hbm, 350, rfl⟩
abbrev main_call1_call3_call0_v47 : Ref sig .tc := ⟨.hbm, 351, rfl⟩
abbrev main_call1_call3_call0_c_11 : Ref sig .tc := ⟨.hbm, 352, rfl⟩
abbrev main_call1_call3_call0_v48 : Ref sig .tc := ⟨.hbm, 353, rfl⟩
abbrev main_call1_call3_call0_v49 : Ref sig .tc := ⟨.hbm, 354, rfl⟩
abbrev main_call1_call3_call0_c_12 : Ref sig .tc := ⟨.hbm, 355, rfl⟩
abbrev main_call1_call3_call0_v50 : Ref sig .tc := ⟨.hbm, 356, rfl⟩
abbrev main_call1_call3_call0_v51 : Ref sig .tc := ⟨.hbm, 357, rfl⟩
abbrev main_call1_call3_call0_v52 : Ref sig .tc := ⟨.hbm, 358, rfl⟩
abbrev main_call1_call3_call0_v53 : Ref sig .tc := ⟨.hbm, 359, rfl⟩
abbrev main_call1_call3_call0_v54 : Ref sig .tc := ⟨.hbm, 360, rfl⟩
abbrev main_call1_call3_call0_c_13 : Ref sig .tc := ⟨.hbm, 361, rfl⟩
abbrev main_call1_call3_call0_v55 : Ref sig .tc := ⟨.hbm, 362, rfl⟩
abbrev main_call1_call3_call0_v56 : Ref sig .tc := ⟨.hbm, 363, rfl⟩
abbrev main_call1_call3_call0_c_14 : Ref sig .tc := ⟨.hbm, 364, rfl⟩
abbrev main_call1_call3_call0_v57 : Ref sig .tc := ⟨.hbm, 365, rfl⟩
abbrev main_call1_call3_call0_v58 : Ref sig .tc := ⟨.hbm, 366, rfl⟩
abbrev main_call1_call3_call0_v59 : Ref sig .tc := ⟨.hbm, 367, rfl⟩
abbrev main_call1_call3_call0_v60 : Ref sig .tc := ⟨.hbm, 368, rfl⟩
abbrev main_call1_call3_call0_v61 : Ref sig .tc := ⟨.hbm, 369, rfl⟩
abbrev main_call1_call3_call0_c_15 : Ref sig .tc := ⟨.hbm, 370, rfl⟩
abbrev main_call1_call3_call0_v62 : Ref sig .tc := ⟨.hbm, 371, rfl⟩
abbrev main_call1_call3_call0_v63 : Ref sig .tc := ⟨.hbm, 372, rfl⟩
abbrev main_call1_call3_call0_c_16 : Ref sig .tc := ⟨.hbm, 373, rfl⟩
abbrev main_call1_call3_call0_v64 : Ref sig .tc := ⟨.hbm, 374, rfl⟩
abbrev main_call1_call3_call0_v65 : Ref sig .tc := ⟨.hbm, 375, rfl⟩
abbrev main_call1_call3_call0_v66 : Ref sig .tc := ⟨.hbm, 376, rfl⟩
abbrev main_call1_call3_call0_v67 : Ref sig .tc := ⟨.hbm, 377, rfl⟩
abbrev main_call1_call3_call0_v68 : Ref sig .tc := ⟨.hbm, 378, rfl⟩
abbrev main_call1_call3_call0_v69 : Ref sig .tc := ⟨.hbm, 379, rfl⟩
abbrev main_call1_call3_call0_v70 : Ref sig .tc := ⟨.hbm, 380, rfl⟩
abbrev main_call1_call3_call0_v71 : Ref sig .tc := ⟨.hbm, 381, rfl⟩
abbrev main_call1_call3_call0_c_17 : Ref sig .tc := ⟨.hbm, 382, rfl⟩
abbrev main_call1_call3_call0_v72 : Ref sig .tc := ⟨.hbm, 383, rfl⟩
abbrev main_call1_call3_call0_v73 : Ref sig .tc := ⟨.hbm, 384, rfl⟩
abbrev main_call1_call3_call0_v74 : Ref sig .tc := ⟨.hbm, 385, rfl⟩
abbrev main_call1_call3_call0_c_18 : Ref sig .tc := ⟨.hbm, 386, rfl⟩
abbrev main_call1_call3_call0_v75 : Ref sig .tc := ⟨.hbm, 387, rfl⟩
abbrev main_call1_call3_call0_v76 : Ref sig .tc := ⟨.hbm, 388, rfl⟩
abbrev main_call1_call3_call0_c_19 : Ref sig .tc := ⟨.hbm, 389, rfl⟩
abbrev main_call1_call3_call0_v77 : Ref sig .tc := ⟨.hbm, 390, rfl⟩
abbrev main_call1_call3_call0_v78 : Ref sig .tc := ⟨.hbm, 391, rfl⟩
abbrev main_call1_call3_call0_v79 : Ref sig .tc := ⟨.hbm, 392, rfl⟩
abbrev main_call1_call3_call0_v80 : Ref sig .tc := ⟨.hbm, 393, rfl⟩
abbrev main_call1_call3_call0_v81 : Ref sig .tc := ⟨.hbm, 394, rfl⟩
abbrev main_call1_call3_call0_c_20 : Ref sig .tc := ⟨.hbm, 395, rfl⟩
abbrev main_call1_call3_call0_v82 : Ref sig .tc := ⟨.hbm, 396, rfl⟩
abbrev main_call1_call3_call0_v83 : Ref sig .tc := ⟨.hbm, 397, rfl⟩
abbrev main_call1_call3_call0_c_21 : Ref sig .tc := ⟨.hbm, 398, rfl⟩
abbrev main_call1_call3_call0_v84 : Ref sig .tc := ⟨.hbm, 399, rfl⟩
abbrev main_call1_call3_call0_v85 : Ref sig .tc := ⟨.hbm, 400, rfl⟩
abbrev main_call1_call3_call0_v86 : Ref sig .tc := ⟨.hbm, 401, rfl⟩
abbrev main_call1_call3_call0_v87 : Ref sig .tc := ⟨.hbm, 402, rfl⟩
abbrev main_call1_call3_call0_v88 : Ref sig .tc := ⟨.hbm, 403, rfl⟩
abbrev main_call1_call3_call0_c_22 : Ref sig .tc := ⟨.hbm, 404, rfl⟩
abbrev main_call1_call3_call0_v89 : Ref sig .tc := ⟨.hbm, 405, rfl⟩
abbrev main_call1_call3_call0_v90 : Ref sig .tc := ⟨.hbm, 406, rfl⟩
abbrev main_call1_call3_call0_c_23 : Ref sig .tc := ⟨.hbm, 407, rfl⟩
abbrev main_call1_call3_call0_v91 : Ref sig .tc := ⟨.hbm, 408, rfl⟩
abbrev main_call1_call3_call0_v92 : Ref sig .tc := ⟨.hbm, 409, rfl⟩
abbrev main_call1_call3_call0_v93 : Ref sig .tc := ⟨.hbm, 410, rfl⟩
abbrev main_call1_call3_call0_v94 : Ref sig .tc := ⟨.hbm, 411, rfl⟩
abbrev main_call1_call3_call0_v95 : Ref sig .tc := ⟨.hbm, 412, rfl⟩
abbrev main_call1_call3_call0_c_24 : Ref sig .tc := ⟨.hbm, 413, rfl⟩
abbrev main_call1_call3_call0_v96 : Ref sig .tc := ⟨.hbm, 414, rfl⟩
abbrev main_call1_call3_call0_v97 : Ref sig .tc := ⟨.hbm, 415, rfl⟩
abbrev main_call1_call3_call0_c_25 : Ref sig .tc := ⟨.hbm, 416, rfl⟩
abbrev main_call1_call3_call0_v98 : Ref sig .tc := ⟨.hbm, 417, rfl⟩
abbrev main_call1_call3_call0_v99 : Ref sig .tc := ⟨.hbm, 418, rfl⟩
abbrev main_call1_call3_call0_v100 : Ref sig .tc := ⟨.hbm, 419, rfl⟩
abbrev main_call1_call3_call0_v101 : Ref sig .tc := ⟨.hbm, 420, rfl⟩
abbrev main_call1_call3_call0_v102 : Ref sig .tc := ⟨.hbm, 421, rfl⟩
abbrev main_call1_call3_call0_v103 : Ref sig .tc := ⟨.hbm, 422, rfl⟩
abbrev main_call1_call3_call0_v104 : Ref sig .tc := ⟨.hbm, 423, rfl⟩
abbrev main_call1_call3_call0_v105 : Ref sig .tc := ⟨.hbm, 424, rfl⟩
abbrev main_call1_call3_call0_c_26 : Ref sig .tc := ⟨.hbm, 425, rfl⟩
abbrev main_call1_call3_call0_v106 : Ref sig .tc := ⟨.hbm, 426, rfl⟩
abbrev main_call1_call3_call0_v107 : Ref sig .tc := ⟨.hbm, 427, rfl⟩
abbrev main_call1_call3_call0_v108 : Ref sig .tc := ⟨.hbm, 428, rfl⟩
abbrev main_call1_call3_call0_c_27 : Ref sig .tc := ⟨.hbm, 429, rfl⟩
abbrev main_call1_call3_call0_v109 : Ref sig .tc := ⟨.hbm, 430, rfl⟩
abbrev main_call1_call3_call0_v110 : Ref sig .tc := ⟨.hbm, 431, rfl⟩
abbrev main_call1_call3_call0_c_28 : Ref sig .tc := ⟨.hbm, 432, rfl⟩
abbrev main_call1_call3_call0_v111 : Ref sig .tc := ⟨.hbm, 433, rfl⟩
abbrev main_call1_call3_call0_v112 : Ref sig .tc := ⟨.hbm, 434, rfl⟩
abbrev main_call1_call3_call0_v113 : Ref sig .tc := ⟨.hbm, 435, rfl⟩
abbrev main_call1_call3_call0_v114 : Ref sig .tc := ⟨.hbm, 436, rfl⟩
abbrev main_call1_call3_call0_v115 : Ref sig .tc := ⟨.hbm, 437, rfl⟩
abbrev main_call1_call3_call0_c_29 : Ref sig .tc := ⟨.hbm, 438, rfl⟩
abbrev main_call1_call3_call0_v116 : Ref sig .tc := ⟨.hbm, 439, rfl⟩
abbrev main_call1_call3_call0_v117 : Ref sig .tc := ⟨.hbm, 440, rfl⟩
abbrev main_call1_call3_call0_c_30 : Ref sig .tc := ⟨.hbm, 441, rfl⟩
abbrev main_call1_call3_call0_v118 : Ref sig .tc := ⟨.hbm, 442, rfl⟩
abbrev main_call1_call3_call0_v119 : Ref sig .tc := ⟨.hbm, 443, rfl⟩
abbrev main_call1_call3_call0_v120 : Ref sig .tc := ⟨.hbm, 444, rfl⟩
abbrev main_call1_call3_call0_v121 : Ref sig .tc := ⟨.hbm, 445, rfl⟩
abbrev main_call1_call3_call0_v122 : Ref sig .tc := ⟨.hbm, 446, rfl⟩
abbrev main_call1_call3_call0_c_31 : Ref sig .tc := ⟨.hbm, 447, rfl⟩
abbrev main_call1_call3_call0_v123 : Ref sig .tc := ⟨.hbm, 448, rfl⟩
abbrev main_call1_call3_call0_v124 : Ref sig .tc := ⟨.hbm, 449, rfl⟩
abbrev main_call1_call3_call0_c_32 : Ref sig .tc := ⟨.hbm, 450, rfl⟩
abbrev main_call1_call3_call0_v125 : Ref sig .tc := ⟨.hbm, 451, rfl⟩
abbrev main_call1_call3_call0_v126 : Ref sig .tc := ⟨.hbm, 452, rfl⟩
abbrev main_call1_call3_call0_v127 : Ref sig .tc := ⟨.hbm, 453, rfl⟩
abbrev main_call1_call3_call0_v128 : Ref sig .tc := ⟨.hbm, 454, rfl⟩
abbrev main_call1_call3_call0_v129 : Ref sig .tc := ⟨.hbm, 455, rfl⟩
abbrev main_call1_call3_call0_c_33 : Ref sig .tc := ⟨.hbm, 456, rfl⟩
abbrev main_call1_call3_call0_v130 : Ref sig .tc := ⟨.hbm, 457, rfl⟩
abbrev main_call1_call3_call0_v131 : Ref sig .tc := ⟨.hbm, 458, rfl⟩
abbrev main_call1_call3_call0_c_34 : Ref sig .tc := ⟨.hbm, 459, rfl⟩
abbrev main_call1_call3_call0_v132 : Ref sig .tc := ⟨.hbm, 460, rfl⟩
abbrev main_call1_call3_call0_v133 : Ref sig .tc := ⟨.hbm, 461, rfl⟩
abbrev main_call1_call3_call0_v134 : Ref sig .tc := ⟨.hbm, 462, rfl⟩
abbrev main_call1_call3_call0_v135 : Ref sig .tc := ⟨.hbm, 463, rfl⟩
abbrev main_call1_call3_call0_v136 : Ref sig .tc := ⟨.hbm, 464, rfl⟩
abbrev main_call1_call3_call0_v137 : Ref sig .tc := ⟨.hbm, 465, rfl⟩
abbrev main_call1_call3_call0_v138 : Ref sig .tc := ⟨.hbm, 466, rfl⟩
abbrev main_call1_call3_call0_v139 : Ref sig .tc := ⟨.hbm, 467, rfl⟩
abbrev main_call1_call3_call0_c_35 : Ref sig .tc := ⟨.hbm, 468, rfl⟩
abbrev main_call1_call3_call0_v140 : Ref sig .tc := ⟨.hbm, 469, rfl⟩
abbrev main_call1_call3_call0_v141 : Ref sig .tc := ⟨.hbm, 470, rfl⟩
abbrev main_call1_call3_call0_v142 : Ref sig .tc := ⟨.hbm, 471, rfl⟩
abbrev main_call1_call3_call0_c_36 : Ref sig .tc := ⟨.hbm, 472, rfl⟩
abbrev main_call1_call3_call0_v143 : Ref sig .tc := ⟨.hbm, 473, rfl⟩
abbrev main_call1_call3_call0_v144 : Ref sig .tc := ⟨.hbm, 474, rfl⟩
abbrev main_call1_call3_call0_c_37 : Ref sig .tc := ⟨.hbm, 475, rfl⟩
abbrev main_call1_call3_call0_v145 : Ref sig .tc := ⟨.hbm, 476, rfl⟩
abbrev main_call1_call3_call0_v146 : Ref sig .tc := ⟨.hbm, 477, rfl⟩
abbrev main_call1_call3_call0_v147 : Ref sig .tc := ⟨.hbm, 478, rfl⟩
abbrev main_call1_call3_call0_v148 : Ref sig .tc := ⟨.hbm, 479, rfl⟩
abbrev main_call1_call3_call0_v149 : Ref sig .tc := ⟨.hbm, 480, rfl⟩
abbrev main_call1_call3_call0_c_38 : Ref sig .tc := ⟨.hbm, 481, rfl⟩
abbrev main_call1_call3_call0_v150 : Ref sig .tc := ⟨.hbm, 482, rfl⟩
abbrev main_call1_call3_call0_v151 : Ref sig .tc := ⟨.hbm, 483, rfl⟩
abbrev main_call1_call3_call0_c_39 : Ref sig .tc := ⟨.hbm, 484, rfl⟩
abbrev main_call1_call3_call0_v152 : Ref sig .tc := ⟨.hbm, 485, rfl⟩
abbrev main_call1_call3_call0_v153 : Ref sig .tc := ⟨.hbm, 486, rfl⟩
abbrev main_call1_call3_call0_v154 : Ref sig .tc := ⟨.hbm, 487, rfl⟩
abbrev main_call1_call3_call0_v155 : Ref sig .tc := ⟨.hbm, 488, rfl⟩
abbrev main_call1_call3_call0_v156 : Ref sig .tc := ⟨.hbm, 489, rfl⟩
abbrev main_call1_call3_call0_c_40 : Ref sig .tc := ⟨.hbm, 490, rfl⟩
abbrev main_call1_call3_call0_v157 : Ref sig .tc := ⟨.hbm, 491, rfl⟩
abbrev main_call1_call3_call0_v158 : Ref sig .tc := ⟨.hbm, 492, rfl⟩
abbrev main_call1_call3_call0_c_41 : Ref sig .tc := ⟨.hbm, 493, rfl⟩
abbrev main_call1_call3_call0_v159 : Ref sig .tc := ⟨.hbm, 494, rfl⟩
abbrev main_call1_call3_call0_v160 : Ref sig .tc := ⟨.hbm, 495, rfl⟩
abbrev main_call1_call3_call0_v161 : Ref sig .tc := ⟨.hbm, 496, rfl⟩
abbrev main_call1_call3_call0_v162 : Ref sig .tc := ⟨.hbm, 497, rfl⟩
abbrev main_call1_call3_call0_v163 : Ref sig .tc := ⟨.hbm, 498, rfl⟩
abbrev main_call1_call3_call0_c_42 : Ref sig .tc := ⟨.hbm, 499, rfl⟩
abbrev main_call1_call3_call0_v164 : Ref sig .tc := ⟨.hbm, 500, rfl⟩
abbrev main_call1_call3_call0_v165 : Ref sig .tc := ⟨.hbm, 501, rfl⟩
abbrev main_call1_call3_call0_c_43 : Ref sig .tc := ⟨.hbm, 502, rfl⟩
abbrev main_call1_call3_call0_v166 : Ref sig .tc := ⟨.hbm, 503, rfl⟩
abbrev main_call1_call3_call0_v167 : Ref sig .tc := ⟨.hbm, 504, rfl⟩
abbrev main_call1_call3_call0_v168 : Ref sig .tc := ⟨.hbm, 505, rfl⟩
abbrev main_call1_call3_call0_v169 : Ref sig .tc := ⟨.hbm, 506, rfl⟩
abbrev main_call1_call3_call0_v170 : Ref sig .tc := ⟨.hbm, 507, rfl⟩
abbrev main_call1_call3_v11_0 : Ref sig .tc := ⟨.hbm, 508, rfl⟩
abbrev main_call1_call3_call0_v172 : Ref sig .tc := ⟨.hbm, 509, rfl⟩
abbrev main_call1_call3_call0_v173 : Ref sig .tc := ⟨.hbm, 510, rfl⟩
abbrev main_call1_call3_call0_c_44 : Ref sig .tc := ⟨.hbm, 511, rfl⟩
abbrev main_call1_call3_call0_v174 : Ref sig .tc := ⟨.hbm, 512, rfl⟩
abbrev main_call1_call3_v11_1 : Ref sig .tc := ⟨.hbm, 513, rfl⟩
abbrev main_call1_call3_v12 : Ref sig .tc := ⟨.hbm, 514, rfl⟩
abbrev main_call1_call3_v13 : Ref sig .tc := ⟨.hbm, 515, rfl⟩
abbrev main_call1_v8 : Ref sig .tc := ⟨.hbm, 516, rfl⟩
abbrev main_call1_v9 : Ref sig .tc := ⟨.hbm, 517, rfl⟩
abbrev main_call1_v10 : Ref sig .tc := ⟨.hbm, 518, rfl⟩
abbrev main_call1_v11 : Ref sig .tc := ⟨.hbm, 519, rfl⟩
abbrev main_call1_v12 : Ref sig .tc := ⟨.hbm, 520, rfl⟩
abbrev main_call1_v13 : Ref sig .tc := ⟨.hbm, 521, rfl⟩
abbrev main_call1_v14 : Ref sig .tc := ⟨.hbm, 522, rfl⟩
abbrev main_call1_v15 : Ref sig .tc := ⟨.hbm, 523, rfl⟩
abbrev main_call1_v16 : Ref sig .tc := ⟨.hbm, 524, rfl⟩
abbrev main_call1_v17 : Ref sig .tc := ⟨.hbm, 525, rfl⟩
abbrev main_call1_v18 : Ref sig .tc := ⟨.hbm, 526, rfl⟩
abbrev main_call1_c_6 : Ref sig .tc := ⟨.hbm, 527, rfl⟩
abbrev main_call1_v19 : Ref sig .tc := ⟨.hbm, 528, rfl⟩
abbrev main_call1_v20 : Ref sig .tc := ⟨.hbm, 529, rfl⟩
abbrev main_call1_c_7 : Ref sig .tc := ⟨.hbm, 530, rfl⟩
abbrev main_call1_v21 : Ref sig .tc := ⟨.hbm, 531, rfl⟩
abbrev main_call1_v22 : Ref sig .tc := ⟨.hbm, 532, rfl⟩
abbrev main_call1_v23 : Ref sig .tc := ⟨.hbm, 533, rfl⟩
abbrev main_call1_c_8 : Ref sig .tc := ⟨.hbm, 534, rfl⟩
abbrev main_call1_v24 : Ref sig .tc := ⟨.hbm, 535, rfl⟩
abbrev main_call1_v25 : Ref sig .tc := ⟨.hbm, 536, rfl⟩
abbrev main_call1_v26 : Ref sig .tc := ⟨.hbm, 537, rfl⟩
abbrev main_call1_v27 : Ref sig .tc := ⟨.hbm, 538, rfl⟩
abbrev main_call1_call4_v0 : Ref sig .tc := ⟨.hbm, 539, rfl⟩
abbrev main_call1_call4_c : Ref sig .tc := ⟨.hbm, 540, rfl⟩
abbrev main_call1_call4_v1 : Ref sig .tc := ⟨.hbm, 541, rfl⟩
abbrev main_call1_call4_v2 : Ref sig .tc := ⟨.hbm, 542, rfl⟩
abbrev main_call1_call4_v3 : Ref sig .tc := ⟨.hbm, 543, rfl⟩
abbrev main_call1_call4_v4 : Ref sig .tc := ⟨.hbm, 544, rfl⟩
abbrev main_call1_call4_v5 : Ref sig .tc := ⟨.hbm, 545, rfl⟩
abbrev main_call1_call4_v6 : Ref sig .tc := ⟨.hbm, 546, rfl⟩
abbrev main_call1_call4_c_0 : Ref sig .tc := ⟨.hbm, 547, rfl⟩
abbrev main_call1_call4_v7 : Ref sig .tc := ⟨.hbm, 548, rfl⟩
abbrev main_call1_call4_v8 : Ref sig .tc := ⟨.hbm, 549, rfl⟩
abbrev main_call1_call4_c_1 : Ref sig .tc := ⟨.hbm, 550, rfl⟩
abbrev main_call1_call4_v9 : Ref sig .tc := ⟨.hbm, 551, rfl⟩
abbrev main_call1_call4_v10 : Ref sig .tc := ⟨.hbm, 552, rfl⟩
abbrev main_call1_call4_v11 : Ref sig .tc := ⟨.hbm, 553, rfl⟩
abbrev main_call1_call4_v12 : Ref sig .tc := ⟨.hbm, 554, rfl⟩
abbrev main_call1_call4_v13 : Ref sig .tc := ⟨.hbm, 555, rfl⟩
abbrev main_call1_call4_c_2 : Ref sig .tc := ⟨.hbm, 556, rfl⟩
abbrev main_call1_call4_v14 : Ref sig .tc := ⟨.hbm, 557, rfl⟩
abbrev main_call1_call4_v15 : Ref sig .tc := ⟨.hbm, 558, rfl⟩
abbrev main_call1_call4_c_3 : Ref sig .tc := ⟨.hbm, 559, rfl⟩
abbrev main_call1_call4_v16 : Ref sig .tc := ⟨.hbm, 560, rfl⟩
abbrev main_call1_call4_v17 : Ref sig .tc := ⟨.hbm, 561, rfl⟩
abbrev main_call1_call4_v18 : Ref sig .tc := ⟨.hbm, 562, rfl⟩
abbrev main_call1_call4_v19 : Ref sig .tc := ⟨.hbm, 563, rfl⟩
abbrev main_call1_call4_v20 : Ref sig .tc := ⟨.hbm, 564, rfl⟩
abbrev main_call1_call4_c_4 : Ref sig .tc := ⟨.hbm, 565, rfl⟩
abbrev main_call1_call4_v21 : Ref sig .tc := ⟨.hbm, 566, rfl⟩
abbrev main_call1_call4_v22 : Ref sig .tc := ⟨.hbm, 567, rfl⟩
abbrev main_call1_call4_c_5 : Ref sig .tc := ⟨.hbm, 568, rfl⟩
abbrev main_call1_call4_v23 : Ref sig .tc := ⟨.hbm, 569, rfl⟩
abbrev main_call1_call4_v24 : Ref sig .tc := ⟨.hbm, 570, rfl⟩
abbrev main_call1_call4_v25 : Ref sig .tc := ⟨.hbm, 571, rfl⟩
abbrev main_call1_call4_v26 : Ref sig .tc := ⟨.hbm, 572, rfl⟩
abbrev main_call1_call4_v27 : Ref sig .tc := ⟨.hbm, 573, rfl⟩
abbrev main_call1_call4_c_6 : Ref sig .tc := ⟨.hbm, 574, rfl⟩
abbrev main_call1_call4_v28 : Ref sig .tc := ⟨.hbm, 575, rfl⟩
abbrev main_call1_call4_v29 : Ref sig .tc := ⟨.hbm, 576, rfl⟩
abbrev main_call1_call4_c_7 : Ref sig .tc := ⟨.hbm, 577, rfl⟩
abbrev main_call1_call4_v30 : Ref sig .tc := ⟨.hbm, 578, rfl⟩
abbrev main_call1_call4_v31 : Ref sig .tc := ⟨.hbm, 579, rfl⟩
abbrev main_call1_call4_v32 : Ref sig .tc := ⟨.hbm, 580, rfl⟩
abbrev main_call1_call4_v33 : Ref sig .tc := ⟨.hbm, 581, rfl⟩
abbrev main_call1_call4_v34 : Ref sig .tc := ⟨.hbm, 582, rfl⟩
abbrev main_call1_call4_v35 : Ref sig .tc := ⟨.hbm, 583, rfl⟩
abbrev main_call1_call4_v36 : Ref sig .tc := ⟨.hbm, 584, rfl⟩
abbrev main_call1_call4_v37 : Ref sig .tc := ⟨.hbm, 585, rfl⟩
abbrev main_call1_call4_c_8 : Ref sig .tc := ⟨.hbm, 586, rfl⟩
abbrev main_call1_call4_v38 : Ref sig .tc := ⟨.hbm, 587, rfl⟩
abbrev main_call1_call4_v39 : Ref sig .tc := ⟨.hbm, 588, rfl⟩
abbrev main_call1_call4_v40 : Ref sig .tc := ⟨.hbm, 589, rfl⟩
abbrev main_call1_call4_c_9 : Ref sig .tc := ⟨.hbm, 590, rfl⟩
abbrev main_call1_call4_v41 : Ref sig .tc := ⟨.hbm, 591, rfl⟩
abbrev main_call1_call4_v42 : Ref sig .tc := ⟨.hbm, 592, rfl⟩
abbrev main_call1_call4_c_10 : Ref sig .tc := ⟨.hbm, 593, rfl⟩
abbrev main_call1_call4_v43 : Ref sig .tc := ⟨.hbm, 594, rfl⟩
abbrev main_call1_call4_v44 : Ref sig .tc := ⟨.hbm, 595, rfl⟩
abbrev main_call1_call4_v45 : Ref sig .tc := ⟨.hbm, 596, rfl⟩
abbrev main_call1_call4_v46 : Ref sig .tc := ⟨.hbm, 597, rfl⟩
abbrev main_call1_call4_v47 : Ref sig .tc := ⟨.hbm, 598, rfl⟩
abbrev main_call1_call4_c_11 : Ref sig .tc := ⟨.hbm, 599, rfl⟩
abbrev main_call1_call4_v48 : Ref sig .tc := ⟨.hbm, 600, rfl⟩
abbrev main_call1_call4_v49 : Ref sig .tc := ⟨.hbm, 601, rfl⟩
abbrev main_call1_call4_c_12 : Ref sig .tc := ⟨.hbm, 602, rfl⟩
abbrev main_call1_call4_v50 : Ref sig .tc := ⟨.hbm, 603, rfl⟩
abbrev main_call1_call4_v51 : Ref sig .tc := ⟨.hbm, 604, rfl⟩
abbrev main_call1_call4_v52 : Ref sig .tc := ⟨.hbm, 605, rfl⟩
abbrev main_call1_call4_v53 : Ref sig .tc := ⟨.hbm, 606, rfl⟩
abbrev main_call1_call4_v54 : Ref sig .tc := ⟨.hbm, 607, rfl⟩
abbrev main_call1_call4_c_13 : Ref sig .tc := ⟨.hbm, 608, rfl⟩
abbrev main_call1_call4_v55 : Ref sig .tc := ⟨.hbm, 609, rfl⟩
abbrev main_call1_call4_v56 : Ref sig .tc := ⟨.hbm, 610, rfl⟩
abbrev main_call1_call4_c_14 : Ref sig .tc := ⟨.hbm, 611, rfl⟩
abbrev main_call1_call4_v57 : Ref sig .tc := ⟨.hbm, 612, rfl⟩
abbrev main_call1_call4_v58 : Ref sig .tc := ⟨.hbm, 613, rfl⟩
abbrev main_call1_call4_v59 : Ref sig .tc := ⟨.hbm, 614, rfl⟩
abbrev main_call1_call4_v60 : Ref sig .tc := ⟨.hbm, 615, rfl⟩
abbrev main_call1_call4_v61 : Ref sig .tc := ⟨.hbm, 616, rfl⟩
abbrev main_call1_call4_c_15 : Ref sig .tc := ⟨.hbm, 617, rfl⟩
abbrev main_call1_call4_v62 : Ref sig .tc := ⟨.hbm, 618, rfl⟩
abbrev main_call1_call4_v63 : Ref sig .tc := ⟨.hbm, 619, rfl⟩
abbrev main_call1_call4_c_16 : Ref sig .tc := ⟨.hbm, 620, rfl⟩
abbrev main_call1_call4_v64 : Ref sig .tc := ⟨.hbm, 621, rfl⟩
abbrev main_call1_call4_v65 : Ref sig .tc := ⟨.hbm, 622, rfl⟩
abbrev main_call1_call4_v66 : Ref sig .tc := ⟨.hbm, 623, rfl⟩
abbrev main_call1_call4_v67 : Ref sig .tc := ⟨.hbm, 624, rfl⟩
abbrev main_call1_call4_v68 : Ref sig .tc := ⟨.hbm, 625, rfl⟩
abbrev main_call1_call4_v69 : Ref sig .tc := ⟨.hbm, 626, rfl⟩
abbrev main_call1_call4_v70 : Ref sig .tc := ⟨.hbm, 627, rfl⟩
abbrev main_call1_call4_v71 : Ref sig .tc := ⟨.hbm, 628, rfl⟩
abbrev main_call1_call4_c_17 : Ref sig .tc := ⟨.hbm, 629, rfl⟩
abbrev main_call1_call4_v72 : Ref sig .tc := ⟨.hbm, 630, rfl⟩
abbrev main_call1_call4_v73 : Ref sig .tc := ⟨.hbm, 631, rfl⟩
abbrev main_call1_call4_v74 : Ref sig .tc := ⟨.hbm, 632, rfl⟩
abbrev main_call1_call4_c_18 : Ref sig .tc := ⟨.hbm, 633, rfl⟩
abbrev main_call1_call4_v75 : Ref sig .tc := ⟨.hbm, 634, rfl⟩
abbrev main_call1_call4_v76 : Ref sig .tc := ⟨.hbm, 635, rfl⟩
abbrev main_call1_call4_c_19 : Ref sig .tc := ⟨.hbm, 636, rfl⟩
abbrev main_call1_call4_v77 : Ref sig .tc := ⟨.hbm, 637, rfl⟩
abbrev main_call1_call4_v78 : Ref sig .tc := ⟨.hbm, 638, rfl⟩
abbrev main_call1_call4_v79 : Ref sig .tc := ⟨.hbm, 639, rfl⟩
abbrev main_call1_call4_v80 : Ref sig .tc := ⟨.hbm, 640, rfl⟩
abbrev main_call1_call4_v81 : Ref sig .tc := ⟨.hbm, 641, rfl⟩
abbrev main_call1_call4_c_20 : Ref sig .tc := ⟨.hbm, 642, rfl⟩
abbrev main_call1_call4_v82 : Ref sig .tc := ⟨.hbm, 643, rfl⟩
abbrev main_call1_call4_v83 : Ref sig .tc := ⟨.hbm, 644, rfl⟩
abbrev main_call1_call4_c_21 : Ref sig .tc := ⟨.hbm, 645, rfl⟩
abbrev main_call1_call4_v84 : Ref sig .tc := ⟨.hbm, 646, rfl⟩
abbrev main_call1_call4_v85 : Ref sig .tc := ⟨.hbm, 647, rfl⟩
abbrev main_call1_call4_v86 : Ref sig .tc := ⟨.hbm, 648, rfl⟩
abbrev main_call1_call4_v87 : Ref sig .tc := ⟨.hbm, 649, rfl⟩
abbrev main_call1_call4_v88 : Ref sig .tc := ⟨.hbm, 650, rfl⟩
abbrev main_call1_call4_c_22 : Ref sig .tc := ⟨.hbm, 651, rfl⟩
abbrev main_call1_call4_v89 : Ref sig .tc := ⟨.hbm, 652, rfl⟩
abbrev main_call1_call4_v90 : Ref sig .tc := ⟨.hbm, 653, rfl⟩
abbrev main_call1_call4_c_23 : Ref sig .tc := ⟨.hbm, 654, rfl⟩
abbrev main_call1_call4_v91 : Ref sig .tc := ⟨.hbm, 655, rfl⟩
abbrev main_call1_call4_v92 : Ref sig .tc := ⟨.hbm, 656, rfl⟩
abbrev main_call1_call4_v93 : Ref sig .tc := ⟨.hbm, 657, rfl⟩
abbrev main_call1_call4_v94 : Ref sig .tc := ⟨.hbm, 658, rfl⟩
abbrev main_call1_call4_v95 : Ref sig .tc := ⟨.hbm, 659, rfl⟩
abbrev main_call1_call4_c_24 : Ref sig .tc := ⟨.hbm, 660, rfl⟩
abbrev main_call1_call4_v96 : Ref sig .tc := ⟨.hbm, 661, rfl⟩
abbrev main_call1_call4_v97 : Ref sig .tc := ⟨.hbm, 662, rfl⟩
abbrev main_call1_call4_c_25 : Ref sig .tc := ⟨.hbm, 663, rfl⟩
abbrev main_call1_call4_v98 : Ref sig .tc := ⟨.hbm, 664, rfl⟩
abbrev main_call1_call4_v99 : Ref sig .tc := ⟨.hbm, 665, rfl⟩
abbrev main_call1_call4_v100 : Ref sig .tc := ⟨.hbm, 666, rfl⟩
abbrev main_call1_call4_v101 : Ref sig .tc := ⟨.hbm, 667, rfl⟩
abbrev main_call1_call4_v102 : Ref sig .tc := ⟨.hbm, 668, rfl⟩
abbrev main_call1_call4_v103 : Ref sig .tc := ⟨.hbm, 669, rfl⟩
abbrev main_call1_call4_v104 : Ref sig .tc := ⟨.hbm, 670, rfl⟩
abbrev main_call1_call4_v105 : Ref sig .tc := ⟨.hbm, 671, rfl⟩
abbrev main_call1_call4_c_26 : Ref sig .tc := ⟨.hbm, 672, rfl⟩
abbrev main_call1_call4_v106 : Ref sig .tc := ⟨.hbm, 673, rfl⟩
abbrev main_call1_call4_v107 : Ref sig .tc := ⟨.hbm, 674, rfl⟩
abbrev main_call1_call4_v108 : Ref sig .tc := ⟨.hbm, 675, rfl⟩
abbrev main_call1_call4_c_27 : Ref sig .tc := ⟨.hbm, 676, rfl⟩
abbrev main_call1_call4_v109 : Ref sig .tc := ⟨.hbm, 677, rfl⟩
abbrev main_call1_call4_v110 : Ref sig .tc := ⟨.hbm, 678, rfl⟩
abbrev main_call1_call4_c_28 : Ref sig .tc := ⟨.hbm, 679, rfl⟩
abbrev main_call1_call4_v111 : Ref sig .tc := ⟨.hbm, 680, rfl⟩
abbrev main_call1_call4_v112 : Ref sig .tc := ⟨.hbm, 681, rfl⟩
abbrev main_call1_call4_v113 : Ref sig .tc := ⟨.hbm, 682, rfl⟩
abbrev main_call1_call4_v114 : Ref sig .tc := ⟨.hbm, 683, rfl⟩
abbrev main_call1_call4_v115 : Ref sig .tc := ⟨.hbm, 684, rfl⟩
abbrev main_call1_call4_c_29 : Ref sig .tc := ⟨.hbm, 685, rfl⟩
abbrev main_call1_call4_v116 : Ref sig .tc := ⟨.hbm, 686, rfl⟩
abbrev main_call1_call4_v117 : Ref sig .tc := ⟨.hbm, 687, rfl⟩
abbrev main_call1_call4_c_30 : Ref sig .tc := ⟨.hbm, 688, rfl⟩
abbrev main_call1_call4_v118 : Ref sig .tc := ⟨.hbm, 689, rfl⟩
abbrev main_call1_call4_v119 : Ref sig .tc := ⟨.hbm, 690, rfl⟩
abbrev main_call1_call4_v120 : Ref sig .tc := ⟨.hbm, 691, rfl⟩
abbrev main_call1_call4_v121 : Ref sig .tc := ⟨.hbm, 692, rfl⟩
abbrev main_call1_call4_v122 : Ref sig .tc := ⟨.hbm, 693, rfl⟩
abbrev main_call1_call4_c_31 : Ref sig .tc := ⟨.hbm, 694, rfl⟩
abbrev main_call1_call4_v123 : Ref sig .tc := ⟨.hbm, 695, rfl⟩
abbrev main_call1_call4_v124 : Ref sig .tc := ⟨.hbm, 696, rfl⟩
abbrev main_call1_call4_c_32 : Ref sig .tc := ⟨.hbm, 697, rfl⟩
abbrev main_call1_call4_v125 : Ref sig .tc := ⟨.hbm, 698, rfl⟩
abbrev main_call1_call4_v126 : Ref sig .tc := ⟨.hbm, 699, rfl⟩
abbrev main_call1_call4_v127 : Ref sig .tc := ⟨.hbm, 700, rfl⟩
abbrev main_call1_call4_v128 : Ref sig .tc := ⟨.hbm, 701, rfl⟩
abbrev main_call1_call4_v129 : Ref sig .tc := ⟨.hbm, 702, rfl⟩
abbrev main_call1_call4_c_33 : Ref sig .tc := ⟨.hbm, 703, rfl⟩
abbrev main_call1_call4_v130 : Ref sig .tc := ⟨.hbm, 704, rfl⟩
abbrev main_call1_call4_v131 : Ref sig .tc := ⟨.hbm, 705, rfl⟩
abbrev main_call1_call4_c_34 : Ref sig .tc := ⟨.hbm, 706, rfl⟩
abbrev main_call1_call4_v132 : Ref sig .tc := ⟨.hbm, 707, rfl⟩
abbrev main_call1_call4_v133 : Ref sig .tc := ⟨.hbm, 708, rfl⟩
abbrev main_call1_call4_v134 : Ref sig .tc := ⟨.hbm, 709, rfl⟩
abbrev main_call1_call4_v135 : Ref sig .tc := ⟨.hbm, 710, rfl⟩
abbrev main_call1_call4_v136 : Ref sig .tc := ⟨.hbm, 711, rfl⟩
abbrev main_call1_call4_v137 : Ref sig .tc := ⟨.hbm, 712, rfl⟩
abbrev main_call1_call4_v138 : Ref sig .tc := ⟨.hbm, 713, rfl⟩
abbrev main_call1_call4_v139 : Ref sig .tc := ⟨.hbm, 714, rfl⟩
abbrev main_call1_call4_c_35 : Ref sig .tc := ⟨.hbm, 715, rfl⟩
abbrev main_call1_call4_v140 : Ref sig .tc := ⟨.hbm, 716, rfl⟩
abbrev main_call1_call4_v141 : Ref sig .tc := ⟨.hbm, 717, rfl⟩
abbrev main_call1_call4_v142 : Ref sig .tc := ⟨.hbm, 718, rfl⟩
abbrev main_call1_call4_c_36 : Ref sig .tc := ⟨.hbm, 719, rfl⟩
abbrev main_call1_call4_v143 : Ref sig .tc := ⟨.hbm, 720, rfl⟩
abbrev main_call1_call4_v144 : Ref sig .tc := ⟨.hbm, 721, rfl⟩
abbrev main_call1_call4_c_37 : Ref sig .tc := ⟨.hbm, 722, rfl⟩
abbrev main_call1_call4_v145 : Ref sig .tc := ⟨.hbm, 723, rfl⟩
abbrev main_call1_call4_v146 : Ref sig .tc := ⟨.hbm, 724, rfl⟩
abbrev main_call1_call4_v147 : Ref sig .tc := ⟨.hbm, 725, rfl⟩
abbrev main_call1_call4_v148 : Ref sig .tc := ⟨.hbm, 726, rfl⟩
abbrev main_call1_call4_v149 : Ref sig .tc := ⟨.hbm, 727, rfl⟩
abbrev main_call1_call4_c_38 : Ref sig .tc := ⟨.hbm, 728, rfl⟩
abbrev main_call1_call4_v150 : Ref sig .tc := ⟨.hbm, 729, rfl⟩
abbrev main_call1_call4_v151 : Ref sig .tc := ⟨.hbm, 730, rfl⟩
abbrev main_call1_call4_c_39 : Ref sig .tc := ⟨.hbm, 731, rfl⟩
abbrev main_call1_call4_v152 : Ref sig .tc := ⟨.hbm, 732, rfl⟩
abbrev main_call1_call4_v153 : Ref sig .tc := ⟨.hbm, 733, rfl⟩
abbrev main_call1_call4_v154 : Ref sig .tc := ⟨.hbm, 734, rfl⟩
abbrev main_call1_call4_v155 : Ref sig .tc := ⟨.hbm, 735, rfl⟩
abbrev main_call1_call4_v156 : Ref sig .tc := ⟨.hbm, 736, rfl⟩
abbrev main_call1_call4_c_40 : Ref sig .tc := ⟨.hbm, 737, rfl⟩
abbrev main_call1_call4_v157 : Ref sig .tc := ⟨.hbm, 738, rfl⟩
abbrev main_call1_call4_v158 : Ref sig .tc := ⟨.hbm, 739, rfl⟩
abbrev main_call1_call4_c_41 : Ref sig .tc := ⟨.hbm, 740, rfl⟩
abbrev main_call1_call4_v159 : Ref sig .tc := ⟨.hbm, 741, rfl⟩
abbrev main_call1_call4_v160 : Ref sig .tc := ⟨.hbm, 742, rfl⟩
abbrev main_call1_call4_v161 : Ref sig .tc := ⟨.hbm, 743, rfl⟩
abbrev main_call1_call4_v162 : Ref sig .tc := ⟨.hbm, 744, rfl⟩
abbrev main_call1_call4_v163 : Ref sig .tc := ⟨.hbm, 745, rfl⟩
abbrev main_call1_call4_c_42 : Ref sig .tc := ⟨.hbm, 746, rfl⟩
abbrev main_call1_call4_v164 : Ref sig .tc := ⟨.hbm, 747, rfl⟩
abbrev main_call1_call4_v165 : Ref sig .tc := ⟨.hbm, 748, rfl⟩
abbrev main_call1_call4_c_43 : Ref sig .tc := ⟨.hbm, 749, rfl⟩
abbrev main_call1_call4_v166 : Ref sig .tc := ⟨.hbm, 750, rfl⟩
abbrev main_call1_call4_v167 : Ref sig .tc := ⟨.hbm, 751, rfl⟩
abbrev main_call1_call4_v168 : Ref sig .tc := ⟨.hbm, 752, rfl⟩
abbrev main_call1_call4_v169 : Ref sig .tc := ⟨.hbm, 753, rfl⟩
abbrev main_call1_call4_v170 : Ref sig .tc := ⟨.hbm, 754, rfl⟩
abbrev main_call1_v28_0 : Ref sig .tc := ⟨.hbm, 755, rfl⟩
abbrev main_call1_call4_v172 : Ref sig .tc := ⟨.hbm, 756, rfl⟩
abbrev main_call1_call4_v173 : Ref sig .tc := ⟨.hbm, 757, rfl⟩
abbrev main_call1_call4_c_44 : Ref sig .tc := ⟨.hbm, 758, rfl⟩
abbrev main_call1_call4_v174 : Ref sig .tc := ⟨.hbm, 759, rfl⟩
abbrev main_call1_v28_1 : Ref sig .tc := ⟨.hbm, 760, rfl⟩
abbrev main_call1_v29 : Ref sig .tc := ⟨.hbm, 761, rfl⟩
abbrev main_call1_v30 : Ref sig .tc := ⟨.hbm, 762, rfl⟩
abbrev main_call1_v31 : Ref sig .tc := ⟨.hbm, 763, rfl⟩
abbrev main_call1_v32 : Ref sig .tc := ⟨.hbm, 764, rfl⟩
abbrev main_call1_v33 : Ref sig .tc := ⟨.hbm, 765, rfl⟩
abbrev main_call1_v34 : Ref sig .tc := ⟨.hbm, 766, rfl⟩
abbrev main_call1_v35 : Ref sig .tc := ⟨.hbm, 767, rfl⟩
abbrev main_call1_c_9 : Ref sig .tc := ⟨.hbm, 768, rfl⟩
abbrev main_call1_v36 : Ref sig .tc := ⟨.hbm, 769, rfl⟩
abbrev main_call1_v37 : Ref sig .tc := ⟨.hbm, 770, rfl⟩
abbrev main_call1_c_10 : Ref sig .tc := ⟨.hbm, 771, rfl⟩
abbrev main_call1_v38 : Ref sig .tc := ⟨.hbm, 772, rfl⟩
abbrev main_call1_v39 : Ref sig .tc := ⟨.hbm, 773, rfl⟩
abbrev main_call1_v40 : Ref sig .tc := ⟨.hbm, 774, rfl⟩
abbrev main_call1_c_11 : Ref sig .tc := ⟨.hbm, 775, rfl⟩
abbrev main_call1_v41 : Ref sig .tc := ⟨.hbm, 776, rfl⟩
abbrev main_call1_v42 : Ref sig .tc := ⟨.hbm, 777, rfl⟩
abbrev main_call1_v43 : Ref sig .tc := ⟨.hbm, 778, rfl⟩
abbrev main_call1_v44 : Ref sig .tc := ⟨.hbm, 779, rfl⟩
abbrev main_call1_call5_v0 : Ref sig .tc := ⟨.hbm, 780, rfl⟩
abbrev main_call1_call5_c : Ref sig .tc := ⟨.hbm, 781, rfl⟩
abbrev main_call1_call5_v1 : Ref sig .tc := ⟨.hbm, 782, rfl⟩
abbrev main_call1_call5_v2 : Ref sig .tc := ⟨.hbm, 783, rfl⟩
abbrev main_call1_call5_v3 : Ref sig .tc := ⟨.hbm, 784, rfl⟩
abbrev main_call1_call5_v4 : Ref sig .tc := ⟨.hbm, 785, rfl⟩
abbrev main_call1_call5_v5 : Ref sig .tc := ⟨.hbm, 786, rfl⟩
abbrev main_call1_call5_v6 : Ref sig .tc := ⟨.hbm, 787, rfl⟩
abbrev main_call1_call5_c_0 : Ref sig .tc := ⟨.hbm, 788, rfl⟩
abbrev main_call1_call5_v7 : Ref sig .tc := ⟨.hbm, 789, rfl⟩
abbrev main_call1_call5_v8 : Ref sig .tc := ⟨.hbm, 790, rfl⟩
abbrev main_call1_call5_c_1 : Ref sig .tc := ⟨.hbm, 791, rfl⟩
abbrev main_call1_call5_v9 : Ref sig .tc := ⟨.hbm, 792, rfl⟩
abbrev main_call1_call5_v10 : Ref sig .tc := ⟨.hbm, 793, rfl⟩
abbrev main_call1_call5_v11 : Ref sig .tc := ⟨.hbm, 794, rfl⟩
abbrev main_call1_call5_v12 : Ref sig .tc := ⟨.hbm, 795, rfl⟩
abbrev main_call1_call5_v13 : Ref sig .tc := ⟨.hbm, 796, rfl⟩
abbrev main_call1_call5_c_2 : Ref sig .tc := ⟨.hbm, 797, rfl⟩
abbrev main_call1_call5_v14 : Ref sig .tc := ⟨.hbm, 798, rfl⟩
abbrev main_call1_call5_v15 : Ref sig .tc := ⟨.hbm, 799, rfl⟩
abbrev main_call1_call5_c_3 : Ref sig .tc := ⟨.hbm, 800, rfl⟩
abbrev main_call1_call5_v16 : Ref sig .tc := ⟨.hbm, 801, rfl⟩
abbrev main_call1_call5_v17 : Ref sig .tc := ⟨.hbm, 802, rfl⟩
abbrev main_call1_call5_v18 : Ref sig .tc := ⟨.hbm, 803, rfl⟩
abbrev main_call1_call5_v19 : Ref sig .tc := ⟨.hbm, 804, rfl⟩
abbrev main_call1_call5_v20 : Ref sig .tc := ⟨.hbm, 805, rfl⟩
abbrev main_call1_call5_c_4 : Ref sig .tc := ⟨.hbm, 806, rfl⟩
abbrev main_call1_call5_v21 : Ref sig .tc := ⟨.hbm, 807, rfl⟩
abbrev main_call1_call5_v22 : Ref sig .tc := ⟨.hbm, 808, rfl⟩
abbrev main_call1_call5_c_5 : Ref sig .tc := ⟨.hbm, 809, rfl⟩
abbrev main_call1_call5_v23 : Ref sig .tc := ⟨.hbm, 810, rfl⟩
abbrev main_call1_call5_v24 : Ref sig .tc := ⟨.hbm, 811, rfl⟩
abbrev main_call1_call5_v25 : Ref sig .tc := ⟨.hbm, 812, rfl⟩
abbrev main_call1_call5_v26 : Ref sig .tc := ⟨.hbm, 813, rfl⟩
abbrev main_call1_call5_v27 : Ref sig .tc := ⟨.hbm, 814, rfl⟩
abbrev main_call1_call5_c_6 : Ref sig .tc := ⟨.hbm, 815, rfl⟩
abbrev main_call1_call5_v28 : Ref sig .tc := ⟨.hbm, 816, rfl⟩
abbrev main_call1_call5_v29 : Ref sig .tc := ⟨.hbm, 817, rfl⟩
abbrev main_call1_call5_c_7 : Ref sig .tc := ⟨.hbm, 818, rfl⟩
abbrev main_call1_call5_v30 : Ref sig .tc := ⟨.hbm, 819, rfl⟩
abbrev main_call1_call5_v31 : Ref sig .tc := ⟨.hbm, 820, rfl⟩
abbrev main_call1_call5_v32 : Ref sig .tc := ⟨.hbm, 821, rfl⟩
abbrev main_call1_call5_v33 : Ref sig .tc := ⟨.hbm, 822, rfl⟩
abbrev main_call1_call5_v34 : Ref sig .tc := ⟨.hbm, 823, rfl⟩
abbrev main_call1_call5_v35 : Ref sig .tc := ⟨.hbm, 824, rfl⟩
abbrev main_call1_call5_v36 : Ref sig .tc := ⟨.hbm, 825, rfl⟩
abbrev main_call1_call5_v37 : Ref sig .tc := ⟨.hbm, 826, rfl⟩
abbrev main_call1_call5_c_8 : Ref sig .tc := ⟨.hbm, 827, rfl⟩
abbrev main_call1_call5_v38 : Ref sig .tc := ⟨.hbm, 828, rfl⟩
abbrev main_call1_call5_v39 : Ref sig .tc := ⟨.hbm, 829, rfl⟩
abbrev main_call1_call5_v40 : Ref sig .tc := ⟨.hbm, 830, rfl⟩
abbrev main_call1_call5_c_9 : Ref sig .tc := ⟨.hbm, 831, rfl⟩
abbrev main_call1_call5_v41 : Ref sig .tc := ⟨.hbm, 832, rfl⟩
abbrev main_call1_call5_v42 : Ref sig .tc := ⟨.hbm, 833, rfl⟩
abbrev main_call1_call5_c_10 : Ref sig .tc := ⟨.hbm, 834, rfl⟩
abbrev main_call1_call5_v43 : Ref sig .tc := ⟨.hbm, 835, rfl⟩
abbrev main_call1_call5_v44 : Ref sig .tc := ⟨.hbm, 836, rfl⟩
abbrev main_call1_call5_v45 : Ref sig .tc := ⟨.hbm, 837, rfl⟩
abbrev main_call1_call5_v46 : Ref sig .tc := ⟨.hbm, 838, rfl⟩
abbrev main_call1_call5_v47 : Ref sig .tc := ⟨.hbm, 839, rfl⟩
abbrev main_call1_call5_c_11 : Ref sig .tc := ⟨.hbm, 840, rfl⟩
abbrev main_call1_call5_v48 : Ref sig .tc := ⟨.hbm, 841, rfl⟩
abbrev main_call1_call5_v49 : Ref sig .tc := ⟨.hbm, 842, rfl⟩
abbrev main_call1_call5_c_12 : Ref sig .tc := ⟨.hbm, 843, rfl⟩
abbrev main_call1_call5_v50 : Ref sig .tc := ⟨.hbm, 844, rfl⟩
abbrev main_call1_call5_v51 : Ref sig .tc := ⟨.hbm, 845, rfl⟩
abbrev main_call1_call5_v52 : Ref sig .tc := ⟨.hbm, 846, rfl⟩
abbrev main_call1_call5_v53 : Ref sig .tc := ⟨.hbm, 847, rfl⟩
abbrev main_call1_call5_v54 : Ref sig .tc := ⟨.hbm, 848, rfl⟩
abbrev main_call1_call5_c_13 : Ref sig .tc := ⟨.hbm, 849, rfl⟩
abbrev main_call1_call5_v55 : Ref sig .tc := ⟨.hbm, 850, rfl⟩
abbrev main_call1_call5_v56 : Ref sig .tc := ⟨.hbm, 851, rfl⟩
abbrev main_call1_call5_c_14 : Ref sig .tc := ⟨.hbm, 852, rfl⟩
abbrev main_call1_call5_v57 : Ref sig .tc := ⟨.hbm, 853, rfl⟩
abbrev main_call1_call5_v58 : Ref sig .tc := ⟨.hbm, 854, rfl⟩
abbrev main_call1_call5_v59 : Ref sig .tc := ⟨.hbm, 855, rfl⟩
abbrev main_call1_call5_v60 : Ref sig .tc := ⟨.hbm, 856, rfl⟩
abbrev main_call1_call5_v61 : Ref sig .tc := ⟨.hbm, 857, rfl⟩
abbrev main_call1_call5_c_15 : Ref sig .tc := ⟨.hbm, 858, rfl⟩
abbrev main_call1_call5_v62 : Ref sig .tc := ⟨.hbm, 859, rfl⟩
abbrev main_call1_call5_v63 : Ref sig .tc := ⟨.hbm, 860, rfl⟩
abbrev main_call1_call5_c_16 : Ref sig .tc := ⟨.hbm, 861, rfl⟩
abbrev main_call1_call5_v64 : Ref sig .tc := ⟨.hbm, 862, rfl⟩
abbrev main_call1_call5_v65 : Ref sig .tc := ⟨.hbm, 863, rfl⟩
abbrev main_call1_call5_v66 : Ref sig .tc := ⟨.hbm, 864, rfl⟩
abbrev main_call1_call5_v67 : Ref sig .tc := ⟨.hbm, 865, rfl⟩
abbrev main_call1_call5_v68 : Ref sig .tc := ⟨.hbm, 866, rfl⟩
abbrev main_call1_call5_v69 : Ref sig .tc := ⟨.hbm, 867, rfl⟩
abbrev main_call1_call5_v70 : Ref sig .tc := ⟨.hbm, 868, rfl⟩
abbrev main_call1_call5_v71 : Ref sig .tc := ⟨.hbm, 869, rfl⟩
abbrev main_call1_call5_c_17 : Ref sig .tc := ⟨.hbm, 870, rfl⟩
abbrev main_call1_call5_v72 : Ref sig .tc := ⟨.hbm, 871, rfl⟩
abbrev main_call1_call5_v73 : Ref sig .tc := ⟨.hbm, 872, rfl⟩
abbrev main_call1_call5_v74 : Ref sig .tc := ⟨.hbm, 873, rfl⟩
abbrev main_call1_call5_c_18 : Ref sig .tc := ⟨.hbm, 874, rfl⟩
abbrev main_call1_call5_v75 : Ref sig .tc := ⟨.hbm, 875, rfl⟩
abbrev main_call1_call5_v76 : Ref sig .tc := ⟨.hbm, 876, rfl⟩
abbrev main_call1_call5_c_19 : Ref sig .tc := ⟨.hbm, 877, rfl⟩
abbrev main_call1_call5_v77 : Ref sig .tc := ⟨.hbm, 878, rfl⟩
abbrev main_call1_call5_v78 : Ref sig .tc := ⟨.hbm, 879, rfl⟩
abbrev main_call1_call5_v79 : Ref sig .tc := ⟨.hbm, 880, rfl⟩
abbrev main_call1_call5_v80 : Ref sig .tc := ⟨.hbm, 881, rfl⟩
abbrev main_call1_call5_v81 : Ref sig .tc := ⟨.hbm, 882, rfl⟩
abbrev main_call1_call5_c_20 : Ref sig .tc := ⟨.hbm, 883, rfl⟩
abbrev main_call1_call5_v82 : Ref sig .tc := ⟨.hbm, 884, rfl⟩
abbrev main_call1_call5_v83 : Ref sig .tc := ⟨.hbm, 885, rfl⟩
abbrev main_call1_call5_c_21 : Ref sig .tc := ⟨.hbm, 886, rfl⟩
abbrev main_call1_call5_v84 : Ref sig .tc := ⟨.hbm, 887, rfl⟩
abbrev main_call1_call5_v85 : Ref sig .tc := ⟨.hbm, 888, rfl⟩
abbrev main_call1_call5_v86 : Ref sig .tc := ⟨.hbm, 889, rfl⟩
abbrev main_call1_call5_v87 : Ref sig .tc := ⟨.hbm, 890, rfl⟩
abbrev main_call1_call5_v88 : Ref sig .tc := ⟨.hbm, 891, rfl⟩
abbrev main_call1_call5_c_22 : Ref sig .tc := ⟨.hbm, 892, rfl⟩
abbrev main_call1_call5_v89 : Ref sig .tc := ⟨.hbm, 893, rfl⟩
abbrev main_call1_call5_v90 : Ref sig .tc := ⟨.hbm, 894, rfl⟩
abbrev main_call1_call5_c_23 : Ref sig .tc := ⟨.hbm, 895, rfl⟩
abbrev main_call1_call5_v91 : Ref sig .tc := ⟨.hbm, 896, rfl⟩
abbrev main_call1_call5_v92 : Ref sig .tc := ⟨.hbm, 897, rfl⟩
abbrev main_call1_call5_v93 : Ref sig .tc := ⟨.hbm, 898, rfl⟩
abbrev main_call1_call5_v94 : Ref sig .tc := ⟨.hbm, 899, rfl⟩
abbrev main_call1_call5_v95 : Ref sig .tc := ⟨.hbm, 900, rfl⟩
abbrev main_call1_call5_c_24 : Ref sig .tc := ⟨.hbm, 901, rfl⟩
abbrev main_call1_call5_v96 : Ref sig .tc := ⟨.hbm, 902, rfl⟩
abbrev main_call1_call5_v97 : Ref sig .tc := ⟨.hbm, 903, rfl⟩
abbrev main_call1_call5_c_25 : Ref sig .tc := ⟨.hbm, 904, rfl⟩
abbrev main_call1_call5_v98 : Ref sig .tc := ⟨.hbm, 905, rfl⟩
abbrev main_call1_call5_v99 : Ref sig .tc := ⟨.hbm, 906, rfl⟩
abbrev main_call1_call5_v100 : Ref sig .tc := ⟨.hbm, 907, rfl⟩
abbrev main_call1_call5_v101 : Ref sig .tc := ⟨.hbm, 908, rfl⟩
abbrev main_call1_call5_v102 : Ref sig .tc := ⟨.hbm, 909, rfl⟩
abbrev main_call1_call5_v103 : Ref sig .tc := ⟨.hbm, 910, rfl⟩
abbrev main_call1_call5_v104 : Ref sig .tc := ⟨.hbm, 911, rfl⟩
abbrev main_call1_call5_v105 : Ref sig .tc := ⟨.hbm, 912, rfl⟩
abbrev main_call1_call5_c_26 : Ref sig .tc := ⟨.hbm, 913, rfl⟩
abbrev main_call1_call5_v106 : Ref sig .tc := ⟨.hbm, 914, rfl⟩
abbrev main_call1_call5_v107 : Ref sig .tc := ⟨.hbm, 915, rfl⟩
abbrev main_call1_call5_v108 : Ref sig .tc := ⟨.hbm, 916, rfl⟩
abbrev main_call1_call5_c_27 : Ref sig .tc := ⟨.hbm, 917, rfl⟩
abbrev main_call1_call5_v109 : Ref sig .tc := ⟨.hbm, 918, rfl⟩
abbrev main_call1_call5_v110 : Ref sig .tc := ⟨.hbm, 919, rfl⟩
abbrev main_call1_call5_c_28 : Ref sig .tc := ⟨.hbm, 920, rfl⟩
abbrev main_call1_call5_v111 : Ref sig .tc := ⟨.hbm, 921, rfl⟩
abbrev main_call1_call5_v112 : Ref sig .tc := ⟨.hbm, 922, rfl⟩
abbrev main_call1_call5_v113 : Ref sig .tc := ⟨.hbm, 923, rfl⟩
abbrev main_call1_call5_v114 : Ref sig .tc := ⟨.hbm, 924, rfl⟩
abbrev main_call1_call5_v115 : Ref sig .tc := ⟨.hbm, 925, rfl⟩
abbrev main_call1_call5_c_29 : Ref sig .tc := ⟨.hbm, 926, rfl⟩
abbrev main_call1_call5_v116 : Ref sig .tc := ⟨.hbm, 927, rfl⟩
abbrev main_call1_call5_v117 : Ref sig .tc := ⟨.hbm, 928, rfl⟩
abbrev main_call1_call5_c_30 : Ref sig .tc := ⟨.hbm, 929, rfl⟩
abbrev main_call1_call5_v118 : Ref sig .tc := ⟨.hbm, 930, rfl⟩
abbrev main_call1_call5_v119 : Ref sig .tc := ⟨.hbm, 931, rfl⟩
abbrev main_call1_call5_v120 : Ref sig .tc := ⟨.hbm, 932, rfl⟩
abbrev main_call1_call5_v121 : Ref sig .tc := ⟨.hbm, 933, rfl⟩
abbrev main_call1_call5_v122 : Ref sig .tc := ⟨.hbm, 934, rfl⟩
abbrev main_call1_call5_c_31 : Ref sig .tc := ⟨.hbm, 935, rfl⟩
abbrev main_call1_call5_v123 : Ref sig .tc := ⟨.hbm, 936, rfl⟩
abbrev main_call1_call5_v124 : Ref sig .tc := ⟨.hbm, 937, rfl⟩
abbrev main_call1_call5_c_32 : Ref sig .tc := ⟨.hbm, 938, rfl⟩
abbrev main_call1_call5_v125 : Ref sig .tc := ⟨.hbm, 939, rfl⟩
abbrev main_call1_call5_v126 : Ref sig .tc := ⟨.hbm, 940, rfl⟩
abbrev main_call1_call5_v127 : Ref sig .tc := ⟨.hbm, 941, rfl⟩
abbrev main_call1_call5_v128 : Ref sig .tc := ⟨.hbm, 942, rfl⟩
abbrev main_call1_call5_v129 : Ref sig .tc := ⟨.hbm, 943, rfl⟩
abbrev main_call1_call5_c_33 : Ref sig .tc := ⟨.hbm, 944, rfl⟩
abbrev main_call1_call5_v130 : Ref sig .tc := ⟨.hbm, 945, rfl⟩
abbrev main_call1_call5_v131 : Ref sig .tc := ⟨.hbm, 946, rfl⟩
abbrev main_call1_call5_c_34 : Ref sig .tc := ⟨.hbm, 947, rfl⟩
abbrev main_call1_call5_v132 : Ref sig .tc := ⟨.hbm, 948, rfl⟩
abbrev main_call1_call5_v133 : Ref sig .tc := ⟨.hbm, 949, rfl⟩
abbrev main_call1_call5_v134 : Ref sig .tc := ⟨.hbm, 950, rfl⟩
abbrev main_call1_call5_v135 : Ref sig .tc := ⟨.hbm, 951, rfl⟩
abbrev main_call1_call5_v136 : Ref sig .tc := ⟨.hbm, 952, rfl⟩
abbrev main_call1_call5_v137 : Ref sig .tc := ⟨.hbm, 953, rfl⟩
abbrev main_call1_call5_v138 : Ref sig .tc := ⟨.hbm, 954, rfl⟩
abbrev main_call1_call5_v139 : Ref sig .tc := ⟨.hbm, 955, rfl⟩
abbrev main_call1_call5_c_35 : Ref sig .tc := ⟨.hbm, 956, rfl⟩
abbrev main_call1_call5_v140 : Ref sig .tc := ⟨.hbm, 957, rfl⟩
abbrev main_call1_call5_v141 : Ref sig .tc := ⟨.hbm, 958, rfl⟩
abbrev main_call1_call5_v142 : Ref sig .tc := ⟨.hbm, 959, rfl⟩
abbrev main_call1_call5_c_36 : Ref sig .tc := ⟨.hbm, 960, rfl⟩
abbrev main_call1_call5_v143 : Ref sig .tc := ⟨.hbm, 961, rfl⟩
abbrev main_call1_call5_v144 : Ref sig .tc := ⟨.hbm, 962, rfl⟩
abbrev main_call1_call5_c_37 : Ref sig .tc := ⟨.hbm, 963, rfl⟩
abbrev main_call1_call5_v145 : Ref sig .tc := ⟨.hbm, 964, rfl⟩
abbrev main_call1_call5_v146 : Ref sig .tc := ⟨.hbm, 965, rfl⟩
abbrev main_call1_call5_v147 : Ref sig .tc := ⟨.hbm, 966, rfl⟩
abbrev main_call1_call5_v148 : Ref sig .tc := ⟨.hbm, 967, rfl⟩
abbrev main_call1_call5_v149 : Ref sig .tc := ⟨.hbm, 968, rfl⟩
abbrev main_call1_call5_c_38 : Ref sig .tc := ⟨.hbm, 969, rfl⟩
abbrev main_call1_call5_v150 : Ref sig .tc := ⟨.hbm, 970, rfl⟩
abbrev main_call1_call5_v151 : Ref sig .tc := ⟨.hbm, 971, rfl⟩
abbrev main_call1_call5_c_39 : Ref sig .tc := ⟨.hbm, 972, rfl⟩
abbrev main_call1_call5_v152 : Ref sig .tc := ⟨.hbm, 973, rfl⟩
abbrev main_call1_call5_v153 : Ref sig .tc := ⟨.hbm, 974, rfl⟩
abbrev main_call1_call5_v154 : Ref sig .tc := ⟨.hbm, 975, rfl⟩
abbrev main_call1_call5_v155 : Ref sig .tc := ⟨.hbm, 976, rfl⟩
abbrev main_call1_call5_v156 : Ref sig .tc := ⟨.hbm, 977, rfl⟩
abbrev main_call1_call5_c_40 : Ref sig .tc := ⟨.hbm, 978, rfl⟩
abbrev main_call1_call5_v157 : Ref sig .tc := ⟨.hbm, 979, rfl⟩
abbrev main_call1_call5_v158 : Ref sig .tc := ⟨.hbm, 980, rfl⟩
abbrev main_call1_call5_c_41 : Ref sig .tc := ⟨.hbm, 981, rfl⟩
abbrev main_call1_call5_v159 : Ref sig .tc := ⟨.hbm, 982, rfl⟩
abbrev main_call1_call5_v160 : Ref sig .tc := ⟨.hbm, 983, rfl⟩
abbrev main_call1_call5_v161 : Ref sig .tc := ⟨.hbm, 984, rfl⟩
abbrev main_call1_call5_v162 : Ref sig .tc := ⟨.hbm, 985, rfl⟩
abbrev main_call1_call5_v163 : Ref sig .tc := ⟨.hbm, 986, rfl⟩
abbrev main_call1_call5_c_42 : Ref sig .tc := ⟨.hbm, 987, rfl⟩
abbrev main_call1_call5_v164 : Ref sig .tc := ⟨.hbm, 988, rfl⟩
abbrev main_call1_call5_v165 : Ref sig .tc := ⟨.hbm, 989, rfl⟩
abbrev main_call1_call5_c_43 : Ref sig .tc := ⟨.hbm, 990, rfl⟩
abbrev main_call1_call5_v166 : Ref sig .tc := ⟨.hbm, 991, rfl⟩
abbrev main_call1_call5_v167 : Ref sig .tc := ⟨.hbm, 992, rfl⟩
abbrev main_call1_call5_v168 : Ref sig .tc := ⟨.hbm, 993, rfl⟩
abbrev main_call1_call5_v169 : Ref sig .tc := ⟨.hbm, 994, rfl⟩
abbrev main_call1_call5_v170 : Ref sig .tc := ⟨.hbm, 995, rfl⟩
abbrev main_call1_v45_0 : Ref sig .tc := ⟨.hbm, 996, rfl⟩
abbrev main_call1_call5_v172 : Ref sig .tc := ⟨.hbm, 997, rfl⟩
abbrev main_call1_call5_v173 : Ref sig .tc := ⟨.hbm, 998, rfl⟩
abbrev main_call1_call5_c_44 : Ref sig .tc := ⟨.hbm, 999, rfl⟩
abbrev main_call1_call5_v174 : Ref sig .tc := ⟨.hbm, 1000, rfl⟩
abbrev main_call1_v45_1 : Ref sig .tc := ⟨.hbm, 1001, rfl⟩
abbrev main_call1_v46 : Ref sig .tc := ⟨.hbm, 1002, rfl⟩
abbrev main_call1_v47 : Ref sig .tc := ⟨.hbm, 1003, rfl⟩
abbrev main_call1_v48 : Ref sig .tc := ⟨.hbm, 1004, rfl⟩
abbrev main_call1_v49 : Ref sig .tc := ⟨.hbm, 1005, rfl⟩
abbrev main_call1_c_12 : Ref sig .tc := ⟨.hbm, 1006, rfl⟩
abbrev main_call1_v50 : Ref sig .tc := ⟨.hbm, 1007, rfl⟩
abbrev main_call1_v51 : Ref sig .tc := ⟨.hbm, 1008, rfl⟩
abbrev main_call1_v52 : Ref sig .tc := ⟨.hbm, 1009, rfl⟩
abbrev main_call1_v53 : Ref sig .tc := ⟨.hbm, 1010, rfl⟩
abbrev main_call1_v54 : Ref sig .tc := ⟨.hbm, 1011, rfl⟩
abbrev main_call1_c_13 : Ref sig .tc := ⟨.hbm, 1012, rfl⟩
abbrev main_call1_v55 : Ref sig .tc := ⟨.hbm, 1013, rfl⟩
abbrev main_call1_v56 : Ref sig .tc := ⟨.hbm, 1014, rfl⟩
abbrev main_call1_v57 : Ref sig .tc := ⟨.hbm, 1015, rfl⟩
abbrev main_call1_c_14 : Ref sig .tc := ⟨.hbm, 1016, rfl⟩
abbrev main_call1_v58 : Ref sig .tc := ⟨.hbm, 1017, rfl⟩
abbrev main_call1_v59 : Ref sig .tc := ⟨.hbm, 1018, rfl⟩
abbrev main_call1_v60 : Ref sig .tc := ⟨.hbm, 1019, rfl⟩
abbrev main_call1_v61 : Ref sig .tc := ⟨.hbm, 1020, rfl⟩
abbrev main_call1_v62 : Ref sig .tc := ⟨.hbm, 1021, rfl⟩
abbrev main_call1_v63 : Ref sig .tc := ⟨.hbm, 1022, rfl⟩
abbrev main_call1_v64 : Ref sig .tc := ⟨.hbm, 1023, rfl⟩
abbrev main_call1_v65 : Ref sig .tc := ⟨.hbm, 1024, rfl⟩
abbrev main_call1_v66 : Ref sig .tc := ⟨.hbm, 1025, rfl⟩
abbrev main_call1_v67 : Ref sig .tc := ⟨.hbm, 1026, rfl⟩
abbrev main_call1_v68 : Ref sig .tc := ⟨.hbm, 1027, rfl⟩
abbrev main_call1_v69 : Ref sig .tc := ⟨.hbm, 1028, rfl⟩
abbrev main_call1_v70 : Ref sig .tc := ⟨.hbm, 1029, rfl⟩
abbrev main_call1_v71 : Ref sig .tc := ⟨.hbm, 1030, rfl⟩
abbrev main_call1_v72 : Ref sig .tc := ⟨.hbm, 1031, rfl⟩
abbrev main_v12 : Ref sig .tc := ⟨.hbm, 1032, rfl⟩
abbrev main_c_4 : Ref sig .tc := ⟨.hbm, 1033, rfl⟩
abbrev main_c_5 : Ref sig .tc := ⟨.hbm, 1034, rfl⟩
abbrev main_call2_c : Ref sig .tc := ⟨.hbm, 1035, rfl⟩
abbrev main_call2_c_0 : Ref sig .tc := ⟨.hbm, 1036, rfl⟩
abbrev main_call2_c_1 : Ref sig .tc := ⟨.hbm, 1037, rfl⟩
abbrev main_call2_call0_v0 : Ref sig .tc := ⟨.hbm, 1038, rfl⟩
abbrev main_call2_v0 : Ref sig .tc := ⟨.hbm, 1039, rfl⟩
abbrev main_call2_v1 : Ref sig .tc := ⟨.hbm, 1040, rfl⟩
abbrev main_call2_c_2 : Ref sig .tc := ⟨.hbm, 1041, rfl⟩
abbrev main_call2_c_3 : Ref sig .tc := ⟨.hbm, 1042, rfl⟩
abbrev main_call2_call1_v0 : Ref sig .tc := ⟨.hbm, 1043, rfl⟩
abbrev main_call2_v2 : Ref sig .tc := ⟨.hbm, 1044, rfl⟩
abbrev main_call2_v3 : Ref sig .tc := ⟨.hbm, 1045, rfl⟩
abbrev main_call2_c_4 : Ref sig .tc := ⟨.hbm, 1046, rfl⟩
abbrev main_call2_c_5 : Ref sig .tc := ⟨.hbm, 1047, rfl⟩
abbrev main_call2_call2_v0 : Ref sig .tc := ⟨.hbm, 1048, rfl⟩
abbrev main_call2_v4 : Ref sig .tc := ⟨.hbm, 1049, rfl⟩
abbrev main_call2_v5 : Ref sig .tc := ⟨.hbm, 1050, rfl⟩
abbrev main_call2_v6 : Ref sig .tc := ⟨.hbm, 1051, rfl⟩
abbrev main_call2_v7 : Ref sig .tc := ⟨.hbm, 1052, rfl⟩
abbrev main_call2_call3_v0 : Ref sig .tc := ⟨.hbm, 1053, rfl⟩
abbrev main_call2_call3_v1 : Ref sig .tc := ⟨.hbm, 1054, rfl⟩
abbrev main_call2_call3_v2 : Ref sig .tc := ⟨.hbm, 1055, rfl⟩
abbrev main_call2_call3_v3 : Ref sig .tc := ⟨.hbm, 1056, rfl⟩
abbrev main_call2_call3_v4 : Ref sig .tc := ⟨.hbm, 1057, rfl⟩
abbrev main_call2_call3_c : Ref sig .tc := ⟨.hbm, 1058, rfl⟩
abbrev main_call2_call3_v5 : Ref sig .tc := ⟨.hbm, 1059, rfl⟩
abbrev main_call2_call3_v6 : Ref sig .tc := ⟨.hbm, 1060, rfl⟩
abbrev main_call2_call3_c_0 : Ref sig .tc := ⟨.hbm, 1061, rfl⟩
abbrev main_call2_call3_v7 : Ref sig .tc := ⟨.hbm, 1062, rfl⟩
abbrev main_call2_call3_v8 : Ref sig .tc := ⟨.hbm, 1063, rfl⟩
abbrev main_call2_call3_v9 : Ref sig .tc := ⟨.hbm, 1064, rfl⟩
abbrev main_call2_call3_v10 : Ref sig .tc := ⟨.hbm, 1065, rfl⟩
abbrev main_call2_call3_call0_v0 : Ref sig .tc := ⟨.hbm, 1066, rfl⟩
abbrev main_call2_call3_call0_c : Ref sig .tc := ⟨.hbm, 1067, rfl⟩
abbrev main_call2_call3_call0_v1 : Ref sig .tc := ⟨.hbm, 1068, rfl⟩
abbrev main_call2_call3_call0_v2 : Ref sig .tc := ⟨.hbm, 1069, rfl⟩
abbrev main_call2_call3_call0_v3 : Ref sig .tc := ⟨.hbm, 1070, rfl⟩
abbrev main_call2_call3_call0_v4 : Ref sig .tc := ⟨.hbm, 1071, rfl⟩
abbrev main_call2_call3_call0_v5 : Ref sig .tc := ⟨.hbm, 1072, rfl⟩
abbrev main_call2_call3_call0_v6 : Ref sig .tc := ⟨.hbm, 1073, rfl⟩
abbrev main_call2_call3_call0_c_0 : Ref sig .tc := ⟨.hbm, 1074, rfl⟩
abbrev main_call2_call3_call0_v7 : Ref sig .tc := ⟨.hbm, 1075, rfl⟩
abbrev main_call2_call3_call0_v8 : Ref sig .tc := ⟨.hbm, 1076, rfl⟩
abbrev main_call2_call3_call0_c_1 : Ref sig .tc := ⟨.hbm, 1077, rfl⟩
abbrev main_call2_call3_call0_v9 : Ref sig .tc := ⟨.hbm, 1078, rfl⟩
abbrev main_call2_call3_call0_v10 : Ref sig .tc := ⟨.hbm, 1079, rfl⟩
abbrev main_call2_call3_call0_v11 : Ref sig .tc := ⟨.hbm, 1080, rfl⟩
abbrev main_call2_call3_call0_v12 : Ref sig .tc := ⟨.hbm, 1081, rfl⟩
abbrev main_call2_call3_call0_v13 : Ref sig .tc := ⟨.hbm, 1082, rfl⟩
abbrev main_call2_call3_call0_c_2 : Ref sig .tc := ⟨.hbm, 1083, rfl⟩
abbrev main_call2_call3_call0_v14 : Ref sig .tc := ⟨.hbm, 1084, rfl⟩
abbrev main_call2_call3_call0_v15 : Ref sig .tc := ⟨.hbm, 1085, rfl⟩
abbrev main_call2_call3_call0_c_3 : Ref sig .tc := ⟨.hbm, 1086, rfl⟩
abbrev main_call2_call3_call0_v16 : Ref sig .tc := ⟨.hbm, 1087, rfl⟩
abbrev main_call2_call3_call0_v17 : Ref sig .tc := ⟨.hbm, 1088, rfl⟩
abbrev main_call2_call3_call0_v18 : Ref sig .tc := ⟨.hbm, 1089, rfl⟩
abbrev main_call2_call3_call0_v19 : Ref sig .tc := ⟨.hbm, 1090, rfl⟩
abbrev main_call2_call3_call0_v20 : Ref sig .tc := ⟨.hbm, 1091, rfl⟩
abbrev main_call2_call3_call0_c_4 : Ref sig .tc := ⟨.hbm, 1092, rfl⟩
abbrev main_call2_call3_call0_v21 : Ref sig .tc := ⟨.hbm, 1093, rfl⟩
abbrev main_call2_call3_call0_v22 : Ref sig .tc := ⟨.hbm, 1094, rfl⟩
abbrev main_call2_call3_call0_c_5 : Ref sig .tc := ⟨.hbm, 1095, rfl⟩
abbrev main_call2_call3_call0_v23 : Ref sig .tc := ⟨.hbm, 1096, rfl⟩
abbrev main_call2_call3_call0_v24 : Ref sig .tc := ⟨.hbm, 1097, rfl⟩
abbrev main_call2_call3_call0_v25 : Ref sig .tc := ⟨.hbm, 1098, rfl⟩
abbrev main_call2_call3_call0_v26 : Ref sig .tc := ⟨.hbm, 1099, rfl⟩
abbrev main_call2_call3_call0_v27 : Ref sig .tc := ⟨.hbm, 1100, rfl⟩
abbrev main_call2_call3_call0_c_6 : Ref sig .tc := ⟨.hbm, 1101, rfl⟩
abbrev main_call2_call3_call0_v28 : Ref sig .tc := ⟨.hbm, 1102, rfl⟩
abbrev main_call2_call3_call0_v29 : Ref sig .tc := ⟨.hbm, 1103, rfl⟩
abbrev main_call2_call3_call0_c_7 : Ref sig .tc := ⟨.hbm, 1104, rfl⟩
abbrev main_call2_call3_call0_v30 : Ref sig .tc := ⟨.hbm, 1105, rfl⟩
abbrev main_call2_call3_call0_v31 : Ref sig .tc := ⟨.hbm, 1106, rfl⟩
abbrev main_call2_call3_call0_v32 : Ref sig .tc := ⟨.hbm, 1107, rfl⟩
abbrev main_call2_call3_call0_v33 : Ref sig .tc := ⟨.hbm, 1108, rfl⟩
abbrev main_call2_call3_call0_v34 : Ref sig .tc := ⟨.hbm, 1109, rfl⟩
abbrev main_call2_call3_call0_v35 : Ref sig .tc := ⟨.hbm, 1110, rfl⟩
abbrev main_call2_call3_call0_v36 : Ref sig .tc := ⟨.hbm, 1111, rfl⟩
abbrev main_call2_call3_call0_v37 : Ref sig .tc := ⟨.hbm, 1112, rfl⟩
abbrev main_call2_call3_call0_c_8 : Ref sig .tc := ⟨.hbm, 1113, rfl⟩
abbrev main_call2_call3_call0_v38 : Ref sig .tc := ⟨.hbm, 1114, rfl⟩
abbrev main_call2_call3_call0_v39 : Ref sig .tc := ⟨.hbm, 1115, rfl⟩
abbrev main_call2_call3_call0_v40 : Ref sig .tc := ⟨.hbm, 1116, rfl⟩
abbrev main_call2_call3_call0_c_9 : Ref sig .tc := ⟨.hbm, 1117, rfl⟩
abbrev main_call2_call3_call0_v41 : Ref sig .tc := ⟨.hbm, 1118, rfl⟩
abbrev main_call2_call3_call0_v42 : Ref sig .tc := ⟨.hbm, 1119, rfl⟩
abbrev main_call2_call3_call0_c_10 : Ref sig .tc := ⟨.hbm, 1120, rfl⟩
abbrev main_call2_call3_call0_v43 : Ref sig .tc := ⟨.hbm, 1121, rfl⟩
abbrev main_call2_call3_call0_v44 : Ref sig .tc := ⟨.hbm, 1122, rfl⟩
abbrev main_call2_call3_call0_v45 : Ref sig .tc := ⟨.hbm, 1123, rfl⟩
abbrev main_call2_call3_call0_v46 : Ref sig .tc := ⟨.hbm, 1124, rfl⟩
abbrev main_call2_call3_call0_v47 : Ref sig .tc := ⟨.hbm, 1125, rfl⟩
abbrev main_call2_call3_call0_c_11 : Ref sig .tc := ⟨.hbm, 1126, rfl⟩
abbrev main_call2_call3_call0_v48 : Ref sig .tc := ⟨.hbm, 1127, rfl⟩
abbrev main_call2_call3_call0_v49 : Ref sig .tc := ⟨.hbm, 1128, rfl⟩
abbrev main_call2_call3_call0_c_12 : Ref sig .tc := ⟨.hbm, 1129, rfl⟩
abbrev main_call2_call3_call0_v50 : Ref sig .tc := ⟨.hbm, 1130, rfl⟩
abbrev main_call2_call3_call0_v51 : Ref sig .tc := ⟨.hbm, 1131, rfl⟩
abbrev main_call2_call3_call0_v52 : Ref sig .tc := ⟨.hbm, 1132, rfl⟩
abbrev main_call2_call3_call0_v53 : Ref sig .tc := ⟨.hbm, 1133, rfl⟩
abbrev main_call2_call3_call0_v54 : Ref sig .tc := ⟨.hbm, 1134, rfl⟩
abbrev main_call2_call3_call0_c_13 : Ref sig .tc := ⟨.hbm, 1135, rfl⟩
abbrev main_call2_call3_call0_v55 : Ref sig .tc := ⟨.hbm, 1136, rfl⟩
abbrev main_call2_call3_call0_v56 : Ref sig .tc := ⟨.hbm, 1137, rfl⟩
abbrev main_call2_call3_call0_c_14 : Ref sig .tc := ⟨.hbm, 1138, rfl⟩
abbrev main_call2_call3_call0_v57 : Ref sig .tc := ⟨.hbm, 1139, rfl⟩
abbrev main_call2_call3_call0_v58 : Ref sig .tc := ⟨.hbm, 1140, rfl⟩
abbrev main_call2_call3_call0_v59 : Ref sig .tc := ⟨.hbm, 1141, rfl⟩
abbrev main_call2_call3_call0_v60 : Ref sig .tc := ⟨.hbm, 1142, rfl⟩
abbrev main_call2_call3_call0_v61 : Ref sig .tc := ⟨.hbm, 1143, rfl⟩
abbrev main_call2_call3_call0_c_15 : Ref sig .tc := ⟨.hbm, 1144, rfl⟩
abbrev main_call2_call3_call0_v62 : Ref sig .tc := ⟨.hbm, 1145, rfl⟩
abbrev main_call2_call3_call0_v63 : Ref sig .tc := ⟨.hbm, 1146, rfl⟩
abbrev main_call2_call3_call0_c_16 : Ref sig .tc := ⟨.hbm, 1147, rfl⟩
abbrev main_call2_call3_call0_v64 : Ref sig .tc := ⟨.hbm, 1148, rfl⟩
abbrev main_call2_call3_call0_v65 : Ref sig .tc := ⟨.hbm, 1149, rfl⟩
abbrev main_call2_call3_call0_v66 : Ref sig .tc := ⟨.hbm, 1150, rfl⟩
abbrev main_call2_call3_call0_v67 : Ref sig .tc := ⟨.hbm, 1151, rfl⟩
abbrev main_call2_call3_call0_v68 : Ref sig .tc := ⟨.hbm, 1152, rfl⟩
abbrev main_call2_call3_call0_v69 : Ref sig .tc := ⟨.hbm, 1153, rfl⟩
abbrev main_call2_call3_call0_v70 : Ref sig .tc := ⟨.hbm, 1154, rfl⟩
abbrev main_call2_call3_call0_v71 : Ref sig .tc := ⟨.hbm, 1155, rfl⟩
abbrev main_call2_call3_call0_c_17 : Ref sig .tc := ⟨.hbm, 1156, rfl⟩
abbrev main_call2_call3_call0_v72 : Ref sig .tc := ⟨.hbm, 1157, rfl⟩
abbrev main_call2_call3_call0_v73 : Ref sig .tc := ⟨.hbm, 1158, rfl⟩
abbrev main_call2_call3_call0_v74 : Ref sig .tc := ⟨.hbm, 1159, rfl⟩
abbrev main_call2_call3_call0_c_18 : Ref sig .tc := ⟨.hbm, 1160, rfl⟩
abbrev main_call2_call3_call0_v75 : Ref sig .tc := ⟨.hbm, 1161, rfl⟩
abbrev main_call2_call3_call0_v76 : Ref sig .tc := ⟨.hbm, 1162, rfl⟩
abbrev main_call2_call3_call0_c_19 : Ref sig .tc := ⟨.hbm, 1163, rfl⟩
abbrev main_call2_call3_call0_v77 : Ref sig .tc := ⟨.hbm, 1164, rfl⟩
abbrev main_call2_call3_call0_v78 : Ref sig .tc := ⟨.hbm, 1165, rfl⟩
abbrev main_call2_call3_call0_v79 : Ref sig .tc := ⟨.hbm, 1166, rfl⟩
abbrev main_call2_call3_call0_v80 : Ref sig .tc := ⟨.hbm, 1167, rfl⟩
abbrev main_call2_call3_call0_v81 : Ref sig .tc := ⟨.hbm, 1168, rfl⟩
abbrev main_call2_call3_call0_c_20 : Ref sig .tc := ⟨.hbm, 1169, rfl⟩
abbrev main_call2_call3_call0_v82 : Ref sig .tc := ⟨.hbm, 1170, rfl⟩
abbrev main_call2_call3_call0_v83 : Ref sig .tc := ⟨.hbm, 1171, rfl⟩
abbrev main_call2_call3_call0_c_21 : Ref sig .tc := ⟨.hbm, 1172, rfl⟩
abbrev main_call2_call3_call0_v84 : Ref sig .tc := ⟨.hbm, 1173, rfl⟩
abbrev main_call2_call3_call0_v85 : Ref sig .tc := ⟨.hbm, 1174, rfl⟩
abbrev main_call2_call3_call0_v86 : Ref sig .tc := ⟨.hbm, 1175, rfl⟩
abbrev main_call2_call3_call0_v87 : Ref sig .tc := ⟨.hbm, 1176, rfl⟩
abbrev main_call2_call3_call0_v88 : Ref sig .tc := ⟨.hbm, 1177, rfl⟩
abbrev main_call2_call3_call0_c_22 : Ref sig .tc := ⟨.hbm, 1178, rfl⟩
abbrev main_call2_call3_call0_v89 : Ref sig .tc := ⟨.hbm, 1179, rfl⟩
abbrev main_call2_call3_call0_v90 : Ref sig .tc := ⟨.hbm, 1180, rfl⟩
abbrev main_call2_call3_call0_c_23 : Ref sig .tc := ⟨.hbm, 1181, rfl⟩
abbrev main_call2_call3_call0_v91 : Ref sig .tc := ⟨.hbm, 1182, rfl⟩
abbrev main_call2_call3_call0_v92 : Ref sig .tc := ⟨.hbm, 1183, rfl⟩
abbrev main_call2_call3_call0_v93 : Ref sig .tc := ⟨.hbm, 1184, rfl⟩
abbrev main_call2_call3_call0_v94 : Ref sig .tc := ⟨.hbm, 1185, rfl⟩
abbrev main_call2_call3_call0_v95 : Ref sig .tc := ⟨.hbm, 1186, rfl⟩
abbrev main_call2_call3_call0_c_24 : Ref sig .tc := ⟨.hbm, 1187, rfl⟩
abbrev main_call2_call3_call0_v96 : Ref sig .tc := ⟨.hbm, 1188, rfl⟩
abbrev main_call2_call3_call0_v97 : Ref sig .tc := ⟨.hbm, 1189, rfl⟩
abbrev main_call2_call3_call0_c_25 : Ref sig .tc := ⟨.hbm, 1190, rfl⟩
abbrev main_call2_call3_call0_v98 : Ref sig .tc := ⟨.hbm, 1191, rfl⟩
abbrev main_call2_call3_call0_v99 : Ref sig .tc := ⟨.hbm, 1192, rfl⟩
abbrev main_call2_call3_call0_v100 : Ref sig .tc := ⟨.hbm, 1193, rfl⟩
abbrev main_call2_call3_call0_v101 : Ref sig .tc := ⟨.hbm, 1194, rfl⟩
abbrev main_call2_call3_call0_v102 : Ref sig .tc := ⟨.hbm, 1195, rfl⟩
abbrev main_call2_call3_call0_v103 : Ref sig .tc := ⟨.hbm, 1196, rfl⟩
abbrev main_call2_call3_call0_v104 : Ref sig .tc := ⟨.hbm, 1197, rfl⟩
abbrev main_call2_call3_call0_v105 : Ref sig .tc := ⟨.hbm, 1198, rfl⟩
abbrev main_call2_call3_call0_c_26 : Ref sig .tc := ⟨.hbm, 1199, rfl⟩
abbrev main_call2_call3_call0_v106 : Ref sig .tc := ⟨.hbm, 1200, rfl⟩
abbrev main_call2_call3_call0_v107 : Ref sig .tc := ⟨.hbm, 1201, rfl⟩
abbrev main_call2_call3_call0_v108 : Ref sig .tc := ⟨.hbm, 1202, rfl⟩
abbrev main_call2_call3_call0_c_27 : Ref sig .tc := ⟨.hbm, 1203, rfl⟩
abbrev main_call2_call3_call0_v109 : Ref sig .tc := ⟨.hbm, 1204, rfl⟩
abbrev main_call2_call3_call0_v110 : Ref sig .tc := ⟨.hbm, 1205, rfl⟩
abbrev main_call2_call3_call0_c_28 : Ref sig .tc := ⟨.hbm, 1206, rfl⟩
abbrev main_call2_call3_call0_v111 : Ref sig .tc := ⟨.hbm, 1207, rfl⟩
abbrev main_call2_call3_call0_v112 : Ref sig .tc := ⟨.hbm, 1208, rfl⟩
abbrev main_call2_call3_call0_v113 : Ref sig .tc := ⟨.hbm, 1209, rfl⟩
abbrev main_call2_call3_call0_v114 : Ref sig .tc := ⟨.hbm, 1210, rfl⟩
abbrev main_call2_call3_call0_v115 : Ref sig .tc := ⟨.hbm, 1211, rfl⟩
abbrev main_call2_call3_call0_c_29 : Ref sig .tc := ⟨.hbm, 1212, rfl⟩
abbrev main_call2_call3_call0_v116 : Ref sig .tc := ⟨.hbm, 1213, rfl⟩
abbrev main_call2_call3_call0_v117 : Ref sig .tc := ⟨.hbm, 1214, rfl⟩
abbrev main_call2_call3_call0_c_30 : Ref sig .tc := ⟨.hbm, 1215, rfl⟩
abbrev main_call2_call3_call0_v118 : Ref sig .tc := ⟨.hbm, 1216, rfl⟩
abbrev main_call2_call3_call0_v119 : Ref sig .tc := ⟨.hbm, 1217, rfl⟩
abbrev main_call2_call3_call0_v120 : Ref sig .tc := ⟨.hbm, 1218, rfl⟩
abbrev main_call2_call3_call0_v121 : Ref sig .tc := ⟨.hbm, 1219, rfl⟩
abbrev main_call2_call3_call0_v122 : Ref sig .tc := ⟨.hbm, 1220, rfl⟩
abbrev main_call2_call3_call0_c_31 : Ref sig .tc := ⟨.hbm, 1221, rfl⟩
abbrev main_call2_call3_call0_v123 : Ref sig .tc := ⟨.hbm, 1222, rfl⟩
abbrev main_call2_call3_call0_v124 : Ref sig .tc := ⟨.hbm, 1223, rfl⟩
abbrev main_call2_call3_call0_c_32 : Ref sig .tc := ⟨.hbm, 1224, rfl⟩
abbrev main_call2_call3_call0_v125 : Ref sig .tc := ⟨.hbm, 1225, rfl⟩
abbrev main_call2_call3_call0_v126 : Ref sig .tc := ⟨.hbm, 1226, rfl⟩
abbrev main_call2_call3_call0_v127 : Ref sig .tc := ⟨.hbm, 1227, rfl⟩
abbrev main_call2_call3_call0_v128 : Ref sig .tc := ⟨.hbm, 1228, rfl⟩
abbrev main_call2_call3_call0_v129 : Ref sig .tc := ⟨.hbm, 1229, rfl⟩
abbrev main_call2_call3_call0_c_33 : Ref sig .tc := ⟨.hbm, 1230, rfl⟩
abbrev main_call2_call3_call0_v130 : Ref sig .tc := ⟨.hbm, 1231, rfl⟩
abbrev main_call2_call3_call0_v131 : Ref sig .tc := ⟨.hbm, 1232, rfl⟩
abbrev main_call2_call3_call0_c_34 : Ref sig .tc := ⟨.hbm, 1233, rfl⟩
abbrev main_call2_call3_call0_v132 : Ref sig .tc := ⟨.hbm, 1234, rfl⟩
abbrev main_call2_call3_call0_v133 : Ref sig .tc := ⟨.hbm, 1235, rfl⟩
abbrev main_call2_call3_call0_v134 : Ref sig .tc := ⟨.hbm, 1236, rfl⟩
abbrev main_call2_call3_call0_v135 : Ref sig .tc := ⟨.hbm, 1237, rfl⟩
abbrev main_call2_call3_call0_v136 : Ref sig .tc := ⟨.hbm, 1238, rfl⟩
abbrev main_call2_call3_call0_v137 : Ref sig .tc := ⟨.hbm, 1239, rfl⟩
abbrev main_call2_call3_call0_v138 : Ref sig .tc := ⟨.hbm, 1240, rfl⟩
abbrev main_call2_call3_call0_v139 : Ref sig .tc := ⟨.hbm, 1241, rfl⟩
abbrev main_call2_call3_call0_c_35 : Ref sig .tc := ⟨.hbm, 1242, rfl⟩
abbrev main_call2_call3_call0_v140 : Ref sig .tc := ⟨.hbm, 1243, rfl⟩
abbrev main_call2_call3_call0_v141 : Ref sig .tc := ⟨.hbm, 1244, rfl⟩
abbrev main_call2_call3_call0_v142 : Ref sig .tc := ⟨.hbm, 1245, rfl⟩
abbrev main_call2_call3_call0_c_36 : Ref sig .tc := ⟨.hbm, 1246, rfl⟩
abbrev main_call2_call3_call0_v143 : Ref sig .tc := ⟨.hbm, 1247, rfl⟩
abbrev main_call2_call3_call0_v144 : Ref sig .tc := ⟨.hbm, 1248, rfl⟩
abbrev main_call2_call3_call0_c_37 : Ref sig .tc := ⟨.hbm, 1249, rfl⟩
abbrev main_call2_call3_call0_v145 : Ref sig .tc := ⟨.hbm, 1250, rfl⟩
abbrev main_call2_call3_call0_v146 : Ref sig .tc := ⟨.hbm, 1251, rfl⟩
abbrev main_call2_call3_call0_v147 : Ref sig .tc := ⟨.hbm, 1252, rfl⟩
abbrev main_call2_call3_call0_v148 : Ref sig .tc := ⟨.hbm, 1253, rfl⟩
abbrev main_call2_call3_call0_v149 : Ref sig .tc := ⟨.hbm, 1254, rfl⟩
abbrev main_call2_call3_call0_c_38 : Ref sig .tc := ⟨.hbm, 1255, rfl⟩
abbrev main_call2_call3_call0_v150 : Ref sig .tc := ⟨.hbm, 1256, rfl⟩
abbrev main_call2_call3_call0_v151 : Ref sig .tc := ⟨.hbm, 1257, rfl⟩
abbrev main_call2_call3_call0_c_39 : Ref sig .tc := ⟨.hbm, 1258, rfl⟩
abbrev main_call2_call3_call0_v152 : Ref sig .tc := ⟨.hbm, 1259, rfl⟩
abbrev main_call2_call3_call0_v153 : Ref sig .tc := ⟨.hbm, 1260, rfl⟩
abbrev main_call2_call3_call0_v154 : Ref sig .tc := ⟨.hbm, 1261, rfl⟩
abbrev main_call2_call3_call0_v155 : Ref sig .tc := ⟨.hbm, 1262, rfl⟩
abbrev main_call2_call3_call0_v156 : Ref sig .tc := ⟨.hbm, 1263, rfl⟩
abbrev main_call2_call3_call0_c_40 : Ref sig .tc := ⟨.hbm, 1264, rfl⟩
abbrev main_call2_call3_call0_v157 : Ref sig .tc := ⟨.hbm, 1265, rfl⟩
abbrev main_call2_call3_call0_v158 : Ref sig .tc := ⟨.hbm, 1266, rfl⟩
abbrev main_call2_call3_call0_c_41 : Ref sig .tc := ⟨.hbm, 1267, rfl⟩
abbrev main_call2_call3_call0_v159 : Ref sig .tc := ⟨.hbm, 1268, rfl⟩
abbrev main_call2_call3_call0_v160 : Ref sig .tc := ⟨.hbm, 1269, rfl⟩
abbrev main_call2_call3_call0_v161 : Ref sig .tc := ⟨.hbm, 1270, rfl⟩
abbrev main_call2_call3_call0_v162 : Ref sig .tc := ⟨.hbm, 1271, rfl⟩
abbrev main_call2_call3_call0_v163 : Ref sig .tc := ⟨.hbm, 1272, rfl⟩
abbrev main_call2_call3_call0_c_42 : Ref sig .tc := ⟨.hbm, 1273, rfl⟩
abbrev main_call2_call3_call0_v164 : Ref sig .tc := ⟨.hbm, 1274, rfl⟩
abbrev main_call2_call3_call0_v165 : Ref sig .tc := ⟨.hbm, 1275, rfl⟩
abbrev main_call2_call3_call0_c_43 : Ref sig .tc := ⟨.hbm, 1276, rfl⟩
abbrev main_call2_call3_call0_v166 : Ref sig .tc := ⟨.hbm, 1277, rfl⟩
abbrev main_call2_call3_call0_v167 : Ref sig .tc := ⟨.hbm, 1278, rfl⟩
abbrev main_call2_call3_call0_v168 : Ref sig .tc := ⟨.hbm, 1279, rfl⟩
abbrev main_call2_call3_call0_v169 : Ref sig .tc := ⟨.hbm, 1280, rfl⟩
abbrev main_call2_call3_call0_v170 : Ref sig .tc := ⟨.hbm, 1281, rfl⟩
abbrev main_call2_call3_v11_0 : Ref sig .tc := ⟨.hbm, 1282, rfl⟩
abbrev main_call2_call3_call0_v172 : Ref sig .tc := ⟨.hbm, 1283, rfl⟩
abbrev main_call2_call3_call0_v173 : Ref sig .tc := ⟨.hbm, 1284, rfl⟩
abbrev main_call2_call3_call0_c_44 : Ref sig .tc := ⟨.hbm, 1285, rfl⟩
abbrev main_call2_call3_call0_v174 : Ref sig .tc := ⟨.hbm, 1286, rfl⟩
abbrev main_call2_call3_v11_1 : Ref sig .tc := ⟨.hbm, 1287, rfl⟩
abbrev main_call2_call3_v12 : Ref sig .tc := ⟨.hbm, 1288, rfl⟩
abbrev main_call2_call3_v13 : Ref sig .tc := ⟨.hbm, 1289, rfl⟩
abbrev main_call2_v8 : Ref sig .tc := ⟨.hbm, 1290, rfl⟩
abbrev main_call2_v9 : Ref sig .tc := ⟨.hbm, 1291, rfl⟩
abbrev main_call2_v10 : Ref sig .tc := ⟨.hbm, 1292, rfl⟩
abbrev main_call2_v11 : Ref sig .tc := ⟨.hbm, 1293, rfl⟩
abbrev main_call2_v12 : Ref sig .tc := ⟨.hbm, 1294, rfl⟩
abbrev main_call2_v13 : Ref sig .tc := ⟨.hbm, 1295, rfl⟩
abbrev main_call2_v14 : Ref sig .tc := ⟨.hbm, 1296, rfl⟩
abbrev main_call2_v15 : Ref sig .tc := ⟨.hbm, 1297, rfl⟩
abbrev main_call2_v16 : Ref sig .tc := ⟨.hbm, 1298, rfl⟩
abbrev main_call2_v17 : Ref sig .tc := ⟨.hbm, 1299, rfl⟩
abbrev main_call2_v18 : Ref sig .tc := ⟨.hbm, 1300, rfl⟩
abbrev main_call2_c_6 : Ref sig .tc := ⟨.hbm, 1301, rfl⟩
abbrev main_call2_v19 : Ref sig .tc := ⟨.hbm, 1302, rfl⟩
abbrev main_call2_v20 : Ref sig .tc := ⟨.hbm, 1303, rfl⟩
abbrev main_call2_c_7 : Ref sig .tc := ⟨.hbm, 1304, rfl⟩
abbrev main_call2_v21 : Ref sig .tc := ⟨.hbm, 1305, rfl⟩
abbrev main_call2_v22 : Ref sig .tc := ⟨.hbm, 1306, rfl⟩
abbrev main_call2_v23 : Ref sig .tc := ⟨.hbm, 1307, rfl⟩
abbrev main_call2_c_8 : Ref sig .tc := ⟨.hbm, 1308, rfl⟩
abbrev main_call2_v24 : Ref sig .tc := ⟨.hbm, 1309, rfl⟩
abbrev main_call2_v25 : Ref sig .tc := ⟨.hbm, 1310, rfl⟩
abbrev main_call2_v26 : Ref sig .tc := ⟨.hbm, 1311, rfl⟩
abbrev main_call2_v27 : Ref sig .tc := ⟨.hbm, 1312, rfl⟩
abbrev main_call2_call4_v0 : Ref sig .tc := ⟨.hbm, 1313, rfl⟩
abbrev main_call2_call4_c : Ref sig .tc := ⟨.hbm, 1314, rfl⟩
abbrev main_call2_call4_v1 : Ref sig .tc := ⟨.hbm, 1315, rfl⟩
abbrev main_call2_call4_v2 : Ref sig .tc := ⟨.hbm, 1316, rfl⟩
abbrev main_call2_call4_v3 : Ref sig .tc := ⟨.hbm, 1317, rfl⟩
abbrev main_call2_call4_v4 : Ref sig .tc := ⟨.hbm, 1318, rfl⟩
abbrev main_call2_call4_v5 : Ref sig .tc := ⟨.hbm, 1319, rfl⟩
abbrev main_call2_call4_v6 : Ref sig .tc := ⟨.hbm, 1320, rfl⟩
abbrev main_call2_call4_c_0 : Ref sig .tc := ⟨.hbm, 1321, rfl⟩
abbrev main_call2_call4_v7 : Ref sig .tc := ⟨.hbm, 1322, rfl⟩
abbrev main_call2_call4_v8 : Ref sig .tc := ⟨.hbm, 1323, rfl⟩
abbrev main_call2_call4_c_1 : Ref sig .tc := ⟨.hbm, 1324, rfl⟩
abbrev main_call2_call4_v9 : Ref sig .tc := ⟨.hbm, 1325, rfl⟩
abbrev main_call2_call4_v10 : Ref sig .tc := ⟨.hbm, 1326, rfl⟩
abbrev main_call2_call4_v11 : Ref sig .tc := ⟨.hbm, 1327, rfl⟩
abbrev main_call2_call4_v12 : Ref sig .tc := ⟨.hbm, 1328, rfl⟩
abbrev main_call2_call4_v13 : Ref sig .tc := ⟨.hbm, 1329, rfl⟩
abbrev main_call2_call4_c_2 : Ref sig .tc := ⟨.hbm, 1330, rfl⟩
abbrev main_call2_call4_v14 : Ref sig .tc := ⟨.hbm, 1331, rfl⟩
abbrev main_call2_call4_v15 : Ref sig .tc := ⟨.hbm, 1332, rfl⟩
abbrev main_call2_call4_c_3 : Ref sig .tc := ⟨.hbm, 1333, rfl⟩
abbrev main_call2_call4_v16 : Ref sig .tc := ⟨.hbm, 1334, rfl⟩
abbrev main_call2_call4_v17 : Ref sig .tc := ⟨.hbm, 1335, rfl⟩
abbrev main_call2_call4_v18 : Ref sig .tc := ⟨.hbm, 1336, rfl⟩
abbrev main_call2_call4_v19 : Ref sig .tc := ⟨.hbm, 1337, rfl⟩
abbrev main_call2_call4_v20 : Ref sig .tc := ⟨.hbm, 1338, rfl⟩
abbrev main_call2_call4_c_4 : Ref sig .tc := ⟨.hbm, 1339, rfl⟩
abbrev main_call2_call4_v21 : Ref sig .tc := ⟨.hbm, 1340, rfl⟩
abbrev main_call2_call4_v22 : Ref sig .tc := ⟨.hbm, 1341, rfl⟩
abbrev main_call2_call4_c_5 : Ref sig .tc := ⟨.hbm, 1342, rfl⟩
abbrev main_call2_call4_v23 : Ref sig .tc := ⟨.hbm, 1343, rfl⟩
abbrev main_call2_call4_v24 : Ref sig .tc := ⟨.hbm, 1344, rfl⟩
abbrev main_call2_call4_v25 : Ref sig .tc := ⟨.hbm, 1345, rfl⟩
abbrev main_call2_call4_v26 : Ref sig .tc := ⟨.hbm, 1346, rfl⟩
abbrev main_call2_call4_v27 : Ref sig .tc := ⟨.hbm, 1347, rfl⟩
abbrev main_call2_call4_c_6 : Ref sig .tc := ⟨.hbm, 1348, rfl⟩
abbrev main_call2_call4_v28 : Ref sig .tc := ⟨.hbm, 1349, rfl⟩
abbrev main_call2_call4_v29 : Ref sig .tc := ⟨.hbm, 1350, rfl⟩
abbrev main_call2_call4_c_7 : Ref sig .tc := ⟨.hbm, 1351, rfl⟩
abbrev main_call2_call4_v30 : Ref sig .tc := ⟨.hbm, 1352, rfl⟩
abbrev main_call2_call4_v31 : Ref sig .tc := ⟨.hbm, 1353, rfl⟩
abbrev main_call2_call4_v32 : Ref sig .tc := ⟨.hbm, 1354, rfl⟩
abbrev main_call2_call4_v33 : Ref sig .tc := ⟨.hbm, 1355, rfl⟩
abbrev main_call2_call4_v34 : Ref sig .tc := ⟨.hbm, 1356, rfl⟩
abbrev main_call2_call4_v35 : Ref sig .tc := ⟨.hbm, 1357, rfl⟩
abbrev main_call2_call4_v36 : Ref sig .tc := ⟨.hbm, 1358, rfl⟩
abbrev main_call2_call4_v37 : Ref sig .tc := ⟨.hbm, 1359, rfl⟩
abbrev main_call2_call4_c_8 : Ref sig .tc := ⟨.hbm, 1360, rfl⟩
abbrev main_call2_call4_v38 : Ref sig .tc := ⟨.hbm, 1361, rfl⟩
abbrev main_call2_call4_v39 : Ref sig .tc := ⟨.hbm, 1362, rfl⟩
abbrev main_call2_call4_v40 : Ref sig .tc := ⟨.hbm, 1363, rfl⟩
abbrev main_call2_call4_c_9 : Ref sig .tc := ⟨.hbm, 1364, rfl⟩
abbrev main_call2_call4_v41 : Ref sig .tc := ⟨.hbm, 1365, rfl⟩
abbrev main_call2_call4_v42 : Ref sig .tc := ⟨.hbm, 1366, rfl⟩
abbrev main_call2_call4_c_10 : Ref sig .tc := ⟨.hbm, 1367, rfl⟩
abbrev main_call2_call4_v43 : Ref sig .tc := ⟨.hbm, 1368, rfl⟩
abbrev main_call2_call4_v44 : Ref sig .tc := ⟨.hbm, 1369, rfl⟩
abbrev main_call2_call4_v45 : Ref sig .tc := ⟨.hbm, 1370, rfl⟩
abbrev main_call2_call4_v46 : Ref sig .tc := ⟨.hbm, 1371, rfl⟩
abbrev main_call2_call4_v47 : Ref sig .tc := ⟨.hbm, 1372, rfl⟩
abbrev main_call2_call4_c_11 : Ref sig .tc := ⟨.hbm, 1373, rfl⟩
abbrev main_call2_call4_v48 : Ref sig .tc := ⟨.hbm, 1374, rfl⟩
abbrev main_call2_call4_v49 : Ref sig .tc := ⟨.hbm, 1375, rfl⟩
abbrev main_call2_call4_c_12 : Ref sig .tc := ⟨.hbm, 1376, rfl⟩
abbrev main_call2_call4_v50 : Ref sig .tc := ⟨.hbm, 1377, rfl⟩
abbrev main_call2_call4_v51 : Ref sig .tc := ⟨.hbm, 1378, rfl⟩
abbrev main_call2_call4_v52 : Ref sig .tc := ⟨.hbm, 1379, rfl⟩
abbrev main_call2_call4_v53 : Ref sig .tc := ⟨.hbm, 1380, rfl⟩
abbrev main_call2_call4_v54 : Ref sig .tc := ⟨.hbm, 1381, rfl⟩
abbrev main_call2_call4_c_13 : Ref sig .tc := ⟨.hbm, 1382, rfl⟩
abbrev main_call2_call4_v55 : Ref sig .tc := ⟨.hbm, 1383, rfl⟩
abbrev main_call2_call4_v56 : Ref sig .tc := ⟨.hbm, 1384, rfl⟩
abbrev main_call2_call4_c_14 : Ref sig .tc := ⟨.hbm, 1385, rfl⟩
abbrev main_call2_call4_v57 : Ref sig .tc := ⟨.hbm, 1386, rfl⟩
abbrev main_call2_call4_v58 : Ref sig .tc := ⟨.hbm, 1387, rfl⟩
abbrev main_call2_call4_v59 : Ref sig .tc := ⟨.hbm, 1388, rfl⟩
abbrev main_call2_call4_v60 : Ref sig .tc := ⟨.hbm, 1389, rfl⟩
abbrev main_call2_call4_v61 : Ref sig .tc := ⟨.hbm, 1390, rfl⟩
abbrev main_call2_call4_c_15 : Ref sig .tc := ⟨.hbm, 1391, rfl⟩
abbrev main_call2_call4_v62 : Ref sig .tc := ⟨.hbm, 1392, rfl⟩
abbrev main_call2_call4_v63 : Ref sig .tc := ⟨.hbm, 1393, rfl⟩
abbrev main_call2_call4_c_16 : Ref sig .tc := ⟨.hbm, 1394, rfl⟩
abbrev main_call2_call4_v64 : Ref sig .tc := ⟨.hbm, 1395, rfl⟩
abbrev main_call2_call4_v65 : Ref sig .tc := ⟨.hbm, 1396, rfl⟩
abbrev main_call2_call4_v66 : Ref sig .tc := ⟨.hbm, 1397, rfl⟩
abbrev main_call2_call4_v67 : Ref sig .tc := ⟨.hbm, 1398, rfl⟩
abbrev main_call2_call4_v68 : Ref sig .tc := ⟨.hbm, 1399, rfl⟩
abbrev main_call2_call4_v69 : Ref sig .tc := ⟨.hbm, 1400, rfl⟩
abbrev main_call2_call4_v70 : Ref sig .tc := ⟨.hbm, 1401, rfl⟩
abbrev main_call2_call4_v71 : Ref sig .tc := ⟨.hbm, 1402, rfl⟩
abbrev main_call2_call4_c_17 : Ref sig .tc := ⟨.hbm, 1403, rfl⟩
abbrev main_call2_call4_v72 : Ref sig .tc := ⟨.hbm, 1404, rfl⟩
abbrev main_call2_call4_v73 : Ref sig .tc := ⟨.hbm, 1405, rfl⟩
abbrev main_call2_call4_v74 : Ref sig .tc := ⟨.hbm, 1406, rfl⟩
abbrev main_call2_call4_c_18 : Ref sig .tc := ⟨.hbm, 1407, rfl⟩
abbrev main_call2_call4_v75 : Ref sig .tc := ⟨.hbm, 1408, rfl⟩
abbrev main_call2_call4_v76 : Ref sig .tc := ⟨.hbm, 1409, rfl⟩
abbrev main_call2_call4_c_19 : Ref sig .tc := ⟨.hbm, 1410, rfl⟩
abbrev main_call2_call4_v77 : Ref sig .tc := ⟨.hbm, 1411, rfl⟩
abbrev main_call2_call4_v78 : Ref sig .tc := ⟨.hbm, 1412, rfl⟩
abbrev main_call2_call4_v79 : Ref sig .tc := ⟨.hbm, 1413, rfl⟩
abbrev main_call2_call4_v80 : Ref sig .tc := ⟨.hbm, 1414, rfl⟩
abbrev main_call2_call4_v81 : Ref sig .tc := ⟨.hbm, 1415, rfl⟩
abbrev main_call2_call4_c_20 : Ref sig .tc := ⟨.hbm, 1416, rfl⟩
abbrev main_call2_call4_v82 : Ref sig .tc := ⟨.hbm, 1417, rfl⟩
abbrev main_call2_call4_v83 : Ref sig .tc := ⟨.hbm, 1418, rfl⟩
abbrev main_call2_call4_c_21 : Ref sig .tc := ⟨.hbm, 1419, rfl⟩
abbrev main_call2_call4_v84 : Ref sig .tc := ⟨.hbm, 1420, rfl⟩
abbrev main_call2_call4_v85 : Ref sig .tc := ⟨.hbm, 1421, rfl⟩
abbrev main_call2_call4_v86 : Ref sig .tc := ⟨.hbm, 1422, rfl⟩
abbrev main_call2_call4_v87 : Ref sig .tc := ⟨.hbm, 1423, rfl⟩
abbrev main_call2_call4_v88 : Ref sig .tc := ⟨.hbm, 1424, rfl⟩
abbrev main_call2_call4_c_22 : Ref sig .tc := ⟨.hbm, 1425, rfl⟩
abbrev main_call2_call4_v89 : Ref sig .tc := ⟨.hbm, 1426, rfl⟩
abbrev main_call2_call4_v90 : Ref sig .tc := ⟨.hbm, 1427, rfl⟩
abbrev main_call2_call4_c_23 : Ref sig .tc := ⟨.hbm, 1428, rfl⟩
abbrev main_call2_call4_v91 : Ref sig .tc := ⟨.hbm, 1429, rfl⟩
abbrev main_call2_call4_v92 : Ref sig .tc := ⟨.hbm, 1430, rfl⟩
abbrev main_call2_call4_v93 : Ref sig .tc := ⟨.hbm, 1431, rfl⟩
abbrev main_call2_call4_v94 : Ref sig .tc := ⟨.hbm, 1432, rfl⟩
abbrev main_call2_call4_v95 : Ref sig .tc := ⟨.hbm, 1433, rfl⟩
abbrev main_call2_call4_c_24 : Ref sig .tc := ⟨.hbm, 1434, rfl⟩
abbrev main_call2_call4_v96 : Ref sig .tc := ⟨.hbm, 1435, rfl⟩
abbrev main_call2_call4_v97 : Ref sig .tc := ⟨.hbm, 1436, rfl⟩
abbrev main_call2_call4_c_25 : Ref sig .tc := ⟨.hbm, 1437, rfl⟩
abbrev main_call2_call4_v98 : Ref sig .tc := ⟨.hbm, 1438, rfl⟩
abbrev main_call2_call4_v99 : Ref sig .tc := ⟨.hbm, 1439, rfl⟩
abbrev main_call2_call4_v100 : Ref sig .tc := ⟨.hbm, 1440, rfl⟩
abbrev main_call2_call4_v101 : Ref sig .tc := ⟨.hbm, 1441, rfl⟩
abbrev main_call2_call4_v102 : Ref sig .tc := ⟨.hbm, 1442, rfl⟩
abbrev main_call2_call4_v103 : Ref sig .tc := ⟨.hbm, 1443, rfl⟩
abbrev main_call2_call4_v104 : Ref sig .tc := ⟨.hbm, 1444, rfl⟩
abbrev main_call2_call4_v105 : Ref sig .tc := ⟨.hbm, 1445, rfl⟩
abbrev main_call2_call4_c_26 : Ref sig .tc := ⟨.hbm, 1446, rfl⟩
abbrev main_call2_call4_v106 : Ref sig .tc := ⟨.hbm, 1447, rfl⟩
abbrev main_call2_call4_v107 : Ref sig .tc := ⟨.hbm, 1448, rfl⟩
abbrev main_call2_call4_v108 : Ref sig .tc := ⟨.hbm, 1449, rfl⟩
abbrev main_call2_call4_c_27 : Ref sig .tc := ⟨.hbm, 1450, rfl⟩
abbrev main_call2_call4_v109 : Ref sig .tc := ⟨.hbm, 1451, rfl⟩
abbrev main_call2_call4_v110 : Ref sig .tc := ⟨.hbm, 1452, rfl⟩
abbrev main_call2_call4_c_28 : Ref sig .tc := ⟨.hbm, 1453, rfl⟩
abbrev main_call2_call4_v111 : Ref sig .tc := ⟨.hbm, 1454, rfl⟩
abbrev main_call2_call4_v112 : Ref sig .tc := ⟨.hbm, 1455, rfl⟩
abbrev main_call2_call4_v113 : Ref sig .tc := ⟨.hbm, 1456, rfl⟩
abbrev main_call2_call4_v114 : Ref sig .tc := ⟨.hbm, 1457, rfl⟩
abbrev main_call2_call4_v115 : Ref sig .tc := ⟨.hbm, 1458, rfl⟩
abbrev main_call2_call4_c_29 : Ref sig .tc := ⟨.hbm, 1459, rfl⟩
abbrev main_call2_call4_v116 : Ref sig .tc := ⟨.hbm, 1460, rfl⟩
abbrev main_call2_call4_v117 : Ref sig .tc := ⟨.hbm, 1461, rfl⟩
abbrev main_call2_call4_c_30 : Ref sig .tc := ⟨.hbm, 1462, rfl⟩
abbrev main_call2_call4_v118 : Ref sig .tc := ⟨.hbm, 1463, rfl⟩
abbrev main_call2_call4_v119 : Ref sig .tc := ⟨.hbm, 1464, rfl⟩
abbrev main_call2_call4_v120 : Ref sig .tc := ⟨.hbm, 1465, rfl⟩
abbrev main_call2_call4_v121 : Ref sig .tc := ⟨.hbm, 1466, rfl⟩
abbrev main_call2_call4_v122 : Ref sig .tc := ⟨.hbm, 1467, rfl⟩
abbrev main_call2_call4_c_31 : Ref sig .tc := ⟨.hbm, 1468, rfl⟩
abbrev main_call2_call4_v123 : Ref sig .tc := ⟨.hbm, 1469, rfl⟩
abbrev main_call2_call4_v124 : Ref sig .tc := ⟨.hbm, 1470, rfl⟩
abbrev main_call2_call4_c_32 : Ref sig .tc := ⟨.hbm, 1471, rfl⟩
abbrev main_call2_call4_v125 : Ref sig .tc := ⟨.hbm, 1472, rfl⟩
abbrev main_call2_call4_v126 : Ref sig .tc := ⟨.hbm, 1473, rfl⟩
abbrev main_call2_call4_v127 : Ref sig .tc := ⟨.hbm, 1474, rfl⟩
abbrev main_call2_call4_v128 : Ref sig .tc := ⟨.hbm, 1475, rfl⟩
abbrev main_call2_call4_v129 : Ref sig .tc := ⟨.hbm, 1476, rfl⟩
abbrev main_call2_call4_c_33 : Ref sig .tc := ⟨.hbm, 1477, rfl⟩
abbrev main_call2_call4_v130 : Ref sig .tc := ⟨.hbm, 1478, rfl⟩
abbrev main_call2_call4_v131 : Ref sig .tc := ⟨.hbm, 1479, rfl⟩
abbrev main_call2_call4_c_34 : Ref sig .tc := ⟨.hbm, 1480, rfl⟩
abbrev main_call2_call4_v132 : Ref sig .tc := ⟨.hbm, 1481, rfl⟩
abbrev main_call2_call4_v133 : Ref sig .tc := ⟨.hbm, 1482, rfl⟩
abbrev main_call2_call4_v134 : Ref sig .tc := ⟨.hbm, 1483, rfl⟩
abbrev main_call2_call4_v135 : Ref sig .tc := ⟨.hbm, 1484, rfl⟩
abbrev main_call2_call4_v136 : Ref sig .tc := ⟨.hbm, 1485, rfl⟩
abbrev main_call2_call4_v137 : Ref sig .tc := ⟨.hbm, 1486, rfl⟩
abbrev main_call2_call4_v138 : Ref sig .tc := ⟨.hbm, 1487, rfl⟩
abbrev main_call2_call4_v139 : Ref sig .tc := ⟨.hbm, 1488, rfl⟩
abbrev main_call2_call4_c_35 : Ref sig .tc := ⟨.hbm, 1489, rfl⟩
abbrev main_call2_call4_v140 : Ref sig .tc := ⟨.hbm, 1490, rfl⟩
abbrev main_call2_call4_v141 : Ref sig .tc := ⟨.hbm, 1491, rfl⟩
abbrev main_call2_call4_v142 : Ref sig .tc := ⟨.hbm, 1492, rfl⟩
abbrev main_call2_call4_c_36 : Ref sig .tc := ⟨.hbm, 1493, rfl⟩
abbrev main_call2_call4_v143 : Ref sig .tc := ⟨.hbm, 1494, rfl⟩
abbrev main_call2_call4_v144 : Ref sig .tc := ⟨.hbm, 1495, rfl⟩
abbrev main_call2_call4_c_37 : Ref sig .tc := ⟨.hbm, 1496, rfl⟩
abbrev main_call2_call4_v145 : Ref sig .tc := ⟨.hbm, 1497, rfl⟩
abbrev main_call2_call4_v146 : Ref sig .tc := ⟨.hbm, 1498, rfl⟩
abbrev main_call2_call4_v147 : Ref sig .tc := ⟨.hbm, 1499, rfl⟩
abbrev main_call2_call4_v148 : Ref sig .tc := ⟨.hbm, 1500, rfl⟩
abbrev main_call2_call4_v149 : Ref sig .tc := ⟨.hbm, 1501, rfl⟩
abbrev main_call2_call4_c_38 : Ref sig .tc := ⟨.hbm, 1502, rfl⟩
abbrev main_call2_call4_v150 : Ref sig .tc := ⟨.hbm, 1503, rfl⟩
abbrev main_call2_call4_v151 : Ref sig .tc := ⟨.hbm, 1504, rfl⟩
abbrev main_call2_call4_c_39 : Ref sig .tc := ⟨.hbm, 1505, rfl⟩
abbrev main_call2_call4_v152 : Ref sig .tc := ⟨.hbm, 1506, rfl⟩
abbrev main_call2_call4_v153 : Ref sig .tc := ⟨.hbm, 1507, rfl⟩
abbrev main_call2_call4_v154 : Ref sig .tc := ⟨.hbm, 1508, rfl⟩
abbrev main_call2_call4_v155 : Ref sig .tc := ⟨.hbm, 1509, rfl⟩
abbrev main_call2_call4_v156 : Ref sig .tc := ⟨.hbm, 1510, rfl⟩
abbrev main_call2_call4_c_40 : Ref sig .tc := ⟨.hbm, 1511, rfl⟩
abbrev main_call2_call4_v157 : Ref sig .tc := ⟨.hbm, 1512, rfl⟩
abbrev main_call2_call4_v158 : Ref sig .tc := ⟨.hbm, 1513, rfl⟩
abbrev main_call2_call4_c_41 : Ref sig .tc := ⟨.hbm, 1514, rfl⟩
abbrev main_call2_call4_v159 : Ref sig .tc := ⟨.hbm, 1515, rfl⟩
abbrev main_call2_call4_v160 : Ref sig .tc := ⟨.hbm, 1516, rfl⟩
abbrev main_call2_call4_v161 : Ref sig .tc := ⟨.hbm, 1517, rfl⟩
abbrev main_call2_call4_v162 : Ref sig .tc := ⟨.hbm, 1518, rfl⟩
abbrev main_call2_call4_v163 : Ref sig .tc := ⟨.hbm, 1519, rfl⟩
abbrev main_call2_call4_c_42 : Ref sig .tc := ⟨.hbm, 1520, rfl⟩
abbrev main_call2_call4_v164 : Ref sig .tc := ⟨.hbm, 1521, rfl⟩
abbrev main_call2_call4_v165 : Ref sig .tc := ⟨.hbm, 1522, rfl⟩
abbrev main_call2_call4_c_43 : Ref sig .tc := ⟨.hbm, 1523, rfl⟩
abbrev main_call2_call4_v166 : Ref sig .tc := ⟨.hbm, 1524, rfl⟩
abbrev main_call2_call4_v167 : Ref sig .tc := ⟨.hbm, 1525, rfl⟩
abbrev main_call2_call4_v168 : Ref sig .tc := ⟨.hbm, 1526, rfl⟩
abbrev main_call2_call4_v169 : Ref sig .tc := ⟨.hbm, 1527, rfl⟩
abbrev main_call2_call4_v170 : Ref sig .tc := ⟨.hbm, 1528, rfl⟩
abbrev main_call2_v28_0 : Ref sig .tc := ⟨.hbm, 1529, rfl⟩
abbrev main_call2_call4_v172 : Ref sig .tc := ⟨.hbm, 1530, rfl⟩
abbrev main_call2_call4_v173 : Ref sig .tc := ⟨.hbm, 1531, rfl⟩
abbrev main_call2_call4_c_44 : Ref sig .tc := ⟨.hbm, 1532, rfl⟩
abbrev main_call2_call4_v174 : Ref sig .tc := ⟨.hbm, 1533, rfl⟩
abbrev main_call2_v28_1 : Ref sig .tc := ⟨.hbm, 1534, rfl⟩
abbrev main_call2_v29 : Ref sig .tc := ⟨.hbm, 1535, rfl⟩
abbrev main_call2_v30 : Ref sig .tc := ⟨.hbm, 1536, rfl⟩
abbrev main_call2_v31 : Ref sig .tc := ⟨.hbm, 1537, rfl⟩
abbrev main_call2_v32 : Ref sig .tc := ⟨.hbm, 1538, rfl⟩
abbrev main_call2_v33 : Ref sig .tc := ⟨.hbm, 1539, rfl⟩
abbrev main_call2_v34 : Ref sig .tc := ⟨.hbm, 1540, rfl⟩
abbrev main_call2_v35 : Ref sig .tc := ⟨.hbm, 1541, rfl⟩
abbrev main_call2_c_9 : Ref sig .tc := ⟨.hbm, 1542, rfl⟩
abbrev main_call2_v36 : Ref sig .tc := ⟨.hbm, 1543, rfl⟩
abbrev main_call2_v37 : Ref sig .tc := ⟨.hbm, 1544, rfl⟩
abbrev main_call2_c_10 : Ref sig .tc := ⟨.hbm, 1545, rfl⟩
abbrev main_call2_v38 : Ref sig .tc := ⟨.hbm, 1546, rfl⟩
abbrev main_call2_v39 : Ref sig .tc := ⟨.hbm, 1547, rfl⟩
abbrev main_call2_v40 : Ref sig .tc := ⟨.hbm, 1548, rfl⟩
abbrev main_call2_c_11 : Ref sig .tc := ⟨.hbm, 1549, rfl⟩
abbrev main_call2_v41 : Ref sig .tc := ⟨.hbm, 1550, rfl⟩
abbrev main_call2_v42 : Ref sig .tc := ⟨.hbm, 1551, rfl⟩
abbrev main_call2_v43 : Ref sig .tc := ⟨.hbm, 1552, rfl⟩
abbrev main_call2_v44 : Ref sig .tc := ⟨.hbm, 1553, rfl⟩
abbrev main_call2_call5_v0 : Ref sig .tc := ⟨.hbm, 1554, rfl⟩
abbrev main_call2_call5_c : Ref sig .tc := ⟨.hbm, 1555, rfl⟩
abbrev main_call2_call5_v1 : Ref sig .tc := ⟨.hbm, 1556, rfl⟩
abbrev main_call2_call5_v2 : Ref sig .tc := ⟨.hbm, 1557, rfl⟩
abbrev main_call2_call5_v3 : Ref sig .tc := ⟨.hbm, 1558, rfl⟩
abbrev main_call2_call5_v4 : Ref sig .tc := ⟨.hbm, 1559, rfl⟩
abbrev main_call2_call5_v5 : Ref sig .tc := ⟨.hbm, 1560, rfl⟩
abbrev main_call2_call5_v6 : Ref sig .tc := ⟨.hbm, 1561, rfl⟩
abbrev main_call2_call5_c_0 : Ref sig .tc := ⟨.hbm, 1562, rfl⟩
abbrev main_call2_call5_v7 : Ref sig .tc := ⟨.hbm, 1563, rfl⟩
abbrev main_call2_call5_v8 : Ref sig .tc := ⟨.hbm, 1564, rfl⟩
abbrev main_call2_call5_c_1 : Ref sig .tc := ⟨.hbm, 1565, rfl⟩
abbrev main_call2_call5_v9 : Ref sig .tc := ⟨.hbm, 1566, rfl⟩
abbrev main_call2_call5_v10 : Ref sig .tc := ⟨.hbm, 1567, rfl⟩
abbrev main_call2_call5_v11 : Ref sig .tc := ⟨.hbm, 1568, rfl⟩
abbrev main_call2_call5_v12 : Ref sig .tc := ⟨.hbm, 1569, rfl⟩
abbrev main_call2_call5_v13 : Ref sig .tc := ⟨.hbm, 1570, rfl⟩
abbrev main_call2_call5_c_2 : Ref sig .tc := ⟨.hbm, 1571, rfl⟩
abbrev main_call2_call5_v14 : Ref sig .tc := ⟨.hbm, 1572, rfl⟩
abbrev main_call2_call5_v15 : Ref sig .tc := ⟨.hbm, 1573, rfl⟩
abbrev main_call2_call5_c_3 : Ref sig .tc := ⟨.hbm, 1574, rfl⟩
abbrev main_call2_call5_v16 : Ref sig .tc := ⟨.hbm, 1575, rfl⟩
abbrev main_call2_call5_v17 : Ref sig .tc := ⟨.hbm, 1576, rfl⟩
abbrev main_call2_call5_v18 : Ref sig .tc := ⟨.hbm, 1577, rfl⟩
abbrev main_call2_call5_v19 : Ref sig .tc := ⟨.hbm, 1578, rfl⟩
abbrev main_call2_call5_v20 : Ref sig .tc := ⟨.hbm, 1579, rfl⟩
abbrev main_call2_call5_c_4 : Ref sig .tc := ⟨.hbm, 1580, rfl⟩
abbrev main_call2_call5_v21 : Ref sig .tc := ⟨.hbm, 1581, rfl⟩
abbrev main_call2_call5_v22 : Ref sig .tc := ⟨.hbm, 1582, rfl⟩
abbrev main_call2_call5_c_5 : Ref sig .tc := ⟨.hbm, 1583, rfl⟩
abbrev main_call2_call5_v23 : Ref sig .tc := ⟨.hbm, 1584, rfl⟩
abbrev main_call2_call5_v24 : Ref sig .tc := ⟨.hbm, 1585, rfl⟩
abbrev main_call2_call5_v25 : Ref sig .tc := ⟨.hbm, 1586, rfl⟩
abbrev main_call2_call5_v26 : Ref sig .tc := ⟨.hbm, 1587, rfl⟩
abbrev main_call2_call5_v27 : Ref sig .tc := ⟨.hbm, 1588, rfl⟩
abbrev main_call2_call5_c_6 : Ref sig .tc := ⟨.hbm, 1589, rfl⟩
abbrev main_call2_call5_v28 : Ref sig .tc := ⟨.hbm, 1590, rfl⟩
abbrev main_call2_call5_v29 : Ref sig .tc := ⟨.hbm, 1591, rfl⟩
abbrev main_call2_call5_c_7 : Ref sig .tc := ⟨.hbm, 1592, rfl⟩
abbrev main_call2_call5_v30 : Ref sig .tc := ⟨.hbm, 1593, rfl⟩
abbrev main_call2_call5_v31 : Ref sig .tc := ⟨.hbm, 1594, rfl⟩
abbrev main_call2_call5_v32 : Ref sig .tc := ⟨.hbm, 1595, rfl⟩
abbrev main_call2_call5_v33 : Ref sig .tc := ⟨.hbm, 1596, rfl⟩
abbrev main_call2_call5_v34 : Ref sig .tc := ⟨.hbm, 1597, rfl⟩
abbrev main_call2_call5_v35 : Ref sig .tc := ⟨.hbm, 1598, rfl⟩
abbrev main_call2_call5_v36 : Ref sig .tc := ⟨.hbm, 1599, rfl⟩
abbrev main_call2_call5_v37 : Ref sig .tc := ⟨.hbm, 1600, rfl⟩
abbrev main_call2_call5_c_8 : Ref sig .tc := ⟨.hbm, 1601, rfl⟩
abbrev main_call2_call5_v38 : Ref sig .tc := ⟨.hbm, 1602, rfl⟩
abbrev main_call2_call5_v39 : Ref sig .tc := ⟨.hbm, 1603, rfl⟩
abbrev main_call2_call5_v40 : Ref sig .tc := ⟨.hbm, 1604, rfl⟩
abbrev main_call2_call5_c_9 : Ref sig .tc := ⟨.hbm, 1605, rfl⟩
abbrev main_call2_call5_v41 : Ref sig .tc := ⟨.hbm, 1606, rfl⟩
abbrev main_call2_call5_v42 : Ref sig .tc := ⟨.hbm, 1607, rfl⟩
abbrev main_call2_call5_c_10 : Ref sig .tc := ⟨.hbm, 1608, rfl⟩
abbrev main_call2_call5_v43 : Ref sig .tc := ⟨.hbm, 1609, rfl⟩
abbrev main_call2_call5_v44 : Ref sig .tc := ⟨.hbm, 1610, rfl⟩
abbrev main_call2_call5_v45 : Ref sig .tc := ⟨.hbm, 1611, rfl⟩
abbrev main_call2_call5_v46 : Ref sig .tc := ⟨.hbm, 1612, rfl⟩
abbrev main_call2_call5_v47 : Ref sig .tc := ⟨.hbm, 1613, rfl⟩
abbrev main_call2_call5_c_11 : Ref sig .tc := ⟨.hbm, 1614, rfl⟩
abbrev main_call2_call5_v48 : Ref sig .tc := ⟨.hbm, 1615, rfl⟩
abbrev main_call2_call5_v49 : Ref sig .tc := ⟨.hbm, 1616, rfl⟩
abbrev main_call2_call5_c_12 : Ref sig .tc := ⟨.hbm, 1617, rfl⟩
abbrev main_call2_call5_v50 : Ref sig .tc := ⟨.hbm, 1618, rfl⟩
abbrev main_call2_call5_v51 : Ref sig .tc := ⟨.hbm, 1619, rfl⟩
abbrev main_call2_call5_v52 : Ref sig .tc := ⟨.hbm, 1620, rfl⟩
abbrev main_call2_call5_v53 : Ref sig .tc := ⟨.hbm, 1621, rfl⟩
abbrev main_call2_call5_v54 : Ref sig .tc := ⟨.hbm, 1622, rfl⟩
abbrev main_call2_call5_c_13 : Ref sig .tc := ⟨.hbm, 1623, rfl⟩
abbrev main_call2_call5_v55 : Ref sig .tc := ⟨.hbm, 1624, rfl⟩
abbrev main_call2_call5_v56 : Ref sig .tc := ⟨.hbm, 1625, rfl⟩
abbrev main_call2_call5_c_14 : Ref sig .tc := ⟨.hbm, 1626, rfl⟩
abbrev main_call2_call5_v57 : Ref sig .tc := ⟨.hbm, 1627, rfl⟩
abbrev main_call2_call5_v58 : Ref sig .tc := ⟨.hbm, 1628, rfl⟩
abbrev main_call2_call5_v59 : Ref sig .tc := ⟨.hbm, 1629, rfl⟩
abbrev main_call2_call5_v60 : Ref sig .tc := ⟨.hbm, 1630, rfl⟩
abbrev main_call2_call5_v61 : Ref sig .tc := ⟨.hbm, 1631, rfl⟩
abbrev main_call2_call5_c_15 : Ref sig .tc := ⟨.hbm, 1632, rfl⟩
abbrev main_call2_call5_v62 : Ref sig .tc := ⟨.hbm, 1633, rfl⟩
abbrev main_call2_call5_v63 : Ref sig .tc := ⟨.hbm, 1634, rfl⟩
abbrev main_call2_call5_c_16 : Ref sig .tc := ⟨.hbm, 1635, rfl⟩
abbrev main_call2_call5_v64 : Ref sig .tc := ⟨.hbm, 1636, rfl⟩
abbrev main_call2_call5_v65 : Ref sig .tc := ⟨.hbm, 1637, rfl⟩
abbrev main_call2_call5_v66 : Ref sig .tc := ⟨.hbm, 1638, rfl⟩
abbrev main_call2_call5_v67 : Ref sig .tc := ⟨.hbm, 1639, rfl⟩
abbrev main_call2_call5_v68 : Ref sig .tc := ⟨.hbm, 1640, rfl⟩
abbrev main_call2_call5_v69 : Ref sig .tc := ⟨.hbm, 1641, rfl⟩
abbrev main_call2_call5_v70 : Ref sig .tc := ⟨.hbm, 1642, rfl⟩
abbrev main_call2_call5_v71 : Ref sig .tc := ⟨.hbm, 1643, rfl⟩
abbrev main_call2_call5_c_17 : Ref sig .tc := ⟨.hbm, 1644, rfl⟩
abbrev main_call2_call5_v72 : Ref sig .tc := ⟨.hbm, 1645, rfl⟩
abbrev main_call2_call5_v73 : Ref sig .tc := ⟨.hbm, 1646, rfl⟩
abbrev main_call2_call5_v74 : Ref sig .tc := ⟨.hbm, 1647, rfl⟩
abbrev main_call2_call5_c_18 : Ref sig .tc := ⟨.hbm, 1648, rfl⟩
abbrev main_call2_call5_v75 : Ref sig .tc := ⟨.hbm, 1649, rfl⟩
abbrev main_call2_call5_v76 : Ref sig .tc := ⟨.hbm, 1650, rfl⟩
abbrev main_call2_call5_c_19 : Ref sig .tc := ⟨.hbm, 1651, rfl⟩
abbrev main_call2_call5_v77 : Ref sig .tc := ⟨.hbm, 1652, rfl⟩
abbrev main_call2_call5_v78 : Ref sig .tc := ⟨.hbm, 1653, rfl⟩
abbrev main_call2_call5_v79 : Ref sig .tc := ⟨.hbm, 1654, rfl⟩
abbrev main_call2_call5_v80 : Ref sig .tc := ⟨.hbm, 1655, rfl⟩
abbrev main_call2_call5_v81 : Ref sig .tc := ⟨.hbm, 1656, rfl⟩
abbrev main_call2_call5_c_20 : Ref sig .tc := ⟨.hbm, 1657, rfl⟩
abbrev main_call2_call5_v82 : Ref sig .tc := ⟨.hbm, 1658, rfl⟩
abbrev main_call2_call5_v83 : Ref sig .tc := ⟨.hbm, 1659, rfl⟩
abbrev main_call2_call5_c_21 : Ref sig .tc := ⟨.hbm, 1660, rfl⟩
abbrev main_call2_call5_v84 : Ref sig .tc := ⟨.hbm, 1661, rfl⟩
abbrev main_call2_call5_v85 : Ref sig .tc := ⟨.hbm, 1662, rfl⟩
abbrev main_call2_call5_v86 : Ref sig .tc := ⟨.hbm, 1663, rfl⟩
abbrev main_call2_call5_v87 : Ref sig .tc := ⟨.hbm, 1664, rfl⟩
abbrev main_call2_call5_v88 : Ref sig .tc := ⟨.hbm, 1665, rfl⟩
abbrev main_call2_call5_c_22 : Ref sig .tc := ⟨.hbm, 1666, rfl⟩
abbrev main_call2_call5_v89 : Ref sig .tc := ⟨.hbm, 1667, rfl⟩
abbrev main_call2_call5_v90 : Ref sig .tc := ⟨.hbm, 1668, rfl⟩
abbrev main_call2_call5_c_23 : Ref sig .tc := ⟨.hbm, 1669, rfl⟩
abbrev main_call2_call5_v91 : Ref sig .tc := ⟨.hbm, 1670, rfl⟩
abbrev main_call2_call5_v92 : Ref sig .tc := ⟨.hbm, 1671, rfl⟩
abbrev main_call2_call5_v93 : Ref sig .tc := ⟨.hbm, 1672, rfl⟩
abbrev main_call2_call5_v94 : Ref sig .tc := ⟨.hbm, 1673, rfl⟩
abbrev main_call2_call5_v95 : Ref sig .tc := ⟨.hbm, 1674, rfl⟩
abbrev main_call2_call5_c_24 : Ref sig .tc := ⟨.hbm, 1675, rfl⟩
abbrev main_call2_call5_v96 : Ref sig .tc := ⟨.hbm, 1676, rfl⟩
abbrev main_call2_call5_v97 : Ref sig .tc := ⟨.hbm, 1677, rfl⟩
abbrev main_call2_call5_c_25 : Ref sig .tc := ⟨.hbm, 1678, rfl⟩
abbrev main_call2_call5_v98 : Ref sig .tc := ⟨.hbm, 1679, rfl⟩
abbrev main_call2_call5_v99 : Ref sig .tc := ⟨.hbm, 1680, rfl⟩
abbrev main_call2_call5_v100 : Ref sig .tc := ⟨.hbm, 1681, rfl⟩
abbrev main_call2_call5_v101 : Ref sig .tc := ⟨.hbm, 1682, rfl⟩
abbrev main_call2_call5_v102 : Ref sig .tc := ⟨.hbm, 1683, rfl⟩
abbrev main_call2_call5_v103 : Ref sig .tc := ⟨.hbm, 1684, rfl⟩
abbrev main_call2_call5_v104 : Ref sig .tc := ⟨.hbm, 1685, rfl⟩
abbrev main_call2_call5_v105 : Ref sig .tc := ⟨.hbm, 1686, rfl⟩
abbrev main_call2_call5_c_26 : Ref sig .tc := ⟨.hbm, 1687, rfl⟩
abbrev main_call2_call5_v106 : Ref sig .tc := ⟨.hbm, 1688, rfl⟩
abbrev main_call2_call5_v107 : Ref sig .tc := ⟨.hbm, 1689, rfl⟩
abbrev main_call2_call5_v108 : Ref sig .tc := ⟨.hbm, 1690, rfl⟩
abbrev main_call2_call5_c_27 : Ref sig .tc := ⟨.hbm, 1691, rfl⟩
abbrev main_call2_call5_v109 : Ref sig .tc := ⟨.hbm, 1692, rfl⟩
abbrev main_call2_call5_v110 : Ref sig .tc := ⟨.hbm, 1693, rfl⟩
abbrev main_call2_call5_c_28 : Ref sig .tc := ⟨.hbm, 1694, rfl⟩
abbrev main_call2_call5_v111 : Ref sig .tc := ⟨.hbm, 1695, rfl⟩
abbrev main_call2_call5_v112 : Ref sig .tc := ⟨.hbm, 1696, rfl⟩
abbrev main_call2_call5_v113 : Ref sig .tc := ⟨.hbm, 1697, rfl⟩
abbrev main_call2_call5_v114 : Ref sig .tc := ⟨.hbm, 1698, rfl⟩
abbrev main_call2_call5_v115 : Ref sig .tc := ⟨.hbm, 1699, rfl⟩
abbrev main_call2_call5_c_29 : Ref sig .tc := ⟨.hbm, 1700, rfl⟩
abbrev main_call2_call5_v116 : Ref sig .tc := ⟨.hbm, 1701, rfl⟩
abbrev main_call2_call5_v117 : Ref sig .tc := ⟨.hbm, 1702, rfl⟩
abbrev main_call2_call5_c_30 : Ref sig .tc := ⟨.hbm, 1703, rfl⟩
abbrev main_call2_call5_v118 : Ref sig .tc := ⟨.hbm, 1704, rfl⟩
abbrev main_call2_call5_v119 : Ref sig .tc := ⟨.hbm, 1705, rfl⟩
abbrev main_call2_call5_v120 : Ref sig .tc := ⟨.hbm, 1706, rfl⟩
abbrev main_call2_call5_v121 : Ref sig .tc := ⟨.hbm, 1707, rfl⟩
abbrev main_call2_call5_v122 : Ref sig .tc := ⟨.hbm, 1708, rfl⟩
abbrev main_call2_call5_c_31 : Ref sig .tc := ⟨.hbm, 1709, rfl⟩
abbrev main_call2_call5_v123 : Ref sig .tc := ⟨.hbm, 1710, rfl⟩
abbrev main_call2_call5_v124 : Ref sig .tc := ⟨.hbm, 1711, rfl⟩
abbrev main_call2_call5_c_32 : Ref sig .tc := ⟨.hbm, 1712, rfl⟩
abbrev main_call2_call5_v125 : Ref sig .tc := ⟨.hbm, 1713, rfl⟩
abbrev main_call2_call5_v126 : Ref sig .tc := ⟨.hbm, 1714, rfl⟩
abbrev main_call2_call5_v127 : Ref sig .tc := ⟨.hbm, 1715, rfl⟩
abbrev main_call2_call5_v128 : Ref sig .tc := ⟨.hbm, 1716, rfl⟩
abbrev main_call2_call5_v129 : Ref sig .tc := ⟨.hbm, 1717, rfl⟩
abbrev main_call2_call5_c_33 : Ref sig .tc := ⟨.hbm, 1718, rfl⟩
abbrev main_call2_call5_v130 : Ref sig .tc := ⟨.hbm, 1719, rfl⟩
abbrev main_call2_call5_v131 : Ref sig .tc := ⟨.hbm, 1720, rfl⟩
abbrev main_call2_call5_c_34 : Ref sig .tc := ⟨.hbm, 1721, rfl⟩
abbrev main_call2_call5_v132 : Ref sig .tc := ⟨.hbm, 1722, rfl⟩
abbrev main_call2_call5_v133 : Ref sig .tc := ⟨.hbm, 1723, rfl⟩
abbrev main_call2_call5_v134 : Ref sig .tc := ⟨.hbm, 1724, rfl⟩
abbrev main_call2_call5_v135 : Ref sig .tc := ⟨.hbm, 1725, rfl⟩
abbrev main_call2_call5_v136 : Ref sig .tc := ⟨.hbm, 1726, rfl⟩
abbrev main_call2_call5_v137 : Ref sig .tc := ⟨.hbm, 1727, rfl⟩
abbrev main_call2_call5_v138 : Ref sig .tc := ⟨.hbm, 1728, rfl⟩
abbrev main_call2_call5_v139 : Ref sig .tc := ⟨.hbm, 1729, rfl⟩
abbrev main_call2_call5_c_35 : Ref sig .tc := ⟨.hbm, 1730, rfl⟩
abbrev main_call2_call5_v140 : Ref sig .tc := ⟨.hbm, 1731, rfl⟩
abbrev main_call2_call5_v141 : Ref sig .tc := ⟨.hbm, 1732, rfl⟩
abbrev main_call2_call5_v142 : Ref sig .tc := ⟨.hbm, 1733, rfl⟩
abbrev main_call2_call5_c_36 : Ref sig .tc := ⟨.hbm, 1734, rfl⟩
abbrev main_call2_call5_v143 : Ref sig .tc := ⟨.hbm, 1735, rfl⟩
abbrev main_call2_call5_v144 : Ref sig .tc := ⟨.hbm, 1736, rfl⟩
abbrev main_call2_call5_c_37 : Ref sig .tc := ⟨.hbm, 1737, rfl⟩
abbrev main_call2_call5_v145 : Ref sig .tc := ⟨.hbm, 1738, rfl⟩
abbrev main_call2_call5_v146 : Ref sig .tc := ⟨.hbm, 1739, rfl⟩
abbrev main_call2_call5_v147 : Ref sig .tc := ⟨.hbm, 1740, rfl⟩
abbrev main_call2_call5_v148 : Ref sig .tc := ⟨.hbm, 1741, rfl⟩
abbrev main_call2_call5_v149 : Ref sig .tc := ⟨.hbm, 1742, rfl⟩
abbrev main_call2_call5_c_38 : Ref sig .tc := ⟨.hbm, 1743, rfl⟩
abbrev main_call2_call5_v150 : Ref sig .tc := ⟨.hbm, 1744, rfl⟩
abbrev main_call2_call5_v151 : Ref sig .tc := ⟨.hbm, 1745, rfl⟩
abbrev main_call2_call5_c_39 : Ref sig .tc := ⟨.hbm, 1746, rfl⟩
abbrev main_call2_call5_v152 : Ref sig .tc := ⟨.hbm, 1747, rfl⟩
abbrev main_call2_call5_v153 : Ref sig .tc := ⟨.hbm, 1748, rfl⟩
abbrev main_call2_call5_v154 : Ref sig .tc := ⟨.hbm, 1749, rfl⟩
abbrev main_call2_call5_v155 : Ref sig .tc := ⟨.hbm, 1750, rfl⟩
abbrev main_call2_call5_v156 : Ref sig .tc := ⟨.hbm, 1751, rfl⟩
abbrev main_call2_call5_c_40 : Ref sig .tc := ⟨.hbm, 1752, rfl⟩
abbrev main_call2_call5_v157 : Ref sig .tc := ⟨.hbm, 1753, rfl⟩
abbrev main_call2_call5_v158 : Ref sig .tc := ⟨.hbm, 1754, rfl⟩
abbrev main_call2_call5_c_41 : Ref sig .tc := ⟨.hbm, 1755, rfl⟩
abbrev main_call2_call5_v159 : Ref sig .tc := ⟨.hbm, 1756, rfl⟩
abbrev main_call2_call5_v160 : Ref sig .tc := ⟨.hbm, 1757, rfl⟩
abbrev main_call2_call5_v161 : Ref sig .tc := ⟨.hbm, 1758, rfl⟩
abbrev main_call2_call5_v162 : Ref sig .tc := ⟨.hbm, 1759, rfl⟩
abbrev main_call2_call5_v163 : Ref sig .tc := ⟨.hbm, 1760, rfl⟩
abbrev main_call2_call5_c_42 : Ref sig .tc := ⟨.hbm, 1761, rfl⟩
abbrev main_call2_call5_v164 : Ref sig .tc := ⟨.hbm, 1762, rfl⟩
abbrev main_call2_call5_v165 : Ref sig .tc := ⟨.hbm, 1763, rfl⟩
abbrev main_call2_call5_c_43 : Ref sig .tc := ⟨.hbm, 1764, rfl⟩
abbrev main_call2_call5_v166 : Ref sig .tc := ⟨.hbm, 1765, rfl⟩
abbrev main_call2_call5_v167 : Ref sig .tc := ⟨.hbm, 1766, rfl⟩
abbrev main_call2_call5_v168 : Ref sig .tc := ⟨.hbm, 1767, rfl⟩
abbrev main_call2_call5_v169 : Ref sig .tc := ⟨.hbm, 1768, rfl⟩
abbrev main_call2_call5_v170 : Ref sig .tc := ⟨.hbm, 1769, rfl⟩
abbrev main_call2_v45_0 : Ref sig .tc := ⟨.hbm, 1770, rfl⟩
abbrev main_call2_call5_v172 : Ref sig .tc := ⟨.hbm, 1771, rfl⟩
abbrev main_call2_call5_v173 : Ref sig .tc := ⟨.hbm, 1772, rfl⟩
abbrev main_call2_call5_c_44 : Ref sig .tc := ⟨.hbm, 1773, rfl⟩
abbrev main_call2_call5_v174 : Ref sig .tc := ⟨.hbm, 1774, rfl⟩
abbrev main_call2_v45_1 : Ref sig .tc := ⟨.hbm, 1775, rfl⟩
abbrev main_call2_v46 : Ref sig .tc := ⟨.hbm, 1776, rfl⟩
abbrev main_call2_v47 : Ref sig .tc := ⟨.hbm, 1777, rfl⟩
abbrev main_call2_v48 : Ref sig .tc := ⟨.hbm, 1778, rfl⟩
abbrev main_call2_v49 : Ref sig .tc := ⟨.hbm, 1779, rfl⟩
abbrev main_call2_c_12 : Ref sig .tc := ⟨.hbm, 1780, rfl⟩
abbrev main_call2_v50 : Ref sig .tc := ⟨.hbm, 1781, rfl⟩
abbrev main_call2_v51 : Ref sig .tc := ⟨.hbm, 1782, rfl⟩
abbrev main_call2_v52 : Ref sig .tc := ⟨.hbm, 1783, rfl⟩
abbrev main_call2_v53 : Ref sig .tc := ⟨.hbm, 1784, rfl⟩
abbrev main_call2_v54 : Ref sig .tc := ⟨.hbm, 1785, rfl⟩
abbrev main_call2_c_13 : Ref sig .tc := ⟨.hbm, 1786, rfl⟩
abbrev main_call2_v55 : Ref sig .tc := ⟨.hbm, 1787, rfl⟩
abbrev main_call2_v56 : Ref sig .tc := ⟨.hbm, 1788, rfl⟩
abbrev main_call2_v57 : Ref sig .tc := ⟨.hbm, 1789, rfl⟩
abbrev main_call2_c_14 : Ref sig .tc := ⟨.hbm, 1790, rfl⟩
abbrev main_call2_v58 : Ref sig .tc := ⟨.hbm, 1791, rfl⟩
abbrev main_call2_v59 : Ref sig .tc := ⟨.hbm, 1792, rfl⟩
abbrev main_call2_v60 : Ref sig .tc := ⟨.hbm, 1793, rfl⟩
abbrev main_call2_v61 : Ref sig .tc := ⟨.hbm, 1794, rfl⟩
abbrev main_call2_v62 : Ref sig .tc := ⟨.hbm, 1795, rfl⟩
abbrev main_call2_v63 : Ref sig .tc := ⟨.hbm, 1796, rfl⟩
abbrev main_call2_v64 : Ref sig .tc := ⟨.hbm, 1797, rfl⟩
abbrev main_call2_v65 : Ref sig .tc := ⟨.hbm, 1798, rfl⟩
abbrev main_call2_v66 : Ref sig .tc := ⟨.hbm, 1799, rfl⟩
abbrev main_call2_v67 : Ref sig .tc := ⟨.hbm, 1800, rfl⟩
abbrev main_call2_v68 : Ref sig .tc := ⟨.hbm, 1801, rfl⟩
abbrev main_call2_v69 : Ref sig .tc := ⟨.hbm, 1802, rfl⟩
abbrev main_call2_v70 : Ref sig .tc := ⟨.hbm, 1803, rfl⟩
abbrev main_call2_v71 : Ref sig .tc := ⟨.hbm, 1804, rfl⟩
abbrev main_call2_v72 : Ref sig .tc := ⟨.hbm, 1805, rfl⟩
abbrev main_v13 : Ref sig .tc := ⟨.hbm, 1806, rfl⟩
abbrev main_v14 : Ref sig .tc := ⟨.hbm, 1807, rfl⟩
abbrev main_v15 : Ref sig .tc := ⟨.hbm, 1808, rfl⟩
abbrev main_v16 : Ref sig .tc := ⟨.hbm, 1809, rfl⟩
abbrev main_v17 : Ref sig .tc := ⟨.hbm, 1810, rfl⟩
abbrev main_v18 : Ref sig .tc := ⟨.hbm, 1811, rfl⟩
abbrev main_v19 : Ref sig .tc := ⟨.hbm, 1812, rfl⟩
abbrev main_v20 : Ref sig .tc := ⟨.hbm, 1813, rfl⟩
abbrev main_v21 : Ref sig .tc := ⟨.hbm, 1814, rfl⟩
abbrev main_v22 : Ref sig .tc := ⟨.hbm, 1815, rfl⟩
abbrev main_v23 : Ref sig .tc := ⟨.hbm, 1816, rfl⟩
abbrev main_v24 : Ref sig .tc := ⟨.hbm, 1817, rfl⟩
abbrev main_v25 : Ref sig .tc := ⟨.hbm, 1818, rfl⟩
abbrev main_v26 : Ref sig .tc := ⟨.hbm, 1819, rfl⟩
abbrev main_v27 : Ref sig .tc := ⟨.hbm, 1820, rfl⟩
abbrev main_call3_cst : Ref sig .tc := ⟨.hbm, 1821, rfl⟩
abbrev main_call3_v0 : Ref sig .tc := ⟨.hbm, 1822, rfl⟩
abbrev main_call3_v1 : Ref sig .tc := ⟨.hbm, 1823, rfl⟩
abbrev main_call3_cst_0 : Ref sig .tc := ⟨.hbm, 1824, rfl⟩
abbrev main_call3_v2 : Ref sig .tc := ⟨.hbm, 1825, rfl⟩
abbrev main_call3_v3 : Ref sig .tc := ⟨.hbm, 1826, rfl⟩
abbrev main_call3_cst_1 : Ref sig .tc := ⟨.hbm, 1827, rfl⟩
abbrev main_call3_call0_v0 : Ref sig .tc := ⟨.hbm, 1828, rfl⟩
abbrev main_call3_call0_v1 : Ref sig .tc := ⟨.hbm, 1829, rfl⟩
abbrev main_call3_v4 : Ref sig .tc := ⟨.hbm, 1830, rfl⟩
abbrev main_call3_v5 : Ref sig .tc := ⟨.hbm, 1831, rfl⟩
abbrev main_call3_cst_2 : Ref sig .tc := ⟨.hbm, 1832, rfl⟩
abbrev main_call3_v6 : Ref sig .tc := ⟨.hbm, 1833, rfl⟩
abbrev main_call3_v7 : Ref sig .tc := ⟨.hbm, 1834, rfl⟩
abbrev main_v28 : Ref sig .tc := ⟨.hbm, 1835, rfl⟩
abbrev main_v29 : Ref sig .tc := ⟨.hbm, 1836, rfl⟩
abbrev main_cst : Ref sig .tc := ⟨.hbm, 1837, rfl⟩
abbrev main_v30 : Ref sig .tc := ⟨.hbm, 1838, rfl⟩
abbrev main_v31 : Ref sig .tc := ⟨.hbm, 1839, rfl⟩
abbrev main_v32 : Ref sig .tc := ⟨.hbm, 1840, rfl⟩
abbrev main_cst_6 : Ref sig .tc := ⟨.hbm, 1841, rfl⟩
abbrev main_v33 : Ref sig .tc := ⟨.hbm, 1842, rfl⟩
abbrev main_v34 : Ref sig .tc := ⟨.hbm, 1843, rfl⟩
abbrev main_v35 : Ref sig .tc := ⟨.hbm, 1844, rfl⟩
abbrev main_v36 : Ref sig .tc := ⟨.hbm, 1845, rfl⟩
abbrev main_v37 : Ref sig .tc := ⟨.hbm, 1846, rfl⟩
abbrev main_cst_7 : Ref sig .tc := ⟨.hbm, 1847, rfl⟩
abbrev main_v38 : Ref sig .tc := ⟨.hbm, 1848, rfl⟩
abbrev main_cst_8 : Ref sig .tc := ⟨.hbm, 1849, rfl⟩
abbrev main_v39 : Ref sig .tc := ⟨.hbm, 1850, rfl⟩
abbrev main_v40 : Ref sig .tc := ⟨.hbm, 1851, rfl⟩
abbrev main_v41 : Ref sig .tc := ⟨.hbm, 1852, rfl⟩
abbrev main_v42 : Ref sig .tc := ⟨.hbm, 1853, rfl⟩
abbrev main_v43 : Ref sig .tc := ⟨.hbm, 1854, rfl⟩
abbrev main_v44 : Ref sig .tc := ⟨.hbm, 1855, rfl⟩
abbrev main_cst_9 : Ref sig .tc := ⟨.hbm, 1856, rfl⟩
abbrev main_v45 : Ref sig .tc := ⟨.hbm, 1857, rfl⟩
abbrev main_v46 : Ref sig .tc := ⟨.hbm, 1858, rfl⟩
abbrev main_v47 : Ref sig .tc := ⟨.hbm, 1859, rfl⟩
abbrev main_v48 : Ref sig .tc := ⟨.hbm, 1860, rfl⟩
abbrev main_cst_10 : Ref sig .tc := ⟨.hbm, 1861, rfl⟩
abbrev main_v49 : Ref sig .tc := ⟨.hbm, 1862, rfl⟩
abbrev main_cst_11 : Ref sig .tc := ⟨.hbm, 1863, rfl⟩
abbrev main_v50 : Ref sig .tc := ⟨.hbm, 1864, rfl⟩
abbrev main_v51 : Ref sig .tc := ⟨.hbm, 1865, rfl⟩
abbrev main_v52 : Ref sig .tc := ⟨.hbm, 1866, rfl⟩
abbrev main_v53 : Ref sig .tc := ⟨.hbm, 1867, rfl⟩
abbrev main_v54 : Ref sig .tc := ⟨.hbm, 1868, rfl⟩
abbrev main_v55 : Ref sig .tc := ⟨.hbm, 1869, rfl⟩
abbrev main_cst_12 : Ref sig .tc := ⟨.hbm, 1870, rfl⟩
abbrev main_v56 : Ref sig .tc := ⟨.hbm, 1871, rfl⟩
abbrev main_v57 : Ref sig .tc := ⟨.hbm, 1872, rfl⟩
abbrev main_v58 : Ref sig .tc := ⟨.hbm, 1873, rfl⟩
abbrev main_v59 : Ref sig .tc := ⟨.hbm, 1874, rfl⟩
abbrev main_v60 : Ref sig .tc := ⟨.hbm, 1875, rfl⟩
abbrev main_call4_c : Ref sig .tc := ⟨.hbm, 1876, rfl⟩
abbrev main_call4_v0 : Ref sig .tc := ⟨.hbm, 1877, rfl⟩
abbrev main_call4_v1 : Ref sig .tc := ⟨.hbm, 1878, rfl⟩
abbrev main_call4_c_0 : Ref sig .tc := ⟨.hbm, 1879, rfl⟩
abbrev main_call4_v2 : Ref sig .tc := ⟨.hbm, 1880, rfl⟩
abbrev main_call4_v3 : Ref sig .tc := ⟨.hbm, 1881, rfl⟩
abbrev main_call4_v4 : Ref sig .tc := ⟨.hbm, 1882, rfl⟩
abbrev main_call4_v5 : Ref sig .tc := ⟨.hbm, 1883, rfl⟩
abbrev main_call4_c_1 : Ref sig .tc := ⟨.hbm, 1884, rfl⟩
abbrev main_call4_c_2 : Ref sig .tc := ⟨.hbm, 1885, rfl⟩
abbrev main_call4_v6 : Ref sig .tc := ⟨.hbm, 1886, rfl⟩
abbrev main_call4_v7 : Ref sig .tc := ⟨.hbm, 1887, rfl⟩
abbrev main_call4_v8 : Ref sig .tc := ⟨.hbm, 1888, rfl⟩
abbrev main_call4_v9 : Ref sig .tc := ⟨.hbm, 1889, rfl⟩
abbrev main_call4_v10 : Ref sig .tc := ⟨.hbm, 1890, rfl⟩
abbrev main_call4_v11 : Ref sig .tc := ⟨.hbm, 1891, rfl⟩
abbrev main_call4_c_3 : Ref sig .tc := ⟨.hbm, 1892, rfl⟩
abbrev main_call4_v12 : Ref sig .tc := ⟨.hbm, 1893, rfl⟩
abbrev main_call4_v13 : Ref sig .tc := ⟨.hbm, 1894, rfl⟩
abbrev main_call4_cst : Ref sig .tc := ⟨.hbm, 1895, rfl⟩
abbrev main_call4_v14 : Ref sig .tc := ⟨.hbm, 1896, rfl⟩
abbrev main_v61 : Ref sig .tc := ⟨.hbm, 1897, rfl⟩
abbrev main_v62 : Ref sig .tc := ⟨.hbm, 1898, rfl⟩
abbrev main_v63 : Ref sig .tc := ⟨.hbm, 1899, rfl⟩
abbrev main_call5_c : Ref sig .tc := ⟨.hbm, 1900, rfl⟩
abbrev main_call5_v0 : Ref sig .tc := ⟨.hbm, 1901, rfl⟩
abbrev main_call5_v1 : Ref sig .tc := ⟨.hbm, 1902, rfl⟩
abbrev main_call5_c_0 : Ref sig .tc := ⟨.hbm, 1903, rfl⟩
abbrev main_call5_v2 : Ref sig .tc := ⟨.hbm, 1904, rfl⟩
abbrev main_call5_v3 : Ref sig .tc := ⟨.hbm, 1905, rfl⟩
abbrev main_call5_v4 : Ref sig .tc := ⟨.hbm, 1906, rfl⟩
abbrev main_call5_v5 : Ref sig .tc := ⟨.hbm, 1907, rfl⟩
abbrev main_call5_c_1 : Ref sig .tc := ⟨.hbm, 1908, rfl⟩
abbrev main_call5_c_2 : Ref sig .tc := ⟨.hbm, 1909, rfl⟩
abbrev main_call5_v6 : Ref sig .tc := ⟨.hbm, 1910, rfl⟩
abbrev main_call5_v7 : Ref sig .tc := ⟨.hbm, 1911, rfl⟩
abbrev main_call5_v8 : Ref sig .tc := ⟨.hbm, 1912, rfl⟩
abbrev main_call5_v9 : Ref sig .tc := ⟨.hbm, 1913, rfl⟩
abbrev main_call5_v10 : Ref sig .tc := ⟨.hbm, 1914, rfl⟩
abbrev main_call5_v11 : Ref sig .tc := ⟨.hbm, 1915, rfl⟩
abbrev main_call5_c_3 : Ref sig .tc := ⟨.hbm, 1916, rfl⟩
abbrev main_call5_v12 : Ref sig .tc := ⟨.hbm, 1917, rfl⟩
abbrev main_call5_v13 : Ref sig .tc := ⟨.hbm, 1918, rfl⟩
abbrev main_call5_cst : Ref sig .tc := ⟨.hbm, 1919, rfl⟩
abbrev main_call5_v14 : Ref sig .tc := ⟨.hbm, 1920, rfl⟩
abbrev main_v64 : Ref sig .tc := ⟨.hbm, 1921, rfl⟩
abbrev main_v65 : Ref sig .tc := ⟨.hbm, 1922, rfl⟩
abbrev main_v66 : Ref sig .tc := ⟨.hbm, 1923, rfl⟩
abbrev main_v67 : Ref sig .tc := ⟨.hbm, 1924, rfl⟩
abbrev main_v68 : Ref sig .tc := ⟨.hbm, 1925, rfl⟩
abbrev main_v69 : Ref sig .tc := ⟨.hbm, 1926, rfl⟩
abbrev main_v70 : Ref sig .tc := ⟨.hbm, 1927, rfl⟩
abbrev main_v71 : Ref sig .tc := ⟨.hbm, 1928, rfl⟩
abbrev main_v72 : Ref sig .tc := ⟨.hbm, 1929, rfl⟩
abbrev main_v73 : Ref sig .tc := ⟨.hbm, 1930, rfl⟩

abbrev nD : Nat := 1
abbrev τ : Topo := Topo.v7x

variable {F : FTy → Type} [FloatOps F]
-- ==== Proof.Sim.lean ====
module

public import Idealize.ShloMosaic.Lib.StableHlo.RunHlo
public import Idealize.ShloMosaic.PureOps.Ideal

/-! Two lines of host operations over two signatures that draw the same numbers: the operations agree one by
    one, operation `n` of either line writing the buffer of index `n`, so the buffers they have written hold
    the same values. -/

@[expose] public section

open Idealize.ShloMosaic Idealize.ShloMosaic.StableHlo Idealize.SL.Sem
open scoped Idealize.ShloMosaic.TcCoe

namespace Cert.Sim

variable {nD : Nat} {τ τ' : Topo} {sig sig' : RefSig} {Val : EltTy → Type} {Λ : Labels}

/-- The two states hold the same values in the HBM buffers of equal index below `n` and from `lo`. -/
def Agree (lo n : ℕ) (V : Valuation τ sig Val) (W : Valuation τ' sig' Val) : Prop :=
  ∀ (a : Ref sig .tc) (b : Ref sig' .tc), a.space = .hbm → b.space = .hbm → a.idx.val = b.idx.val →
    Nat.ble lo a.idx.val = true → Nat.blt a.idx.val n = true → HEq (V a) (W b)

/-- The first state's operation and the second's write the buffers of index `n` with the same value. -/
structure Step (lo n : ℕ) (op : HloOp τ sig Val) (op' : HloOp τ' sig' Val) (n' : ℕ) : Prop where
  /-- The indices go up. -/
  le : n ≤ n'
  /-- The new value agrees with the rest. -/
  agree : ∀ V W, Agree lo n V W → Agree lo n' (op.result V) (op'.result W)
  /-- The first line's earlier buffers stay. -/
  keep : ∀ (V : Valuation τ sig Val) (a : Ref sig .tc), a.space = .hbm → Nat.blt a.idx.val n = true → op.result V a = V a
  /-- The second line's earlier buffers stay. -/
  keep' : ∀ (W : Valuation τ' sig' Val) (a : Ref sig' .tc), a.space = .hbm → Nat.blt a.idx.val n = true → op'.result W a = W a
  /-- The second touches the TensorCore's buffers only. -/
  sub : op'.bufs ⊆ tcRefs τ' sig'
  /-- It determines its result. -/
  fresh : op'.fresh = ∅

/-- A line in two parts. -/
theorem after_app (l₁ l₂ : List (HloOp τ sig Val)) (V : Valuation τ sig Val) :
    after (l₁ ++ l₂) V = after l₂ (after l₁ V) := by
  induction l₁ generalizing V with
  | nil => rfl
  | cons op l₁ ih => exact ih _

/-- The program `p` starts with a line of operations that agree, from index `n` to `n'`, with those of `l` before
    `rest`, and goes on as `q`. -/
def Runs (lo n : ℕ) (l : List (HloOp τ sig Val)) (p : Prog (TpuEff nD τ' sig' Val Λ .tc) PUnit) (n' : ℕ)
    (rest : List (HloOp τ sig Val)) (q : Prog (TpuEff nD τ' sig' Val Λ .tc) PUnit) : Prop :=
  ∃ (l₁ : List (HloOp τ sig Val)) (l' : List (HloOp τ' sig' Val)),
    l = l₁ ++ rest ∧ p = (seq l' >>= fun _ => q) ∧ n ≤ n' ∧
    (∀ V W, Agree lo n V W → Agree lo n' (after l₁ V) (after l' W)) ∧
    (∀ (V : Valuation τ sig Val) (a : Ref sig .tc), a.space = .hbm → Nat.blt a.idx.val n = true → after l₁ V a = V a) ∧
    (∀ (W : Valuation τ' sig' Val) (a : Ref sig' .tc), a.space = .hbm → Nat.blt a.idx.val n = true → after l' W a = W a) ∧
    l'.Forall (fun op => op.bufs ⊆ tcRefs τ' sig') ∧ ∀ op ∈ l', op.fresh = ∅

/-- Nothing to run. -/
theorem Runs.stop {lo n : ℕ} {l : List (HloOp τ sig Val)} {p : Prog (TpuEff nD τ' sig' Val Λ .tc) PUnit} :
    Runs lo n l p n l p :=
  ⟨[], [], rfl, rfl, le_rfl, fun _ _ h => h, fun _ _ _ _ => rfl, fun _ _ _ _ => rfl, trivial, fun _ h => nomatch h⟩

/-- One operation and the rest. -/
theorem Runs.op {lo n n' N : ℕ} {op : HloOp τ sig Val} {op' : HloOp τ' sig' Val} {l rest : List (HloOp τ sig Val)}
    {k q : Prog (TpuEff nD τ' sig' Val Λ .tc) PUnit} (hs : Step lo n op op' n') (h : Runs lo n' l k N rest q) :
    Runs lo n (op :: l) ((hlo rfl op' fun _ => .ret (⟨⟩ : PUnit)) >>= fun _ => k) N rest q := by
  obtain ⟨l₁, l', rfl, rfl, hle, ha, hk, hk', hb, hf⟩ := h
  refine ⟨op :: l₁, op' :: l', rfl, ?_, hs.le.trans hle, fun V W h => ha _ _ (hs.agree V W h), fun V a h1 h2 => ?_,
    fun W a h1 h2 => ?_, (List.forall_cons ..).mpr ⟨hs.sub, hb⟩, ?_⟩
  · simp only [seq, bind_assoc]
  · have := hs.le
    rw [after_cons, hk _ a h1 (by simp only [Nat.blt_eq] at h2 ⊢; omega), hs.keep V a h1 h2]
  · have := hs.le
    rw [after_cons, hk' _ a h1 (by simp only [Nat.blt_eq] at h2 ⊢; omega), hs.keep' W a h1 h2]
  · intro o ho
    rcases List.mem_cons.mp ho with rfl | ho
    · exact hs.fresh
    · exact hf o ho

/-- One operation at the end of a part. -/
theorem Runs.last {lo n n' : ℕ} {op : HloOp τ sig Val} {op' : HloOp τ' sig' Val} {l : List (HloOp τ sig Val)}
    (hs : Step lo n op op' n') :
    Runs lo n (op :: l) (hlo rfl op' fun _ => .ret (⟨⟩ : PUnit) : Prog (TpuEff nD τ' sig' Val Λ .tc) PUnit) n' l (pure ⟨⟩) := by
  have h := Runs.op (nD := nD) (Λ := Λ) hs (Runs.stop (l := l) (p := pure ⟨⟩))
  exact h

/-- A part that is a line, and the rest. -/
theorem Runs.call {lo n n' N : ℕ} {l m rest : List (HloOp τ sig Val)}
    {p k q : Prog (TpuEff nD τ' sig' Val Λ .tc) PUnit} (h₁ : Runs lo n l p n' m (pure ⟨⟩)) (h₂ : Runs lo n' m k N rest q) :
    Runs lo n l (p >>= fun _ => k) N rest q := by
  obtain ⟨l₁, l', rfl, rfl, hle, ha, hk, hk', hb, hf⟩ := h₁
  obtain ⟨l₂, l'', rfl, rfl, hle2, ha2, hk2, hk2', hb2, hf2⟩ := h₂
  refine ⟨l₁ ++ l₂, l' ++ l'', (List.append_assoc ..).symm, ?_, hle.trans hle2, fun V W h => ?_, fun V a h1 h2 => ?_,
    fun W a h1 h2 => ?_, ?_, fun o ho => ?_⟩
  · rw [seq_append]; simp only [bind_assoc, pure_bind]
  · rw [after_app, after_app]; exact ha2 _ _ (ha V W h)
  · rw [after_app, hk2 _ a h1 (by simp only [Nat.blt_eq] at h2 ⊢; omega), hk V a h1 h2]
  · rw [after_app, hk2' _ a h1 (by simp only [Nat.blt_eq] at h2 ⊢; omega), hk' W a h1 h2]
  · exact List.forall_append.mpr ⟨hb, hb2⟩
  · rcases List.mem_append.mp ho with ho | ho
    · exact hf o ho
    · exact hf2 o ho

/-- Two lists, one after the other. -/
theorem Runs.trans {lo n n' N : ℕ} {l m rest : List (HloOp τ sig Val)}
    {p k q : Prog (TpuEff nD τ' sig' Val Λ .tc) PUnit} (h₁ : Runs lo n l p n' [] k) (h₂ : Runs lo n' m k N rest q) :
    Runs lo n (l ++ m) p N rest q := by
  obtain ⟨l₁, l', hl, rfl, hle, ha, hk, hk', hb, hf⟩ := h₁
  obtain ⟨l₂, l'', rfl, rfl, hle2, ha2, hk2, hk2', hb2, hf2⟩ := h₂
  rw [List.append_nil] at hl
  subst hl
  refine ⟨l ++ l₂, l' ++ l'', (List.append_assoc ..).symm, ?_, hle.trans hle2, fun V W h => ?_, fun V a h1 h2 => ?_,
    fun W a h1 h2 => ?_, ?_, fun o ho => ?_⟩
  · rw [seq_append]; simp only [bind_assoc]
  · rw [after_app, after_app]; exact ha2 _ _ (ha V W h)
  · rw [after_app, hk2 _ a h1 (by simp only [Nat.blt_eq] at h2 ⊢; omega), hk V a h1 h2]
  · rw [after_app, hk2' _ a h1 (by simp only [Nat.blt_eq] at h2 ⊢; omega), hk' W a h1 h2]
  · exact List.forall_append.mpr ⟨hb, hb2⟩
  · rcases List.mem_append.mp ho with ho | ho
    · exact hf o ho
    · exact hf2 o ho

/-- A part that is a whole line, then whatever follows. -/
theorem Runs.whole {lo n n' : ℕ} {l : List (HloOp τ sig Val)}
    {p k : Prog (TpuEff nD τ' sig' Val Λ .tc) PUnit} (h₁ : Runs lo n l p n' [] (pure ⟨⟩)) :
    Runs lo n l (p >>= fun _ => k) n' [] k :=
  Runs.call h₁ Runs.stop

/-- More program at the end. -/
theorem Runs.andThen {lo n N : ℕ} {l rest : List (HloOp τ sig Val)}
    {p q : Prog (TpuEff nD τ' sig' Val Λ .tc) PUnit} (h : Runs lo n l p N rest q) (k : Prog (TpuEff nD τ' sig' Val Λ .tc) PUnit) :
    Runs lo n l (p >>= fun _ => k) N rest (q >>= fun _ => k) := by
  obtain ⟨l₁, l', hl, rfl, h⟩ := h
  exact ⟨l₁, l', hl, by simp only [bind_assoc], h⟩

/-- The rest of the program written in another way. -/
theorem Runs.congr {lo n N : ℕ} {l rest : List (HloOp τ sig Val)}
    {p q q' : Prog (TpuEff nD τ' sig' Val Λ .tc) PUnit} (h : Runs lo n l p N rest q) (e : q = q') : Runs lo n l p N rest q' :=
  e ▸ h

/-- A list read after another. -/
theorem Runs.more {lo n N : ℕ} {l rest : List (HloOp τ sig Val)} (m : List (HloOp τ sig Val))
    {p q : Prog (TpuEff nD τ' sig' Val Λ .tc) PUnit} (h : Runs lo n l p N rest q) :
    Runs lo n (l ++ m) p N (rest ++ m) q := by
  obtain ⟨l₁, l', rfl, h⟩ := h
  exact ⟨l₁, l', List.append_assoc .., h⟩

/-- Two references to buffers of one space and index are one reference. -/
theorem ref_eq {a y : Ref sig .tc} (ha : a.space = .hbm) (hy : y.space = .hbm) (h : a.idx.val = y.idx.val) : a = y := by
  obtain ⟨s, i, _⟩ := a
  obtain ⟨s', i', _⟩ := y
  cases ha; cases hy
  cases Fin.ext h
  rfl

/-- Two operations writing the buffers of index `n` with the same value. -/
theorem Step.mk' {lo n : ℕ} {op : HloOp τ sig Val} {op' : HloOp τ' sig' Val} {y : Ref sig .tc} {y' : Ref sig' .tc}
    (hw : op.writes = {(y : DevRef τ sig)}) (hw' : op'.writes = {(y' : DevRef τ' sig')})
    (hy : y.space = .hbm) (hy' : y'.space = .hbm) (hn : y.idx.val = n) (hn' : y'.idx.val = n)
    (hv : ∀ V W, Agree lo n V W → HEq (op.result V y) (op'.result W y'))
    (hb : op'.bufs ⊆ tcRefs τ' sig') (hf : op'.fresh = ∅) : Step lo n op op' (y.idx.val + 1) := by
  subst hn
  have hk : ∀ (V : Valuation τ sig Val) (a : Ref sig .tc), a.space = .hbm → a.idx.val ≠ y.idx.val →
      op.result V a = V a := fun V a _ hi => op.result_of_not_mem V (by
    rw [hw, Finset.mem_singleton]
    intro h; exact hi (by rw [Proc.devRef_injective _ h]))
  have hk' : ∀ (V : Valuation τ' sig' Val) (a : Ref sig' .tc), a.space = .hbm → a.idx.val ≠ y'.idx.val →
      op'.result V a = V a := fun V a _ hi => op'.result_of_not_mem V (by
    rw [hw', Finset.mem_singleton]
    intro h; exact hi (by rw [Proc.devRef_injective _ h]))
  refine ⟨Nat.le_succ _, fun V W h a b ha hb hab hlo hi => ?_, fun V a ha hi => hk V a ha ?_,
    fun V a ha hi => hk' V a ha ?_, hb, hf⟩
  · by_cases e : a.idx.val = y.idx.val
    · obtain rfl := ref_eq ha hy e
      obtain rfl := ref_eq hb hy' (by omega)
      exact hv V W h
    · rw [hk V a ha e, hk' W b hb (by omega)]
      refine h a b ha hb hab hlo ?_
      simp only [Nat.blt_eq] at hi ⊢; omega
  · simp only [Nat.blt_eq] at hi; omega
  · simp only [Nat.blt_eq] at hi; omega

/-- Contents moved along an equality of buffer types. -/
abbrev mv {T U : BufTy} (h : T = U) (v : T.Contents Val) : U.Contents Val :=
  cast (congrArg (fun X : BufTy => X.Contents Val) h) v

theorem mv_eq {T U : BufTy} (h : T = U) (v : T.Contents Val) (w : U.Contents Val) (e : HEq v w) : mv h v = w := by
  subst h; exact eq_of_heq e

theorem heq_of_mv {T U : BufTy} (h : T = U) (v : T.Contents Val) (w : U.Contents Val) (e : mv h v = w) : HEq v w := by
  subst h; exact heq_of_eq e

/-- Two constants. -/
theorem Step.nullary {lo n : ℕ} {y : Ref sig .tc} {y' : Ref sig' .tc} {v v' p p'}
    (hy : y.space = .hbm) (hy' : y'.space = .hbm) (hn : y.idx.val = n) (hn' : y'.idx.val = n)
    (ty : y.ty = y'.ty)
    (hv : mv ty v = v') :
    Step lo n (StableHlo.nullary y v p : HloOp τ sig Val) (StableHlo.nullary y' v' p' : HloOp τ' sig' Val) (y.idx.val + 1) :=
  Step.mk' rfl rfl hy hy' hn hn' (fun V W _ => by
    rw [nullary_result, nullary_result]; exact heq_of_mv ty _ _ hv) (nullary_bufs_sub ..) rfl

/-- Two operations of one operand. -/
theorem Step.unary {lo n : ℕ} {x y : Ref sig .tc} {x' y' : Ref sig' .tc} {f f' p₀ p₁ q₀ q₁}
    (hx : x.space = .hbm) (hx' : x'.space = .hbm) (ex : x.idx.val = x'.idx.val)
    (lx : Nat.ble lo x.idx.val = true) (ux : Nat.blt x.idx.val n = true)
    (hy : y.space = .hbm) (hy' : y'.space = .hbm) (hn : y.idx.val = n) (hn' : y'.idx.val = n)
    (tx : x.ty = x'.ty) (ty : y.ty = y'.ty)
    (hv : ∀ u, mv ty (f u) = f' (mv tx u)) :
    Step lo n (StableHlo.unary x y f p₀ p₁ : HloOp τ sig Val) (StableHlo.unary x' y' f' q₀ q₁ : HloOp τ' sig' Val) (y.idx.val + 1) :=
  Step.mk' rfl rfl hy hy' hn hn' (fun V W h => by
    rw [unary_result, unary_result]
    refine heq_of_mv ty _ _ ((hv _).trans ?_)
    rw [mv_eq tx _ _ (h x x' hx hx' ex lx ux)]) (unary_bufs_sub ..) rfl

/-- Two reshapes. -/
theorem Step.reshape {lo n : ℕ} {x y : Ref sig .tc} {x' y' : Ref sig' .tc} {s : x.ty.elt = y.ty.elt} {s' : x'.ty.elt = y'.ty.elt} {p p' p₀ p₁ q₀ q₁}
    (hx : x.space = .hbm) (hx' : x'.space = .hbm) (ex : x.idx.val = x'.idx.val)
    (lx : Nat.ble lo x.idx.val = true) (ux : Nat.blt x.idx.val n = true)
    (hy : y.space = .hbm) (hy' : y'.space = .hbm) (hn : y.idx.val = n) (hn' : y'.idx.val = n)
    (tx : x.ty = x'.ty) (ty : y.ty = y'.ty)
    (hv : ∀ u : x.ty.Contents Val, mv ty (fun i => s ▸ shapeCast y.ty.shape u p i : y.ty.Contents Val) = fun i => s' ▸ shapeCast y'.ty.shape (mv tx u) p' i) :
    Step lo n (StableHlo.reshape x y s p p₀ p₁ : HloOp τ sig Val) (StableHlo.reshape x' y' s' p' q₀ q₁ : HloOp τ' sig' Val) (y.idx.val + 1) :=
  Step.mk' rfl rfl hy hy' hn hn' (fun V W h => by
    rw [reshape_result, reshape_result]
    refine heq_of_mv ty _ _ ((hv _).trans ?_)
    rw [mv_eq tx _ _ (h x x' hx hx' ex lx ux)]) (reshape_bufs_sub ..) rfl

/-- Two operations of two operands. -/
theorem Step.binary {lo n : ℕ} {a b y : Ref sig .tc} {a' b' y' : Ref sig' .tc} {f f' p₀ p₁ p₂ q₀ q₁ q₂}
    (ha : a.space = .hbm) (ha' : a'.space = .hbm) (ea : a.idx.val = a'.idx.val)
    (la : Nat.ble lo a.idx.val = true) (ua : Nat.blt a.idx.val n = true)
    (hb : b.space = .hbm) (hb' : b'.space = .hbm) (eb : b.idx.val = b'.idx.val)
    (lb : Nat.ble lo b.idx.val = true) (ub : Nat.blt b.idx.val n = true)
    (hy : y.space = .hbm) (hy' : y'.space = .hbm) (hn : y.idx.val = n) (hn' : y'.idx.val = n)
    (ta : a.ty = a'.ty) (tb : b.ty = b'.ty) (ty : y.ty = y'.ty)
    (hv : ∀ u v, mv ty (f u v) = f' (mv ta u) (mv tb v)) :
    Step lo n (StableHlo.binary a b y f p₀ p₁ p₂ : HloOp τ sig Val) (StableHlo.binary a' b' y' f' q₀ q₁ q₂ : HloOp τ' sig' Val) (y.idx.val + 1) :=
  Step.mk' rfl rfl hy hy' hn hn' (fun V W h => by
    rw [binary_result, binary_result]
    refine heq_of_mv ty _ _ ((hv _ _).trans ?_)
    rw [mv_eq ta _ _ (h a a' ha ha' ea la ua), mv_eq tb _ _ (h b b' hb hb' eb lb ub)]) (binary_bufs_sub ..) rfl

/-- Two operations of three operands. -/
theorem Step.ternary {lo n : ℕ} {c a b y : Ref sig .tc} {c' a' b' y' : Ref sig' .tc} {f f' p₀ p₁ p₂ p₃ q₀ q₁ q₂ q₃}
    (hc : c.space = .hbm) (hc' : c'.space = .hbm) (ec : c.idx.val = c'.idx.val)
    (lc : Nat.ble lo c.idx.val = true) (uc : Nat.blt c.idx.val n = true)
    (ha : a.space = .hbm) (ha' : a'.space = .hbm) (ea : a.idx.val = a'.idx.val)
    (la : Nat.ble lo a.idx.val = true) (ua : Nat.blt a.idx.val n = true)
    (hb : b.space = .hbm) (hb' : b'.space = .hbm) (eb : b.idx.val = b'.idx.val)
    (lb : Nat.ble lo b.idx.val = true) (ub : Nat.blt b.idx.val n = true)
    (hy : y.space = .hbm) (hy' : y'.space = .hbm) (hn : y.idx.val = n) (hn' : y'.idx.val = n)
    (tc : c.ty = c'.ty) (ta : a.ty = a'.ty) (tb : b.ty = b'.ty) (ty : y.ty = y'.ty)
    (hv : ∀ w u v, mv ty (f w u v) = f' (mv tc w) (mv ta u) (mv tb v)) :
    Step lo n (StableHlo.ternary c a b y f p₀ p₁ p₂ p₃ : HloOp τ sig Val) (StableHlo.ternary c' a' b' y' f' q₀ q₁ q₂ q₃ : HloOp τ' sig' Val) (y.idx.val + 1) :=
  Step.mk' rfl rfl hy hy' hn hn' (fun V W h => by
    rw [ternary_result, ternary_result]
    refine heq_of_mv ty _ _ ((hv _ _ _).trans ?_)
    rw [mv_eq tc _ _ (h c c' hc hc' ec lc uc), mv_eq ta _ _ (h a a' ha ha' ea la ua), mv_eq tb _ _ (h b b' hb hb' eb lb ub)]) (ternary_bufs_sub ..) rfl

/-- Two constants of a function's body. -/
theorem Step.tnullary {lo n : ℕ} {T : BufTy} {y : TRef sig T} {y' : TRef sig' T} {v v' : T.Contents Val}
    (hy : y.ref.space = .hbm) (hy' : y'.ref.space = .hbm) (hn : y.ref.idx.val = n) (hn' : y'.ref.idx.val = n)
    (hv : v = v') :
    Step lo n (TRef.nullary y v : HloOp τ sig Val) (TRef.nullary y' v' : HloOp τ' sig' Val) (y.ref.idx.val + 1) :=
  Step.nullary hy hy' hn hn' (y.ty_eq.trans y'.ty_eq.symm) (by subst hv; simp only [cast_cast])

/-- Two operations of one operand of a function's body. -/
theorem Step.tunary {lo n : ℕ} {T U : BufTy} {x : TRef sig T} {y : TRef sig U} {x' : TRef sig' T} {y' : TRef sig' U}
    {f f' : T.Contents Val → U.Contents Val}
    (hx : x.ref.space = .hbm) (hx' : x'.ref.space = .hbm) (ex : x.ref.idx.val = x'.ref.idx.val)
    (lx : Nat.ble lo x.ref.idx.val = true) (ux : Nat.blt x.ref.idx.val n = true)
    (hy : y.ref.space = .hbm) (hy' : y'.ref.space = .hbm) (hn : y.ref.idx.val = n) (hn' : y'.ref.idx.val = n)
    (hv : f = f') :
    Step lo n (TRef.unary x y f : HloOp τ sig Val) (TRef.unary x' y' f' : HloOp τ' sig' Val) (y.ref.idx.val + 1) :=
  Step.unary hx hx' ex lx ux hy hy' hn hn' (x.ty_eq.trans x'.ty_eq.symm) (y.ty_eq.trans y'.ty_eq.symm)
    (by subst hv; intro u; simp only [cast_cast])

/-- Two operations of two operands of a function's body. -/
theorem Step.tbinary {lo n : ℕ} {T S U : BufTy} {a : TRef sig T} {b : TRef sig S} {y : TRef sig U}
    {a' : TRef sig' T} {b' : TRef sig' S} {y' : TRef sig' U}
    {f f' : T.Contents Val → S.Contents Val → U.Contents Val}
    (ha : a.ref.space = .hbm) (ha' : a'.ref.space = .hbm) (ea : a.ref.idx.val = a'.ref.idx.val)
    (la : Nat.ble lo a.ref.idx.val = true) (ua : Nat.blt a.ref.idx.val n = true)
    (hb : b.ref.space = .hbm) (hb' : b'.ref.space = .hbm) (eb : b.ref.idx.val = b'.ref.idx.val)
    (lb : Nat.ble lo b.ref.idx.val = true) (ub : Nat.blt b.ref.idx.val n = true)
    (hy : y.ref.space = .hbm) (hy' : y'.ref.space = .hbm) (hn : y.ref.idx.val = n) (hn' : y'.ref.idx.val = n)
    (hv : f = f') :
    Step lo n (TRef.binary a b y f : HloOp τ sig Val) (TRef.binary a' b' y' f' : HloOp τ' sig' Val) (y.ref.idx.val + 1) :=
  Step.binary ha ha' ea la ua hb hb' eb lb ub hy hy' hn hn' (a.ty_eq.trans a'.ty_eq.symm) (b.ty_eq.trans b'.ty_eq.symm)
    (y.ty_eq.trans y'.ty_eq.symm) (by subst hv; intro u v; simp only [cast_cast])

/-- Two operations of three operands of a function's body. -/
theorem Step.tternary {lo n : ℕ} {R T S U : BufTy} {c : TRef sig R} {a : TRef sig T} {b : TRef sig S} {y : TRef sig U}
    {c' : TRef sig' R} {a' : TRef sig' T} {b' : TRef sig' S} {y' : TRef sig' U}
    {f f' : R.Contents Val → T.Contents Val → S.Contents Val → U.Contents Val}
    (hc : c.ref.space = .hbm) (hc' : c'.ref.space = .hbm) (ec : c.ref.idx.val = c'.ref.idx.val)
    (lc : Nat.ble lo c.ref.idx.val = true) (uc : Nat.blt c.ref.idx.val n = true)
    (ha : a.ref.space = .hbm) (ha' : a'.ref.space = .hbm) (ea : a.ref.idx.val = a'.ref.idx.val)
    (la : Nat.ble lo a.ref.idx.val = true) (ua : Nat.blt a.ref.idx.val n = true)
    (hb : b.ref.space = .hbm) (hb' : b'.ref.space = .hbm) (eb : b.ref.idx.val = b'.ref.idx.val)
    (lb : Nat.ble lo b.ref.idx.val = true) (ub : Nat.blt b.ref.idx.val n = true)
    (hy : y.ref.space = .hbm) (hy' : y'.ref.space = .hbm) (hn : y.ref.idx.val = n) (hn' : y'.ref.idx.val = n)
    (hv : f = f') :
    Step lo n (TRef.ternary c a b y f : HloOp τ sig Val) (TRef.ternary c' a' b' y' f' : HloOp τ' sig' Val) (y.ref.idx.val + 1) :=
  Step.ternary hc hc' ec lc uc ha ha' ea la ua hb hb' eb lb ub hy hy' hn hn' (c.ty_eq.trans c'.ty_eq.symm)
    (a.ty_eq.trans a'.ty_eq.symm) (b.ty_eq.trans b'.ty_eq.symm)
    (y.ty_eq.trans y'.ty_eq.symm) (by subst hv; intro w u v; simp only [cast_cast])

end Cert.Sim
-- ==== Proof.Draw.lean ====
module

public import proofs.«01_k».proof.Proof.Sim
public import proofs.«01_k».proof.Proof.Gen.KernelIdeal.Launch
public import proofs.«01_k».proof.Proof.Gen.ReferenceIdeal

/-! The random actions: the reference's line of operations that draws them is the kernel's, operation by
    operation. -/

@[expose] public section

open Idealize.ShloMosaic Idealize.ShloMosaic.StableHlo Idealize.SL.Sem
open scoped Idealize.ShloMosaic.TcCoe

set_option maxRecDepth 20000

namespace Cert.Draw

open Cert.Sim
open Cert.KernelIdeal.Gen Cert.ReferenceIdeal

set_option maxHeartbeats 0 in
/-- The first split. -/
theorem split : Runs 7 (Cert.KernelIdeal.main_v6.idx.val + 1) (hostOps0_1 (F := Ideal))
    (fn_threefry_split.body (F := Ideal) (.of main_v6) main_call0) (Cert.KernelIdeal.main_v7.idx.val + 1) [] (pure ⟨⟩) := by
  unfold fn_threefry_split.body
  repeat (first
    | (first | with_reducible apply Runs.op | with_reducible apply Runs.last
       · first
         | (with_reducible apply Step.tbinary) <;> exact rfl
         | (with_reducible apply Step.tunary) <;> exact rfl
         | (with_reducible apply Step.tnullary) <;> exact rfl
         | (with_reducible apply Step.tternary) <;> exact rfl
         | (with_reducible apply Step.reshape) <;> first | exact rfl | exact fun _ => rfl
         | (with_reducible apply Step.binary) <;> first | exact rfl | exact fun _ _ => rfl
         | (with_reducible apply Step.unary) <;> first | exact rfl | exact fun _ => rfl
         | (with_reducible apply Step.nullary) <;> exact rfl)
    | (with_reducible apply Runs.call
       first
       | unfold fn_threefry2x32.body
       | unfold fn_threefry2x32.body_part0
       | unfold fn_threefry2x32.body_part1
       | unfold fn_threefry2x32.body_part2)
    | unfold fn_threefry2x32.body_part3
    | exact Runs.stop)

set_option maxHeartbeats 0 in
/-- The draw of the unary actions. -/
theorem unary : Runs 7 (Cert.KernelIdeal.main_c_3.idx.val + 1) (hostOps0_3 (F := Ideal))
    (fn_randint.body (F := Ideal) (.of main_v9) (.of main_c_2) (.of main_c_3) main_call1) (Cert.KernelIdeal.main_v12.idx.val + 1) [] (pure ⟨⟩) := by
  unfold fn_randint.body
  repeat (first
    | (first | with_reducible apply Runs.op | with_reducible apply Runs.last
       · first
         | (with_reducible apply Step.tbinary) <;> exact rfl
         | (with_reducible apply Step.tunary) <;> exact rfl
         | (with_reducible apply Step.tnullary) <;> exact rfl
         | (with_reducible apply Step.tternary) <;> exact rfl
         | (with_reducible apply Step.reshape) <;> first | exact rfl | exact fun _ => rfl
         | (with_reducible apply Step.binary) <;> first | exact rfl | exact fun _ _ => rfl
         | (with_reducible apply Step.unary) <;> first | exact rfl | exact fun _ => rfl
         | (with_reducible apply Step.nullary) <;> exact rfl)
    | (with_reducible apply Runs.call
       first
       | unfold fn_randint.body_part0
       | unfold fn_clip.body
       | unfold fn_clip_0.body
       | unfold fn_threefry_split_1.body
       | unfold fn_threefry2x32.body
       | unfold fn_threefry2x32.body_part0
       | unfold fn_threefry2x32.body_part1
       | unfold fn_threefry2x32.body_part2
       | unfold fn_threefry2x32_2.body
       | unfold fn_threefry2x32_2.body_part0
       | unfold fn_threefry2x32_2.body_part1
       | unfold fn_threefry2x32_2.body_part2)
    | unfold fn_randint.body_part1
    | unfold fn_threefry2x32.body_part3
    | unfold fn_threefry2x32_2.body_part3
    | exact Runs.stop)

set_option maxHeartbeats 0 in
/-- The draw of the binary actions. -/
theorem binary : Runs 7 (Cert.KernelIdeal.main_c_5.idx.val + 1) (hostOps0_5 (F := Ideal))
    (fn_randint.body (F := Ideal) (.of main_v11) (.of main_c_4) (.of main_c_5) main_call2) (Cert.KernelIdeal.main_v13.idx.val + 1) [] (pure ⟨⟩) := by
  unfold fn_randint.body
  repeat (first
    | (first | with_reducible apply Runs.op | with_reducible apply Runs.last
       · first
         | (with_reducible apply Step.tbinary) <;> exact rfl
         | (with_reducible apply Step.tunary) <;> exact rfl
         | (with_reducible apply Step.tnullary) <;> exact rfl
         | (with_reducible apply Step.tternary) <;> exact rfl
         | (with_reducible apply Step.reshape) <;> first | exact rfl | exact fun _ => rfl
         | (with_reducible apply Step.binary) <;> first | exact rfl | exact fun _ _ => rfl
         | (with_reducible apply Step.unary) <;> first | exact rfl | exact fun _ => rfl
         | (with_reducible apply Step.nullary) <;> exact rfl)
    | (with_reducible apply Runs.call
       first
       | unfold fn_randint.body_part0
       | unfold fn_clip.body
       | unfold fn_clip_0.body
       | unfold fn_threefry_split_1.body
       | unfold fn_threefry2x32.body
       | unfold fn_threefry2x32.body_part0
       | unfold fn_threefry2x32.body_part1
       | unfold fn_threefry2x32.body_part2
       | unfold fn_threefry2x32_2.body
       | unfold fn_threefry2x32_2.body_part0
       | unfold fn_threefry2x32_2.body_part1
       | unfold fn_threefry2x32_2.body_part2)
    | unfold fn_randint.body_part1
    | unfold fn_threefry2x32.body_part3
    | unfold fn_threefry2x32_2.body_part3
    | exact Runs.stop)

end Cert.Draw
-- ==== Proof.Ref.lean ====
module

public import proofs.«01_k».proof.Proof.Draw
public import proofs.«01_k».proof.Defs
public import Idealize.ShloMosaic.Lib.StableHlo.RunRead

/-! The reference as one line of operations: the draws of the random actions, then the network, the two softmaxes
    and the choice of the drawn actions' probabilities. -/

@[expose] public section

open Idealize.ShloMosaic Idealize.ShloMosaic.StableHlo Idealize.SL.Sem
open scoped Idealize.ShloMosaic.TcCoe

set_option maxRecDepth 20000

noncomputable section

namespace Cert.Ref

open Cert.Sim Cert.ReferenceIdeal Cert.ReferenceIdeal.Facts₀

variable {F : FTy → Type} [FloatOps F]

/-- The reference's operations of the two hidden layers. -/
abbrev hidOps : List (HloOp τ sig (Elt F)) :=
  [ StableHlo.unary main_arg1 main_v14 ((transpose S20x60 [1, 0] · transposes_S60x20_S20x60_1_0) : (⟨S60x20, .f32⟩ : BufTy).Contents (Elt F) → (⟨S20x60, .f32⟩ : BufTy).Contents (Elt F)),
    StableHlo.binary main_arg0 main_v14 main_v15 ((fun l r => Host.dotGeneral dot_S1x20_S20x60_S1x60_1_0_0_1_n_n none l r) : (⟨S1x20, .f32⟩ : BufTy).Contents (Elt F) → (⟨S20x60, .f32⟩ : BufTy).Contents (Elt F) → (⟨S1x60, .f32⟩ : BufTy).Contents (Elt F)),
    StableHlo.unary main_arg2 main_v16 (broadcastInDim S1x60 ![1] bcast_S60_S1x60_1 : (⟨S60, .f32⟩ : BufTy).Contents (Elt F) → (⟨S1x60, .f32⟩ : BufTy).Contents (Elt F)),
    StableHlo.binary main_v15 main_v16 main_v17 (addf : (⟨S1x60, .f32⟩ : BufTy).Contents (Elt F) → (⟨S1x60, .f32⟩ : BufTy).Contents (Elt F) → (⟨S1x60, .f32⟩ : BufTy).Contents (Elt F)),
    StableHlo.unary main_v17 main_v18 (Host.tanh : (⟨S1x60, .f32⟩ : BufTy).Contents (Elt F) → (⟨S1x60, .f32⟩ : BufTy).Contents (Elt F)),
    StableHlo.unary main_arg3 main_v19 ((transpose S60x60 [1, 0] · transposes_S60x60_S60x60_1_0) : (⟨S60x60, .f32⟩ : BufTy).Contents (Elt F) → (⟨S60x60, .f32⟩ : BufTy).Contents (Elt F)),
    StableHlo.binary main_v18 main_v19 main_v20 ((fun l r => Host.dotGeneral dot_S1x60_S60x60_S1x60_1_0_0_1_n_n none l r) : (⟨S1x60, .f32⟩ : BufTy).Contents (Elt F) → (⟨S60x60, .f32⟩ : BufTy).Contents (Elt F) → (⟨S1x60, .f32⟩ : BufTy).Contents (Elt F)),
    StableHlo.unary main_arg4 main_v21 (broadcastInDim S1x60 ![1] bcast_S60_S1x60_1 : (⟨S60, .f32⟩ : BufTy).Contents (Elt F) → (⟨S1x60, .f32⟩ : BufTy).Contents (Elt F)),
    StableHlo.binary main_v20 main_v21 main_v22 (addf : (⟨S1x60, .f32⟩ : BufTy).Contents (Elt F) → (⟨S1x60, .f32⟩ : BufTy).Contents (Elt F) → (⟨S1x60, .f32⟩ : BufTy).Contents (Elt F)),
    StableHlo.unary main_v22 main_v23 (Host.tanh : (⟨S1x60, .f32⟩ : BufTy).Contents (Elt F) → (⟨S1x60, .f32⟩ : BufTy).Contents (Elt F)) ]

/-- The reference's operations of the last layer and its ELU. -/
abbrev eluOps : List (HloOp τ sig (Elt F)) :=
  [ StableHlo.unary main_arg5 main_v24 ((transpose S60x393216 [1, 0] · transposes_S393216x60_S60x393216_1_0) : (⟨S393216x60, .f32⟩ : BufTy).Contents (Elt F) → (⟨S60x393216, .f32⟩ : BufTy).Contents (Elt F)),
    StableHlo.binary main_v23 main_v24 main_v25 ((fun l r => Host.dotGeneral dot_S1x60_S60x393216_S1x393216_1_0_0_1_n_n none l r) : (⟨S1x60, .f32⟩ : BufTy).Contents (Elt F) → (⟨S60x393216, .f32⟩ : BufTy).Contents (Elt F) → (⟨S1x393216, .f32⟩ : BufTy).Contents (Elt F)),
    StableHlo.unary main_arg6 main_v26 (broadcastInDim S1x393216 ![1] bcast_S393216_S1x393216_1 : (⟨S393216, .f32⟩ : BufTy).Contents (Elt F) → (⟨S1x393216, .f32⟩ : BufTy).Contents (Elt F)),
    StableHlo.binary main_v25 main_v26 main_v27 (addf : (⟨S1x393216, .f32⟩ : BufTy).Contents (Elt F) → (⟨S1x393216, .f32⟩ : BufTy).Contents (Elt F) → (⟨S1x393216, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S1x393216, .f32⟩) (broadcastInDim S1x393216 ![] bcast_S_S1x393216),
    StableHlo.TRef.binary (.of main_v27 : StableHlo.TRef sig ⟨S1x393216, .f32⟩) (.of main_call3_v0 : StableHlo.TRef sig ⟨S1x393216, .f32⟩) (.of main_call3_v1 : StableHlo.TRef sig ⟨S1x393216, .i1⟩) (cmpf .ogt),
    StableHlo.TRef.nullary (.of main_call3_cst_0 : StableHlo.TRef sig ⟨S_, .f32⟩) (constant S_ .f32 0x00000000#32),
    StableHlo.TRef.unary (.of main_call3_cst_0 : StableHlo.TRef sig ⟨S_, .f32⟩) (.of main_call3_v2 : StableHlo.TRef sig ⟨S1x393216, .f32⟩) (broadcastInDim S1x393216 ![] bcast_S_S1x393216),
    StableHlo.TRef.binary (.of main_v27 : StableHlo.TRef sig ⟨S1x393216, .f32⟩) (.of main_call3_v2 : StableHlo.TRef sig ⟨S1x393216, .f32⟩) (.of main_call3_v3 : StableHlo.TRef sig ⟨S1x393216, .i1⟩) (cmpf .ogt),
    StableHlo.TRef.nullary (.of main_call3_cst_1 : StableHlo.TRef sig ⟨S_, .f32⟩) (constant S_ .f32 0x00000000#32),
    StableHlo.TRef.unary (.of main_call3_cst_1 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S1x393216, .f32⟩) (broadcastInDim S1x393216 ![] bcast_S_S1x393216),
    StableHlo.TRef.ternary (.of main_call3_v3 : StableHlo.TRef sig ⟨S1x393216, .i1⟩) (.of main_call3_call0_v1 : StableHlo.TRef sig ⟨S1x393216, .f32⟩) (.of main_v27 : StableHlo.TRef sig ⟨S1x393216, .f32⟩) (.of main_call3_v4 : StableHlo.TRef sig ⟨S1x393216, .f32⟩) select,
    StableHlo.TRef.unary (.of main_call3_v4 : StableHlo.TRef sig ⟨S1x393216, .f32⟩) (.of main_call3_v5 : StableHlo.TRef sig ⟨S1x393216, .f32⟩) Host.expm1,
    StableHlo.TRef.nullary (.of main_call3_cst_2 : StableHlo.TRef sig ⟨S_, .f32⟩) (constant S_ .f32 0x3F800000#32),
    StableHlo.TRef.unary (.of main_call3_cst_2 : StableHlo.TRef sig ⟨S_, .f32⟩) (.of main_call3_v6 : StableHlo.TRef sig ⟨S1x393216, .f32⟩) (broadcastInDim S1x393216 ![] bcast_S_S1x393216),
    StableHlo.TRef.binary (.of main_call3_v6 : StableHlo.TRef sig ⟨S1x393216, .f32⟩) (.of main_call3_v5 : StableHlo.TRef sig ⟨S1x393216, .f32⟩) (.of main_call3_v7 : StableHlo.TRef sig ⟨S1x393216, .f32⟩) mulf,
    StableHlo.TRef.ternary (.of main_call3_v1 : StableHlo.TRef sig ⟨S1x393216, .i1⟩) (.of main_v27 : StableHlo.TRef sig ⟨S1x393216, .f32⟩) (.of main_call3_v7 : StableHlo.TRef sig ⟨S1x393216, .f32⟩) (.of main_v28 : StableHlo.TRef sig ⟨S1x393216, .f32⟩) select ]

/-- The reference's operations of the squashed logits, per pair the unary and the binary ones. -/
abbrev logitOps : List (HloOp τ sig (Elt F)) :=
  [ StableHlo.reshape main_v28 main_v29 (rfl : (.f32 : EltTy) = .f32) shapeCasts_S1x393216_S4x98304,
    StableHlo.nullary main_cst (constant S_ .f32 0x40A00000#32),
    StableHlo.unary main_cst main_v30 (broadcastInDim S4x98304 ![] bcast_S_S4x98304 : (⟨S_, .f32⟩ : BufTy).Contents (Elt F) → (⟨S4x98304, .f32⟩ : BufTy).Contents (Elt F)),
    StableHlo.binary main_v29 main_v30 main_v31 (Host.divf : (⟨S4x98304, .f32⟩ : BufTy).Contents (Elt F) → (⟨S4x98304, .f32⟩ : BufTy).Contents (Elt F) → (⟨S4x98304, .f32⟩ : BufTy).Contents (Elt F)),
    StableHlo.unary main_v31 main_v32 (Host.tanh : (⟨S4x98304, .f32⟩ : BufTy).Contents (Elt F) → (⟨S4x98304, .f32⟩ : BufTy).Contents (Elt F)),
    StableHlo.nullary main_cst_6 (constant S_ .f32 0x40200000#32),
    StableHlo.unary main_cst_6 main_v33 (broadcastInDim S4x98304 ![] bcast_S_S4x98304 : (⟨S_, .f32⟩ : BufTy).Contents (Elt F) → (⟨S4x98304, .f32⟩ : BufTy).Contents (Elt F)),
    StableHlo.binary main_v33 main_v32 main_v34 (mulf : (⟨S4x98304, .f32⟩ : BufTy).Contents (Elt F) → (⟨S4x98304, .f32⟩ : BufTy).Contents (Elt F) → (⟨S4x98304, .f32⟩ : BufTy).Contents (Elt F)),
    StableHlo.reshape main_v34 main_v35 (rfl : (.f32 : EltTy) = .f32) shapeCasts_S4x98304_S4x2048x48,
    StableHlo.unary main_v35 main_v36 ((extractStridedSlice S4x2048x32 ![0, 0, 0] · slices_S4x2048x48_S4x2048x32_0_0_0) : (⟨S4x2048x48, .f32⟩ : BufTy).Contents (Elt F) → (⟨S4x2048x32, .f32⟩ : BufTy).Contents (Elt F)),
    StableHlo.unary main_v35 main_v37 ((extractStridedSlice S4x2048x16 ![0, 0, 32] · slices_S4x2048x48_S4x2048x16_0_0_32) : (⟨S4x2048x48, .f32⟩ : BufTy).Contents (Elt F) → (⟨S4x2048x16, .f32⟩ : BufTy).Contents (Elt F)) ]

/-- The reference's operations of the softmax over the unary ones. -/
abbrev softUOps : List (HloOp τ sig (Elt F)) :=
  [ StableHlo.nullary main_cst_7 (constant S_ .f32 0xFF800000#32),
    StableHlo.binary main_v36 main_cst_7 main_v38 ((fun x v => Host.reduce FloatOps.maximumf x v reducesTo_S4x2048x32_S4x2048_d2 h_S_) : (⟨S4x2048x32, .f32⟩ : BufTy).Contents (Elt F) → (⟨S_, .f32⟩ : BufTy).Contents (Elt F) → (⟨S4x2048, .f32⟩ : BufTy).Contents (Elt F)),
    StableHlo.nullary main_cst_8 (constant S_ .f32 0xFF800000#32),
    StableHlo.unary main_cst_8 main_v39 (broadcastInDim S4x2048 ![] bcast_S_S4x2048 : (⟨S_, .f32⟩ : BufTy).Contents (Elt F) → (⟨S4x2048, .f32⟩ : BufTy).Contents (Elt F)),
    StableHlo.binary main_v39 main_v38 main_v40 (maximumf : (⟨S4x2048, .f32⟩ : BufTy).Contents (Elt F) → (⟨S4x2048, .f32⟩ : BufTy).Contents (Elt F) → (⟨S4x2048, .f32⟩ : BufTy).Contents (Elt F)),
    StableHlo.unary main_v40 main_v41 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v41 main_v42 (broadcastInDim S4x2048x32 ![0, 1, 2] bcast_S4x2048x1_S4x2048x32_0_1_2 : (⟨S4x2048x1, .f32⟩ : BufTy).Contents (Elt F) → (⟨S4x2048x32, .f32⟩ : BufTy).Contents (Elt F)),
    StableHlo.binary main_v36 main_v42 main_v43 (subf : (⟨S4x2048x32, .f32⟩ : BufTy).Contents (Elt F) → (⟨S4x2048x32, .f32⟩ : BufTy).Contents (Elt F) → (⟨S4x2048x32, .f32⟩ : BufTy).Contents (Elt F)),
    StableHlo.unary main_v43 main_v44 (Host.exp : (⟨S4x2048x32, .f32⟩ : BufTy).Contents (Elt F) → (⟨S4x2048x32, .f32⟩ : BufTy).Contents (Elt F)),
    StableHlo.nullary main_cst_9 (constant S_ .f32 0x00000000#32),
    StableHlo.binary main_v44 main_cst_9 main_v45 ((fun x v => Host.reduceAdd x v reducesTo_S4x2048x32_S4x2048_d2 h_S_) : (⟨S4x2048x32, .f32⟩ : BufTy).Contents (Elt F) → (⟨S_, .f32⟩ : BufTy).Contents (Elt F) → (⟨S4x2048, .f32⟩ : BufTy).Contents (Elt F)),
    StableHlo.unary main_v45 main_v46 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v46 main_v47 (broadcastInDim S4x2048x32 ![0, 1, 2] bcast_S4x2048x1_S4x2048x32_0_1_2 : (⟨S4x2048x1, .f32⟩ : BufTy).Contents (Elt F) → (⟨S4x2048x32, .f32⟩ : BufTy).Contents (Elt F)),
    StableHlo.binary main_v44 main_v47 main_v48 (Host.divf : (⟨S4x2048x32, .f32⟩ : BufTy).Contents (Elt F) → (⟨S4x2048x32, .f32⟩ : BufTy).Contents (Elt F) → (⟨S4x2048x32, .f32⟩ : BufTy).Contents (Elt F)) ]

/-- The reference's operations of the softmax over the binary ones. -/
abbrev softBOps : List (HloOp τ sig (Elt F)) :=
  [ StableHlo.nullary main_cst_10 (constant S_ .f32 0xFF800000#32),
    StableHlo.binary main_v37 main_cst_10 main_v49 ((fun x v => Host.reduce FloatOps.maximumf x v reducesTo_S4x2048x16_S4x2048_d2 h_S_) : (⟨S4x2048x16, .f32⟩ : BufTy).Contents (Elt F) → (⟨S_, .f32⟩ : BufTy).Contents (Elt F) → (⟨S4x2048, .f32⟩ : BufTy).Contents (Elt F)),
    StableHlo.nullary main_cst_11 (constant S_ .f32 0xFF800000#32),
    StableHlo.unary main_cst_11 main_v50 (broadcastInDim S4x2048 ![] bcast_S_S4x2048 : (⟨S_, .f32⟩ : BufTy).Contents (Elt F) → (⟨S4x2048, .f32⟩ : BufTy).Contents (Elt F)),
    StableHlo.binary main_v50 main_v49 main_v51 (maximumf : (⟨S4x2048, .f32⟩ : BufTy).Contents (Elt F) → (⟨S4x2048, .f32⟩ : BufTy).Contents (Elt F) → (⟨S4x2048, .f32⟩ : BufTy).Contents (Elt F)),
    StableHlo.unary main_v51 main_v52 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v52 main_v53 (broadcastInDim S4x2048x16 ![0, 1, 2] bcast_S4x2048x1_S4x2048x16_0_1_2 : (⟨S4x2048x1, .f32⟩ : BufTy).Contents (Elt F) → (⟨S4x2048x16, .f32⟩ : BufTy).Contents (Elt F)),
    StableHlo.binary main_v37 main_v53 main_v54 (subf : (⟨S4x2048x16, .f32⟩ : BufTy).Contents (Elt F) → (⟨S4x2048x16, .f32⟩ : BufTy).Contents (Elt F) → (⟨S4x2048x16, .f32⟩ : BufTy).Contents (Elt F)),
    StableHlo.unary main_v54 main_v55 (Host.exp : (⟨S4x2048x16, .f32⟩ : BufTy).Contents (Elt F) → (⟨S4x2048x16, .f32⟩ : BufTy).Contents (Elt F)),
    StableHlo.nullary main_cst_12 (constant S_ .f32 0x00000000#32),
    StableHlo.binary main_v55 main_cst_12 main_v56 ((fun x v => Host.reduceAdd x v reducesTo_S4x2048x16_S4x2048_d2 h_S_) : (⟨S4x2048x16, .f32⟩ : BufTy).Contents (Elt F) → (⟨S_, .f32⟩ : BufTy).Contents (Elt F) → (⟨S4x2048, .f32⟩ : BufTy).Contents (Elt F)),
    StableHlo.unary main_v56 main_v57 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v57 main_v58 (broadcastInDim S4x2048x16 ![0, 1, 2] bcast_S4x2048x1_S4x2048x16_0_1_2 : (⟨S4x2048x1, .f32⟩ : BufTy).Contents (Elt F) → (⟨S4x2048x16, .f32⟩ : BufTy).Contents (Elt F)),
    StableHlo.binary main_v55 main_v58 main_v59 (Host.divf : (⟨S4x2048x16, .f32⟩ : BufTy).Contents (Elt F) → (⟨S4x2048x16, .f32⟩ : BufTy).Contents (Elt F) → (⟨S4x2048x16, .f32⟩ : BufTy).Contents (Elt F)) ]

/-- The reference's operations of the chosen unary probabilities. -/
abbrev takeUOps : List (HloOp τ sig (Elt F)) :=
  [ StableHlo.unary main_v12 main_v60 (broadcastInDim S4x2048x1 ![0, 1] bcast_S4x2048_S4x2048x1_0_1 : (⟨S4x2048, .i32⟩ : BufTy).Contents (Elt F) → (⟨S4x2048x1, .i32⟩ : BufTy).Contents (Elt F)),
    StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S4x2048x1, .i32⟩) (broadcastInDim S4x2048x1 ![] bcast_S_S4x2048x1),
    StableHlo.TRef.binary (.of main_v60 : StableHlo.TRef sig ⟨S4x2048x1, .i32⟩) (.of main_call4_v0 : StableHlo.TRef sig ⟨S4x2048x1, .i32⟩) (.of main_call4_v1 : StableHlo.TRef sig ⟨S4x2048x1, .i1⟩) (cmpi .slt),
    StableHlo.TRef.nullary (.of main_call4_c_0 : StableHlo.TRef sig ⟨S_, .i32⟩) (constantI S_ 32 32#32),
    StableHlo.TRef.unary (.of main_call4_c_0 : StableHlo.TRef sig ⟨S_, .i32⟩) (.of main_call4_v2 : StableHlo.TRef sig ⟨S4x2048x1, .i32⟩) (broadcastInDim S4x2048x1 ![] bcast_S_S4x2048x1),
    StableHlo.TRef.binary (.of main_v60 : StableHlo.TRef sig ⟨S4x2048x1, .i32⟩) (.of main_call4_v2 : StableHlo.TRef sig ⟨S4x2048x1, .i32⟩) (.of main_call4_v3 : StableHlo.TRef sig ⟨S4x2048x1, .i32⟩) addi,
    StableHlo.TRef.ternary (.of main_call4_v1 : StableHlo.TRef sig ⟨S4x2048x1, .i1⟩) (.of main_call4_v3 : StableHlo.TRef sig ⟨S4x2048x1, .i32⟩) (.of main_v60 : StableHlo.TRef sig ⟨S4x2048x1, .i32⟩) (.of main_call4_v4 : StableHlo.TRef sig ⟨S4x2048x1, .i32⟩) select,
    StableHlo.TRef.reshape (.of main_call4_v4 : StableHlo.TRef sig ⟨S4x2048x1, .i32⟩) (.of main_call4_v5 : StableHlo.TRef sig ⟨S4x2048x1x1, .i32⟩) (rfl : (.i32 : EltTy) = .i32) shapeCasts_S4x2048x1_S4x2048x1x1,
    StableHlo.TRef.nullary (.of main_call4_c_1 : StableHlo.TRef sig ⟨S1, .i32⟩) (constantI S1 32 31#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S4x2048x1x1, .i32⟩) (broadcastInDim S4x2048x1x1 ![] bcast_S_S4x2048x1x1),
    StableHlo.TRef.binary (.of main_call4_v5 : StableHlo.TRef sig ⟨S4x2048x1x1, .i32⟩) (.of main_call4_v6 : StableHlo.TRef sig ⟨S4x2048x1x1, .i32⟩) (.of main_call4_v7 : StableHlo.TRef sig ⟨S4x2048x1x1, .i1⟩) (cmpi .sge),
    StableHlo.TRef.unary (.of main_call4_c_1 : StableHlo.TRef sig ⟨S1, .i32⟩) (.of main_call4_v8 : StableHlo.TRef sig ⟨S1x1x1x1, .i32⟩) (broadcastInDim S1x1x1x1 ![3] bcast_S1_S1x1x1x1_3),
    StableHlo.TRef.unary (.of main_call4_v8 : StableHlo.TRef sig ⟨S1x1x1x1, .i32⟩) (.of main_call4_v9 : StableHlo.TRef sig ⟨S4x2048x1x1, .i32⟩) (broadcastInDim S4x2048x1x1 ![0, 1, 2, 3] bcast_S1x1x1x1_S4x2048x1x1_0_1_2_3),
    StableHlo.TRef.binary (.of main_call4_v5 : StableHlo.TRef sig ⟨S4x2048x1x1, .i32⟩) (.of main_call4_v9 : StableHlo.TRef sig ⟨S4x2048x1x1, .i32⟩) (.of main_call4_v10 : StableHlo.TRef sig ⟨S4x2048x1x1, .i1⟩) (cmpi .sle),
    StableHlo.TRef.binary (.of main_call4_v7 : StableHlo.TRef sig ⟨S4x2048x1x1, .i1⟩) (.of main_call4_v10 : StableHlo.TRef sig ⟨S4x2048x1x1, .i1⟩) (.of main_call4_v11 : StableHlo.TRef sig ⟨S4x2048x1x1, .i1⟩) andi,
    StableHlo.TRef.nullary (.of main_call4_c_3 : StableHlo.TRef sig ⟨S_, .i1⟩) (constantI S_ 1 1#1),
    StableHlo.TRef.binary (.of main_call4_v11 : StableHlo.TRef sig ⟨S4x2048x1x1, .i1⟩) (.of main_call4_c_3 : StableHlo.TRef sig ⟨S_, .i1⟩) (.of main_call4_v12 : StableHlo.TRef sig ⟨S4x2048x1, .i1⟩) (fun x v => Host.reduce IntOp.andi x v reducesTo_S4x2048x1x1_S4x2048x1_d3 h_S_),
    StableHlo.TRef.binary (.of main_v48 : StableHlo.TRef sig ⟨S4x2048x32, .f32⟩) (.of main_call4_v5 : StableHlo.TRef sig ⟨S4x2048x1x1, .i32⟩) (.of main_call4_v13 : StableHlo.TRef sig ⟨S4x2048x1, .f32⟩) (fun x i => Host.gather gather_S4x2048x32_S4x2048x1x1_S4x2048x1_n_2_01_01_2_3_111 x i),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S4x2048x1, .f32⟩) (broadcastInDim S4x2048x1 ![] bcast_S_S4x2048x1),
    StableHlo.TRef.ternary (.of main_call4_v12 : StableHlo.TRef sig ⟨S4x2048x1, .i1⟩) (.of main_call4_v13 : StableHlo.TRef sig ⟨S4x2048x1, .f32⟩) (.of main_call4_v14 : StableHlo.TRef sig ⟨S4x2048x1, .f32⟩) (.of main_v61 : StableHlo.TRef sig ⟨S4x2048x1, .f32⟩) select,
    StableHlo.reshape main_v61 main_v62 (rfl : (.f32 : EltTy) = .f32) shapeCasts_S4x2048x1_S4x2048 ]

/-- The reference's operations of the chosen binary ones. -/
abbrev takeBOps : List (HloOp τ sig (Elt F)) :=
  [ StableHlo.unary main_v13 main_v63 (broadcastInDim S4x2048x1 ![0, 1] bcast_S4x2048_S4x2048x1_0_1 : (⟨S4x2048, .i32⟩ : BufTy).Contents (Elt F) → (⟨S4x2048x1, .i32⟩ : BufTy).Contents (Elt F)),
    StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S4x2048x1, .i32⟩) (broadcastInDim S4x2048x1 ![] bcast_S_S4x2048x1),
    StableHlo.TRef.binary (.of main_v63 : StableHlo.TRef sig ⟨S4x2048x1, .i32⟩) (.of main_call5_v0 : StableHlo.TRef sig ⟨S4x2048x1, .i32⟩) (.of main_call5_v1 : StableHlo.TRef sig ⟨S4x2048x1, .i1⟩) (cmpi .slt),
    StableHlo.TRef.nullary (.of main_call5_c_0 : StableHlo.TRef sig ⟨S_, .i32⟩) (constantI S_ 32 16#32),
    StableHlo.TRef.unary (.of main_call5_c_0 : StableHlo.TRef sig ⟨S_, .i32⟩) (.of main_call5_v2 : StableHlo.TRef sig ⟨S4x2048x1, .i32⟩) (broadcastInDim S4x2048x1 ![] bcast_S_S4x2048x1),
    StableHlo.TRef.binary (.of main_v63 : StableHlo.TRef sig ⟨S4x2048x1, .i32⟩) (.of main_call5_v2 : StableHlo.TRef sig ⟨S4x2048x1, .i32⟩) (.of main_call5_v3 : StableHlo.TRef sig ⟨S4x2048x1, .i32⟩) addi,
    StableHlo.TRef.ternary (.of main_call5_v1 : StableHlo.TRef sig ⟨S4x2048x1, .i1⟩) (.of main_call5_v3 : StableHlo.TRef sig ⟨S4x2048x1, .i32⟩) (.of main_v63 : StableHlo.TRef sig ⟨S4x2048x1, .i32⟩) (.of main_call5_v4 : StableHlo.TRef sig ⟨S4x2048x1, .i32⟩) select,
    StableHlo.TRef.reshape (.of main_call5_v4 : StableHlo.TRef sig ⟨S4x2048x1, .i32⟩) (.of main_call5_v5 : StableHlo.TRef sig ⟨S4x2048x1x1, .i32⟩) (rfl : (.i32 : EltTy) = .i32) shapeCasts_S4x2048x1_S4x2048x1x1,
    StableHlo.TRef.nullary (.of main_call5_c_1 : StableHlo.TRef sig ⟨S1, .i32⟩) (constantI S1 32 15#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S4x2048x1x1, .i32⟩) (broadcastInDim S4x2048x1x1 ![] bcast_S_S4x2048x1x1),
    StableHlo.TRef.binary (.of main_call5_v5 : StableHlo.TRef sig ⟨S4x2048x1x1, .i32⟩) (.of main_call5_v6 : StableHlo.TRef sig ⟨S4x2048x1x1, .i32⟩) (.of main_call5_v7 : StableHlo.TRef sig ⟨S4x2048x1x1, .i1⟩) (cmpi .sge),
    StableHlo.TRef.unary (.of main_call5_c_1 : StableHlo.TRef sig ⟨S1, .i32⟩) (.of main_call5_v8 : StableHlo.TRef sig ⟨S1x1x1x1, .i32⟩) (broadcastInDim S1x1x1x1 ![3] bcast_S1_S1x1x1x1_3),
    StableHlo.TRef.unary (.of main_call5_v8 : StableHlo.TRef sig ⟨S1x1x1x1, .i32⟩) (.of main_call5_v9 : StableHlo.TRef sig ⟨S4x2048x1x1, .i32⟩) (broadcastInDim S4x2048x1x1 ![0, 1, 2, 3] bcast_S1x1x1x1_S4x2048x1x1_0_1_2_3),
    StableHlo.TRef.binary (.of main_call5_v5 : StableHlo.TRef sig ⟨S4x2048x1x1, .i32⟩) (.of main_call5_v9 : StableHlo.TRef sig ⟨S4x2048x1x1, .i32⟩) (.of main_call5_v10 : StableHlo.TRef sig ⟨S4x2048x1x1, .i1⟩) (cmpi .sle),
    StableHlo.TRef.binary (.of main_call5_v7 : StableHlo.TRef sig ⟨S4x2048x1x1, .i1⟩) (.of main_call5_v10 : StableHlo.TRef sig ⟨S4x2048x1x1, .i1⟩) (.of main_call5_v11 : StableHlo.TRef sig ⟨S4x2048x1x1, .i1⟩) andi,
    StableHlo.TRef.nullary (.of main_call5_c_3 : StableHlo.TRef sig ⟨S_, .i1⟩) (constantI S_ 1 1#1),
    StableHlo.TRef.binary (.of main_call5_v11 : StableHlo.TRef sig ⟨S4x2048x1x1, .i1⟩) (.of main_call5_c_3 : StableHlo.TRef sig ⟨S_, .i1⟩) (.of main_call5_v12 : StableHlo.TRef sig ⟨S4x2048x1, .i1⟩) (fun x v => Host.reduce IntOp.andi x v reducesTo_S4x2048x1x1_S4x2048x1_d3 h_S_),
    StableHlo.TRef.binary (.of main_v59 : StableHlo.TRef sig ⟨S4x2048x16, .f32⟩) (.of main_call5_v5 : StableHlo.TRef sig ⟨S4x2048x1x1, .i32⟩) (.of main_call5_v13 : StableHlo.TRef sig ⟨S4x2048x1, .f32⟩) (fun x i => Host.gather gather_S4x2048x16_S4x2048x1x1_S4x2048x1_n_2_01_01_2_3_111 x i),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v14 : StableHlo.TRef sig ⟨S4x2048x1, .f32⟩) (broadcastInDim S4x2048x1 ![] bcast_S_S4x2048x1),
    StableHlo.TRef.ternary (.of main_call5_v12 : StableHlo.TRef sig ⟨S4x2048x1, .i1⟩) (.of main_call5_v13 : StableHlo.TRef sig ⟨S4x2048x1, .f32⟩) (.of main_call5_v14 : StableHlo.TRef sig ⟨S4x2048x1, .f32⟩) (.of main_v64 : StableHlo.TRef sig ⟨S4x2048x1, .f32⟩) select,
    StableHlo.reshape main_v64 main_v65 (rfl : (.f32 : EltTy) = .f32) shapeCasts_S4x2048x1_S4x2048 ]

/-- The reference's operations of the results, unary and binary side by side. -/
abbrev stackOps : List (HloOp τ sig (Elt F)) :=
  [ StableHlo.unary main_v12 main_v66 (broadcastInDim S4x2048x1 ![0, 1] bcast_S4x2048_S4x2048x1_0_1 : (⟨S4x2048, .i32⟩ : BufTy).Contents (Elt F) → (⟨S4x2048x1, .i32⟩ : BufTy).Contents (Elt F)),
    StableHlo.unary main_v13 main_v67 (broadcastInDim S4x2048x1 ![0, 1] bcast_S4x2048_S4x2048x1_0_1 : (⟨S4x2048, .i32⟩ : BufTy).Contents (Elt F) → (⟨S4x2048x1, .i32⟩ : BufTy).Contents (Elt F)),
    StableHlo.binary main_v66 main_v67 main_v68 ((fun a b => concatenate S4x2048x2 2 [⟨S4x2048x1, a⟩, ⟨S4x2048x1, b⟩] concatenates_S4x2048x1_S4x2048x1_S4x2048x2_d2) : (⟨S4x2048x1, .i32⟩ : BufTy).Contents (Elt F) → (⟨S4x2048x1, .i32⟩ : BufTy).Contents (Elt F) → (⟨S4x2048x2, .i32⟩ : BufTy).Contents (Elt F)),
    StableHlo.reshape main_v68 main_v69 (rfl : (.i32 : EltTy) = .i32) shapeCasts_S4x2048x2_S4x4096,
    StableHlo.unary main_v62 main_v70 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v65 main_v71 (broadcastInDim S4x2048x1 ![0, 1] bcast_S4x2048_S4x2048x1_0_1 : (⟨S4x2048, .f32⟩ : BufTy).Contents (Elt F) → (⟨S4x2048x1, .f32⟩ : BufTy).Contents (Elt F)),
    StableHlo.binary main_v70 main_v71 main_v72 ((fun a b => concatenate S4x2048x2 2 [⟨S4x2048x1, a⟩, ⟨S4x2048x1, b⟩] concatenates_S4x2048x1_S4x2048x1_S4x2048x2_d2) : (⟨S4x2048x1, .f32⟩ : BufTy).Contents (Elt F) → (⟨S4x2048x1, .f32⟩ : BufTy).Contents (Elt F) → (⟨S4x2048x2, .f32⟩ : BufTy).Contents (Elt F)),
    StableHlo.reshape main_v72 main_v73 (rfl : (.f32 : EltTy) = .f32) shapeCasts_S4x2048x2_S4x4096 ]

/-- What the reference does after the draws. -/
abbrev netOps : List (HloOp τ sig (Elt F)) :=
  hidOps ++ (eluOps ++ (logitOps ++ (softUOps ++ (softBOps ++ (takeUOps ++ (takeBOps ++ stackOps))))))

/-- The kernel's operations of the draws. -/
abbrev drawOps : List (HloOp Cert.KernelIdeal.τ Cert.KernelIdeal.sig (Elt Ideal)) :=
  Cert.KernelIdeal.Gen.hostOps0 ++ (Cert.KernelIdeal.Gen.hostOps0_1 ++ (Cert.KernelIdeal.Gen.hostOps0_2 ++
    (Cert.KernelIdeal.Gen.hostOps0_3 ++ (Cert.KernelIdeal.Gen.hostOps0_4 ++ Cert.KernelIdeal.Gen.hostOps0_5))))

/-- A part that is a line, then one that is a line. -/
theorem isSeq_bind {p k : Prog (TpuEff nD τ sig (Elt F) (Pipeline.Sig Λ₀ (Fin 0) fun p => (pcfgs (F := F) p).Adm) .tc) PUnit}
    {a b : List (HloOp τ sig (Elt F))} (h : IsSeq p a) (h' : IsSeq k b) : IsSeq (p >>= fun _ => k) (a ++ b) := by
  unfold IsSeq at *; rw [h, h', seq_append]

/-- A line whose list is written in another way. -/
theorem isSeq_eq {p : Prog (TpuEff nD τ sig (Elt F) (Pipeline.Sig Λ₀ (Fin 0) fun p => (pcfgs (F := F) p).Adm) .tc) PUnit}
    {a b : List (HloOp τ sig (Elt F))} (h : IsSeq p a) (e : a = b) : p = seq b := by
  subst e; exact h

/-- The last operation of a part. -/
theorem isSeq_last {op : HloOp τ sig (Elt F)} :
    IsSeq (nD := nD) (Λ := Pipeline.Sig Λ₀ (Fin 0) fun p => (pcfgs (F := F) p).Adm) (hlo rfl op fun _ => .ret (⟨⟩ : PUnit)) [op] := rfl

set_option maxHeartbeats 0 in
/-- The reference's program: its draws agree with the kernel's operation by operation, and the rest is `netOps`. -/
theorem main_eq (d : Dev nD) : Runs 7 7 drawOps (main (F := Ideal) d) (Cert.KernelIdeal.main_v13.idx.val + 1) [] (seq netOps) := by
  unfold main
  apply Runs.congr
  · apply Runs.andThen
    unfold main_part0
    apply Runs.trans
    · repeat (first
      | (first | with_reducible apply Runs.op
         · first
           | (with_reducible apply Step.reshape) <;> first | exact rfl | exact fun _ => rfl
           | (with_reducible apply Step.binary) <;> first | exact rfl | exact fun _ _ => rfl
           | (with_reducible apply Step.unary) <;> first | exact rfl | exact fun _ => rfl
           | (with_reducible apply Step.nullary) <;> exact rfl)
      | exact Runs.stop)
    apply Runs.trans
    · exact Runs.whole Cert.Draw.split
    apply Runs.trans
    · repeat (first
      | (first | with_reducible apply Runs.op
         · first
           | (with_reducible apply Step.reshape) <;> first | exact rfl | exact fun _ => rfl
           | (with_reducible apply Step.binary) <;> first | exact rfl | exact fun _ _ => rfl
           | (with_reducible apply Step.unary) <;> first | exact rfl | exact fun _ => rfl
           | (with_reducible apply Step.nullary) <;> exact rfl)
      | exact Runs.stop)
    apply Runs.trans
    · exact Runs.whole Cert.Draw.unary
    apply Runs.trans
    · repeat (first
      | (first | with_reducible apply Runs.op
         · first
           | (with_reducible apply Step.reshape) <;> first | exact rfl | exact fun _ => rfl
           | (with_reducible apply Step.binary) <;> first | exact rfl | exact fun _ _ => rfl
           | (with_reducible apply Step.unary) <;> first | exact rfl | exact fun _ => rfl
           | (with_reducible apply Step.nullary) <;> exact rfl)
      | exact Runs.stop)
    · exact Runs.whole Cert.Draw.binary
  · apply isSeq_eq
    · apply isSeq_bind
      all_goals try unfold main_part1
      all_goals repeat (first
        | exact IsSeq.nil
        | with_reducible apply IsSeq.cons
        | with_reducible apply isSeq_last
        | (with_reducible apply isSeq_bind
           first | unfold fn_elu.body | unfold fn_where.body | unfold fn_where_3.body | unfold fn_take_along_axis.body | unfold fn_take_along_axis_4.body))
    · rfl

/-- Every operation touches the TensorCore's buffers only. -/
theorem netOps_sub : (netOps : List (HloOp τ sig (Elt F))).Forall fun op => op.bufs ⊆ tcRefs τ sig := by
  simp

/-- Every operation determines its result. -/
theorem netOps_fresh : ∀ op ∈ (netOps : List (HloOp τ sig (Elt F))), op.fresh = ∅ := by
  intro _ h
  simp only [netOps, List.cons_append, List.nil_append] at h
  repeat (cases h with | head => rfl | tail _ h => ?_)
  exact nomatch h

/-- No buffer of the reference is scoped. -/
theorem no_scoped : (Finset.univ.filter fun b : Ref sig .tc => b.isScoped) = ∅ := by
  decide +kernel

/-- The reference ends with what its operations make of its arguments; the draws' buffers hold what the kernel's
    operations of the draws write, whatever memory these start from. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ d : Dev nD, ∃ W : Valuation τ sig (Elt Ideal),
        (∀ V, Agree 7 (Cert.KernelIdeal.main_v13.idx.val + 1) (after drawOps V) W) ∧
        (∀ a : Ref sig .tc, a.space = .hbm → Nat.blt a.idx.val 7 = true → W a = m ((d.tc : Thread nD τ).loc a)) ∧
        ∀ b : Ref sig .tc, r.2.mem ((d.tc : Thread nD τ).loc b) = after netOps W b) ∧
      r.2.sem = fun _ => 0 := by
  have h := fun d => main_eq d
  choose l₁ l' hl hp hle ha hk hk' hb hf using h
  refine θ_run_mono (run_seq no_scoped (by decide) (defs (F := Ideal)) main (fun d => l' d ++ netOps)
    (fun d => (hp d).trans (seq_append _ _).symm) (fun d => List.forall_append.mpr ⟨hb d, netOps_sub⟩) m ρ
    (fun d op h => (List.mem_append.mp h).elim (hf d op) (netOps_fresh op))) fun r hr => ⟨fun d => ?_, ?_⟩
  · refine ⟨after (l' d) (launchContents m d), fun V => ?_, fun a h1 h2 => ?_, fun b => ?_⟩
    · have e : l₁ d = drawOps := by rw [hl d, List.append_nil]
      rw [← e]
      exact ha d _ _ fun a b _ _ _ h1 h2 => absurd h1 (by simp only [Nat.blt_eq, Nat.ble_eq] at *; omega)
    · exact hk' d _ a h1 h2
    · rw [hr d b, after_app]
  · exact sem_eq_zero_of_no_sems rfl _

/-- The operations of the network write no argument. -/
theorem kept (W : Valuation τ sig (Elt F)) (a : Ref sig .tc) (h : a ∈ [main_arg0, main_arg1, main_arg2, main_arg3, main_arg4, main_arg5, main_arg6]) :
    after netOps W a = W a := by
  simp only [List.mem_cons, List.not_mem_nil, or_false] at h
  simp only [netOps, after_app]
  rcases h with rfl | rfl | rfl | rfl | rfl | rfl | rfl <;> after_reads_simp

/-- The reference leaves its arguments as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ d : Dev nD, ∀ a ∈ [main_arg0, main_arg1, main_arg2, main_arg3, main_arg4, main_arg5, main_arg6],
        r.2.mem ((d.tc : Thread nD τ).loc a) = m ((d.tc : Thread nD τ).loc a)) ∧
      r.2.sem = fun _ => 0 :=
  θ_run_mono (run m ρ) fun r hr => ⟨fun d a ha => by
    obtain ⟨W, -, hW, hb⟩ := hr.1 d
    rw [hb a, kept W a ha]
    simp only [List.mem_cons, List.not_mem_nil, or_false] at ha
    rcases ha with rfl | rfl | rfl | rfl | rfl | rfl | rfl <;> exact hW _ rfl rfl, hr.2⟩

end Cert.Ref
-- ==== Proof.Net.lean ====
module

public import Idealize.ShloMosaic.Lib.Pointwise
public import Idealize.ShloMosaic.Lib.IdealHost

/-! The network as a function on the extended reals: the hidden layers, one logit, and the laws by which the two
    programs' spellings of it agree. -/

@[expose] public section

open Idealize.ShloMosaic

noncomputable section

namespace Cert.Net

/-- The second hidden layer at its unit `k`. -/
def hid (x : FVec Ideal ⟨2, ![1, 20]⟩ .f32) (w1 : FVec Ideal ⟨2, ![60, 20]⟩ .f32) (b1 : Fin 60 → EReal)
    (w2 : FVec Ideal ⟨2, ![60, 60]⟩ .f32) (b2 : Fin 60 → EReal) (k : Fin 60) : EReal :=
  Ideal.tanh (∑ j : Fin 60, Ideal.tanh (∑ i : Fin 20, x (ix2 0 i) * w1 (ix2 j i) + b1 j) * w2 (ix2 k j) + b2 k)

/-- The last layer's row `n` before its ELU. -/
def pre (h : Fin 60 → EReal) (w3 : FVec Ideal ⟨2, ![393216, 60]⟩ .f32) (b3 : FVec Ideal ⟨1, ![393216]⟩ .f32)
    (n : Fin 393216) : EReal :=
  ∑ j : Fin 60, h j * w3 (ix2 n j) + b3 (ix1 n)

/-- The ELU. -/
def elu (o : EReal) : EReal := if 0 < o then o else Ideal.exp o - 1

/-- The squashed logit of a value before the ELU: two and a half times a hyperbolic tangent. -/
def squash (o : EReal) : EReal := Ideal.ofBits .f32 0x40200000#32 * Ideal.tanh (elu o * ((5⁻¹ : ℝ) : EReal))

/-- The chosen one's probability under a softmax of `l`. -/
def prob {n : ℕ} (l : Fin n → EReal) (u : Fin n) : EReal := Ideal.div (Ideal.exp (l u)) (∑ k, Ideal.exp (l k))

/-- The word of two and a half. -/
theorem ofBits_two_and_half : Ideal.ofBits .f32 0x40200000#32 = (((5 : ℝ) / 2 : ℝ) : EReal) := by
  simp [Ideal.ofBits, Ideal.ieee, -EReal.coe_mul]; norm_num

/-- The word of five. -/
theorem ofBits_five : Ideal.ofBits .f32 0x40A00000#32 = ((5 : ℝ) : EReal) := by
  simp [Ideal.ofBits, Ideal.ieee, -EReal.coe_mul]; norm_num

/-- The word of minus infinity. -/
theorem ofBits_bot : Ideal.ofBits .f32 0xFF800000#32 = ⊥ := by
  simp [Ideal.ofBits, Ideal.ieee]

/-- A hyperbolic tangent is finite. -/
theorem tanh_real (x : EReal) : ∃ r : ℝ, Ideal.tanh x = (r : EReal) := by
  induction x with
  | bot => exact ⟨-1, rfl⟩
  | top => exact ⟨1, rfl⟩
  | coe x => exact ⟨Real.tanh x, rfl⟩

/-- A squashed logit is finite. -/
theorem squash_real (o : EReal) : ∃ r : ℝ, squash o = (r : EReal) := by
  obtain ⟨r, hr⟩ := tanh_real (elu o * ((5⁻¹ : ℝ) : EReal))
  exact ⟨5 / 2 * r, by rw [squash, hr, ofBits_two_and_half, ← EReal.coe_mul]⟩

/-- The kernel's ELU, which bounds the exponent from above. -/
theorem elu_min (o : EReal) : (if 0 < o then o else Ideal.exp (min o 0) - 1) = elu o := by
  unfold elu
  split
  · rfl
  · rw [min_eq_left (not_lt.mp ‹_›)]

/-- The reference's ELU, which replaces the exponent where it is not used. -/
theorem elu_safe (o z : EReal) : (if 0 < o then o else Ideal.exp (if 0 < o then z else o) - 1) = elu o := by
  unfold elu
  split <;> rfl

/-- A quotient by five is a product with a fifth. -/
theorem div_five (o : EReal) : Ideal.div o (Ideal.ofBits .f32 0x40A00000#32) = o * ((5⁻¹ : ℝ) : EReal) := by
  rw [ofBits_five, Ideal.div_coe (by norm_num), one_div]

/-- The greatest of finitely many finite values, at least one, is finite. -/
theorem foldMax_real {n : ℕ} (f : Fin (n + 1) → ℝ) :
    ∃ M : ℝ, Finset.univ.fold max (⊥ : EReal) (fun k => (f k : EReal)) = (M : EReal) := by
  have h : ∀ s : Finset (Fin (n + 1)), s.fold max (⊥ : EReal) (fun k => (f k : EReal)) = ⊥ ∧ s = ∅ ∨
      ∃ M : ℝ, s.fold max (⊥ : EReal) (fun k => (f k : EReal)) = (M : EReal) := by
    intro s
    induction s using Finset.induction_on with
    | empty => exact .inl ⟨rfl, rfl⟩
    | insert a s ha ih =>
      right
      rw [Finset.fold_insert ha]
      rcases ih with ⟨h, -⟩ | ⟨M, h⟩
      · exact ⟨f a, by rw [h]; simp⟩
      · exact ⟨max (f a) M, by rw [h]; exact (EReal.coe_strictMono.monotone.map_max).symm⟩
  rcases h Finset.univ with ⟨-, h⟩ | h
  · exact absurd (h ▸ Finset.mem_univ (0 : Fin (n + 1))) (by simp)
  · exact h

/-- A finite sum of finite values is the sum of the reals. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A softmax does not see a shift of its logits. -/
theorem softmax_shift {n : ℕ} (l : Fin (n + 1) → EReal) (hl : ∀ k, ∃ r : ℝ, l k = (r : EReal)) (u : Fin (n + 1)) :
    Ideal.div (Ideal.exp (l u - max ⊥ (Finset.univ.fold max ⊥ l)))
        (∑ k, Ideal.exp (l k - max ⊥ (Finset.univ.fold max ⊥ l)))
      = Ideal.div (Ideal.exp (l u)) (∑ k, Ideal.exp (l k)) := by
  choose f hf using hl
  obtain rfl : l = fun k => (f k : EReal) := funext hf
  obtain ⟨M, hM⟩ := foldMax_real f
  have e : ∀ x : ℝ, Ideal.exp (x : EReal) = (Real.exp x : EReal) := fun _ => rfl
  have hp : ∀ g : Fin (n + 1) → ℝ, ∑ k, Real.exp (g k) ≠ 0 := fun g =>
    (Finset.sum_pos (fun k _ => Real.exp_pos _) ⟨0, Finset.mem_univ _⟩).ne'
  simp only [hM, max_eq_right bot_le, ← EReal.coe_sub, e, coe_sum]
  rw [Ideal.div_coe (hp _), Ideal.div_coe (hp _), ← EReal.coe_mul, ← EReal.coe_mul]
  congr 1
  simp only [Real.exp_sub, ← Finset.sum_div]
  have := (Real.exp_pos M).ne'
  have := hp f
  field_simp

/-- A sum under a mask that keeps one position. -/
theorem sum_pick {n : ℕ} (u : Fin n) (f : Fin n → EReal) (p : Fin n → BitVec 1) (hp : ∀ k, p k = 1#1 ↔ k = u) :
    ∑ k, Scalar.select (p k) (f k) 0 = f u := by
  have : ∀ k, Scalar.select (p k) (f k) 0 = if k = u then f k else 0 := fun k => by
    by_cases h : k = u
    · simp [Scalar.select, h, (hp u).mpr rfl]
    · simp [Scalar.select, h, mt (hp k).mp h]
  simp [this]

/-- A sum under a mask that keeps the first thirty-two of forty-eight. -/
theorem sum_low (f : Fin 48 → EReal) (p : Fin 48 → BitVec 1) (hp : ∀ k, p k = 1#1 ↔ k.val < 32) :
    ∑ k, Scalar.select (p k) (f k) 0 = ∑ k : Fin 32, f ⟨k.val, by omega⟩ := by
  have : ∀ k, Scalar.select (p k) (f k) 0 = if k.val < 32 then f k else 0 := fun k => by
    by_cases h : k.val < 32
    · simp [Scalar.select, h, (hp k).mpr h]
    · simp [Scalar.select, h, mt (hp k).mp h]
  simp only [this]
  rw [Fin.sum_univ_add (a := 32) (b := 16) (fun k : Fin (32 + 16) => if k.val < 32 then f k else 0)]
  simp [Fin.castAdd, Fin.castLE]

/-- A sum under a mask that drops them. -/
theorem sum_high (f : Fin 48 → EReal) (p : Fin 48 → BitVec 1) (hp : ∀ k, p k = 1#1 ↔ k.val < 32) :
    ∑ k, Scalar.select (p k) 0 (f k) = ∑ k : Fin 16, f ⟨32 + k.val, by omega⟩ := by
  have : ∀ k, Scalar.select (p k) 0 (f k) = if k.val < 32 then 0 else f k := fun k => by
    by_cases h : k.val < 32
    · simp [Scalar.select, h, (hp k).mpr h]
    · simp [Scalar.select, h, mt (hp k).mp h]
  simp only [this]
  rw [Fin.sum_univ_add (a := 32) (b := 16) (fun k : Fin (32 + 16) => if k.val < 32 then 0 else f k)]
  simp [Fin.natAdd]

end Cert.Net
-- ==== Proof.KerValue.lean ====
module

public import proofs.«01_k».proof.Proof.Net
public import proofs.«01_k».proof.Proof.Gen.KernelIdeal.Frame
public import Idealize.ShloMosaic.Lib.Pipeline.ValueKit
public import Idealize.ShloMosaic.Lib.Pipeline.ReadBack

/-! What the kernel's body leaves at a grid point, read at an index. -/

@[expose] public section

open Idealize.ShloMosaic Idealize.SL.Sem
open scoped Idealize.ShloMosaic.TcCoe

set_option maxRecDepth 20000

noncomputable section

namespace Cert.Ker

open Cert.KernelIdeal Cert.KernelIdeal.Gen

/-- The mask of an equality. -/
theorem mask_one {w : ℕ} (a b : BitVec w) : IntOp.cmpi .eq a b = 1#1 ↔ a = b := by
  show BitVec.ofBool (a == b) = 1#1 ↔ a = b
  rw [← beq_iff_eq (a := a)]
  cases a == b <;> decide

/-- The mask that compares two positions. -/
theorem eq_mask {n : ℕ} (hn : n ≤ 2 ^ 32) (x y : Fin n) :
    IntOp.cmpi .eq (BitVec.ofNat 32 x.val) (BitVec.ofNat 32 y.val) = 1#1 ↔ x = y := by
  rw [mask_one, ← BitVec.toNat_inj, BitVec.toNat_ofNat, BitVec.toNat_ofNat, Fin.ext_iff]
  omega

/-- The mask that compares a position with a word. -/
theorem word_mask {n : ℕ} (hn : n ≤ 2 ^ 32) (x : Fin n) (w : BitVec 32) :
    IntOp.cmpi .eq (BitVec.ofNat 32 x.val) w = 1#1 ↔ x.val = w.toNat := by
  rw [mask_one, ← BitVec.toNat_inj, BitVec.toNat_ofNat]
  omega

/-- The mask of the positions below thirty-two. -/
theorem low_mask (x : Fin 48) : IntOp.cmpi .slt (BitVec.ofNat 32 x.val) 32#32 = 1#1 ↔ x.val < 32 := by
  revert x
  decide

/-- A sum under the mask of one position. -/
theorem sum_diag (x : Fin 48) (f : Fin 48 → EReal) :
    ∑ y : Fin 48, Scalar.select (IntOp.cmpi .eq (BitVec.ofNat 32 y.val) (BitVec.ofNat 32 x.val)) (f y) 0 = f x :=
  Net.sum_pick x f _ fun y => eq_mask (by norm_num) y x

/-- A weight of the identity matrix. -/
theorem eye_at (x y : Fin 60) :
    (FloatOps.sitofp (F := Ideal) FTy.f32 (BitVec.setWidth 32 (IntOp.cmpi .eq (BitVec.ofNat 32 x.val) (BitVec.ofNat 32 y.val))) : EReal) =
      if x = y then 1 else 0 := by
  have h := eq_mask (by norm_num) x y
  generalize IntOp.cmpi .eq (BitVec.ofNat 32 x.val) (BitVec.ofNat 32 y.val) = p at h ⊢
  by_cases hxy : x = y
  · rw [if_pos hxy, h.mpr hxy]
    show (((1 : ℤ) : ℝ) : EReal) = 1
    norm_num
  · have hp : p = 0#1 := by
      have := mt h.mp hxy
      clear h
      revert this
      revert p
      decide
    rw [if_neg hxy, hp]
    show (((0 : ℤ) : ℝ) : EReal) = 0
    norm_num

/-- The named constant's value. -/
theorem temp : Named.named (F := Ideal) κ "temp" (φ := .f32) 1045220557#32 = ((5⁻¹ : ℝ) : EReal) :=
  (IdealRules.named_const.statement Cert.KernelIdeal.κ "temp" .f32 0x3E4CCCCD#32 ((5⁻¹ : ℝ) : EReal) rfl).2.2

/-- The squashed logit of column `k` of group `r` of a step. -/
def cell (H : FVec Ideal S60x48 .f32) (x5 : FVec Ideal S1536x8x60 .f32) (x6 : FVec Ideal S256x48 .f32) (r : Fin 256) (k : Fin 48) : EReal :=
  Net.squash (∑ j : Fin 60, x5 (ix3 ⟨(r.val * 48 + k.val) / 8, by omega⟩ ⟨(r.val * 48 + k.val) % 8, by omega⟩ j) * H (ix2 j k) + x6 (ix2 r k))

/-- What point `0` stores in the scratch. -/
theorem hid_pay (x0 : Vec Ideal S1x20 .f32) (x1 : Vec Ideal S60x20 .f32) (x2 : Vec Ideal S1x60 .f32) (x3 : Vec Ideal S60x60 .f32) (x4 : Vec Ideal S1x60 .f32) (j : Fin 60) (l : Fin 48) :
    k0_pay3 x0 x1 x2 x3 x4 (ix2 j l) = Net.hid x0 x1 (fun j => x2 (ix2 0 j)) x3 (fun j => x4 (ix2 0 j)) j := by
  unfold_payloads
  pointwise
  simp only [eye_at]
  simp [Net.hid]

/-- The unary result from a scratch `H`. -/
theorem un_pay (H : Vec Ideal S60x48 .f32) (x5 : Vec Ideal S1536x8x60 .f32) (x6 : Vec Ideal S256x48 .f32) (x7 : Vec Ideal S256x1 .i32) (r : Fin 256)
    (hu : (x7 (ix2 r 0) : BitVec 32).toNat < 32) :
    k0_pay1 (k0_pay4 H x5 x6) (iota Kind.tc S256x48 32 [1] iota_S256x48_d1_w32) (k0_pay6 H x5 x6) x7 (ix2 r 0) =
      Net.prob (fun k : Fin 32 => cell H x5 x6 r ⟨k.val, by omega⟩) ⟨_, hu⟩ := by
  unfold_payloads
  pointwise
  simp only [sum_diag, Net.elu_min, temp]
  rw [Net.sum_pick ⟨_, lt_trans hu (by norm_num)⟩ _ _ fun k => by rw [word_mask (by norm_num), Fin.ext_iff], Net.sum_low _ _ low_mask]
  rfl

/-- The binary result from a scratch `H`. -/
theorem bin_pay (H : Vec Ideal S60x48 .f32) (x5 : Vec Ideal S1536x8x60 .f32) (x6 : Vec Ideal S256x48 .f32) (x8 : Vec Ideal S256x1 .i32) (r : Fin 256)
    (hb : (x8 (ix2 r 0) : BitVec 32).toNat < 16) :
    k0_pay2 (k0_pay4 H x5 x6) (iota Kind.tc S256x48 32 [1] iota_S256x48_d1_w32) k0_pay5 x8 (ix2 r 0) =
      Net.prob (fun k : Fin 16 => cell H x5 x6 r ⟨32 + k.val, by omega⟩) ⟨_, hb⟩ := by
  unfold_payloads
  pointwise
  simp only [sum_diag, Net.elu_min, temp]
  rw [Net.sum_pick ⟨32 + (x8 (ix2 r 0) : BitVec 32).toNat, by omega⟩ _ _ fun k => by
    rw [word_mask (by norm_num), Fin.ext_iff, show (IntOp.addi (x8 (ix2 r 0)) 32#32).toNat = 32 + BitVec.toNat (x8 (ix2 r 0)) from
      (BitVec.toNat_add _ _).trans (by simp only [BitVec.toNat_ofNat]; omega)], Net.sum_high _ _ low_mask]
  rfl

section Body

variable (c : Dev nD) (i : grid0.Coords) (arg1 : Memref sig .tc .vmem S1x20 .f32) (harg1 : arg1.IsWhole) (arg2 : Memref sig .tc .vmem S60x20 .f32) (harg2 : arg2.IsWhole) (arg3 : Memref sig .tc .vmem S1x60 .f32) (harg3 : arg3.IsWhole) (arg4 : Memref sig .tc .vmem S60x60 .f32) (harg4 : arg4.IsWhole) (arg5 : Memref sig .tc .vmem S1x60 .f32) (harg5 : arg5.IsWhole) (arg6 : Memref sig .tc .vmem S1536x8x60 .f32) (harg6 : arg6.IsWhole) (arg7 : Memref sig .tc .vmem S256x48 .f32) (harg7 : arg7.IsWhole) (arg8 : Memref sig .tc .vmem S256x1 .i32) (harg8 : arg8.IsWhole) (arg9 : Memref sig .tc .vmem S256x1 .i32) (harg9 : arg9.IsWhole) (arg10 : Memref sig .tc .vmem S256x1 .f32) (harg10 : arg10.IsWhole) (arg11 : Memref sig .tc .vmem S256x1 .f32) (harg11 : arg11.IsWhole) (arg12 : Memref sig .tc .vmem S60x48 .f32) (harg12 : arg12.IsWhole)
  (x0 : Vec Ideal S1x20 .f32) (x1 : Vec Ideal S60x20 .f32) (x2 : Vec Ideal S1x60 .f32) (x3 : Vec Ideal S60x60 .f32) (x4 : Vec Ideal S1x60 .f32) (x5 : Vec Ideal S1536x8x60 .f32) (x6 : Vec Ideal S256x48 .f32) (x7 : Vec Ideal S256x1 .i32) (x8 : Vec Ideal S256x1 .i32) (xs0 : Vec Ideal S60x48 .f32)

/-- The scratch after point `0`. -/
theorem scratch_A (hc : cond0_0 i) (j : Fin 60) (l : Fin 48) :
    sout0_A_0 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 (ix2 j l) =
      Net.hid x0 x1 (fun j => x2 (ix2 0 j)) x3 (fun j => x4 (ix2 0 j)) j := by
  frame_out
  exact hid_pay _ _ _ _ _ _ _

/-- Point `0`'s unary result. -/
theorem out_A9 (hc : cond0_0 i) (r : Fin 256) (hu : (x7 (ix2 r 0) : BitVec 32).toNat < 32) :
    out0_A_9 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 (ix2 r 0) =
      Net.prob (fun k : Fin 32 => cell (sout0_A_0 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8) x5 x6 r ⟨k.val, by omega⟩) ⟨_, hu⟩ := by
  frame_out
  exact un_pay _ _ _ _ _ hu

/-- Point `0`'s binary result. -/
theorem out_A10 (hc : cond0_0 i) (r : Fin 256) (hb : (x8 (ix2 r 0) : BitVec 32).toNat < 16) :
    out0_A_10 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 (ix2 r 0) =
      Net.prob (fun k : Fin 16 => cell (sout0_A_0 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8) x5 x6 r ⟨32 + k.val, by omega⟩) ⟨_, hb⟩ := by
  frame_out
  exact bin_pay _ _ _ _ _ hb

/-- The other points' unary result. -/
theorem out_B9 (hc : ¬cond0_0 i) (r : Fin 256) (hu : (x7 (ix2 r 0) : BitVec 32).toNat < 32) :
    out0_B_9 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 xs0 (ix2 r 0) =
      Net.prob (fun k : Fin 32 => cell xs0 x5 x6 r ⟨k.val, by omega⟩) ⟨_, hu⟩ := by
  frame_out
  exact un_pay _ _ _ _ _ hu

/-- The other points' binary result. -/
theorem out_B10 (hc : ¬cond0_0 i) (r : Fin 256) (hb : (x8 (ix2 r 0) : BitVec 32).toNat < 16) :
    out0_B_10 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 xs0 (ix2 r 0) =
      Net.prob (fun k : Fin 16 => cell xs0 x5 x6 r ⟨32 + k.val, by omega⟩) ⟨_, hb⟩ := by
  frame_out
  exact bin_pay _ _ _ _ _ hb

end Body

end Cert.Ker
-- ==== Proof.KerRun.lean ====
module

public import proofs.«01_k».proof.Proof.KerValue
public import Idealize.ShloMosaic.Lib.StableHlo.ReadAt
public import Idealize.ShloMosaic.Lib.Pointwise

/-! What the kernel's result arrays hold after the region, from the arrays at the region's entry. -/

@[expose] public section

open Idealize.ShloMosaic Idealize.ShloMosaic.StableHlo Idealize.SL.Sem
open scoped Idealize.ShloMosaic.TcCoe

set_option maxRecDepth 20000

noncomputable section

namespace Cert.Ker

open Cert.KernelIdeal Cert.KernelIdeal.Gen

section Entry

variable (X : Valuation τ sig (Elt Ideal))

/-- The last weights, grouped by eight rows. -/
theorem at_v19 (a : Fin 49152) (b : Fin 8) (j : Fin 60) :
    (after hostOps0_6 X main_v19 : FVec Ideal S49152x8x60 .f32) (ix3 a b j) =
      (X main_arg5 : FVec Ideal S393216x60 .f32) (ix2 ⟨a.val * 8 + b.val, by omega⟩ j) := by
  after_reads_simp
  pointwise

/-- The last biases, a group to a row. -/
theorem at_v14 (g : Fin 8192) (k : Fin 48) :
    (after hostOps0_6 X main_v14 : FVec Ideal S8192x48 .f32) (ix2 g k) =
      (X main_arg6 : FVec Ideal S393216 .f32) (ix1 ⟨g.val * 48 + k.val, by omega⟩) := by
  after_reads_simp
  pointwise

/-- The unary actions, one to a row. -/
theorem at_v15 (g : Fin 8192) :
    (after hostOps0_6 X main_v15 : IVec S8192x1 32) (ix2 g 0) =
      (X main_v12 : IVec S4x2048 32) (ix2 ⟨g.val / 2048, by omega⟩ ⟨g.val % 2048, by omega⟩) := by
  after_reads_simp
  pointwise

/-- The binary actions, one to a row. -/
theorem at_v16 (g : Fin 8192) :
    (after hostOps0_6 X main_v16 : IVec S8192x1 32) (ix2 g 0) =
      (X main_v13 : IVec S4x2048 32) (ix2 ⟨g.val / 2048, by omega⟩ ⟨g.val % 2048, by omega⟩) := by
  after_reads_simp
  pointwise

/-- The first biases. -/
theorem at_v17 (j : Fin 60) :
    (after hostOps0_6 X main_v17 : FVec Ideal S1x60 .f32) (ix2 0 j) = (X main_arg2 : FVec Ideal S60 .f32) (ix1 j) := by
  after_reads_simp
  pointwise

/-- The second biases. -/
theorem at_v18 (j : Fin 60) :
    (after hostOps0_6 X main_v18 : FVec Ideal S1x60 .f32) (ix2 0 j) = (X main_arg4 : FVec Ideal S60 .f32) (ix1 j) := by
  after_reads_simp
  pointwise

end Entry

/-- The index maps of the windows. -/
theorem idx : ∀ t : Fin grid0.N, win0_0.index t = ![0, 0] ∧ win0_1.index t = ![0, 0] ∧ win0_2.index t = ![0, 0] ∧
    win0_3.index t = ![0, 0] ∧ win0_4.index t = ![0, 0] ∧ win0_5.index t = ![t.val, 0, 0] ∧ win0_6.index t = ![t.val, 0] ∧
    win0_7.index t = ![t.val, 0] ∧ win0_8.index t = ![t.val, 0] ∧ win0_9.index t = ![t.val, 0] ∧ win0_10.index t = ![t.val, 0] := by
  decide +kernel

theorem lt_N (t : Fin cfg0.N) : t.val < 32 := t.isLt

section Blocks

variable (t : Fin cfg0.N)

theorem whole0 (A : FVec Ideal S1x20 .f32) : (((cfg0.win 0).blk t).view.read (Elt Ideal) A : FVec Ideal S1x20 .f32) = A := by
  funext y
  blk_ext [idx t]

theorem whole1 (A : FVec Ideal S60x20 .f32) : (((cfg0.win 1).blk t).view.read (Elt Ideal) A : FVec Ideal S60x20 .f32) = A := by
  funext y
  blk_ext [idx t]

theorem whole2 (A : FVec Ideal S1x60 .f32) : (((cfg0.win 2).blk t).view.read (Elt Ideal) A : FVec Ideal S1x60 .f32) = A := by
  funext y
  blk_ext [idx t]

theorem whole3 (A : FVec Ideal S60x60 .f32) : (((cfg0.win 3).blk t).view.read (Elt Ideal) A : FVec Ideal S60x60 .f32) = A := by
  funext y
  blk_ext [idx t]

theorem whole4 (A : FVec Ideal S1x60 .f32) : (((cfg0.win 4).blk t).view.read (Elt Ideal) A : FVec Ideal S1x60 .f32) = A := by
  funext y
  blk_ext [idx t]

theorem part5 (A : FVec Ideal S49152x8x60 .f32) (a : Fin 1536) (b : Fin 8) (j : Fin 60) :
    (((cfg0.win 5).blk t).view.read (Elt Ideal) A : FVec Ideal S1536x8x60 .f32) (ix3 a b j) =
      A (ix3 ⟨t.val * 1536 + a.val, by have := lt_N t; omega⟩ b j) := by
  have := lt_N t
  blk_ext [idx t]

theorem part6 (A : FVec Ideal S8192x48 .f32) (r : Fin 256) (k : Fin 48) :
    (((cfg0.win 6).blk t).view.read (Elt Ideal) A : FVec Ideal S256x48 .f32) (ix2 r k) =
      A (ix2 ⟨t.val * 256 + r.val, by have := lt_N t; omega⟩ k) := by
  have := lt_N t
  blk_ext [idx t]

theorem part7 (A : IVec S8192x1 32) (r : Fin 256) :
    (((cfg0.win 7).blk t).view.read (Elt Ideal) A : IVec S256x1 32) (ix2 r 0) =
      A (ix2 ⟨t.val * 256 + r.val, by have := lt_N t; omega⟩ 0) := by
  have := lt_N t
  blk_ext [idx t]

theorem part8 (A : IVec S8192x1 32) (r : Fin 256) :
    (((cfg0.win 8).blk t).view.read (Elt Ideal) A : IVec S256x1 32) (ix2 r 0) =
      A (ix2 ⟨t.val * 256 + r.val, by have := lt_N t; omega⟩ 0) := by
  have := lt_N t
  blk_ext [idx t]

end Blocks

variable (m : (ℓ : Loc nD τ sig) → Buf (Elt Ideal) ℓ) (c : Dev nD)

/-- The buffers at the region's entry. -/
@[irreducible] def entry : Valuation τ sig (Elt Ideal) := V0 m c

theorem entry_eq (b : Ref sig .tc) : V m c b = entry m c b := by
  unfold entry
  rfl

theorem blk0 (t : Fin cfg0.N) : (iblk m c 0 t : FVec Ideal S1x20 .f32) = entry m c main_arg0 := by
  unfold iblk
  rw [entry_eq]
  exact whole0 t _

theorem blk1 (t : Fin cfg0.N) : (iblk m c 1 t : FVec Ideal S60x20 .f32) = entry m c main_arg1 := by
  unfold iblk
  rw [entry_eq]
  exact whole1 t _

theorem blk2 (t : Fin cfg0.N) : (iblk m c 2 t : FVec Ideal S1x60 .f32) = entry m c main_v17 := by
  unfold iblk
  rw [entry_eq]
  exact whole2 t _

theorem blk3 (t : Fin cfg0.N) : (iblk m c 3 t : FVec Ideal S60x60 .f32) = entry m c main_arg3 := by
  unfold iblk
  rw [entry_eq]
  exact whole3 t _

theorem blk4 (t : Fin cfg0.N) : (iblk m c 4 t : FVec Ideal S1x60 .f32) = entry m c main_v18 := by
  unfold iblk
  rw [entry_eq]
  exact whole4 t _

theorem blk5 (t : Fin cfg0.N) (a : Fin 1536) (b : Fin 8) (j : Fin 60) :
    (iblk m c 5 t : FVec Ideal S1536x8x60 .f32) (ix3 a b j) =
      (entry m c main_v19 : FVec Ideal S49152x8x60 .f32) (ix3 ⟨t.val * 1536 + a.val, by have := lt_N t; omega⟩ b j) := by
  unfold iblk
  rw [entry_eq]
  exact part5 t _ a b j

theorem blk6 (t : Fin cfg0.N) (r : Fin 256) (k : Fin 48) :
    (iblk m c 6 t : FVec Ideal S256x48 .f32) (ix2 r k) =
      (entry m c main_v14 : FVec Ideal S8192x48 .f32) (ix2 ⟨t.val * 256 + r.val, by have := lt_N t; omega⟩ k) := by
  unfold iblk
  rw [entry_eq]
  exact part6 t _ r k

theorem blk7 (t : Fin cfg0.N) (r : Fin 256) :
    (iblk m c 7 t : IVec S256x1 32) (ix2 r 0) =
      (entry m c main_v15 : IVec S8192x1 32) (ix2 ⟨t.val * 256 + r.val, by have := lt_N t; omega⟩ 0) := by
  unfold iblk
  rw [entry_eq]
  exact part7 t _ r

theorem blk8 (t : Fin cfg0.N) (r : Fin 256) :
    (iblk m c 8 t : IVec S256x1 32) (ix2 r 0) =
      (entry m c main_v16 : IVec S8192x1 32) (ix2 ⟨t.val * 256 + r.val, by have := lt_N t; omega⟩ 0) := by
  unfold iblk
  rw [entry_eq]
  exact part8 t _ r

/-- The hidden layer, from the arrays at the region's entry. -/
def hidV (j : Fin 60) : EReal :=
  Net.hid (entry m c main_arg0) (entry m c main_arg1) (fun j => (entry m c main_v17 : FVec Ideal S1x60 .f32) (ix2 0 j)) (entry m c main_arg3)
    (fun j => (entry m c main_v18 : FVec Ideal S1x60 .f32) (ix2 0 j)) j

/-- The scratch holds the hidden layer after every point. -/
theorem scratch (j : Fin 60) (l : Fin 48) : ∀ (n : ℕ) (h : n < cfg0.N), (outsAt0 m c n h).2.2 (ix2 j l) = hidV m c j
  | 0, h => by
    have h0 := outsAt0_A m c ⟨0, h⟩ rfl
    dsimp only at h0
    rw [h0]
    dsimp only
    rw [scratch_A, blk0, blk1, blk2, blk3, blk4]
    rfl
  | n + 1, h => by
    have := lt_N ⟨n + 1, h⟩
    exact (congrArg (fun p => p.2.2 (ix2 j l)) (outsAt0_B m c ⟨n + 1, h⟩ (by dsimp only at this ⊢; omega))).trans
      (scratch j l n (Nat.lt_of_succ_lt h))

/-- The squashed logits of a step's groups. -/
def scoreV (t : Fin cfg0.N) (r : Fin 256) (k : Fin 48) : EReal :=
  Net.squash (∑ j : Fin 60, hidV m c j * (entry m c main_v19 : FVec Ideal S49152x8x60 .f32)
      (ix3 ⟨t.val * 1536 + (r.val * 48 + k.val) / 8, by have := lt_N t; omega⟩ ⟨(r.val * 48 + k.val) % 8, by omega⟩ j) +
    (entry m c main_v14 : FVec Ideal S8192x48 .f32) (ix2 ⟨t.val * 256 + r.val, by have := lt_N t; omega⟩ k))

theorem cell_eq (t : Fin cfg0.N) (H : FVec Ideal S60x48 .f32) (hH : ∀ j l, H (ix2 j l) = hidV m c j) (r : Fin 256) (k : Fin 48) :
    cell H (iblk m c 5 t) (iblk m c 6 t) r k = scoreV m c t r k := by
  unfold cell scoreV
  simp only [hH, blk5, blk6]
  exact congrArg (fun s => Net.squash (s + _)) (Finset.sum_congr rfl fun j _ => mul_comm _ _)

/-- The unary result of a point. -/
theorem outs_u (t : Fin cfg0.N) (r : Fin 256) (hu : ((iblk m c 7 t : IVec S256x1 32) (ix2 r 0)).toNat < 32) :
    (outsAt0 m c t.val t.isLt).1 (ix2 r 0) = Net.prob (fun k : Fin 32 => scoreV m c t r ⟨k.val, by omega⟩) ⟨_, hu⟩ := by
  by_cases h0 : t.val % 32 = 0
  · have hs : ∀ j l, _ = hidV m c j := fun j l =>
      (congrArg (fun p => p.2.2 (ix2 j l)) (outsAt0_A m c t h0)).symm.trans (scratch m c j l t.val t.isLt)
    dsimp only at hs
    rw [outsAt0_A m c t h0]
    dsimp only
    rw [out_A9 (hu := hu)]
    simp only [cell_eq m c t _ hs]
  · rw [outsAt0_B m c t h0]
    dsimp only
    rw [out_B9 (hu := hu)]
    simp only [cell_eq m c t _ fun j l => scratch m c j l _ _]

/-- The binary result of a point. -/
theorem outs_b (t : Fin cfg0.N) (r : Fin 256) (hb : ((iblk m c 8 t : IVec S256x1 32) (ix2 r 0)).toNat < 16) :
    (outsAt0 m c t.val t.isLt).2.1 (ix2 r 0) = Net.prob (fun k : Fin 16 => scoreV m c t r ⟨32 + k.val, by omega⟩) ⟨_, hb⟩ := by
  by_cases h0 : t.val % 32 = 0
  · have hs : ∀ j l, _ = hidV m c j := fun j l =>
      (congrArg (fun p => p.2.2 (ix2 j l)) (outsAt0_A m c t h0)).symm.trans (scratch m c j l t.val t.isLt)
    dsimp only at hs
    rw [outsAt0_A m c t h0]
    dsimp only
    rw [out_A10 (hb := hb)]
    simp only [cell_eq m c t _ hs]
  · rw [outsAt0_B m c t h0]
    dsimp only
    rw [out_B10 (hb := hb)]
    simp only [cell_eq m c t _ fun j l => scratch m c j l _ _]

/-- The unary array after the region. -/
theorem arr_u (G : FVec Ideal S8192x1 .f32)
    (hG : ∀ (t : Fin cfg0.N) (r : Fin 256), (outsAt0 m c t.val t.isLt).1 (ix2 r 0) = G (ix2 ⟨t.val * 256 + r.val, by have := lt_N t; omega⟩ 0)) :
    (dats m 0 c).arrAt 9 (cfgs 0).N = G := by
  refine (dats m 0 c).arrAt_eq_of_covers 9 _ (by decide +kernel) fun t hf y => ?_
  have := lt_N t
  blk_simp
  rw [after0_9]
  obtain ⟨r, z, rfl⟩ : ∃ (r : Fin 256) (z : Fin 1), y = ix2 r z := ⟨y 0, y 1, eq_ix2 y⟩
  obtain rfl : z = 0 := Subsingleton.elim _ _
  rw [hG]
  blk_ext [idx t]

/-- The binary array after the region. -/
theorem arr_b (G : FVec Ideal S8192x1 .f32)
    (hG : ∀ (t : Fin cfg0.N) (r : Fin 256), (outsAt0 m c t.val t.isLt).2.1 (ix2 r 0) = G (ix2 ⟨t.val * 256 + r.val, by have := lt_N t; omega⟩ 0)) :
    (dats m 0 c).arrAt 10 (cfgs 0).N = G := by
  refine (dats m 0 c).arrAt_eq_of_covers 10 _ (by decide +kernel) fun t hf y => ?_
  have := lt_N t
  blk_simp
  rw [after0_10]
  obtain ⟨r, z, rfl⟩ : ∃ (r : Fin 256) (z : Fin 1), y = ix2 r z := ⟨y 0, y 1, eq_ix2 y⟩
  obtain rfl : z = 0 := Subsingleton.elim _ _
  rw [hG]
  blk_ext [idx t]

end Cert.Ker
-- ==== Proof.Bound.lean ====
module

public import proofs.«01_k».proof.Proof.Draw
public import proofs.«01_k».proof.Proof.KerValue
public import Idealize.ShloMosaic.Lib.StableHlo.ReadAt
public import Idealize.ShloMosaic.Lib.Pointwise

/-! The drawn actions lie below the ends of their ranges. -/

@[expose] public section

open Idealize.ShloMosaic Idealize.ShloMosaic.StableHlo Idealize.SL.Sem
open scoped Idealize.ShloMosaic.TcCoe

set_option maxRecDepth 20000

noncomputable section

namespace Cert.Bound

open Cert.KernelIdeal Cert.KernelIdeal.Gen Cert.Sim

variable (V : Valuation τ sig (Elt Ideal))

/-- A remainder by a number that is not zero lies below it. -/
theorem remui_lt (x y : BitVec 32) (hy : y ≠ 0) : (IntOp.remui .host x y).toNat < y.toNat := by
  rw [IntOp.remui, if_neg hy, BitVec.toNat_umod]
  exact Nat.mod_lt _ (Nat.pos_of_ne_zero fun h => hy (BitVec.eq_of_toNat_eq h))

/-- The width of the range from `lo` to `hi`, as a draw computes it. -/
def span (lo hi : IVec S1x1 32) (f : IVec S_ 1) : IVec S1x1 32 :=
  select (andi (broadcastInDim S1x1 ![] bcast_S_S1x1 f) (cmpi .sgt hi lo))
    (addi (select (cmpi .sle hi lo) (broadcastInDim S1x1 ![] bcast_S_S1x1 (constantI S_ 32 1#32)) (id (subi hi lo)))
      (broadcastInDim S1x1 ![] bcast_S_S1x1 (constantI S_ 32 1#32)))
    (select (cmpi .sle hi lo) (broadcastInDim S1x1 ![] bcast_S_S1x1 (constantI S_ 32 1#32)) (id (subi hi lo)))

/-- A draw from its two words. -/
def pick (lo hi : IVec S1x1 32) (f : IVec S_ 1) (x y : IVec S4x2048 32) : IVec S4x2048 32 :=
  addi (broadcastInDim S4x2048 ![0, 1] bcast_S1x1_S4x2048_0_1 lo)
    (id (Host.remui
      (addi
        (muli (Host.remui x (broadcastInDim S4x2048 ![0, 1] bcast_S1x1_S4x2048_0_1 (span lo hi f)))
          (broadcastInDim S4x2048 ![0, 1] bcast_S1x1_S4x2048_0_1
            (Host.remui
              (muli (Host.remui (broadcastInDim S1x1 ![] bcast_S_S1x1 (constantI S_ 32 65536#32)) (span lo hi f))
                (Host.remui (broadcastInDim S1x1 ![] bcast_S_S1x1 (constantI S_ 32 65536#32)) (span lo hi f)))
              (span lo hi f))))
        (Host.remui y (broadcastInDim S4x2048 ![0, 1] bcast_S1x1_S4x2048_0_1 (span lo hi f))))
      (broadcastInDim S4x2048 ![0, 1] bcast_S1x1_S4x2048_0_1 (span lo hi f))))

/-- The range's end, brought between the least and the greatest number. -/
def clip (x : IVec S_ 32) : IVec S1x1 32 :=
  broadcastInDim S1x1 ![] bcast_S_S1x1 (id (minsi (constantI S_ 32 2147483647#32) (maxsi (constantI S_ 32 2147483648#32) x)))

/-- Whether the range's end lies above the greatest number. -/
def above (x : IVec S_ 32) : IVec S_ 1 :=
  cmpi .sgt x (minsi (constantI S_ 32 2147483647#32) (maxsi (constantI S_ 32 2147483648#32) (constantI S_ 32 2147483647#32)))

theorem span_eq (n : BitVec 32) (hn : IntOp.cmpi .sle n 0#32 = 0#1) : span (fun _ => 0#32) (fun _ => n) (fun _ => 0#1) = fun _ => n := by
  funext i
  simp [span, select, andi, cmpi, broadcastInDim, subi, hn, IntOp.andi, IntOp.subi, Scalar.select]

/-- A draw from zero to `n` lies below `n`. -/
theorem pick_lt (n : BitVec 32) (hn : IntOp.cmpi .sle n 0#32 = 0#1) (h0 : n ≠ 0) (lo hi : IVec S1x1 32) (f : IVec S_ 1) (hlo : lo = fun _ => 0#32)
    (hhi : hi = fun _ => n) (hf : f = fun _ => 0#1) (x y : IVec S4x2048 32) (i : S4x2048.Idx) :
    (pick lo hi f x y i).toNat < n.toNat := by
  subst hlo hhi hf
  unfold pick
  rw [span_eq n hn]
  have h (z : BitVec 32) : (0#32 + IntOp.remui .host z n).toNat < n.toNat := by
    rw [BitVec.zero_add]
    exact remui_lt z n h0
  exact h _

theorem clip_const (n : BitVec 32) (hn : IntOp.minsi 2147483647#32 (IntOp.maxsi 2147483648#32 n) = n) :
    clip (constantI S_ 32 n) = fun _ => n :=
  funext fun _ => hn

theorem above_const (n : BitVec 32)
    (hn : IntOp.cmpi .sgt n (IntOp.minsi 2147483647#32 (IntOp.maxsi 2147483648#32 2147483647#32)) = 0#1) :
    above (constantI S_ 32 n) = fun _ => 0#1 :=
  funext fun _ => hn

theorem after_keep (l : List (HloOp τ sig (Elt Ideal))) (a : Ref sig .tc) (h : ∀ op ∈ l, (a : DevRef τ sig) ∉ op.writes) :
    after l V a = V a :=
  after_of_forall_not_mem (b := Proc.devRef .tc a) _ _ h

/-- A list in three parts. -/
theorem three {α : Type*} (l : List α) (a b c : ℕ) (h : a + b = c) : l = l.take a ++ ((l.drop a).take b ++ l.drop c) := by
  rw [← h, ← List.drop_drop, List.take_append_drop, List.take_append_drop]

/-- The unary draw's range, read. -/
theorem first_u :
    (after (hostOps0_3.take 18) V main_call1_v6 : IVec S1x1 32) = clip (V main_c_2 : IVec S_ 32) ∧
    (after (hostOps0_3.take 18) V main_call1_v7 : IVec S1x1 32) = clip (V main_c_3 : IVec S_ 32) ∧
    (after (hostOps0_3.take 18) V main_call1_v1 : IVec S_ 1) = above (V main_c_3 : IVec S_ 32) := by
  simp only [hostOps0_3, List.take_succ_cons, List.take_zero]
  refine ⟨?_, ?_, ?_⟩ <;> after_reads_simp <;> simp only [TRef.ofBuf_toBuf] <;> rfl

/-- The hashing in between leaves it. -/
theorem mid_u : ∀ op ∈ ((hostOps0_3 (F := Ideal)).drop 18).take 724,
    (main_call1_v6 : DevRef τ sig) ∉ op.writes ∧ (main_call1_v7 : DevRef τ sig) ∉ op.writes ∧ (main_call1_v1 : DevRef τ sig) ∉ op.writes := by
  decide +kernel

/-- The unary draw, read. -/
theorem last_u : (after (hostOps0_3.drop 742) V main_v12 : IVec S4x2048 32) =
    pick (V main_call1_v6 : IVec S1x1 32) (V main_call1_v7 : IVec S1x1 32) (V main_call1_v1 : IVec S_ 1) (V main_call1_v29 : IVec S4x2048 32)
      (V main_call1_v46 : IVec S4x2048 32) := by
  simp only [hostOps0_3, List.drop_succ_cons, List.drop_zero]
  after_reads_simp
  simp only [TRef.ofBuf_toBuf]
  rfl

/-- The unary draw lies below its range's end. -/
theorem unary (h2 : (V main_c_2 : IVec S_ 32) = constantI S_ 32 0#32) (h3 : (V main_c_3 : IVec S_ 32) = constantI S_ 32 32#32)
    (b : Fin 4) (p : Fin 2048) : ((after hostOps0_3 V main_v12 : IVec S4x2048 32) (ix2 b p)).toNat < 32 := by
  obtain ⟨h6, h7, h1⟩ := first_u V
  rw [three hostOps0_3 18 724 742 rfl, after_app, after_app, last_u]
  refine pick_lt 32#32 (by decide) (by decide) _ _ _ ?_ ?_ ?_ _ _ _
  · rw [after_keep _ _ _ fun op h => (mid_u op h).1, h6, h2, clip_const _ (by decide)]
  · rw [after_keep _ _ _ fun op h => (mid_u op h).2.1, h7, h3, clip_const _ (by decide)]
  · rw [after_keep _ _ _ fun op h => (mid_u op h).2.2, h1, h3, above_const _ (by decide)]

/-- The binary draw's range, read. -/
theorem first_b :
    (after (hostOps0_5.take 18) V main_call2_v6 : IVec S1x1 32) = clip (V main_c_4 : IVec S_ 32) ∧
    (after (hostOps0_5.take 18) V main_call2_v7 : IVec S1x1 32) = clip (V main_c_5 : IVec S_ 32) ∧
    (after (hostOps0_5.take 18) V main_call2_v1 : IVec S_ 1) = above (V main_c_5 : IVec S_ 32) := by
  simp only [hostOps0_5, List.take_succ_cons, List.take_zero]
  refine ⟨?_, ?_, ?_⟩ <;> after_reads_simp <;> simp only [TRef.ofBuf_toBuf] <;> rfl

/-- The hashing in between leaves it. -/
theorem mid_b : ∀ op ∈ ((hostOps0_5 (F := Ideal)).drop 18).take 724,
    (main_call2_v6 : DevRef τ sig) ∉ op.writes ∧ (main_call2_v7 : DevRef τ sig) ∉ op.writes ∧ (main_call2_v1 : DevRef τ sig) ∉ op.writes := by
  decide +kernel

/-- The binary draw, read. -/
theorem last_b : (after (hostOps0_5.drop 742) V main_v13 : IVec S4x2048 32) =
    pick (V main_call2_v6 : IVec S1x1 32) (V main_call2_v7 : IVec S1x1 32) (V main_call2_v1 : IVec S_ 1) (V main_call2_v29 : IVec S4x2048 32)
      (V main_call2_v46 : IVec S4x2048 32) := by
  simp only [hostOps0_5, List.drop_succ_cons, List.drop_zero]
  after_reads_simp
  simp only [TRef.ofBuf_toBuf]
  rfl

/-- The binary draw lies below its range's end. -/
theorem binary (h2 : (V main_c_4 : IVec S_ 32) = constantI S_ 32 0#32) (h3 : (V main_c_5 : IVec S_ 32) = constantI S_ 32 16#32)
    (b : Fin 4) (p : Fin 2048) : ((after hostOps0_5 V main_v13 : IVec S4x2048 32) (ix2 b p)).toNat < 16 := by
  obtain ⟨h6, h7, h1⟩ := first_b V
  rw [three hostOps0_5 18 724 742 rfl, after_app, after_app, last_b]
  refine pick_lt 16#32 (by decide) (by decide) _ _ _ ?_ ?_ ?_ _ _ _
  · rw [after_keep _ _ _ fun op h => (mid_b op h).1, h6, h2, clip_const _ (by decide)]
  · rw [after_keep _ _ _ fun op h => (mid_b op h).2.1, h7, h3, clip_const _ (by decide)]
  · rw [after_keep _ _ _ fun op h => (mid_b op h).2.2, h1, h3, above_const _ (by decide)]

end Cert.Bound
-- ==== Proof.RefValue.lean ====
module

public import proofs.«01_k».proof.Proof.Ref
public import proofs.«01_k».proof.Proof.Net
public import Idealize.ShloMosaic.Lib.StableHlo.ReadAt

/-! What the reference's operations leave, read at an index: the logits, the two softmaxes at the drawn actions, and
    the results. -/

@[expose] public section

open Idealize.ShloMosaic Idealize.ShloMosaic.StableHlo Idealize.SL.Sem
open scoped Idealize.ShloMosaic.TcCoe

set_option maxRecDepth 20000

noncomputable section

namespace Cert.Ref

open Cert.Sim Cert.ReferenceIdeal Cert.ReferenceIdeal.Facts₀

variable (W : Valuation τ sig (Elt Ideal))

/-- The hidden layers. -/
theorem hid_at (k : Fin 60) : (after hidOps W main_v23 : FVec Ideal S1x60 .f32) (ix2 0 k) =
    Net.hid (W main_arg0) (W main_arg1) (fun j => (W main_arg2 : FVec Ideal S60 .f32) (ix1 j)) (W main_arg3)
      (fun j => (W main_arg4 : FVec Ideal S60 .f32) (ix1 j)) k := by
  after_reads_at
  rfl

/-- The last layer and its ELU. -/
theorem elu_at (n : Fin 393216) : (after eluOps W main_v28 : FVec Ideal S1x393216 .f32) (ix2 0 n) =
    Net.elu (Net.pre (fun j => (W main_v23 : FVec Ideal S1x60 .f32) (ix2 0 j)) (W main_arg5) (W main_arg6) n) := by
  after_reads_at
  exact Net.elu_safe _ _

/-- The logits of pair `p` of row `b`. -/
theorem logit_at (b : Fin 4) (p : Fin 2048) (k : Fin 48) :
    (after logitOps W main_v35 : FVec Ideal S4x2048x48 .f32) (ix3 b p k) =
      Ideal.ofBits .f32 0x40200000#32 * Ideal.tanh (@HMul.hMul EReal EReal EReal _ ((W main_v28 : FVec Ideal S1x393216 .f32)
        (ix2 0 ⟨b.val * 98304 + (p.val * 48 + k.val), by omega⟩)) ((5⁻¹ : ℝ) : EReal)) := by
  after_reads_at
  rw [Net.div_five]

/-- The unary ones are the first thirty-two. -/
theorem cutU_at (b : Fin 4) (p : Fin 2048) (k : Fin 32) :
    (after logitOps W main_v36 : FVec Ideal S4x2048x32 .f32) (ix3 b p k) =
      (after logitOps W main_v35 : FVec Ideal S4x2048x48 .f32) (ix3 b p ⟨k.val, by omega⟩) := by
  after_reads_at

/-- The binary ones are the other sixteen. -/
theorem cutB_at (b : Fin 4) (p : Fin 2048) (k : Fin 16) :
    (after logitOps W main_v37 : FVec Ideal S4x2048x16 .f32) (ix3 b p k) =
      (after logitOps W main_v35 : FVec Ideal S4x2048x48 .f32) (ix3 b p ⟨32 + k.val, by omega⟩) := by
  after_reads_at

/-- The softmax over the unary ones. -/
theorem softU_at (b : Fin 4) (p : Fin 2048) (k : Fin 32) (l : Fin 32 → EReal)
    (h : ∀ k, (W main_v36 : FVec Ideal S4x2048x32 .f32) (ix3 b p k) = l k) (hl : ∀ k, ∃ r : ℝ, l k = (r : EReal)) :
    (after softUOps W main_v48 : FVec Ideal S4x2048x32 .f32) (ix3 b p k) = Ideal.div (Ideal.exp (l k)) (∑ k, Ideal.exp (l k)) := by
  rw [← Net.softmax_shift l hl]
  after_reads_at
  simp only [h, Net.ofBits_bot]

/-- The softmax over the binary ones. -/
theorem softB_at (b : Fin 4) (p : Fin 2048) (k : Fin 16) (l : Fin 16 → EReal)
    (h : ∀ k, (W main_v37 : FVec Ideal S4x2048x16 .f32) (ix3 b p k) = l k) (hl : ∀ k, ∃ r : ℝ, l k = (r : EReal)) :
    (after softBOps W main_v59 : FVec Ideal S4x2048x16 .f32) (ix3 b p k) = Ideal.div (Ideal.exp (l k)) (∑ k, Ideal.exp (l k)) := by
  rw [← Net.softmax_shift l hl]
  after_reads_at
  simp only [h, Net.ofBits_bot]

/-- A gather along the last of three axes, the other two its batch. -/
abbrev lastDims (N : Nat)
    (wf : GatherDims.WF ⟨3, ![4, 2048, N]⟩ ⟨4, ![4, 2048, 1, 1]⟩ ⟨3, ![4, 2048, 1]⟩ [] [2] [0, 1] [2] [0, 1] 3 ![1, 1, 1]) :
    GatherDims ⟨3, ![4, 2048, N]⟩ ⟨4, ![4, 2048, 1, 1]⟩ ⟨3, ![4, 2048, 1]⟩ where
  offsetDims := []
  collapsedSliceDims := [2]
  operandBatchingDims := [0, 1]
  startIndicesBatchingDims := [0, 1]
  startIndexMap := [2]
  indexVectorDim := 3
  sliceSizes := ![1, 1, 1]
  wf := wf

/-- It reads, at each pair, the position the pair's word names. -/
theorem gather_last {α : Type} {N : Nat} (hN : 0 < N)
    (wf : GatherDims.WF ⟨3, ![4, 2048, N]⟩ ⟨4, ![4, 2048, 1, 1]⟩ ⟨3, ![4, 2048, 1]⟩ [] [2] [0, 1] [2] [0, 1] 3 ![1, 1, 1])
    (x : (⟨3, ![4, 2048, N]⟩ : Shape).Idx → α) (idx : IVec ⟨4, ![4, 2048, 1, 1]⟩ 32) (b : Fin 4) (p : Fin 2048) :
    Host.gather (lastDims N wf) x idx (ix3 b p 0) = x (ix3 b p ⟨min (idx (ix4 b p 0 0)).toInt.toNat (N - 1), by omega⟩) := by
  unfold Host.gather
  congr 1
  funext a
  refine Fin.ext ?_
  show (lastDims N wf).start (ix3 b p 0) idx a + (lastDims N wf).batchCoord (ix3 b p 0) a
    + (lastDims N wf).offCoord (ix3 b p 0) a = _
  have ha : (a = 0 ∨ a = 1) ∨ a = 2 := by
    match a with
    | ⟨0, _⟩ => exact .inl (.inl rfl)
    | ⟨1, _⟩ => exact .inl (.inr rfl)
    | ⟨2, _⟩ => exact .inr rfl
  rcases ha with ha | rfl
  · have hb : a ∈ (lastDims N wf).operandBatchingDims := by rcases ha with rfl | rfl <;> simp
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rcases ha with rfl | rfl <;> rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims N wf).startIndexMap from List.mem_singleton.mpr rfl)]
    have hsi : (lastDims N wf).siIdx (ix3 b p 0) ⟨List.idxOf (2 : Fin 3) (lastDims N wf).startIndexMap,
        List.idxOf_lt_length_iff.2 (List.mem_singleton.mpr rfl)⟩ = ix4 b p 0 0 := by
      funext c; refine Fin.ext ?_
      match c with
      | ⟨0, _⟩ => rfl
      | ⟨1, _⟩ => rfl
      | ⟨2, _⟩ => rfl
      | ⟨3, _⟩ => rfl
    rw [hsi]
    rfl

/-- The tests and the wrap that `take_along_axis` makes of an index in range. -/
theorem word_in_range (n : ℕ) (c : BitVec 32) (hn : n = 32 ∧ c = 31#32 ∨ n = 16 ∧ c = 15#32) (u v : BitVec 32) (hu : u.toNat < n) :
    Scalar.select (IntOp.cmpi .slt u 0#32) v u = u ∧
      IntOp.andi (IntOp.andi (IntOp.cmpi .sge u 0#32) (IntOp.cmpi .sle u c)) 1#1 = 1#1 ∧
      min u.toInt.toNat (n - 1) = u.toNat := by
  have h : IntOp.cmpi .slt u 0#32 = 0#1 ∧
      IntOp.andi (IntOp.andi (IntOp.cmpi .sge u 0#32) (IntOp.cmpi .sle u c)) 1#1 = 1#1 ∧
      min u.toInt.toNat (n - 1) = u.toNat := by
    obtain ⟨k, rfl⟩ : ∃ k : Fin n, u = BitVec.ofNat 32 k := ⟨⟨u.toNat, hu⟩, by simp⟩
    rcases hn with ⟨rfl, rfl⟩ | ⟨rfl, rfl⟩ <;> (clear hu; revert k; decide)
  exact ⟨by rw [h.1]; rfl, h.2⟩

/-- The chosen unary probability. -/
theorem takeU_at (b : Fin 4) (p : Fin 2048) (hu : ((W main_v12 : IVec S4x2048 32) (ix2 b p)).toNat < 32) :
    (after takeUOps W main_v62 : FVec Ideal S4x2048 .f32) (ix2 b p) =
      (W main_v48 : FVec Ideal S4x2048x32 .f32) (ix3 b p ⟨((W main_v12 : IVec S4x2048 32) (ix2 b p)).toNat, hu⟩) := by
  obtain ⟨h1, h2, h3⟩ := word_in_range 32 31#32 (.inl ⟨rfl, rfl⟩) _ (IntOp.addi ((W main_v12 : IVec S4x2048 32) (ix2 b p)) 32#32) hu
  after_reads_at
  rw [show gather_S4x2048x32_S4x2048x1x1_S4x2048x1_n_2_01_01_2_3_111 = lastDims 32 _ from rfl, gather_last (by norm_num)]
  pointwise
  simp only [h1, h2, h3, Finset.univ_unique, Finset.fold_singleton, ValueIdx.select_one]

/-- The chosen binary probability. -/
theorem takeB_at (b : Fin 4) (p : Fin 2048) (hu : ((W main_v13 : IVec S4x2048 32) (ix2 b p)).toNat < 16) :
    (after takeBOps W main_v65 : FVec Ideal S4x2048 .f32) (ix2 b p) =
      (W main_v59 : FVec Ideal S4x2048x16 .f32) (ix3 b p ⟨((W main_v13 : IVec S4x2048 32) (ix2 b p)).toNat, hu⟩) := by
  obtain ⟨h1, h2, h3⟩ := word_in_range 16 15#32 (.inr ⟨rfl, rfl⟩) _ (IntOp.addi ((W main_v13 : IVec S4x2048 32) (ix2 b p)) 16#32) hu
  after_reads_at
  rw [show gather_S4x2048x16_S4x2048x1x1_S4x2048x1_n_2_01_01_2_3_111 = lastDims 16 _ from rfl, gather_last (by norm_num)]
  pointwise
  simp only [h1, h2, h3, Finset.univ_unique, Finset.fold_singleton, ValueIdx.select_one]

/-- Two arrays over the pairs, side by side. -/
def stack {α : Type} (u v : S4x2048.Idx → α) : S4x4096.Idx → α :=
  shapeCast S4x4096 (concatenate S4x2048x2 2 [⟨S4x2048x1, broadcastInDim S4x2048x1 ![0, 1] bcast_S4x2048_S4x2048x1_0_1 u⟩,
    ⟨S4x2048x1, broadcastInDim S4x2048x1 ![0, 1] bcast_S4x2048_S4x2048x1_0_1 v⟩] concatenates_S4x2048x1_S4x2048x1_S4x2048x2_d2)
    shapeCasts_S4x2048x2_S4x4096

/-- The two results. -/
theorem stack_eq : (after stackOps W main_v69 : IVec S4x4096 32) = stack (W main_v12 : IVec S4x2048 32) (W main_v13) ∧
    (after stackOps W main_v73 : FVec Ideal S4x4096 .f32) = stack (W main_v62 : FVec Ideal S4x2048 .f32) (W main_v65) := by
  constructor <;> (after_reads_simp; rfl)

/-- The squashed logits of the pairs. -/
def score (b : Fin 4) (p : Fin 2048) (k : Fin 48) : EReal :=
  Net.squash (Net.pre (fun k => Net.hid (W main_arg0) (W main_arg1) (fun j => (W main_arg2 : FVec Ideal S60 .f32) (ix1 j)) (W main_arg3)
      (fun j => (W main_arg4 : FVec Ideal S60 .f32) (ix1 j)) k) (W main_arg5) (W main_arg6)
    ⟨b.val * 98304 + (p.val * 48 + k.val), by omega⟩)

/-- The results: the drawn actions side by side, and their probabilities. -/
theorem net_value (hu : ∀ b p, ((W main_v12 : IVec S4x2048 32) (ix2 b p)).toNat < 32)
    (hb : ∀ b p, ((W main_v13 : IVec S4x2048 32) (ix2 b p)).toNat < 16)
    (U B : FVec Ideal S4x2048 .f32)
    (hU : ∀ b p, U (ix2 b p) = Net.prob (fun k : Fin 32 => score W b p ⟨k.val, by omega⟩) ⟨_, hu b p⟩)
    (hB : ∀ b p, B (ix2 b p) = Net.prob (fun k : Fin 16 => score W b p ⟨32 + k.val, by omega⟩) ⟨_, hb b p⟩) :
    (after netOps W main_v69 : IVec S4x4096 32) = stack (W main_v12 : IVec S4x2048 32) (W main_v13) ∧
    (after netOps W main_v73 : FVec Ideal S4x4096 .f32) = stack U B := by
  set W1 := after hidOps W with hW1
  set W2 := after eluOps W1 with hW2
  set W3 := after logitOps W2 with hW3
  set W4 := after softUOps W3 with hW4
  set W5 := after softBOps W4 with hW5
  set W6 := after takeUOps W5 with hW6
  set W7 := after takeBOps W6 with hW7
  have hs : ∀ b p k, (W3 main_v35 : FVec Ideal S4x2048x48 .f32) (ix3 b p k) = score W b p k := fun b p k => by
    rw [hW3, logit_at, hW2, elu_at]
    unfold score Net.squash
    congr 5
    · funext j
      rw [hW1, hid_at]
  have k12 : W6 main_v12 = W main_v12 ∧ W7 main_v12 = W main_v12 ∧ W5 main_v12 = W main_v12 := by
    refine ⟨?_, ?_, ?_⟩ <;> (simp only [hW7, hW6, hW5, hW4, hW3, hW2, hW1]; after_reads_simp)
  have k13 : W6 main_v13 = W main_v13 ∧ W7 main_v13 = W main_v13 := by
    refine ⟨?_, ?_⟩ <;> (simp only [hW7, hW6, hW5, hW4, hW3, hW2, hW1]; after_reads_simp)
  have k48 : W5 main_v48 = W4 main_v48 := by rw [hW5]; after_reads_simp
  have k59 : W6 main_v59 = W5 main_v59 := by rw [hW6]; after_reads_simp
  have k37 : W4 main_v37 = W3 main_v37 := by rw [hW4]; after_reads_simp
  have k62 : W7 main_v62 = W6 main_v62 := by rw [hW7]; after_reads_simp
  have hq : after netOps W = after stackOps W7 := by simp only [netOps, after_app, hW7, hW6, hW5, hW4, hW3, hW2, hW1]
  obtain ⟨h1, h2⟩ := stack_eq W7
  rw [hq, h1, h2, k12.2.1, k13.2, k62]
  refine ⟨rfl, ?_⟩
  have eU : (W6 main_v62 : FVec Ideal S4x2048 .f32) = U := by
    funext j
    obtain ⟨b, p, rfl⟩ : ∃ (b : Fin 4) (p : Fin 2048), j = ix2 b p := ⟨j 0, j 1, eq_ix2 j⟩
    rw [hU, hW6, takeU_at W5 b p (by rw [k12.2.2]; exact hu b p), k48, hW4,
      softU_at W3 b p _ (fun k => score W b p ⟨k.val, by omega⟩) (fun k => by rw [hW3, cutU_at, ← hW3, hs]) fun k => Net.squash_real _]
    simp only [k12.2.2]
    rfl
  have eB : (W7 main_v65 : FVec Ideal S4x2048 .f32) = B := by
    funext j
    obtain ⟨b, p, rfl⟩ : ∃ (b : Fin 4) (p : Fin 2048), j = ix2 b p := ⟨j 0, j 1, eq_ix2 j⟩
    rw [hB, hW7, takeB_at W6 b p (by rw [k13.1]; exact hb b p), k59, hW5,
      softB_at W4 b p _ (fun k => score W b p ⟨32 + k.val, by omega⟩)
        (fun k => by rw [k37, hW3, cutB_at, ← hW3, hs]) fun k => Net.squash_real _]
    simp only [k13.1]
    rfl
  rw [eU, eB]

end Cert.Ref
-- ==== Proof.Value.lean ====
module

public import proofs.«01_k».proof.Proof.KerRun
public import proofs.«01_k».proof.Proof.Bound
public import proofs.«01_k».proof.Proof.RefValue

/-! The kernel's results are the reference's. -/

@[expose] public section

open Idealize.ShloMosaic Idealize.ShloMosaic.StableHlo Idealize.SL.Sem
open scoped Idealize.ShloMosaic.TcCoe

set_option maxRecDepth 20000

noncomputable section

namespace Cert.Value

open Cert.KernelIdeal Cert.KernelIdeal.Gen Cert.Sim Cert.Ker

section Draws

variable (V : Valuation τ sig (Elt Ideal))

theorem keep_u5 : ∀ op ∈ (hostOps0_5 (F := Ideal)), (main_v12 : DevRef τ sig) ∉ op.writes := by
  decide +kernel

theorem keep_u4 : ∀ op ∈ (hostOps0_4 (F := Ideal)), (main_v12 : DevRef τ sig) ∉ op.writes := by
  decide +kernel

/-- The drawn unary actions. -/
theorem draw_u (b : Fin 4) (p : Fin 2048) : ((after Cert.Ref.drawOps V main_v12 : IVec S4x2048 32) (ix2 b p)).toNat < 32 := by
  rw [after_app, after_app, after_app, after_app, after_app, Bound.after_keep _ _ _ keep_u5, Bound.after_keep _ _ _ keep_u4]
  exact Bound.unary _ (by after_reads_simp) (by after_reads_simp) b p

/-- The drawn binary actions. -/
theorem draw_b (b : Fin 4) (p : Fin 2048) : ((after Cert.Ref.drawOps V main_v13 : IVec S4x2048 32) (ix2 b p)).toNat < 16 := by
  rw [after_app, after_app, after_app, after_app, after_app]
  exact Bound.binary _ (by after_reads_simp) (by after_reads_simp) b p

/-- The draws write no argument. -/
theorem draw_keep : ∀ op ∈ Cert.Ref.drawOps, (main_arg0 : DevRef τ sig) ∉ op.writes ∧ (main_arg1 : DevRef τ sig) ∉ op.writes ∧
    (main_arg2 : DevRef τ sig) ∉ op.writes ∧ (main_arg3 : DevRef τ sig) ∉ op.writes ∧ (main_arg4 : DevRef τ sig) ∉ op.writes ∧
    (main_arg5 : DevRef τ sig) ∉ op.writes ∧ (main_arg6 : DevRef τ sig) ∉ op.writes := by
  decide +kernel

end Draws

section Tail

variable (X : Valuation τ sig (Elt Ideal))

theorem tail_a : (after hostOps1 X main_v24 : IVec S4x4096 32) = Ref.stack (X main_v12 : IVec S4x2048 32) (X main_v13 : IVec S4x2048 32) := by
  after_reads_simp
  rfl

theorem tail_p : (after hostOps1 X main_v30 : FVec Ideal S4x4096 .f32) =
    Ref.stack (shapeCast S4x2048 (X main_v20_0 : FVec Ideal S8192x1 .f32) shapeCasts_S8192x1_S4x2048)
      (shapeCast S4x2048 (X main_v20_1 : FVec Ideal S8192x1 .f32) shapeCasts_S8192x1_S4x2048) := by
  after_reads_simp
  rfl

end Tail

theorem prob_congr {n : ℕ} {f g : Fin n → EReal} {u v : ℕ} (hu : u < n) (hv : v < n) (h : ∀ k, f k = g k) (e : u = v) :
    Net.prob f ⟨u, hu⟩ = Net.prob g ⟨v, hv⟩ := by
  subst e
  rw [funext h]

section Run

variable (m : (ℓ : Loc nD τ sig) → Buf (Elt Ideal) ℓ) (c : Dev nD)

/-- The buffers after the draws. -/
def drawn : Valuation τ sig (Elt Ideal) := after Cert.Ref.drawOps fun b => m (c, b)

theorem entry_drawn : entry m c = after hostOps0_6 (drawn m c) := by
  unfold entry drawn V0
  rw [← after_app]
  congr 1

theorem drawn_u (b : Fin 4) (p : Fin 2048) : ((drawn m c main_v12 : IVec S4x2048 32) (ix2 b p)).toNat < 32 :=
  draw_u _ b p

theorem drawn_b (b : Fin 4) (p : Fin 2048) : ((drawn m c main_v13 : IVec S4x2048 32) (ix2 b p)).toNat < 16 :=
  draw_b _ b p

attribute [irreducible] drawn

/-- The squashed logits of a pair, from the buffers after the draws. -/
def score (X : Valuation τ sig (Elt Ideal)) (b : Fin 4) (p : Fin 2048) (k : Fin 48) : EReal :=
  Net.squash (Net.pre (fun k => Net.hid (X main_arg0) (X main_arg1) (fun j => (X main_arg2 : FVec Ideal S60 .f32) (ix1 j)) (X main_arg3)
      (fun j => (X main_arg4 : FVec Ideal S60 .f32) (ix1 j)) k) (X main_arg5) (X main_arg6)
    ⟨b.val * 98304 + (p.val * 48 + k.val), by omega⟩)

/-- The unary probabilities. -/
def pickU (b : Fin 4) (p : Fin 2048) : EReal :=
  Net.prob (fun k : Fin 32 => score (drawn m c) b p ⟨k.val, by omega⟩) ⟨_, drawn_u m c b p⟩

/-- Their table. -/
def probU (i : S4x2048.Idx) : EReal :=
  pickU m c (i 0) (i 1)

/-- The binary probabilities. -/
def pickB (b : Fin 4) (p : Fin 2048) : EReal :=
  Net.prob (fun k : Fin 16 => score (drawn m c) b p ⟨32 + k.val, by omega⟩) ⟨_, drawn_b m c b p⟩

/-- Their table. -/
def probB (i : S4x2048.Idx) : EReal :=
  pickB m c (i 0) (i 1)

theorem row (t : Fin cfg0.N) (r : Fin 256) : (t.val * 256 + r.val) / 2048 < 4 := by
  have := lt_N t
  omega

theorem hid_eq (j : Fin 60) : hidV m c j = Net.hid (drawn m c main_arg0) (drawn m c main_arg1)
    (fun j => (drawn m c main_arg2 : FVec Ideal S60 .f32) (ix1 j)) (drawn m c main_arg3)
    (fun j => (drawn m c main_arg4 : FVec Ideal S60 .f32) (ix1 j)) j := by
  unfold hidV
  rw [entry_drawn]
  rw [show (fun j => (after hostOps0_6 (drawn m c) main_v17 : FVec Ideal S1x60 .f32) (ix2 0 j)) =
      fun j => (drawn m c main_arg2 : FVec Ideal S60 .f32) (ix1 j) from funext fun j => at_v17 _ j,
    show (fun j => (after hostOps0_6 (drawn m c) main_v18 : FVec Ideal S1x60 .f32) (ix2 0 j)) =
      fun j => (drawn m c main_arg4 : FVec Ideal S60 .f32) (ix1 j) from funext fun j => at_v18 _ j]
  rw [show (after hostOps0_6 (drawn m c) main_arg0) = drawn m c main_arg0 by after_reads_simp,
    show (after hostOps0_6 (drawn m c) main_arg1) = drawn m c main_arg1 by after_reads_simp,
    show (after hostOps0_6 (drawn m c) main_arg3) = drawn m c main_arg3 by after_reads_simp]

theorem score_eq (t : Fin cfg0.N) (r : Fin 256) (k : Fin 48) :
    scoreV m c t r k = score (drawn m c) ⟨(t.val * 256 + r.val) / 2048, row t r⟩ ⟨(t.val * 256 + r.val) % 2048, by omega⟩ k := by
  have := lt_N t
  unfold scoreV score Net.pre
  simp only [hid_eq]
  rw [entry_drawn]
  have e1 : (t.val * 1536 + (r.val * 48 + k.val) / 8) * 8 + (r.val * 48 + k.val) % 8 =
    (t.val * 256 + r.val) / 2048 * 98304 + ((t.val * 256 + r.val) % 2048 * 48 + k.val) := by omega
  have e2 : (t.val * 256 + r.val) * 48 + k.val =
    (t.val * 256 + r.val) / 2048 * 98304 + ((t.val * 256 + r.val) % 2048 * 48 + k.val) := by omega
  refine congrArg Net.squash (congrArg₂ (· + ·) (Finset.sum_congr rfl fun j _ => congrArg _ ?_) ?_)
  · exact (at_v19 _ _ _ _).trans (congrArg (fun n => (drawn m c main_arg5 : FVec Ideal S393216x60 .f32) (ix2 n j)) (Fin.ext e1))
  · exact (at_v14 _ _ _).trans (congrArg (fun n => (drawn m c main_arg6 : FVec Ideal S393216 .f32) (ix1 n)) (Fin.ext e2))

/-- A table of pairs as one column. -/
def tall (f : S4x2048.Idx → EReal) (i : S8192x1.Idx) : EReal :=
  f (ix2 ⟨(i 0).val / 2048, by have : (i 0).val < 8192 := (i 0).isLt; omega⟩ ⟨(i 0).val % 2048, by omega⟩)

theorem cast_eq (f : S4x2048.Idx → EReal) : shapeCast S4x2048 (tall f) shapeCasts_S8192x1_S4x2048 = f := by
  funext j
  obtain ⟨b, p, rfl⟩ : ∃ (b : Fin 4) (p : Fin 2048), j = ix2 b p := ⟨j 0, j 1, eq_ix2 j⟩
  unfold tall
  pointwise
  refine congrArg f (congrArg₂ ix2 (Fin.ext ?_) (Fin.ext ?_)) <;> simp only [] <;> omega

theorem word_u (t : Fin cfg0.N) (r : Fin 256) : (iblk m c 7 t : IVec S256x1 32) (ix2 r 0) = (drawn m c main_v12 : IVec S4x2048 32)
    (ix2 ⟨(t.val * 256 + r.val) / 2048, row t r⟩ ⟨(t.val * 256 + r.val) % 2048, by omega⟩) := by
  rw [blk7, entry_drawn]
  exact at_v15 _ _

theorem nat_u (t : Fin cfg0.N) (r : Fin 256) : ((iblk m c 7 t : IVec S256x1 32) (ix2 r 0)).toNat = ((drawn m c main_v12 : IVec S4x2048 32)
    (ix2 ⟨(t.val * 256 + r.val) / 2048, row t r⟩ ⟨(t.val * 256 + r.val) % 2048, by omega⟩)).toNat := by
  rw [word_u]

theorem lt_u (t : Fin cfg0.N) (r : Fin 256) : ((iblk m c 7 t : IVec S256x1 32) (ix2 r 0)).toNat < 32 := by
  rw [word_u]
  exact drawn_u m c _ _

theorem out_u (t : Fin cfg0.N) (r : Fin 256) : (outsAt0 m c t.val t.isLt).1 (ix2 r 0) =
    pickU m c ⟨(t.val * 256 + r.val) / 2048, row t r⟩ ⟨(t.val * 256 + r.val) % 2048, by omega⟩ := by
  rw [outs_u m c t r (lt_u m c t r)]
  unfold pickU
  exact prob_congr (lt_u m c t r) (drawn_u m c _ _) (fun k => score_eq m c t r _) (nat_u m c t r)

theorem arr_u_eq : (dats m 0 c).arrAt 9 (cfgs 0).N = tall (probU m c) := by
  refine arr_u m c _ fun t r => ?_
  rw [out_u]
  rfl

theorem word_b (t : Fin cfg0.N) (r : Fin 256) : (iblk m c 8 t : IVec S256x1 32) (ix2 r 0) = (drawn m c main_v13 : IVec S4x2048 32)
    (ix2 ⟨(t.val * 256 + r.val) / 2048, row t r⟩ ⟨(t.val * 256 + r.val) % 2048, by omega⟩) := by
  rw [blk8, entry_drawn]
  exact at_v16 _ _

theorem nat_b (t : Fin cfg0.N) (r : Fin 256) : ((iblk m c 8 t : IVec S256x1 32) (ix2 r 0)).toNat = ((drawn m c main_v13 : IVec S4x2048 32)
    (ix2 ⟨(t.val * 256 + r.val) / 2048, row t r⟩ ⟨(t.val * 256 + r.val) % 2048, by omega⟩)).toNat := by
  rw [word_b]

theorem lt_b (t : Fin cfg0.N) (r : Fin 256) : ((iblk m c 8 t : IVec S256x1 32) (ix2 r 0)).toNat < 16 := by
  rw [word_b]
  exact drawn_b m c _ _

theorem out_b (t : Fin cfg0.N) (r : Fin 256) : (outsAt0 m c t.val t.isLt).2.1 (ix2 r 0) =
    pickB m c ⟨(t.val * 256 + r.val) / 2048, row t r⟩ ⟨(t.val * 256 + r.val) % 2048, by omega⟩ := by
  rw [outs_b m c t r (lt_b m c t r)]
  unfold pickB
  exact prob_congr (lt_b m c t r) (drawn_b m c _ _) (fun k => score_eq m c t r _) (nat_b m c t r)

theorem arr_b_eq : (dats m 0 c).arrAt 10 (cfgs 0).N = tall (probB m c) := by
  refine arr_b m c _ fun t r => ?_
  rw [out_b]
  rfl

end Run

end Cert.Value
-- ==== Proof.Final.lean ====
module

public import proofs.«01_k».proof.Proof.Value
public import proofs.«01_k».proof.Defs

/-! The two programs end with the same results. -/

@[expose] public section

open Idealize.ShloMosaic Idealize.ShloMosaic.StableHlo Idealize.SL.Sem
open scoped Idealize.ShloMosaic.TcCoe

set_option maxRecDepth 20000

noncomputable section

namespace Cert.Value

open Cert.KernelIdeal.Gen Cert.Sim Cert.Ker

section Kernel

open Cert.KernelIdeal

variable (m : (ℓ : Loc nD τ sig) → Buf (Elt Ideal) ℓ) (c : Dev nD)

/-- The actions, both kinds. -/
def acts : IVec S4x4096 32 :=
  Ref.stack (drawn m c main_v12 : IVec S4x2048 32) (drawn m c main_v13 : IVec S4x2048 32)

/-- Their probabilities. -/
def probs : FVec Ideal S4x4096 .f32 :=
  Ref.stack (probU m c) (probB m c)

theorem end_a : (Pipeline.afterTail₀ cfgs (dats m) 0 (V0 m) [hostOps1] c main_v24 : IVec S4x4096 32) = acts m c := by
  unfold Pipeline.afterTail₀
  simp only [List.flatten_cons, List.flatten_nil, List.append_nil]
  refine (tail_a _).trans ?_
  have h12 : Pipeline.withArrays (cfgs 0).spec c (V0 m c) (fun w => (dats m 0 c).arrAt w (cfgs 0).N) (Proc.devRef .tc main_v12) = drawn m c main_v12 := by
    rw [Pipeline.withArrays_of_ne _ c _ _ _ (by decide)]
    refine (entry_eq m c main_v12).trans ?_
    rw [entry_drawn]
    after_reads_simp
  have h13 : Pipeline.withArrays (cfgs 0).spec c (V0 m c) (fun w => (dats m 0 c).arrAt w (cfgs 0).N) (Proc.devRef .tc main_v13) = drawn m c main_v13 := by
    rw [Pipeline.withArrays_of_ne _ c _ _ _ (by decide)]
    refine (entry_eq m c main_v13).trans ?_
    rw [entry_drawn]
    after_reads_simp
  exact congrArg₂ Ref.stack h12 h13

theorem end_p : (Pipeline.afterTail₀ cfgs (dats m) 0 (V0 m) [hostOps1] c main_v30 : FVec Ideal S4x4096 .f32) = probs m c := by
  unfold Pipeline.afterTail₀
  simp only [List.flatten_cons, List.flatten_nil, List.append_nil]
  refine (tail_p _).trans ?_
  have h9 : Pipeline.withArrays (cfgs 0).spec c (V0 m c) (fun w => (dats m 0 c).arrAt w (cfgs 0).N) (Proc.devRef .tc main_v20_0) = tall (probU m c) :=
    (Pipeline.withArrays_arr (cfgs 0).spec (by decide) c _ _ 9).trans (arr_u_eq m c)
  have h10 : Pipeline.withArrays (cfgs 0).spec c (V0 m c) (fun w => (dats m 0 c).arrAt w (cfgs 0).N) (Proc.devRef .tc main_v20_1) = tall (probB m c) :=
    (Pipeline.withArrays_arr (cfgs 0).spec (by decide) c _ _ 10).trans (arr_b_eq m c)
  refine congrArg₂ Ref.stack ?_ ?_
  · exact (congrArg (fun f => shapeCast S4x2048 f shapeCasts_S8192x1_S4x2048) h9).trans (cast_eq _)
  · exact (congrArg (fun f => shapeCast S4x2048 f shapeCasts_S8192x1_S4x2048) h10).trans (cast_eq _)

/-- The kernel's run. -/
theorem run_ker (ρ : Dev nD → PrngReg) : θ_run (defs (F := Ideal)) (onTc (τ := τ) (main (F := Ideal))) ⟨m, fun _ => 0, ρ⟩ fun r => ∀ c : Dev nD,
    r.2.mem ((c.tc : Thread nD τ).loc main_v24) = acts m c ∧ r.2.mem ((c.tc : Thread nD τ).loc main_v30) = probs m c :=
  θ_run_mono (run_main m ρ) fun r h c =>
    ⟨((h c).2 main_v24 (Pipeline.mem_restRefs_of main_v24 (by decide) (by decide))).trans (end_a m c),
      ((h c).2 main_v30 (Pipeline.mem_restRefs_of main_v30 (by decide) (by decide))).trans (end_p m c)⟩

/-- The draws keep the arguments. -/
theorem drawn_args : drawn m c main_arg0 = m (c, main_arg0) ∧ drawn m c main_arg1 = m (c, main_arg1) ∧ drawn m c main_arg2 = m (c, main_arg2) ∧
    drawn m c main_arg3 = m (c, main_arg3) ∧ drawn m c main_arg4 = m (c, main_arg4) ∧ drawn m c main_arg5 = m (c, main_arg5) ∧
    drawn m c main_arg6 = m (c, main_arg6) := by
  unfold drawn
  exact ⟨Bound.after_keep _ _ _ fun op h => (draw_keep op h).1, Bound.after_keep _ _ _ fun op h => (draw_keep op h).2.1,
    Bound.after_keep _ _ _ fun op h => (draw_keep op h).2.2.1, Bound.after_keep _ _ _ fun op h => (draw_keep op h).2.2.2.1,
    Bound.after_keep _ _ _ fun op h => (draw_keep op h).2.2.2.2.1, Bound.after_keep _ _ _ fun op h => (draw_keep op h).2.2.2.2.2.1,
    Bound.after_keep _ _ _ fun op h => (draw_keep op h).2.2.2.2.2.2⟩

end Kernel

section Both

open Cert.ReferenceIdeal

variable (m : (ℓ : Loc Cert.KernelIdeal.nD Cert.KernelIdeal.τ Cert.KernelIdeal.sig) → Buf (Elt Ideal) ℓ) (c : Dev nD)
  (W : Valuation τ sig (Elt Ideal))

/-- The reference's arguments are the kernel's. -/
def SameArgs : Prop :=
  W main_arg0 = drawn m c Cert.KernelIdeal.main_arg0 ∧ W main_arg1 = drawn m c Cert.KernelIdeal.main_arg1 ∧
    W main_arg2 = drawn m c Cert.KernelIdeal.main_arg2 ∧ W main_arg3 = drawn m c Cert.KernelIdeal.main_arg3 ∧
    W main_arg4 = drawn m c Cert.KernelIdeal.main_arg4 ∧ W main_arg5 = drawn m c Cert.KernelIdeal.main_arg5 ∧
    W main_arg6 = drawn m c Cert.KernelIdeal.main_arg6

theorem score_same (h : SameArgs m c W) (b : Fin 4) (p : Fin 2048) (k : Fin 48) : Ref.score W b p k = score (drawn m c) b p k := by
  obtain ⟨h0, h1, h2, h3, h4, h5, h6⟩ := h
  unfold Ref.score score
  rw [h0, h1, h2, h3, h4, h5, h6]

/-- The reference's results from the kernel's draws and arguments. -/
theorem end_ref (h : SameArgs m c W) (h12 : W main_v12 = drawn m c Cert.KernelIdeal.main_v12)
    (h13 : W main_v13 = drawn m c Cert.KernelIdeal.main_v13) :
    (after Cert.Ref.netOps W main_v69 : IVec S4x4096 32) = acts m c ∧ (after Cert.Ref.netOps W main_v73 : FVec Ideal S4x4096 .f32) = probs m c := by
  have hu : ∀ b p, ((W main_v12 : IVec S4x2048 32) (ix2 b p)).toNat < 32 := fun b p => by
    rw [h12]
    exact drawn_u m c b p
  have hb : ∀ b p, ((W main_v13 : IVec S4x2048 32) (ix2 b p)).toNat < 16 := fun b p => by
    rw [h13]
    exact drawn_b m c b p
  have r := Ref.net_value W hu hb (probU m c) (probB m c)
    (fun b p => (prob_congr (hu b p) (drawn_u m c b p) (fun k => score_same m c W h b p _) (by rw [h12])).symm)
    (fun b p => (prob_congr (hb b p) (drawn_b m c b p) (fun k => score_same m c W h b p _) (by rw [h13])).symm)
  refine ⟨r.1.trans ?_, r.2⟩
  rw [h12, h13]
  rfl

/-- The reference's run. -/
theorem run_ref (m' : (ℓ : Loc nD τ sig) → Buf (Elt Ideal) ℓ) (ρ : Dev nD → PrngReg)
    (e : ∀ c : Dev nD, m' (c, main_arg0) = m (c, Cert.KernelIdeal.main_arg0) ∧ m' (c, main_arg1) = m (c, Cert.KernelIdeal.main_arg1) ∧
      m' (c, main_arg2) = m (c, Cert.KernelIdeal.main_arg2) ∧ m' (c, main_arg3) = m (c, Cert.KernelIdeal.main_arg3) ∧
      m' (c, main_arg4) = m (c, Cert.KernelIdeal.main_arg4) ∧ m' (c, main_arg5) = m (c, Cert.KernelIdeal.main_arg5) ∧
      m' (c, main_arg6) = m (c, Cert.KernelIdeal.main_arg6)) :
    θ_run (defs (F := Ideal)) (onTc (τ := τ) (main (F := Ideal))) ⟨m', fun _ => 0, ρ⟩ fun r => ∀ c : Dev nD,
      r.2.mem ((c.tc : Thread nD τ).loc main_v69) = acts m c ∧ r.2.mem ((c.tc : Thread nD τ).loc main_v73) = probs m c :=
  θ_run_mono (Ref.run m' ρ) fun r hr c => by
    obtain ⟨W, hV, hW, hb⟩ := hr.1 c
    have hd := hV fun b => m (c, b)
    obtain ⟨e0, e1, e2, e3, e4, e5, e6⟩ := e c
    obtain ⟨d0, d1, d2, d3, d4, d5, d6⟩ := drawn_args m c
    have h12 : W main_v12 = drawn m c Cert.KernelIdeal.main_v12 := by
      unfold drawn
      exact (eq_of_heq (hd Cert.KernelIdeal.main_v12 main_v12 rfl rfl rfl rfl rfl)).symm
    have h13 : W main_v13 = drawn m c Cert.KernelIdeal.main_v13 := by
      unfold drawn
      exact (eq_of_heq (hd Cert.KernelIdeal.main_v13 main_v13 rfl rfl rfl rfl rfl)).symm
    have hs : SameArgs m c W :=
      ⟨(hW main_arg0 rfl rfl).trans (e0.trans d0.symm), (hW main_arg1 rfl rfl).trans (e1.trans d1.symm), (hW main_arg2 rfl rfl).trans (e2.trans d2.symm),
        (hW main_arg3 rfl rfl).trans (e3.trans d3.symm), (hW main_arg4 rfl rfl).trans (e4.trans d4.symm), (hW main_arg5 rfl rfl).trans (e5.trans d5.symm),
        (hW main_arg6 rfl rfl).trans (e6.trans d6.symm)⟩
    have he := end_ref m c W hs h12 h13
    exact ⟨(hb main_v69).trans he.1, (hb main_v73).trans he.2⟩

end Both

/-- The two programs end with the same results, their arguments as they were. -/
theorem equal : algebraic_KernelIdeal_ReferenceIdeal (hKernelIdeal := Cert.KernelIdeal.Gen.facts) (hReferenceIdeal := Cert.ReferenceIdeal.Gen.facts) :=
  fun m g m' g' _ e => ⟨acts m, probs m,
    θ_run_mono (θ_run_and (run_ker m g) (Cert.KernelIdeal.Gen.unchanged m g)) fun r h c => ⟨(h.1 c).1, (h.1 c).2, h.2 c⟩,
    θ_run_mono (θ_run_and (run_ref m m' g' e) (Cert.Ref.frame m' g')) fun r h c => ⟨(h.1 c).1, (h.1 c).2,
      h.2.1 c _ (by simp), h.2.1 c _ (by simp), h.2.1 c _ (by simp), h.2.1 c _ (by simp), h.2.1 c _ (by simp),
      h.2.1 c _ (by simp), h.2.1 c _ (by simp)⟩⟩

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference leaves its arguments as they were and its semaphores at zero. -/
theorem frame_ReferenceIdeal : quiescent_ReferenceIdeal (hReferenceIdeal := Cert.ReferenceIdeal.Gen.facts) := fun m g _ =>
  θ_run_mono (Cert.Ref.frame m g) fun r hr => ⟨fun c =>
    ⟨hr.1 c _ (by simp), hr.1 c _ (by simp), hr.1 c _ (by simp), hr.1 c _ (by simp), hr.1 c _ (by simp),
      hr.1 c _ (by simp), hr.1 c _ (by simp)⟩, hr.2⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ReferenceIdeal,
  IdealRules.named_const.statement Cert.KernelIdeal.κ "temp" .f32 0x3E4CCCCD#32 ((5⁻¹ : ℝ) : EReal) rfl, Cert.Value.equal⟩

end Cert.Proof

end
